-- ==== Defs.lean ====
def Pre_Uzx (m : (ℓ : Loc Cert.Uzx.nD Cert.Uzx.τ Cert.Uzx.sig) → Buf (Elt Bits) ℓ) : Prop :=
  True

def Pre_UzxIdeal (m : (ℓ : Loc Cert.UzxIdeal.nD Cert.UzxIdeal.τ Cert.UzxIdeal.sig) → Buf (Elt Ideal) ℓ) : Prop :=
  True

def Pre_UzxRefIdeal (m : (ℓ : Loc Cert.UzxRefIdeal.nD Cert.UzxRefIdeal.τ Cert.UzxRefIdeal.sig) → Buf (Elt Ideal) ℓ) : Prop :=
  True

def Pre_Qkvo (m : (ℓ : Loc Cert.Qkvo.nD Cert.Qkvo.τ Cert.Qkvo.sig) → Buf (Elt Bits) ℓ) : Prop :=
  True

def Pre_QkvoIdeal (m : (ℓ : Loc Cert.QkvoIdeal.nD Cert.QkvoIdeal.τ Cert.QkvoIdeal.sig) → Buf (Elt Ideal) ℓ) : Prop :=
  True

def Pre_QkvoRefIdeal (m : (ℓ : Loc Cert.QkvoRefIdeal.nD Cert.QkvoRefIdeal.τ Cert.QkvoRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MoeDown [hPre_routing_tables : Cert.Pre_routing_tables.Facts] (m : (ℓ : Loc Cert.MoeDown.nD Cert.MoeDown.τ Cert.MoeDown.sig) → Buf (Elt Bits) ℓ) : Prop :=
  ∀ c : Dev Cert.MoeDown.nD,
    (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.2.1 = (fun _ => 1#1)
    ∧ (Cert.Pre_routing_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.2.2 = (fun _ => 1#1)

def Pre_MoeDownIdeal [hPre_routing_tables : Cert.Pre_routing_tables.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.2.1 = (fun _ => 1#1)
    ∧ (Cert.Pre_routing_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.2.2 = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_routing_tables [hPre_routing_tables : Cert.Pre_routing_tables.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.2.1 = (fun _ => 1#1)
    ∧ (Cert.Pre_routing_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.2.2 = (fun _ => 1#1)

def Pre_MoeGate [hPre_routing_tables_gate : Cert.Pre_routing_tables_gate.Facts] (m : (ℓ : Loc Cert.MoeGate.nD Cert.MoeGate.τ Cert.MoeGate.sig) → Buf (Elt Bits) ℓ) : Prop :=
  ∀ c : Dev Cert.MoeGate.nD,
    (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.2.1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.2.2.1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.2.2.2.1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.2.2.2.2.1 = (fun _ => 1#1)
    ∧ (Cert.Pre_routing_tables_gate.fn (F := Bits) (m ((c.tc : Thread Cert.MoeGate.nD Cert.MoeGate.τ).loc Cert.MoeGate.main_arg0)) (m ((c.tc : Thread Cert.MoeGate.nD Cert.MoeGate.τ).loc Cert.MoeGate.main_arg1)) (m ((c.tc : Thread Cert.MoeGate.nD Cert.MoeGate.τ).loc Cert.MoeGate.main_arg2)) (m ((c.tc : Thread Cert.MoeGate.nD Cert.MoeGate.τ).loc Cert.MoeGate.main_arg3)) (m ((c.tc : Thread Cert.MoeGate.nD Cert.MoeGate.τ).loc Cert.MoeGate.main_arg4)) (m ((c.tc : Thread Cert.MoeGate.nD Cert.MoeGate.τ).loc Cert.MoeGate.main_arg5)) (m ((c.tc : Thread Cert.MoeGate.nD Cert.MoeGate.τ).loc Cert.MoeGate.main_arg6))).2.2.2.2.2.2 = (fun _ => 1#1)

def Pre_MoeGateIdeal [hPre_routing_tables_gate : Cert.Pre_routing_tables_gate.Facts] (m : (ℓ : Loc Cert.MoeGateIdeal.nD Cert.MoeGateIdeal.τ Cert.MoeGateIdeal.sig) → Buf (Elt Ideal) ℓ) : Prop :=
  ∀ c : Dev Cert.MoeGateIdeal.nD,
    (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.2.1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.2.2.1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.2.2.2.1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.2.2.2.2.1 = (fun _ => 1#1)
    ∧ (Cert.Pre_routing_tables_gate.fn (F := Ideal) (m ((c.tc : Thread Cert.MoeGateIdeal.nD Cert.MoeGateIdeal.τ).loc Cert.MoeGateIdeal.main_arg0)) (m ((c.tc : Thread Cert.MoeGateIdeal.nD Cert.MoeGateIdeal.τ).loc Cert.MoeGateIdeal.main_arg1)) (m ((c.tc : Thread Cert.MoeGateIdeal.nD Cert.MoeGateIdeal.τ).loc Cert.MoeGateIdeal.main_arg2)) (m ((c.tc : Thread Cert.MoeGateIdeal.nD Cert.MoeGateIdeal.τ).loc Cert.MoeGateIdeal.main_arg3)) (m ((c.tc : Thread Cert.MoeGateIdeal.nD Cert.MoeGateIdeal.τ).loc Cert.MoeGateIdeal.main_arg4)) (m ((c.tc : Thread Cert.MoeGateIdeal.nD Cert.MoeGateIdeal.τ).loc Cert.MoeGateIdeal.main_arg5)) (m ((c.tc : Thread Cert.MoeGateIdeal.nD Cert.MoeGateIdeal.τ).loc Cert.MoeGateIdeal.main_arg6))).2.2.2.2.2.2 = (fun _ => 1#1)

def Pre_MoeGateRefIdeal (m : (ℓ : Loc Cert.MoeGateRefIdeal.nD Cert.MoeGateRefIdeal.τ Cert.MoeGateRefIdeal.sig) → Buf (Elt Ideal) ℓ) : Prop :=
  True

def Pre_MoeGateRefIdeal_routing_tables_gate [hPre_routing_tables_gate : Cert.Pre_routing_tables_gate.Facts] (m : (ℓ : Loc Cert.MoeGateRefIdeal.nD Cert.MoeGateRefIdeal.τ Cert.MoeGateRefIdeal.sig) → Buf (Elt Ideal) ℓ) : Prop :=
  ∀ c : Dev Cert.MoeGateRefIdeal.nD,
    (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.2.1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.2.2.1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.2.2.2.1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.2.2.2.2.1 = (fun _ => 1#1)
    ∧ (Cert.Pre_routing_tables_gate.fn (F := Ideal) (m ((c.tc : Thread Cert.MoeGateRefIdeal.nD Cert.MoeGateRefIdeal.τ).loc Cert.MoeGateRefIdeal.main_arg0)) (m ((c.tc : Thread Cert.MoeGateRefIdeal.nD Cert.MoeGateRefIdeal.τ).loc Cert.MoeGateRefIdeal.main_arg1)) (m ((c.tc : Thread Cert.MoeGateRefIdeal.nD Cert.MoeGateRefIdeal.τ).loc Cert.MoeGateRefIdeal.main_arg2)) (m ((c.tc : Thread Cert.MoeGateRefIdeal.nD Cert.MoeGateRefIdeal.τ).loc Cert.MoeGateRefIdeal.main_arg3)) (m ((c.tc : Thread Cert.MoeGateRefIdeal.nD Cert.MoeGateRefIdeal.τ).loc Cert.MoeGateRefIdeal.main_arg4)) (m ((c.tc : Thread Cert.MoeGateRefIdeal.nD Cert.MoeGateRefIdeal.τ).loc Cert.MoeGateRefIdeal.main_arg5)) (m ((c.tc : Thread Cert.MoeGateRefIdeal.nD Cert.MoeGateRefIdeal.τ).loc Cert.MoeGateRefIdeal.main_arg6))).2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Uzx [hUzx : Cert.Uzx.Facts] : Prop :=
  ∀ (m : (ℓ : Loc Cert.Uzx.nD Cert.Uzx.τ Cert.Uzx.sig) → Buf (Elt Bits) ℓ) (g : Dev Cert.Uzx.nD → PrngReg), Pre_Uzx m →
    θ_run (Cert.Uzx.defs (F := Bits)) (onTc (τ := Cert.Uzx.τ) (Cert.Uzx.main (F := Bits))) ⟨m, fun _ => 0, g⟩ (fun r => (∀ c : Dev Cert.Uzx.nD,
      r.2.mem ((c.tc : Thread Cert.Uzx.nD Cert.Uzx.τ).loc Cert.Uzx.main_arg0) = m ((c.tc : Thread Cert.Uzx.nD Cert.Uzx.τ).loc Cert.Uzx.main_arg0)
      ∧ r.2.mem ((c.tc : Thread Cert.Uzx.nD Cert.Uzx.τ).loc Cert.Uzx.main_arg1) = m ((c.tc : Thread Cert.Uzx.nD Cert.Uzx.τ).loc Cert.Uzx.main_arg1))
      ∧ r.2.sem = fun _ => 0)

def quiescent_UzxIdeal [hUzxIdeal : Cert.UzxIdeal.Facts] : Prop :=
  ∀ (m : (ℓ : Loc Cert.UzxIdeal.nD Cert.UzxIdeal.τ Cert.UzxIdeal.sig) → Buf (Elt Ideal) ℓ) (g : Dev Cert.UzxIdeal.nD → PrngReg), Pre_UzxIdeal m →
    θ_run (Cert.UzxIdeal.defs (F := Ideal)) (onTc (τ := Cert.UzxIdeal.τ) (Cert.UzxIdeal.main (F := Ideal))) ⟨m, fun _ => 0, g⟩ (fun r => (∀ c : Dev Cert.UzxIdeal.nD,
      r.2.mem ((c.tc : Thread Cert.UzxIdeal.nD Cert.UzxIdeal.τ).loc Cert.UzxIdeal.main_arg0) = m ((c.tc : Thread Cert.UzxIdeal.nD Cert.UzxIdeal.τ).loc Cert.UzxIdeal.main_arg0)
      ∧ r.2.mem ((c.tc : Thread Cert.UzxIdeal.nD Cert.UzxIdeal.τ).loc Cert.UzxIdeal.main_arg1) = m ((c.tc : Thread Cert.UzxIdeal.nD Cert.UzxIdeal.τ).loc Cert.UzxIdeal.main_arg1))
      ∧ r.2.sem = fun _ => 0)

def quiescent_UzxRefIdeal [hUzxRefIdeal : Cert.UzxRefIdeal.Facts] : Prop :=
  ∀ (m : (ℓ : Loc Cert.UzxRefIdeal.nD Cert.UzxRefIdeal.τ Cert.UzxRefIdeal.sig) → Buf (Elt Ideal) ℓ) (g : Dev Cert.UzxRefIdeal.nD → PrngReg), Pre_UzxRefIdeal m →
    θ_run (Cert.UzxRefIdeal.defs (F := Ideal)) (onTc (τ := Cert.UzxRefIdeal.τ) (Cert.UzxRefIdeal.main (F := Ideal))) ⟨m, fun _ => 0, g⟩ (fun r => (∀ c : Dev Cert.UzxRefIdeal.nD,
      r.2.mem ((c.tc : Thread Cert.UzxRefIdeal.nD Cert.UzxRefIdeal.τ).loc Cert.UzxRefIdeal.main_arg0) = m ((c.tc : Thread Cert.UzxRefIdeal.nD Cert.UzxRefIdeal.τ).loc Cert.UzxRefIdeal.main_arg0)
      ∧ r.2.mem ((c.tc : Thread Cert.UzxRefIdeal.nD Cert.UzxRefIdeal.τ).loc Cert.UzxRefIdeal.main_arg1) = m ((c.tc : Thread Cert.UzxRefIdeal.nD Cert.UzxRefIdeal.τ).loc Cert.UzxRefIdeal.main_arg1))
      ∧ r.2.sem = fun _ => 0)

def quiescent_Qkvo [hQkvo : Cert.Qkvo.Facts] : Prop :=
  ∀ (m : (ℓ : Loc Cert.Qkvo.nD Cert.Qkvo.τ Cert.Qkvo.sig) → Buf (Elt Bits) ℓ) (g : Dev Cert.Qkvo.nD → PrngReg), Pre_Qkvo m →
    θ_run (Cert.Qkvo.defs (F := Bits)) (onTc (τ := Cert.Qkvo.τ) (Cert.Qkvo.main (F := Bits))) ⟨m, fun _ => 0, g⟩ (fun r => (∀ c : Dev Cert.Qkvo.nD,
      r.2.mem ((c.tc : Thread Cert.Qkvo.nD Cert.Qkvo.τ).loc Cert.Qkvo.main_arg0) = m ((c.tc : Thread Cert.Qkvo.nD Cert.Qkvo.τ).loc Cert.Qkvo.main_arg0)
      ∧ r.2.mem ((c.tc : Thread Cert.Qkvo.nD Cert.Qkvo.τ).loc Cert.Qkvo.main_arg1) = m ((c.tc : Thread Cert.Qkvo.nD Cert.Qkvo.τ).loc Cert.Qkvo.main_arg1))
      ∧ r.2.sem = fun _ => 0)

def quiescent_QkvoIdeal [hQkvoIdeal : Cert.QkvoIdeal.Facts] : Prop :=
  ∀ (m : (ℓ : Loc Cert.QkvoIdeal.nD Cert.QkvoIdeal.τ Cert.QkvoIdeal.sig) → Buf (Elt Ideal) ℓ) (g : Dev Cert.QkvoIdeal.nD → PrngReg), Pre_QkvoIdeal m →
    θ_run (Cert.QkvoIdeal.defs (F := Ideal)) (onTc (τ := Cert.QkvoIdeal.τ) (Cert.QkvoIdeal.main (F := Ideal))) ⟨m, fun _ => 0, g⟩ (fun r => (∀ c : Dev Cert.QkvoIdeal.nD,
      r.2.mem ((c.tc : Thread Cert.QkvoIdeal.nD Cert.QkvoIdeal.τ).loc Cert.QkvoIdeal.main_arg0) = m ((c.tc : Thread Cert.QkvoIdeal.nD Cert.QkvoIdeal.τ).loc Cert.QkvoIdeal.main_arg0)
      ∧ r.2.mem ((c.tc : Thread Cert.QkvoIdeal.nD Cert.QkvoIdeal.τ).loc Cert.QkvoIdeal.main_arg1) = m ((c.tc : Thread Cert.QkvoIdeal.nD Cert.QkvoIdeal.τ).loc Cert.QkvoIdeal.main_arg1))
      ∧ r.2.sem = fun _ => 0)

def quiescent_QkvoRefIdeal [hQkvoRefIdeal : Cert.QkvoRefIdeal.Facts] : Prop :=
  ∀ (m : (ℓ : Loc Cert.QkvoRefIdeal.nD Cert.QkvoRefIdeal.τ Cert.QkvoRefIdeal.sig) → Buf (Elt Ideal) ℓ) (g : Dev Cert.QkvoRefIdeal.nD → PrngReg), Pre_QkvoRefIdeal m →
    θ_run (Cert.QkvoRefIdeal.defs (F := Ideal)) (onTc (τ := Cert.QkvoRefIdeal.τ) (Cert.QkvoRefIdeal.main (F := Ideal))) ⟨m, fun _ => 0, g⟩ (fun r => (∀ c : Dev Cert.QkvoRefIdeal.nD,
      r.2.mem ((c.tc : Thread Cert.QkvoRefIdeal.nD Cert.QkvoRefIdeal.τ).loc Cert.QkvoRefIdeal.main_arg0) = m ((c.tc : Thread Cert.QkvoRefIdeal.nD Cert.QkvoRefIdeal.τ).loc Cert.QkvoRefIdeal.main_arg0)
      ∧ r.2.mem ((c.tc : Thread Cert.QkvoRefIdeal.nD Cert.QkvoRefIdeal.τ).loc Cert.QkvoRefIdeal.main_arg1) = m ((c.tc : Thread Cert.QkvoRefIdeal.nD Cert.QkvoRefIdeal.τ).loc Cert.QkvoRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MoeDown [hMoeDown : Cert.MoeDown.Facts] [hPre_routing_tables : Cert.Pre_routing_tables.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5))
      ∧ r.2.sem = fun _ => 0)

def quiescent_MoeDownIdeal [hMoeDownIdeal : Cert.MoeDownIdeal.Facts] [hPre_routing_tables : Cert.Pre_routing_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_MoeDownRefIdeal_pre_routing_tables [hMoeDownRefIdeal : Cert.MoeDownRefIdeal.Facts] [hPre_routing_tables : Cert.Pre_routing_tables.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_routing_tables m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_MoeGate [hMoeGate : Cert.MoeGate.Facts] [hPre_routing_tables_gate : Cert.Pre_routing_tables_gate.Facts] : Prop :=
  ∀ (m : (ℓ : Loc Cert.MoeGate.nD Cert.MoeGate.τ Cert.MoeGate.sig) → Buf (Elt Bits) ℓ) (g : Dev Cert.MoeGate.nD → PrngReg), Pre_MoeGate m →
    θ_run (Cert.MoeGate.defs (F := Bits)) (onTc (τ := Cert.MoeGate.τ) (Cert.MoeGate.main (F := Bits))) ⟨m, fun _ => 0, g⟩ (fun r => (∀ c : Dev Cert.MoeGate.nD,
      r.2.mem ((c.tc : Thread Cert.MoeGate.nD Cert.MoeGate.τ).loc Cert.MoeGate.main_arg0) = m ((c.tc : Thread Cert.MoeGate.nD Cert.MoeGate.τ).loc Cert.MoeGate.main_arg0)
      ∧ r.2.mem ((c.tc : Thread Cert.MoeGate.nD Cert.MoeGate.τ).loc Cert.MoeGate.main_arg1) = m ((c.tc : Thread Cert.MoeGate.nD Cert.MoeGate.τ).loc Cert.MoeGate.main_arg1)
      ∧ r.2.mem ((c.tc : Thread Cert.MoeGate.nD Cert.MoeGate.τ).loc Cert.MoeGate.main_arg2) = m ((c.tc : Thread Cert.MoeGate.nD Cert.MoeGate.τ).loc Cert.MoeGate.main_arg2)
      ∧ r.2.mem ((c.tc : Thread Cert.MoeGate.nD Cert.MoeGate.τ).loc Cert.MoeGate.main_arg3) = m ((c.tc : Thread Cert.MoeGate.nD Cert.MoeGate.τ).loc Cert.MoeGate.main_arg3)
      ∧ r.2.mem ((c.tc : Thread Cert.MoeGate.nD Cert.MoeGate.τ).loc Cert.MoeGate.main_arg4) = m ((c.tc : Thread Cert.MoeGate.nD Cert.MoeGate.τ).loc Cert.MoeGate.main_arg4)
      ∧ r.2.mem ((c.tc : Thread Cert.MoeGate.nD Cert.MoeGate.τ).loc Cert.MoeGate.main_arg5) = m ((c.tc : Thread Cert.MoeGate.nD Cert.MoeGate.τ).loc Cert.MoeGate.main_arg5)
      ∧ r.2.mem ((c.tc : Thread Cert.MoeGate.nD Cert.MoeGate.τ).loc Cert.MoeGate.main_arg6) = m ((c.tc : Thread Cert.MoeGate.nD Cert.MoeGate.τ).loc Cert.MoeGate.main_arg6))
      ∧ r.2.sem = fun _ => 0)

def quiescent_MoeGateIdeal [hMoeGateIdeal : Cert.MoeGateIdeal.Facts] [hPre_routing_tables_gate : Cert.Pre_routing_tables_gate.Facts] : Prop :=
  ∀ (m : (ℓ : Loc Cert.MoeGateIdeal.nD Cert.MoeGateIdeal.τ Cert.MoeGateIdeal.sig) → Buf (Elt Ideal) ℓ) (g : Dev Cert.MoeGateIdeal.nD → PrngReg), Pre_MoeGateIdeal m →
    θ_run (Cert.MoeGateIdeal.defs (F := Ideal)) (onTc (τ := Cert.MoeGateIdeal.τ) (Cert.MoeGateIdeal.main (F := Ideal))) ⟨m, fun _ => 0, g⟩ (fun r => (∀ c : Dev Cert.MoeGateIdeal.nD,
      r.2.mem ((c.tc : Thread Cert.MoeGateIdeal.nD Cert.MoeGateIdeal.τ).loc Cert.MoeGateIdeal.main_arg0) = m ((c.tc : Thread Cert.MoeGateIdeal.nD Cert.MoeGateIdeal.τ).loc Cert.MoeGateIdeal.main_arg0)
      ∧ r.2.mem ((c.tc : Thread Cert.MoeGateIdeal.nD Cert.MoeGateIdeal.τ).loc Cert.MoeGateIdeal.main_arg1) = m ((c.tc : Thread Cert.MoeGateIdeal.nD Cert.MoeGateIdeal.τ).loc Cert.MoeGateIdeal.main_arg1)
      ∧ r.2.mem ((c.tc : Thread Cert.MoeGateIdeal.nD Cert.MoeGateIdeal.τ).loc Cert.MoeGateIdeal.main_arg2) = m ((c.tc : Thread Cert.MoeGateIdeal.nD Cert.MoeGateIdeal.τ).loc Cert.MoeGateIdeal.main_arg2)
      ∧ r.2.mem ((c.tc : Thread Cert.MoeGateIdeal.nD Cert.MoeGateIdeal.τ).loc Cert.MoeGateIdeal.main_arg3) = m ((c.tc : Thread Cert.MoeGateIdeal.nD Cert.MoeGateIdeal.τ).loc Cert.MoeGateIdeal.main_arg3)
      ∧ r.2.mem ((c.tc : Thread Cert.MoeGateIdeal.nD Cert.MoeGateIdeal.τ).loc Cert.MoeGateIdeal.main_arg4) = m ((c.tc : Thread Cert.MoeGateIdeal.nD Cert.MoeGateIdeal.τ).loc Cert.MoeGateIdeal.main_arg4)
      ∧ r.2.mem ((c.tc : Thread Cert.MoeGateIdeal.nD Cert.MoeGateIdeal.τ).loc Cert.MoeGateIdeal.main_arg5) = m ((c.tc : Thread Cert.MoeGateIdeal.nD Cert.MoeGateIdeal.τ).loc Cert.MoeGateIdeal.main_arg5)
      ∧ r.2.mem ((c.tc : Thread Cert.MoeGateIdeal.nD Cert.MoeGateIdeal.τ).loc Cert.MoeGateIdeal.main_arg6) = m ((c.tc : Thread Cert.MoeGateIdeal.nD Cert.MoeGateIdeal.τ).loc Cert.MoeGateIdeal.main_arg6))
      ∧ r.2.sem = fun _ => 0)

def quiescent_MoeGateRefIdeal [hMoeGateRefIdeal : Cert.MoeGateRefIdeal.Facts] : Prop :=
  ∀ (m : (ℓ : Loc Cert.MoeGateRefIdeal.nD Cert.MoeGateRefIdeal.τ Cert.MoeGateRefIdeal.sig) → Buf (Elt Ideal) ℓ) (g : Dev Cert.MoeGateRefIdeal.nD → PrngReg), Pre_MoeGateRefIdeal m →
    θ_run (Cert.MoeGateRefIdeal.defs (F := Ideal)) (onTc (τ := Cert.MoeGateRefIdeal.τ) (Cert.MoeGateRefIdeal.main (F := Ideal))) ⟨m, fun _ => 0, g⟩ (fun r => (∀ c : Dev Cert.MoeGateRefIdeal.nD,
      r.2.mem ((c.tc : Thread Cert.MoeGateRefIdeal.nD Cert.MoeGateRefIdeal.τ).loc Cert.MoeGateRefIdeal.main_arg0) = m ((c.tc : Thread Cert.MoeGateRefIdeal.nD Cert.MoeGateRefIdeal.τ).loc Cert.MoeGateRefIdeal.main_arg0)
      ∧ r.2.mem ((c.tc : Thread Cert.MoeGateRefIdeal.nD Cert.MoeGateRefIdeal.τ).loc Cert.MoeGateRefIdeal.main_arg1) = m ((c.tc : Thread Cert.MoeGateRefIdeal.nD Cert.MoeGateRefIdeal.τ).loc Cert.MoeGateRefIdeal.main_arg1)
      ∧ r.2.mem ((c.tc : Thread Cert.MoeGateRefIdeal.nD Cert.MoeGateRefIdeal.τ).loc Cert.MoeGateRefIdeal.main_arg2) = m ((c.tc : Thread Cert.MoeGateRefIdeal.nD Cert.MoeGateRefIdeal.τ).loc Cert.MoeGateRefIdeal.main_arg2)
      ∧ r.2.mem ((c.tc : Thread Cert.MoeGateRefIdeal.nD Cert.MoeGateRefIdeal.τ).loc Cert.MoeGateRefIdeal.main_arg3) = m ((c.tc : Thread Cert.MoeGateRefIdeal.nD Cert.MoeGateRefIdeal.τ).loc Cert.MoeGateRefIdeal.main_arg3)
      ∧ r.2.mem ((c.tc : Thread Cert.MoeGateRefIdeal.nD Cert.MoeGateRefIdeal.τ).loc Cert.MoeGateRefIdeal.main_arg4) = m ((c.tc : Thread Cert.MoeGateRefIdeal.nD Cert.MoeGateRefIdeal.τ).loc Cert.MoeGateRefIdeal.main_arg4)
      ∧ r.2.mem ((c.tc : Thread Cert.MoeGateRefIdeal.nD Cert.MoeGateRefIdeal.τ).loc Cert.MoeGateRefIdeal.main_arg5) = m ((c.tc : Thread Cert.MoeGateRefIdeal.nD Cert.MoeGateRefIdeal.τ).loc Cert.MoeGateRefIdeal.main_arg5)
      ∧ r.2.mem ((c.tc : Thread Cert.MoeGateRefIdeal.nD Cert.MoeGateRefIdeal.τ).loc Cert.MoeGateRefIdeal.main_arg6) = m ((c.tc : Thread Cert.MoeGateRefIdeal.nD Cert.MoeGateRefIdeal.τ).loc Cert.MoeGateRefIdeal.main_arg6))
      ∧ r.2.sem = fun _ => 0)

def quiescent_MoeGateRefIdeal_pre_routing_tables_gate [hMoeGateRefIdeal : Cert.MoeGateRefIdeal.Facts] [hPre_routing_tables_gate : Cert.Pre_routing_tables_gate.Facts] : Prop :=
  ∀ (m : (ℓ : Loc Cert.MoeGateRefIdeal.nD Cert.MoeGateRefIdeal.τ Cert.MoeGateRefIdeal.sig) → Buf (Elt Ideal) ℓ) (g : Dev Cert.MoeGateRefIdeal.nD → PrngReg), Pre_MoeGateRefIdeal_routing_tables_gate m →
    θ_run (Cert.MoeGateRefIdeal.defs (F := Ideal)) (onTc (τ := Cert.MoeGateRefIdeal.τ) (Cert.MoeGateRefIdeal.main (F := Ideal))) ⟨m, fun _ => 0, g⟩ (fun r => (∀ c : Dev Cert.MoeGateRefIdeal.nD,
      r.2.mem ((c.tc : Thread Cert.MoeGateRefIdeal.nD Cert.MoeGateRefIdeal.τ).loc Cert.MoeGateRefIdeal.main_arg0) = m ((c.tc : Thread Cert.MoeGateRefIdeal.nD Cert.MoeGateRefIdeal.τ).loc Cert.MoeGateRefIdeal.main_arg0)
      ∧ r.2.mem ((c.tc : Thread Cert.MoeGateRefIdeal.nD Cert.MoeGateRefIdeal.τ).loc Cert.MoeGateRefIdeal.main_arg1) = m ((c.tc : Thread Cert.MoeGateRefIdeal.nD Cert.MoeGateRefIdeal.τ).loc Cert.MoeGateRefIdeal.main_arg1)
      ∧ r.2.mem ((c.tc : Thread Cert.MoeGateRefIdeal.nD Cert.MoeGateRefIdeal.τ).loc Cert.MoeGateRefIdeal.main_arg2) = m ((c.tc : Thread Cert.MoeGateRefIdeal.nD Cert.MoeGateRefIdeal.τ).loc Cert.MoeGateRefIdeal.main_arg2)
      ∧ r.2.mem ((c.tc : Thread Cert.MoeGateRefIdeal.nD Cert.MoeGateRefIdeal.τ).loc Cert.MoeGateRefIdeal.main_arg3) = m ((c.tc : Thread Cert.MoeGateRefIdeal.nD Cert.MoeGateRefIdeal.τ).loc Cert.MoeGateRefIdeal.main_arg3)
      ∧ r.2.mem ((c.tc : Thread Cert.MoeGateRefIdeal.nD Cert.MoeGateRefIdeal.τ).loc Cert.MoeGateRefIdeal.main_arg4) = m ((c.tc : Thread Cert.MoeGateRefIdeal.nD Cert.MoeGateRefIdeal.τ).loc Cert.MoeGateRefIdeal.main_arg4)
      ∧ r.2.mem ((c.tc : Thread Cert.MoeGateRefIdeal.nD Cert.MoeGateRefIdeal.τ).loc Cert.MoeGateRefIdeal.main_arg5) = m ((c.tc : Thread Cert.MoeGateRefIdeal.nD Cert.MoeGateRefIdeal.τ).loc Cert.MoeGateRefIdeal.main_arg5)
      ∧ r.2.mem ((c.tc : Thread Cert.MoeGateRefIdeal.nD Cert.MoeGateRefIdeal.τ).loc Cert.MoeGateRefIdeal.main_arg6) = m ((c.tc : Thread Cert.MoeGateRefIdeal.nD Cert.MoeGateRefIdeal.τ).loc Cert.MoeGateRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Uzx_UzxIdeal : Prop :=
  True

def algebraic_UzxIdeal_UzxRefIdeal [hUzxIdeal : Cert.UzxIdeal.Facts] [hUzxRefIdeal : Cert.UzxRefIdeal.Facts] : Prop :=
  ∀ (m : (ℓ : Loc Cert.UzxIdeal.nD Cert.UzxIdeal.τ Cert.UzxIdeal.sig) → Buf (Elt Ideal) ℓ) (g : Dev Cert.UzxIdeal.nD → PrngReg)
    (m' : (ℓ : Loc Cert.UzxRefIdeal.nD Cert.UzxRefIdeal.τ Cert.UzxRefIdeal.sig) → Buf (Elt Ideal) ℓ) (g' : Dev Cert.UzxRefIdeal.nD → PrngReg), Pre_UzxIdeal m →
    (∀ c : Dev Cert.UzxIdeal.nD,
      m' ((c.tc : Thread Cert.UzxRefIdeal.nD Cert.UzxRefIdeal.τ).loc Cert.UzxRefIdeal.main_arg0) = m ((c.tc : Thread Cert.UzxIdeal.nD Cert.UzxIdeal.τ).loc Cert.UzxIdeal.main_arg0)
      ∧ m' ((c.tc : Thread Cert.UzxRefIdeal.nD Cert.UzxRefIdeal.τ).loc Cert.UzxRefIdeal.main_arg1) = m ((c.tc : Thread Cert.UzxIdeal.nD Cert.UzxIdeal.τ).loc Cert.UzxIdeal.main_arg1)) →
    ∃ (v0 : (c : Dev Cert.UzxIdeal.nD) → Buf (Elt Ideal) ((c.tc : Thread Cert.UzxIdeal.nD Cert.UzxIdeal.τ).loc Cert.UzxIdeal.main_v1_0)) (v1 : (c : Dev Cert.UzxIdeal.nD) → Buf (Elt Ideal) ((c.tc : Thread Cert.UzxIdeal.nD Cert.UzxIdeal.τ).loc Cert.UzxIdeal.main_v1_1)),
      θ_run (Cert.UzxIdeal.defs (F := Ideal)) (onTc (τ := Cert.UzxIdeal.τ) (Cert.UzxIdeal.main (F := Ideal))) ⟨m, fun _ => 0, g⟩ (fun r => ∀ c : Dev Cert.UzxIdeal.nD,
          r.2.mem ((c.tc : Thread Cert.UzxIdeal.nD Cert.UzxIdeal.τ).loc Cert.UzxIdeal.main_v1_0) = v0 c
          ∧ r.2.mem ((c.tc : Thread Cert.UzxIdeal.nD Cert.UzxIdeal.τ).loc Cert.UzxIdeal.main_v1_1) = v1 c
          ∧ r.2.mem ((c.tc : Thread Cert.UzxIdeal.nD Cert.UzxIdeal.τ).loc Cert.UzxIdeal.main_arg0) = m ((c.tc : Thread Cert.UzxIdeal.nD Cert.UzxIdeal.τ).loc Cert.UzxIdeal.main_arg0)
          ∧ r.2.mem ((c.tc : Thread Cert.UzxIdeal.nD Cert.UzxIdeal.τ).loc Cert.UzxIdeal.main_arg1) = m ((c.tc : Thread Cert.UzxIdeal.nD Cert.UzxIdeal.τ).loc Cert.UzxIdeal.main_arg1))
      ∧ θ_run (Cert.UzxRefIdeal.defs (F := Ideal)) (onTc (τ := Cert.UzxRefIdeal.τ) (Cert.UzxRefIdeal.main (F := Ideal))) ⟨m', fun _ => 0, g'⟩ (fun r => ∀ c : Dev Cert.UzxRefIdeal.nD,
          r.2.mem ((c.tc : Thread Cert.UzxRefIdeal.nD Cert.UzxRefIdeal.τ).loc Cert.UzxRefIdeal.main_v5) = v0 c
          ∧ r.2.mem ((c.tc : Thread Cert.UzxRefIdeal.nD Cert.UzxRefIdeal.τ).loc Cert.UzxRefIdeal.main_v9) = v1 c
          ∧ r.2.mem ((c.tc : Thread Cert.UzxRefIdeal.nD Cert.UzxRefIdeal.τ).loc Cert.UzxRefIdeal.main_arg0) = m' ((c.tc : Thread Cert.UzxRefIdeal.nD Cert.UzxRefIdeal.τ).loc Cert.UzxRefIdeal.main_arg0)
          ∧ r.2.mem ((c.tc : Thread Cert.UzxRefIdeal.nD Cert.UzxRefIdeal.τ).loc Cert.UzxRefIdeal.main_arg1) = m' ((c.tc : Thread Cert.UzxRefIdeal.nD Cert.UzxRefIdeal.τ).loc Cert.UzxRefIdeal.main_arg1))

def preserves_Qkvo_QkvoIdeal : Prop :=
  True

def algebraic_QkvoIdeal_QkvoRefIdeal [hQkvoIdeal : Cert.QkvoIdeal.Facts] [hQkvoRefIdeal : Cert.QkvoRefIdeal.Facts] : Prop :=
  ∀ (m : (ℓ : Loc Cert.QkvoIdeal.nD Cert.QkvoIdeal.τ Cert.QkvoIdeal.sig) → Buf (Elt Ideal) ℓ) (g : Dev Cert.QkvoIdeal.nD → PrngReg)
    (m' : (ℓ : Loc Cert.QkvoRefIdeal.nD Cert.QkvoRefIdeal.τ Cert.QkvoRefIdeal.sig) → Buf (Elt Ideal) ℓ) (g' : Dev Cert.QkvoRefIdeal.nD → PrngReg), Pre_QkvoIdeal m →
    (∀ c : Dev Cert.QkvoIdeal.nD,
      m' ((c.tc : Thread Cert.QkvoRefIdeal.nD Cert.QkvoRefIdeal.τ).loc Cert.QkvoRefIdeal.main_arg0) = m ((c.tc : Thread Cert.QkvoIdeal.nD Cert.QkvoIdeal.τ).loc Cert.QkvoIdeal.main_arg0)
      ∧ m' ((c.tc : Thread Cert.QkvoRefIdeal.nD Cert.QkvoRefIdeal.τ).loc Cert.QkvoRefIdeal.main_arg1) = m ((c.tc : Thread Cert.QkvoIdeal.nD Cert.QkvoIdeal.τ).loc Cert.QkvoIdeal.main_arg1)) →
    ∃ (v0 : (c : Dev Cert.QkvoIdeal.nD) → Buf (Elt Ideal) ((c.tc : Thread Cert.QkvoIdeal.nD Cert.QkvoIdeal.τ).loc Cert.QkvoIdeal.main_v1)),
      θ_run (Cert.QkvoIdeal.defs (F := Ideal)) (onTc (τ := Cert.QkvoIdeal.τ) (Cert.QkvoIdeal.main (F := Ideal))) ⟨m, fun _ => 0, g⟩ (fun r => ∀ c : Dev Cert.QkvoIdeal.nD,
          r.2.mem ((c.tc : Thread Cert.QkvoIdeal.nD Cert.QkvoIdeal.τ).loc Cert.QkvoIdeal.main_v1) = v0 c
          ∧ r.2.mem ((c.tc : Thread Cert.QkvoIdeal.nD Cert.QkvoIdeal.τ).loc Cert.QkvoIdeal.main_arg0) = m ((c.tc : Thread Cert.QkvoIdeal.nD Cert.QkvoIdeal.τ).loc Cert.QkvoIdeal.main_arg0)
          ∧ r.2.mem ((c.tc : Thread Cert.QkvoIdeal.nD Cert.QkvoIdeal.τ).loc Cert.QkvoIdeal.main_arg1) = m ((c.tc : Thread Cert.QkvoIdeal.nD Cert.QkvoIdeal.τ).loc Cert.QkvoIdeal.main_arg1))
      ∧ θ_run (Cert.QkvoRefIdeal.defs (F := Ideal)) (onTc (τ := Cert.QkvoRefIdeal.τ) (Cert.QkvoRefIdeal.main (F := Ideal))) ⟨m', fun _ => 0, g'⟩ (fun r => ∀ c : Dev Cert.QkvoRefIdeal.nD,
          r.2.mem ((c.tc : Thread Cert.QkvoRefIdeal.nD Cert.QkvoRefIdeal.τ).loc Cert.QkvoRefIdeal.main_v4) = v0 c
          ∧ r.2.mem ((c.tc : Thread Cert.QkvoRefIdeal.nD Cert.QkvoRefIdeal.τ).loc Cert.QkvoRefIdeal.main_arg0) = m' ((c.tc : Thread Cert.QkvoRefIdeal.nD Cert.QkvoRefIdeal.τ).loc Cert.QkvoRefIdeal.main_arg0)
          ∧ r.2.mem ((c.tc : Thread Cert.QkvoRefIdeal.nD Cert.QkvoRefIdeal.τ).loc Cert.QkvoRefIdeal.main_arg1) = m' ((c.tc : Thread Cert.QkvoRefIdeal.nD Cert.QkvoRefIdeal.τ).loc Cert.QkvoRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_routing_tables : Cert.Pre_routing_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)
      ∧ m' ((c.tc : Thread Cert.MoeDownRefIdeal.nD Cert.MoeDownRefIdeal.τ).loc Cert.MoeDownRefIdeal.main_arg5) = m ((c.tc : Thread Cert.MoeDownIdeal.nD Cert.MoeDownIdeal.τ).loc Cert.MoeDownIdeal.main_arg5)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v73) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4)
          ∧ r.2.mem ((c.tc : Thread Cert.MoeDownRefIdeal.nD Cert.MoeDownRefIdeal.τ).loc Cert.MoeDownRefIdeal.main_arg5) = m' ((c.tc : Thread Cert.MoeDownRefIdeal.nD Cert.MoeDownRefIdeal.τ).loc Cert.MoeDownRefIdeal.main_arg5))

def preserves_MoeGate_MoeGateIdeal : Prop :=
  True

def algebraic_MoeGateIdeal_MoeGateRefIdeal [hMoeGateIdeal : Cert.MoeGateIdeal.Facts] [hMoeGateRefIdeal : Cert.MoeGateRefIdeal.Facts] [hPre_routing_tables_gate : Cert.Pre_routing_tables_gate.Facts] : Prop :=
  ∀ (m : (ℓ : Loc Cert.MoeGateIdeal.nD Cert.MoeGateIdeal.τ Cert.MoeGateIdeal.sig) → Buf (Elt Ideal) ℓ) (g : Dev Cert.MoeGateIdeal.nD → PrngReg)
    (m' : (ℓ : Loc Cert.MoeGateRefIdeal.nD Cert.MoeGateRefIdeal.τ Cert.MoeGateRefIdeal.sig) → Buf (Elt Ideal) ℓ) (g' : Dev Cert.MoeGateRefIdeal.nD → PrngReg), Pre_MoeGateIdeal m →
    (∀ c : Dev Cert.MoeGateIdeal.nD,
      m' ((c.tc : Thread Cert.MoeGateRefIdeal.nD Cert.MoeGateRefIdeal.τ).loc Cert.MoeGateRefIdeal.main_arg0) = m ((c.tc : Thread Cert.MoeGateIdeal.nD Cert.MoeGateIdeal.τ).loc Cert.MoeGateIdeal.main_arg0)
      ∧ m' ((c.tc : Thread Cert.MoeGateRefIdeal.nD Cert.MoeGateRefIdeal.τ).loc Cert.MoeGateRefIdeal.main_arg1) = m ((c.tc : Thread Cert.MoeGateIdeal.nD Cert.MoeGateIdeal.τ).loc Cert.MoeGateIdeal.main_arg1)
      ∧ m' ((c.tc : Thread Cert.MoeGateRefIdeal.nD Cert.MoeGateRefIdeal.τ).loc Cert.MoeGateRefIdeal.main_arg2) = m ((c.tc : Thread Cert.MoeGateIdeal.nD Cert.MoeGateIdeal.τ).loc Cert.MoeGateIdeal.main_arg2)
      ∧ m' ((c.tc : Thread Cert.MoeGateRefIdeal.nD Cert.MoeGateRefIdeal.τ).loc Cert.MoeGateRefIdeal.main_arg3) = m ((c.tc : Thread Cert.MoeGateIdeal.nD Cert.MoeGateIdeal.τ).loc Cert.MoeGateIdeal.main_arg3)
      ∧ m' ((c.tc : Thread Cert.MoeGateRefIdeal.nD Cert.MoeGateRefIdeal.τ).loc Cert.MoeGateRefIdeal.main_arg4) = m ((c.tc : Thread Cert.MoeGateIdeal.nD Cert.MoeGateIdeal.τ).loc Cert.MoeGateIdeal.main_arg4)
      ∧ m' ((c.tc : Thread Cert.MoeGateRefIdeal.nD Cert.MoeGateRefIdeal.τ).loc Cert.MoeGateRefIdeal.main_arg5) = m ((c.tc : Thread Cert.MoeGateIdeal.nD Cert.MoeGateIdeal.τ).loc Cert.MoeGateIdeal.main_arg5)
      ∧ m' ((c.tc : Thread Cert.MoeGateRefIdeal.nD Cert.MoeGateRefIdeal.τ).loc Cert.MoeGateRefIdeal.main_arg6) = m ((c.tc : Thread Cert.MoeGateIdeal.nD Cert.MoeGateIdeal.τ).loc Cert.MoeGateIdeal.main_arg6)) →
    ∃ (v0 : (c : Dev Cert.MoeGateIdeal.nD) → Buf (Elt Ideal) ((c.tc : Thread Cert.MoeGateIdeal.nD Cert.MoeGateIdeal.τ).loc Cert.MoeGateIdeal.main_v0)),
      θ_run (Cert.MoeGateIdeal.defs (F := Ideal)) (onTc (τ := Cert.MoeGateIdeal.τ) (Cert.MoeGateIdeal.main (F := Ideal))) ⟨m, fun _ => 0, g⟩ (fun r => ∀ c : Dev Cert.MoeGateIdeal.nD,
          r.2.mem ((c.tc : Thread Cert.MoeGateIdeal.nD Cert.MoeGateIdeal.τ).loc Cert.MoeGateIdeal.main_v0) = v0 c
          ∧ r.2.mem ((c.tc : Thread Cert.MoeGateIdeal.nD Cert.MoeGateIdeal.τ).loc Cert.MoeGateIdeal.main_arg0) = m ((c.tc : Thread Cert.MoeGateIdeal.nD Cert.MoeGateIdeal.τ).loc Cert.MoeGateIdeal.main_arg0)
          ∧ r.2.mem ((c.tc : Thread Cert.MoeGateIdeal.nD Cert.MoeGateIdeal.τ).loc Cert.MoeGateIdeal.main_arg1) = m ((c.tc : Thread Cert.MoeGateIdeal.nD Cert.MoeGateIdeal.τ).loc Cert.MoeGateIdeal.main_arg1)
          ∧ r.2.mem ((c.tc : Thread Cert.MoeGateIdeal.nD Cert.MoeGateIdeal.τ).loc Cert.MoeGateIdeal.main_arg2) = m ((c.tc : Thread Cert.MoeGateIdeal.nD Cert.MoeGateIdeal.τ).loc Cert.MoeGateIdeal.main_arg2)
          ∧ r.2.mem ((c.tc : Thread Cert.MoeGateIdeal.nD Cert.MoeGateIdeal.τ).loc Cert.MoeGateIdeal.main_arg3) = m ((c.tc : Thread Cert.MoeGateIdeal.nD Cert.MoeGateIdeal.τ).loc Cert.MoeGateIdeal.main_arg3)
          ∧ r.2.mem ((c.tc : Thread Cert.MoeGateIdeal.nD Cert.MoeGateIdeal.τ).loc Cert.MoeGateIdeal.main_arg4) = m ((c.tc : Thread Cert.MoeGateIdeal.nD Cert.MoeGateIdeal.τ).loc Cert.MoeGateIdeal.main_arg4)
          ∧ r.2.mem ((c.tc : Thread Cert.MoeGateIdeal.nD Cert.MoeGateIdeal.τ).loc Cert.MoeGateIdeal.main_arg5) = m ((c.tc : Thread Cert.MoeGateIdeal.nD Cert.MoeGateIdeal.τ).loc Cert.MoeGateIdeal.main_arg5)
          ∧ r.2.mem ((c.tc : Thread Cert.MoeGateIdeal.nD Cert.MoeGateIdeal.τ).loc Cert.MoeGateIdeal.main_arg6) = m ((c.tc : Thread Cert.MoeGateIdeal.nD Cert.MoeGateIdeal.τ).loc Cert.MoeGateIdeal.main_arg6))
      ∧ θ_run (Cert.MoeGateRefIdeal.defs (F := Ideal)) (onTc (τ := Cert.MoeGateRefIdeal.τ) (Cert.MoeGateRefIdeal.main (F := Ideal))) ⟨m', fun _ => 0, g'⟩ (fun r => ∀ c : Dev Cert.MoeGateRefIdeal.nD,
          r.2.mem ((c.tc : Thread Cert.MoeGateRefIdeal.nD Cert.MoeGateRefIdeal.τ).loc Cert.MoeGateRefIdeal.main_v114) = v0 c
          ∧ r.2.mem ((c.tc : Thread Cert.MoeGateRefIdeal.nD Cert.MoeGateRefIdeal.τ).loc Cert.MoeGateRefIdeal.main_arg0) = m' ((c.tc : Thread Cert.MoeGateRefIdeal.nD Cert.MoeGateRefIdeal.τ).loc Cert.MoeGateRefIdeal.main_arg0)
          ∧ r.2.mem ((c.tc : Thread Cert.MoeGateRefIdeal.nD Cert.MoeGateRefIdeal.τ).loc Cert.MoeGateRefIdeal.main_arg1) = m' ((c.tc : Thread Cert.MoeGateRefIdeal.nD Cert.MoeGateRefIdeal.τ).loc Cert.MoeGateRefIdeal.main_arg1)
          ∧ r.2.mem ((c.tc : Thread Cert.MoeGateRefIdeal.nD Cert.MoeGateRefIdeal.τ).loc Cert.MoeGateRefIdeal.main_arg2) = m' ((c.tc : Thread Cert.MoeGateRefIdeal.nD Cert.MoeGateRefIdeal.τ).loc Cert.MoeGateRefIdeal.main_arg2)
          ∧ r.2.mem ((c.tc : Thread Cert.MoeGateRefIdeal.nD Cert.MoeGateRefIdeal.τ).loc Cert.MoeGateRefIdeal.main_arg3) = m' ((c.tc : Thread Cert.MoeGateRefIdeal.nD Cert.MoeGateRefIdeal.τ).loc Cert.MoeGateRefIdeal.main_arg3)
          ∧ r.2.mem ((c.tc : Thread Cert.MoeGateRefIdeal.nD Cert.MoeGateRefIdeal.τ).loc Cert.MoeGateRefIdeal.main_arg4) = m' ((c.tc : Thread Cert.MoeGateRefIdeal.nD Cert.MoeGateRefIdeal.τ).loc Cert.MoeGateRefIdeal.main_arg4)
          ∧ r.2.mem ((c.tc : Thread Cert.MoeGateRefIdeal.nD Cert.MoeGateRefIdeal.τ).loc Cert.MoeGateRefIdeal.main_arg5) = m' ((c.tc : Thread Cert.MoeGateRefIdeal.nD Cert.MoeGateRefIdeal.τ).loc Cert.MoeGateRefIdeal.main_arg5)
          ∧ r.2.mem ((c.tc : Thread Cert.MoeGateRefIdeal.nD Cert.MoeGateRefIdeal.τ).loc Cert.MoeGateRefIdeal.main_arg6) = m' ((c.tc : Thread Cert.MoeGateRefIdeal.nD Cert.MoeGateRefIdeal.τ).loc Cert.MoeGateRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v19) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v9) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hUzx : Cert.Uzx.Facts) (hUzxIdeal : Cert.UzxIdeal.Facts) (hUzxRefIdeal : Cert.UzxRefIdeal.Facts) (hQkvo : Cert.Qkvo.Facts) (hQkvoIdeal : Cert.QkvoIdeal.Facts) (hQkvoRefIdeal : Cert.QkvoRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMoeDown : Cert.MoeDown.Facts) (hMoeDownIdeal : Cert.MoeDownIdeal.Facts) (hMoeDownRefIdeal : Cert.MoeDownRefIdeal.Facts) (hMoeGate : Cert.MoeGate.Facts) (hMoeGateIdeal : Cert.MoeGateIdeal.Facts) (hMoeGateRefIdeal : Cert.MoeGateRefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hPre_routing_tables : Cert.Pre_routing_tables.Facts) (hPre_routing_tables_gate : Cert.Pre_routing_tables_gate.Facts),
    quiescent_Uzx (hUzx := hUzx)
    ∧ quiescent_UzxIdeal (hUzxIdeal := hUzxIdeal)
    ∧ quiescent_UzxRefIdeal (hUzxRefIdeal := hUzxRefIdeal)
    ∧ quiescent_Qkvo (hQkvo := hQkvo)
    ∧ quiescent_QkvoIdeal (hQkvoIdeal := hQkvoIdeal)
    ∧ quiescent_QkvoRefIdeal (hQkvoRefIdeal := hQkvoRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MoeDown (hMoeDown := hMoeDown) (hPre_routing_tables := hPre_routing_tables)
    ∧ quiescent_MoeDownIdeal (hMoeDownIdeal := hMoeDownIdeal) (hPre_routing_tables := hPre_routing_tables)
    ∧ quiescent_MoeDownRefIdeal (hMoeDownRefIdeal := hMoeDownRefIdeal)
    ∧ quiescent_MoeDownRefIdeal_pre_routing_tables (hMoeDownRefIdeal := hMoeDownRefIdeal) (hPre_routing_tables := hPre_routing_tables)
    ∧ quiescent_MoeGate (hMoeGate := hMoeGate) (hPre_routing_tables_gate := hPre_routing_tables_gate)
    ∧ quiescent_MoeGateIdeal (hMoeGateIdeal := hMoeGateIdeal) (hPre_routing_tables_gate := hPre_routing_tables_gate)
    ∧ quiescent_MoeGateRefIdeal (hMoeGateRefIdeal := hMoeGateRefIdeal)
    ∧ quiescent_MoeGateRefIdeal_pre_routing_tables_gate (hMoeGateRefIdeal := hMoeGateRefIdeal) (hPre_routing_tables_gate := hPre_routing_tables_gate)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ preserves_Uzx_UzxIdeal
    ∧ algebraic_UzxIdeal_UzxRefIdeal (hUzxIdeal := hUzxIdeal) (hUzxRefIdeal := hUzxRefIdeal)
    ∧ preserves_Qkvo_QkvoIdeal
    ∧ algebraic_QkvoIdeal_QkvoRefIdeal (hQkvoIdeal := hQkvoIdeal) (hQkvoRefIdeal := hQkvoRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MoeDown_MoeDownIdeal
    ∧ algebraic_MoeDownIdeal_MoeDownRefIdeal (hMoeDownIdeal := hMoeDownIdeal) (hMoeDownRefIdeal := hMoeDownRefIdeal) (hPre_routing_tables := hPre_routing_tables)
    ∧ preserves_MoeGate_MoeGateIdeal
    ∧ algebraic_MoeGateIdeal_MoeGateRefIdeal (hMoeGateIdeal := hMoeGateIdeal) (hMoeGateRefIdeal := hMoeGateRefIdeal) (hPre_routing_tables_gate := hPre_routing_tables_gate)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
-- ==== Pre_routing_tables.lean ====
abbrev S18944x7168 : Shape := ⟨2, ![18944, 7168]⟩
abbrev S8x7168x2048 : Shape := ⟨3, ![8, 7168, 2048]⟩
abbrev S74 : Shape := ⟨1, ![74]⟩
abbrev S1 : Shape := ⟨1, ![1]⟩
abbrev S_ : Shape := ⟨0, ![]⟩
abbrev S74x1 : Shape := ⟨2, ![74, 1]⟩
abbrev S1x74 : Shape := ⟨2, ![1, 74]⟩
abbrev S74x74 : Shape := ⟨2, ![74, 74]⟩

class Facts : Prop where
  shapeCasts_S1_S_ : S1.ShapeCasts S_
  bcast_S_S74 : S_.BroadcastsInDim S74 (![] : Fin 0 → Fin S74.rank)
  bcast_S74_S74x1_0 : S74.BroadcastsInDim S74x1 (![0] : Fin 1 → Fin S74x1.rank)
  bcast_S74_S1x74_1 : S74.BroadcastsInDim S1x74 (![1] : Fin 1 → Fin S1x74.rank)
  bcast_S_S1 : S_.BroadcastsInDim S1 (![] : Fin 0 → Fin S1.rank)
  bcast_S_S1x74 : S_.BroadcastsInDim S1x74 (![] : Fin 0 → Fin S1x74.rank)
  bcast_S1x74_S74x74_0_1 : S1x74.BroadcastsInDim S74x74 (![0, 1] : Fin 2 → Fin S74x74.rank)
  bcast_S74x1_S74x74_0_1 : S74x1.BroadcastsInDim S74x74 (![0, 1] : Fin 2 → Fin S74x74.rank)
  bcast_S_S74x1 : S_.BroadcastsInDim S74x1 (![] : Fin 0 → Fin S74x1.rank)

variable [Facts]

def fn_part4 {F : FTy → Type} [FloatOps F] (main_v13 : IVec S1 1) (main_v18 : IVec S74 1) (main_v23 : IVec S74 1) (main_v44 : IVec S74x74 1) (main_v53 : IVec S74 1) (main_v66 : IVec S74x74 1) (main_v76 : IVec S74x74 1) (main_v79 : IVec S1x74 1) (main_v83 : IVec S74x74 1) : IVec S1 1 × IVec S74 1 × IVec S74 1 × IVec S74x74 1 × IVec S74 1 × IVec S74x74 1 × IVec S74x74 1 :=
  let main_v84 : IVec S74x74 1 := broadcastInDim S74x74 ![0, 1] bcast_S1x74_S74x74_0_1 main_v79
  let main_v85 : IVec S74x74 1 := andi main_v84 main_v83
  let main_v86 : IVec S74x74 1 := ori main_v76 main_v85
  (main_v13, main_v18, main_v23, main_v44, main_v53, main_v66, main_v86)

def fn_part3 {F : FTy → Type} [FloatOps F] (main_arg3 : IVec S74 32) (main_arg4 : IVec S74 32) (main_v6 : IVec S74 1) (main_v7 : IVec S74x1 32) (main_v8 : IVec S1x74 32) (main_v13 : IVec S1 1) (main_v18 : IVec S74 1) (main_v23 : IVec S74 1) (main_v44 : IVec S74x74 1) (main_v53 : IVec S74 1) (main_v61 : IVec S74x74 1) : IVec S1 1 × IVec S74 1 × IVec S74 1 × IVec S74x74 1 × IVec S74 1 × IVec S74x74 1 × IVec S74x74 1 :=
  let main_v62 : IVec S74x1 32 := broadcastInDim S74x1 ![0] bcast_S74_S74x1_0 main_arg3
  let main_c_9 : IVec S_ 32 := constantI S_ 32 1#32
  let main_v63 : IVec S74x1 32 := broadcastInDim S74x1 ![] bcast_S_S74x1 main_c_9
  let main_v64 : IVec S74x1 1 := cmpi .eq main_v62 main_v63
  let main_v65 : IVec S74x74 1 := broadcastInDim S74x74 ![0, 1] bcast_S74x1_S74x74_0_1 main_v64
  let main_v66 : IVec S74x74 1 := ori main_v61 main_v65
  let main_v67 : IVec S1x74 1 := broadcastInDim S1x74 ![1] bcast_S74_S1x74_1 main_v6
  let main_v68 : IVec S74x1 1 := broadcastInDim S74x1 ![0] bcast_S74_S74x1_0 main_v6
  let main_v69 : IVec S74x74 1 := broadcastInDim S74x74 ![0, 1] bcast_S1x74_S74x74_0_1 main_v67
  let main_v70 : IVec S74x74 1 := broadcastInDim S74x74 ![0, 1] bcast_S74x1_S74x74_0_1 main_v68
  let main_v71 : IVec S74x74 1 := andi main_v69 main_v70
  let main_v72 : IVec S74x74 32 := broadcastInDim S74x74 ![0, 1] bcast_S1x74_S74x74_0_1 main_v8
  let main_v73 : IVec S74x74 32 := broadcastInDim S74x74 ![0, 1] bcast_S74x1_S74x74_0_1 main_v7
  let main_v74 : IVec S74x74 1 := cmpi .slt main_v72 main_v73
  let main_v75 : IVec S74x74 1 := andi main_v71 main_v74
  let main_v76 : IVec S74x74 1 := noti main_v75
  let main_v77 : IVec S1x74 32 := broadcastInDim S1x74 ![1] bcast_S74_S1x74_1 main_arg4
  let main_c_10 : IVec S_ 32 := constantI S_ 32 0#32
  let main_v78 : IVec S1x74 32 := broadcastInDim S1x74 ![] bcast_S_S1x74 main_c_10
  let main_v79 : IVec S1x74 1 := cmpi .sge main_v77 main_v78
  let main_v80 : IVec S1x74 32 := broadcastInDim S1x74 ![1] bcast_S74_S1x74_1 main_arg4
  let main_v81 : IVec S74x74 32 := broadcastInDim S74x74 ![0, 1] bcast_S1x74_S74x74_0_1 main_v80
  let main_v82 : IVec S74x74 32 := broadcastInDim S74x74 ![0, 1] bcast_S74x1_S74x74_0_1 main_v7
  let main_v83 : IVec S74x74 1 := cmpi .sle main_v81 main_v82
  fn_part4 (F := F) main_v13 main_v18 main_v23 main_v44 main_v53 main_v66 main_v76 main_v79 main_v83

def fn_part2 {F : FTy → Type} [FloatOps F] (main_arg2 : IVec S74 32) (main_arg3 : IVec S74 32) (main_arg4 : IVec S74 32) (main_v0 : IVec S74 32) (main_v1 : IVec S_ 32) (main_v6 : IVec S74 1) (main_v7 : IVec S74x1 32) (main_v8 : IVec S1x74 32) (main_v13 : IVec S1 1) (main_v18 : IVec S74 1) (main_v23 : IVec S74 1) (main_v38 : IVec S74x74 1) : IVec S1 1 × IVec S74 1 × IVec S74 1 × IVec S74x74 1 × IVec S74 1 × IVec S74x74 1 × IVec S74x74 1 :=
  let main_v39 : IVec S74x1 32 := broadcastInDim S74x1 ![0] bcast_S74_S74x1_0 main_arg2
  let main_v40 : IVec S1x74 32 := broadcastInDim S1x74 ![1] bcast_S74_S1x74_1 main_arg2
  let main_v41 : IVec S74x74 32 := broadcastInDim S74x74 ![0, 1] bcast_S74x1_S74x74_0_1 main_v39
  let main_v42 : IVec S74x74 32 := broadcastInDim S74x74 ![0, 1] bcast_S1x74_S74x74_0_1 main_v40
  let main_v43 : IVec S74x74 1 := cmpi .eq main_v41 main_v42
  let main_v44 : IVec S74x74 1 := ori main_v38 main_v43
  let main_v45 : IVec S74 1 := noti main_v6
  let main_c_8 : IVec S_ 32 := constantI S_ 32 0#32
  let main_v46 : IVec S74 32 := broadcastInDim S74 ![] bcast_S_S74 main_c_8
  let main_v47 : IVec S74 1 := cmpi .slt main_arg4 main_v46
  let main_v48 : IVec S74 1 := ori main_v45 main_v47
  let main_v49 : IVec S74 1 := cmpi .slt main_v0 main_arg4
  let main_v50 : IVec S74 32 := broadcastInDim S74 ![] bcast_S_S74 main_v1
  let main_v51 : IVec S74 1 := cmpi .slt main_arg4 main_v50
  let main_v52 : IVec S74 1 := andi main_v49 main_v51
  let main_v53 : IVec S74 1 := ori main_v48 main_v52
  let main_v54 : IVec S1x74 1 := broadcastInDim S1x74 ![1] bcast_S74_S1x74_1 main_v6
  let main_v55 : IVec S1x74 32 := broadcastInDim S1x74 ![1] bcast_S74_S1x74_1 main_arg4
  let main_v56 : IVec S74x74 32 := broadcastInDim S74x74 ![0, 1] bcast_S1x74_S74x74_0_1 main_v55
  let main_v57 : IVec S74x74 32 := broadcastInDim S74x74 ![0, 1] bcast_S74x1_S74x74_0_1 main_v7
  let main_v58 : IVec S74x74 1 := cmpi .eq main_v56 main_v57
  let main_v59 : IVec S74x74 1 := broadcastInDim S74x74 ![0, 1] bcast_S1x74_S74x74_0_1 main_v54
  let main_v60 : IVec S74x74 1 := andi main_v59 main_v58
  let main_v61 : IVec S74x74 1 := noti main_v60
  fn_part3 (F := F) main_arg3 main_arg4 main_v6 main_v7 main_v8 main_v13 main_v18 main_v23 main_v44 main_v53 main_v61

def fn_part1 {F : FTy → Type} [FloatOps F] (main_arg2 : IVec S74 32) (main_arg3 : IVec S74 32) (main_arg4 : IVec S74 32) (main_v0 : IVec S74 32) (main_v1 : IVec S_ 32) (main_v6 : IVec S74 1) (main_v7 : IVec S74x1 32) (main_v8 : IVec S1x74 32) (main_v13 : IVec S1 1) (main_v18 : IVec S74 1) : IVec S1 1 × IVec S74 1 × IVec S74 1 × IVec S74x74 1 × IVec S74 1 × IVec S74x74 1 × IVec S74x74 1 :=
  let main_c_4 : IVec S_ 32 := constantI S_ 32 0#32
  let main_v19 : IVec S74 32 := broadcastInDim S74 ![] bcast_S_S74 main_c_4
  let main_v20 : IVec S74 1 := cmpi .ne main_v0 main_v19
  let main_c_5 : IVec S_ 32 := constantI S_ 32 1#32
  let main_v21 : IVec S74 32 := broadcastInDim S74 ![] bcast_S_S74 main_c_5
  let main_v22 : IVec S74 1 := cmpi .eq main_arg3 main_v21
  let main_v23 : IVec S74 1 := ori main_v20 main_v22
  let main_c_6 : IVec S_ 32 := constantI S_ 32 1#32
  let main_v24 : IVec S1x74 32 := broadcastInDim S1x74 ![] bcast_S_S1x74 main_c_6
  let main_v25 : IVec S1x74 32 := addi main_v8 main_v24
  let main_v26 : IVec S74x74 32 := broadcastInDim S74x74 ![0, 1] bcast_S1x74_S74x74_0_1 main_v25
  let main_v27 : IVec S74x74 32 := broadcastInDim S74x74 ![0, 1] bcast_S74x1_S74x74_0_1 main_v7
  let main_v28 : IVec S74x74 1 := cmpi .eq main_v26 main_v27
  let main_v29 : IVec S74x1 32 := broadcastInDim S74x1 ![] bcast_S_S74x1 main_v1
  let main_v30 : IVec S74x1 1 := cmpi .slt main_v7 main_v29
  let main_v31 : IVec S74x74 1 := broadcastInDim S74x74 ![0, 1] bcast_S74x1_S74x74_0_1 main_v30
  let main_v32 : IVec S74x74 1 := andi main_v28 main_v31
  let main_v33 : IVec S74x74 1 := noti main_v32
  let main_v34 : IVec S74x1 32 := broadcastInDim S74x1 ![0] bcast_S74_S74x1_0 main_arg3
  let main_c_7 : IVec S_ 32 := constantI S_ 32 1#32
  let main_v35 : IVec S74x1 32 := broadcastInDim S74x1 ![] bcast_S_S74x1 main_c_7
  let main_v36 : IVec S74x1 1 := cmpi .eq main_v34 main_v35
  let main_v37 : IVec S74x74 1 := broadcastInDim S74x74 ![0, 1] bcast_S74x1_S74x74_0_1 main_v36
  let main_v38 : IVec S74x74 1 := ori main_v33 main_v37
  fn_part2 (F := F) main_arg2 main_arg3 main_arg4 main_v0 main_v1 main_v6 main_v7 main_v8 main_v13 main_v18 main_v23 main_v38

def fn {F : FTy → Type} [FloatOps F] (main_arg0 : FVec F S18944x7168 .bf16) (main_arg1 : FVec F S8x7168x2048 .f32) (main_arg2 : IVec S74 32) (main_arg3 : IVec S74 32) (main_arg4 : IVec S74 32) (main_arg5 : IVec S1 32) : IVec S1 1 × IVec S74 1 × IVec S74 1 × IVec S74x74 1 × IVec S74 1 × IVec S74x74 1 × IVec S74x74 1 :=
  let main_v0 : IVec S74 32 := iotaInDim S74 32 0
  let main_v1 : IVec S_ 32 := shapeCast S_ main_arg5 shapeCasts_S1_S_
  let main_v2 : IVec S74 32 := broadcastInDim S74 ![] bcast_S_S74 main_v1
  let main_v3 : IVec S74 1 := cmpi .slt main_v0 main_v2
  let main_c : IVec S_ 32 := constantI S_ 32 1#32
  let main_v4 : IVec S74 32 := broadcastInDim S74 ![] bcast_S_S74 main_c
  let main_v5 : IVec S74 1 := cmpi .eq main_arg3 main_v4
  let main_v6 : IVec S74 1 := andi main_v3 main_v5
  let main_v7 : IVec S74x1 32 := broadcastInDim S74x1 ![0] bcast_S74_S74x1_0 main_v0
  let main_v8 : IVec S1x74 32 := broadcastInDim S1x74 ![1] bcast_S74_S1x74_1 main_v0
  let main_c_0 : IVec S_ 32 := constantI S_ 32 1#32
  let main_v9 : IVec S1 32 := broadcastInDim S1 ![] bcast_S_S1 main_c_0
  let main_v10 : IVec S1 1 := cmpi .sge main_arg5 main_v9
  let main_c_1 : IVec S_ 32 := constantI S_ 32 74#32
  let main_v11 : IVec S1 32 := broadcastInDim S1 ![] bcast_S_S1 main_c_1
  let main_v12 : IVec S1 1 := cmpi .sle main_arg5 main_v11
  let main_v13 : IVec S1 1 := andi main_v10 main_v12
  let main_c_2 : IVec S_ 32 := constantI S_ 32 0#32
  let main_v14 : IVec S74 32 := broadcastInDim S74 ![] bcast_S_S74 main_c_2
  let main_v15 : IVec S74 1 := cmpi .sge main_arg2 main_v14
  let main_c_3 : IVec S_ 32 := constantI S_ 32 8#32
  let main_v16 : IVec S74 32 := broadcastInDim S74 ![] bcast_S_S74 main_c_3
  let main_v17 : IVec S74 1 := cmpi .slt main_arg2 main_v16
  let main_v18 : IVec S74 1 := andi main_v15 main_v17
  fn_part1 (F := F) main_arg2 main_arg3 main_arg4 main_v0 main_v1 main_v6 main_v7 main_v8 main_v13 main_v18
-- ==== Pre_routing_tables_gate.lean ====
abbrev S18944x2048 : Shape := ⟨2, ![18944, 2048]⟩
abbrev S8x2048x7168 : Shape := ⟨3, ![8, 2048, 7168]⟩
abbrev S74 : Shape := ⟨1, ![74]⟩
abbrev S1 : Shape := ⟨1, ![1]⟩
abbrev S_ : Shape := ⟨0, ![]⟩
abbrev S74x1 : Shape := ⟨2, ![74, 1]⟩
abbrev S1x74 : Shape := ⟨2, ![1, 74]⟩
abbrev S74x74 : Shape := ⟨2, ![74, 74]⟩

class Facts : Prop where
  shapeCasts_S1_S_ : S1.ShapeCasts S_
  bcast_S_S74 : S_.BroadcastsInDim S74 (![] : Fin 0 → Fin S74.rank)
  bcast_S74_S74x1_0 : S74.BroadcastsInDim S74x1 (![0] : Fin 1 → Fin S74x1.rank)
  bcast_S74_S1x74_1 : S74.BroadcastsInDim S1x74 (![1] : Fin 1 → Fin S1x74.rank)
  bcast_S_S1 : S_.BroadcastsInDim S1 (![] : Fin 0 → Fin S1.rank)
  bcast_S_S1x74 : S_.BroadcastsInDim S1x74 (![] : Fin 0 → Fin S1x74.rank)
  bcast_S1x74_S74x74_0_1 : S1x74.BroadcastsInDim S74x74 (![0, 1] : Fin 2 → Fin S74x74.rank)
  bcast_S74x1_S74x74_0_1 : S74x1.BroadcastsInDim S74x74 (![0, 1] : Fin 2 → Fin S74x74.rank)
  bcast_S_S74x1 : S_.BroadcastsInDim S74x1 (![] : Fin 0 → Fin S74x1.rank)

variable [Facts]

def fn_part4 {F : FTy → Type} [FloatOps F] (main_v13 : IVec S1 1) (main_v18 : IVec S74 1) (main_v23 : IVec S74 1) (main_v44 : IVec S74x74 1) (main_v53 : IVec S74 1) (main_v66 : IVec S74x74 1) (main_v76 : IVec S74x74 1) (main_v79 : IVec S1x74 1) (main_v83 : IVec S74x74 1) : IVec S1 1 × IVec S74 1 × IVec S74 1 × IVec S74x74 1 × IVec S74 1 × IVec S74x74 1 × IVec S74x74 1 :=
  let main_v84 : IVec S74x74 1 := broadcastInDim S74x74 ![0, 1] bcast_S1x74_S74x74_0_1 main_v79
  let main_v85 : IVec S74x74 1 := andi main_v84 main_v83
  let main_v86 : IVec S74x74 1 := ori main_v76 main_v85
  (main_v13, main_v18, main_v23, main_v44, main_v53, main_v66, main_v86)

def fn_part3 {F : FTy → Type} [FloatOps F] (main_arg4 : IVec S74 32) (main_arg5 : IVec S74 32) (main_v6 : IVec S74 1) (main_v7 : IVec S74x1 32) (main_v8 : IVec S1x74 32) (main_v13 : IVec S1 1) (main_v18 : IVec S74 1) (main_v23 : IVec S74 1) (main_v44 : IVec S74x74 1) (main_v53 : IVec S74 1) (main_v61 : IVec S74x74 1) : IVec S1 1 × IVec S74 1 × IVec S74 1 × IVec S74x74 1 × IVec S74 1 × IVec S74x74 1 × IVec S74x74 1 :=
  let main_v62 : IVec S74x1 32 := broadcastInDim S74x1 ![0] bcast_S74_S74x1_0 main_arg4
  let main_c_9 : IVec S_ 32 := constantI S_ 32 1#32
  let main_v63 : IVec S74x1 32 := broadcastInDim S74x1 ![] bcast_S_S74x1 main_c_9
  let main_v64 : IVec S74x1 1 := cmpi .eq main_v62 main_v63
  let main_v65 : IVec S74x74 1 := broadcastInDim S74x74 ![0, 1] bcast_S74x1_S74x74_0_1 main_v64
  let main_v66 : IVec S74x74 1 := ori main_v61 main_v65
  let main_v67 : IVec S1x74 1 := broadcastInDim S1x74 ![1] bcast_S74_S1x74_1 main_v6
  let main_v68 : IVec S74x1 1 := broadcastInDim S74x1 ![0] bcast_S74_S74x1_0 main_v6
  let main_v69 : IVec S74x74 1 := broadcastInDim S74x74 ![0, 1] bcast_S1x74_S74x74_0_1 main_v67
  let main_v70 : IVec S74x74 1 := broadcastInDim S74x74 ![0, 1] bcast_S74x1_S74x74_0_1 main_v68
  let main_v71 : IVec S74x74 1 := andi main_v69 main_v70
  let main_v72 : IVec S74x74 32 := broadcastInDim S74x74 ![0, 1] bcast_S1x74_S74x74_0_1 main_v8
  let main_v73 : IVec S74x74 32 := broadcastInDim S74x74 ![0, 1] bcast_S74x1_S74x74_0_1 main_v7
  let main_v74 : IVec S74x74 1 := cmpi .slt main_v72 main_v73
  let main_v75 : IVec S74x74 1 := andi main_v71 main_v74
  let main_v76 : IVec S74x74 1 := noti main_v75
  let main_v77 : IVec S1x74 32 := broadcastInDim S1x74 ![1] bcast_S74_S1x74_1 main_arg5
  let main_c_10 : IVec S_ 32 := constantI S_ 32 0#32
  let main_v78 : IVec S1x74 32 := broadcastInDim S1x74 ![] bcast_S_S1x74 main_c_10
  let main_v79 : IVec S1x74 1 := cmpi .sge main_v77 main_v78
  let main_v80 : IVec S1x74 32 := broadcastInDim S1x74 ![1] bcast_S74_S1x74_1 main_arg5
  let main_v81 : IVec S74x74 32 := broadcastInDim S74x74 ![0, 1] bcast_S1x74_S74x74_0_1 main_v80
  let main_v82 : IVec S74x74 32 := broadcastInDim S74x74 ![0, 1] bcast_S74x1_S74x74_0_1 main_v7
  let main_v83 : IVec S74x74 1 := cmpi .sle main_v81 main_v82
  fn_part4 (F := F) main_v13 main_v18 main_v23 main_v44 main_v53 main_v66 main_v76 main_v79 main_v83

def fn_part2 {F : FTy → Type} [FloatOps F] (main_arg3 : IVec S74 32) (main_arg4 : IVec S74 32) (main_arg5 : IVec S74 32) (main_v0 : IVec S74 32) (main_v1 : IVec S_ 32) (main_v6 : IVec S74 1) (main_v7 : IVec S74x1 32) (main_v8 : IVec S1x74 32) (main_v13 : IVec S1 1) (main_v18 : IVec S74 1) (main_v23 : IVec S74 1) (main_v38 : IVec S74x74 1) : IVec S1 1 × IVec S74 1 × IVec S74 1 × IVec S74x74 1 × IVec S74 1 × IVec S74x74 1 × IVec S74x74 1 :=
  let main_v39 : IVec S74x1 32 := broadcastInDim S74x1 ![0] bcast_S74_S74x1_0 main_arg3
  let main_v40 : IVec S1x74 32 := broadcastInDim S1x74 ![1] bcast_S74_S1x74_1 main_arg3
  let main_v41 : IVec S74x74 32 := broadcastInDim S74x74 ![0, 1] bcast_S74x1_S74x74_0_1 main_v39
  let main_v42 : IVec S74x74 32 := broadcastInDim S74x74 ![0, 1] bcast_S1x74_S74x74_0_1 main_v40
  let main_v43 : IVec S74x74 1 := cmpi .eq main_v41 main_v42
  let main_v44 : IVec S74x74 1 := ori main_v38 main_v43
  let main_v45 : IVec S74 1 := noti main_v6
  let main_c_8 : IVec S_ 32 := constantI S_ 32 0#32
  let main_v46 : IVec S74 32 := broadcastInDim S74 ![] bcast_S_S74 main_c_8
  let main_v47 : IVec S74 1 := cmpi .slt main_arg5 main_v46
  let main_v48 : IVec S74 1 := ori main_v45 main_v47
  let main_v49 : IVec S74 1 := cmpi .slt main_v0 main_arg5
  let main_v50 : IVec S74 32 := broadcastInDim S74 ![] bcast_S_S74 main_v1
  let main_v51 : IVec S74 1 := cmpi .slt main_arg5 main_v50
  let main_v52 : IVec S74 1 := andi main_v49 main_v51
  let main_v53 : IVec S74 1 := ori main_v48 main_v52
  let main_v54 : IVec S1x74 1 := broadcastInDim S1x74 ![1] bcast_S74_S1x74_1 main_v6
  let main_v55 : IVec S1x74 32 := broadcastInDim S1x74 ![1] bcast_S74_S1x74_1 main_arg5
  let main_v56 : IVec S74x74 32 := broadcastInDim S74x74 ![0, 1] bcast_S1x74_S74x74_0_1 main_v55
  let main_v57 : IVec S74x74 32 := broadcastInDim S74x74 ![0, 1] bcast_S74x1_S74x74_0_1 main_v7
  let main_v58 : IVec S74x74 1 := cmpi .eq main_v56 main_v57
  let main_v59 : IVec S74x74 1 := broadcastInDim S74x74 ![0, 1] bcast_S1x74_S74x74_0_1 main_v54
  let main_v60 : IVec S74x74 1 := andi main_v59 main_v58
  let main_v61 : IVec S74x74 1 := noti main_v60
  fn_part3 (F := F) main_arg4 main_arg5 main_v6 main_v7 main_v8 main_v13 main_v18 main_v23 main_v44 main_v53 main_v61

def fn_part1 {F : FTy → Type} [FloatOps F] (main_arg3 : IVec S74 32) (main_arg4 : IVec S74 32) (main_arg5 : IVec S74 32) (main_v0 : IVec S74 32) (main_v1 : IVec S_ 32) (main_v6 : IVec S74 1) (main_v7 : IVec S74x1 32) (main_v8 : IVec S1x74 32) (main_v13 : IVec S1 1) (main_v18 : IVec S74 1) : IVec S1 1 × IVec S74 1 × IVec S74 1 × IVec S74x74 1 × IVec S74 1 × IVec S74x74 1 × IVec S74x74 1 :=
  let main_c_4 : IVec S_ 32 := constantI S_ 32 0#32
  let main_v19 : IVec S74 32 := broadcastInDim S74 ![] bcast_S_S74 main_c_4
  let main_v20 : IVec S74 1 := cmpi .ne main_v0 main_v19
  let main_c_5 : IVec S_ 32 := constantI S_ 32 1#32
  let main_v21 : IVec S74 32 := broadcastInDim S74 ![] bcast_S_S74 main_c_5
  let main_v22 : IVec S74 1 := cmpi .eq main_arg4 main_v21
  let main_v23 : IVec S74 1 := ori main_v20 main_v22
  let main_c_6 : IVec S_ 32 := constantI S_ 32 1#32
  let main_v24 : IVec S1x74 32 := broadcastInDim S1x74 ![] bcast_S_S1x74 main_c_6
  let main_v25 : IVec S1x74 32 := addi main_v8 main_v24
  let main_v26 : IVec S74x74 32 := broadcastInDim S74x74 ![0, 1] bcast_S1x74_S74x74_0_1 main_v25
  let main_v27 : IVec S74x74 32 := broadcastInDim S74x74 ![0, 1] bcast_S74x1_S74x74_0_1 main_v7
  let main_v28 : IVec S74x74 1 := cmpi .eq main_v26 main_v27
  let main_v29 : IVec S74x1 32 := broadcastInDim S74x1 ![] bcast_S_S74x1 main_v1
  let main_v30 : IVec S74x1 1 := cmpi .slt main_v7 main_v29
  let main_v31 : IVec S74x74 1 := broadcastInDim S74x74 ![0, 1] bcast_S74x1_S74x74_0_1 main_v30
  let main_v32 : IVec S74x74 1 := andi main_v28 main_v31
  let main_v33 : IVec S74x74 1 := noti main_v32
  let main_v34 : IVec S74x1 32 := broadcastInDim S74x1 ![0] bcast_S74_S74x1_0 main_arg4
  let main_c_7 : IVec S_ 32 := constantI S_ 32 1#32
  let main_v35 : IVec S74x1 32 := broadcastInDim S74x1 ![] bcast_S_S74x1 main_c_7
  let main_v36 : IVec S74x1 1 := cmpi .eq main_v34 main_v35
  let main_v37 : IVec S74x74 1 := broadcastInDim S74x74 ![0, 1] bcast_S74x1_S74x74_0_1 main_v36
  let main_v38 : IVec S74x74 1 := ori main_v33 main_v37
  fn_part2 (F := F) main_arg3 main_arg4 main_arg5 main_v0 main_v1 main_v6 main_v7 main_v8 main_v13 main_v18 main_v23 main_v38

def fn {F : FTy → Type} [FloatOps F] (main_arg0 : FVec F S18944x2048 .bf16) (main_arg1 : FVec F S8x2048x7168 .f32) (main_arg2 : FVec F S8x2048x7168 .f32) (main_arg3 : IVec S74 32) (main_arg4 : IVec S74 32) (main_arg5 : IVec S74 32) (main_arg6 : IVec S1 32) : IVec S1 1 × IVec S74 1 × IVec S74 1 × IVec S74x74 1 × IVec S74 1 × IVec S74x74 1 × IVec S74x74 1 :=
  let main_v0 : IVec S74 32 := iotaInDim S74 32 0
  let main_v1 : IVec S_ 32 := shapeCast S_ main_arg6 shapeCasts_S1_S_
  let main_v2 : IVec S74 32 := broadcastInDim S74 ![] bcast_S_S74 main_v1
  let main_v3 : IVec S74 1 := cmpi .slt main_v0 main_v2
  let main_c : IVec S_ 32 := constantI S_ 32 1#32
  let main_v4 : IVec S74 32 := broadcastInDim S74 ![] bcast_S_S74 main_c
  let main_v5 : IVec S74 1 := cmpi .eq main_arg4 main_v4
  let main_v6 : IVec S74 1 := andi main_v3 main_v5
  let main_v7 : IVec S74x1 32 := broadcastInDim S74x1 ![0] bcast_S74_S74x1_0 main_v0
  let main_v8 : IVec S1x74 32 := broadcastInDim S1x74 ![1] bcast_S74_S1x74_1 main_v0
  let main_c_0 : IVec S_ 32 := constantI S_ 32 1#32
  let main_v9 : IVec S1 32 := broadcastInDim S1 ![] bcast_S_S1 main_c_0
  let main_v10 : IVec S1 1 := cmpi .sge main_arg6 main_v9
  let main_c_1 : IVec S_ 32 := constantI S_ 32 74#32
  let main_v11 : IVec S1 32 := broadcastInDim S1 ![] bcast_S_S1 main_c_1
  let main_v12 : IVec S1 1 := cmpi .sle main_arg6 main_v11
  let main_v13 : IVec S1 1 := andi main_v10 main_v12
  let main_c_2 : IVec S_ 32 := constantI S_ 32 0#32
  let main_v14 : IVec S74 32 := broadcastInDim S74 ![] bcast_S_S74 main_c_2
  let main_v15 : IVec S74 1 := cmpi .sge main_arg3 main_v14
  let main_c_3 : IVec S_ 32 := constantI S_ 32 8#32
  let main_v16 : IVec S74 32 := broadcastInDim S74 ![] bcast_S_S74 main_c_3
  let main_v17 : IVec S74 1 := cmpi .slt main_arg3 main_v16
  let main_v18 : IVec S74 1 := andi main_v15 main_v17
  fn_part1 (F := F) main_arg3 main_arg4 main_arg5 main_v0 main_v1 main_v6 main_v7 main_v8 main_v13 main_v18
-- ==== Uzx.lean ====
abbrev S8320x2048 : Shape := ⟨2, ![8320, 2048]⟩
abbrev S2x2048x6160 : Shape := ⟨3, ![2, 2048, 6160]⟩
abbrev S2x6160x2048 : Shape := ⟨3, ![2, 6160, 2048]⟩
abbrev S2x8320x16 : Shape := ⟨3, ![2, 8320, 16]⟩
abbrev S832x2048 : Shape := ⟨2, ![832, 2048]⟩
abbrev S1x1024x2048 : Shape := ⟨3, ![1, 1024, 2048]⟩
abbrev S1x8x2048 : Shape := ⟨3, ![1, 8, 2048]⟩
abbrev S832x1024 : Shape := ⟨2, ![832, 1024]⟩
abbrev S1x832x16 : Shape := ⟨3, ![1, 832, 16]⟩
abbrev S2048x1024 : Shape := ⟨2, ![2048, 1024]⟩
abbrev S1024x2048 : Shape := ⟨2, ![1024, 2048]⟩
abbrev S8x2048 : Shape := ⟨2, ![8, 2048]⟩
abbrev S832x8 : Shape := ⟨2, ![832, 8]⟩
abbrev S1x832x8 : Shape := ⟨3, ![1, 832, 8]⟩

abbrev nBuf : Space → Nat
  | .hbm => 5
  | .vmem => 11
  | .smem => 0
  | _ => 0

abbrev bufTy : (tb : Table) → Fin (tcTables nBuf tb) → BufTy
  | .hbm, ⟨0, _⟩ => ⟨S8320x2048, .bf16⟩
  | .hbm, ⟨1, _⟩ => ⟨S2x2048x6160, .f32⟩
  | .hbm, ⟨2, _⟩ => ⟨S2x6160x2048, .f32⟩
  | .hbm, ⟨3, _⟩ => ⟨S8320x2048, .f32⟩
  | .hbm, ⟨4, _⟩ => ⟨S2x8320x16, .f32⟩
  | .local _ .vmem, ⟨0, _⟩ => ⟨S832x2048, .bf16⟩
  | .local _ .vmem, ⟨1, _⟩ => ⟨S832x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x8x2048, .f32⟩
  | .local _ .vmem, ⟨5, _⟩ => ⟨S1x8x2048, .f32⟩
  | .local _ .vmem, ⟨6, _⟩ => ⟨S832x1024, .f32⟩
  | .local _ .vmem, ⟨7, _⟩ => ⟨S832x1024, .f32⟩
  | .local _ .vmem, ⟨8, _⟩ => ⟨S1x832x16, .f32⟩
  | .local _ .vmem, ⟨9, _⟩ => ⟨S1x832x16, .f32⟩
  | .local _ .vmem, ⟨10, _⟩ => ⟨S2048x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 10], ![false, false]⟩

def k0_mult1 (i : grid0.Coords) : BitVec 32 :=
  let c4104_i32 : BitVec 32 := 4104#32
  let c1024_i32 : BitVec 32 := 1024#32
  let arg0 : BitVec 32 := BitVec.ofNat 32 (i 0).val
  let v0 : BitVec 32 := Scalar.muli c1024_i32 arg0
  let v1 : BitVec 32 := Scalar.addi c4104_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c4104_i32 : BitVec 32 := 4104#32
  let v1 : BitVec 32 := Scalar.addi c4104_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4096_i32 : BitVec 32 := 4096#32
  let c0_i32_0 : BitVec 32 := 0#32
  let c0_i32_1 : BitVec 32 := 0#32
  ![c0_i32.toNat, c4096_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c6152_i32 : BitVec 32 := 6152#32
  let c0_i32_0 : BitVec 32 := 0#32
  let c0_i32_1 : BitVec 32 := 0#32
  ![c0_i32.toNat, c6152_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x832x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UzxRefIdeal.lean ====
abbrev S8320x2048 : Shape := ⟨2, ![8320, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8320x6160 : Shape := ⟨2, ![8320, 6160]⟩
abbrev S8320x8 : Shape := ⟨2, ![8320, 8]⟩
abbrev S8320x16 : Shape := ⟨2, ![8320, 16]⟩
abbrev S1x8320x16 : Shape := ⟨3, ![1, 8320, 16]⟩
abbrev S2x8320x16 : Shape := ⟨3, ![2, 8320, 16]⟩

abbrev nBuf : Space → Nat
  | .hbm => 12
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x6160, .f32⟩
  | .hbm, ⟨2, _⟩ => ⟨S8320x2048, .f32⟩
  | .hbm, ⟨3, _⟩ => ⟨S1x2048x6160, .f32⟩
  | .hbm, ⟨4, _⟩ => ⟨S2048x6160, .f32⟩
  | .hbm, ⟨5, _⟩ => ⟨S8320x6160, .f32⟩
  | .hbm, ⟨6, _⟩ => ⟨S8320x8, .f32⟩
  | .hbm, ⟨7, _⟩ => ⟨S8320x2048, .f32⟩
  | .hbm, ⟨8, _⟩ => ⟨S8320x8, .f32⟩
  | .hbm, ⟨9, _⟩ => ⟨S8320x16, .f32⟩
  | .hbm, ⟨10, _⟩ => ⟨S1x8320x16, .f32⟩
  | .hbm, ⟨11, _⟩ => ⟨S2x8320x16, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Qkvo.lean ====
abbrev S8320x2048 : Shape := ⟨2, ![8320, 2048]⟩
abbrev S2x2048x6160 : Shape := ⟨3, ![2, 2048, 6160]⟩
abbrev S2x6160x2048 : Shape := ⟨3, ![2, 6160, 2048]⟩
abbrev S8320x4096 : Shape := ⟨2, ![8320, 4096]⟩
abbrev S832x2048 : Shape := ⟨2, ![832, 2048]⟩
abbrev S1x1024x2048 : Shape := ⟨3, ![1, 1024, 2048]⟩
abbrev S832x1024 : Shape := ⟨2, ![832, 1024]⟩
abbrev S2048x1024 : Shape := ⟨2, ![2048, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2x2048x6160, .f32⟩
  | .hbm, ⟨2, _⟩ => ⟨S2x6160x2048, .f32⟩
  | .hbm, ⟨3, _⟩ => ⟨S8320x4096, .f32⟩
  | .local _ .vmem, ⟨0, _⟩ => ⟨S832x2048, .bf16⟩
  | .local _ .vmem, ⟨1, _⟩ => ⟨S832x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S832x1024, .f32⟩
  | .local _ .vmem, ⟨5, _⟩ => ⟨S832x1024, .f32⟩
  | .local _ .vmem, ⟨6, _⟩ => ⟨S2048x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_mult1 (i : grid0.Coords) : BitVec 32 :=
  let c0_i32 : BitVec 32 := 0#32
  let c1024_i32 : BitVec 32 := 1024#32
  let arg0 : BitVec 32 := BitVec.ofNat 32 (i 0).val
  let v0 : BitVec 32 := Scalar.muli c1024_i32 arg0
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvoRefIdeal.lean ====
abbrev S8320x2048 : Shape := ⟨2, ![8320, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8320x6160 : Shape := ⟨2, ![8320, 6160]⟩
abbrev S8320x4096 : Shape := ⟨2, ![8320, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x6160, .f32⟩
  | .hbm, ⟨2, _⟩ => ⟨S8320x2048, .f32⟩
  | .hbm, ⟨3, _⟩ => ⟨S1x2048x6160, .f32⟩
  | .hbm, ⟨4, _⟩ => ⟨S2048x6160, .f32⟩
  | .hbm, ⟨5, _⟩ => ⟨S8320x6160, .f32⟩
  | .hbm, ⟨6, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUp.lean ====
abbrev S8320x2048 : Shape := ⟨2, ![8320, 2048]⟩
abbrev S1x2048x5632 : Shape := ⟨3, ![1, 2048, 5632]⟩
abbrev S8320x5632 : Shape := ⟨2, ![8320, 5632]⟩
abbrev S1664x2048 : Shape := ⟨2, ![1664, 2048]⟩
abbrev S1x2048x512 : Shape := ⟨3, ![1, 2048, 512]⟩
abbrev S1664x512 : Shape := ⟨2, ![1664, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S8320x5632, .bf16⟩
  | .local _ .vmem, ⟨0, _⟩ => ⟨S1664x2048, .bf16⟩
  | .local _ .vmem, ⟨1, _⟩ => ⟨S1664x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1664x512, .bf16⟩
  | .local _ .vmem, ⟨7, _⟩ => ⟨S1664x512, .bf16⟩
  | .local _ .vmem, ⟨8, _⟩ => ⟨S2048x512, .bf16⟩
  | .local _ .vmem, ⟨9, _⟩ => ⟨S2048x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S8320x2048 : Shape := ⟨2, ![8320, 2048]⟩
abbrev S1x2048x5632 : Shape := ⟨3, ![1, 2048, 5632]⟩
abbrev S2048x5632 : Shape := ⟨2, ![2048, 5632]⟩
abbrev S8320x5632 : Shape := ⟨2, ![8320, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S8320x2048, .f32⟩
  | .hbm, ⟨4, _⟩ => ⟨S2048x5632, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S2048x5632, .f32⟩
  | .hbm, ⟨16, _⟩ => ⟨S8320x5632, .f32⟩
  | .hbm, ⟨17, _⟩ => ⟨S8320x5632, .f32⟩
  | .hbm, ⟨18, _⟩ => ⟨S8320x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S8320x5632 : Shape := ⟨2, ![8320, 5632]⟩
abbrev S1x5632x2048 : Shape := ⟨3, ![1, 5632, 2048]⟩
abbrev S8320x2048 : Shape := ⟨2, ![8320, 2048]⟩
abbrev S416x5632 : Shape := ⟨2, ![416, 5632]⟩
abbrev S1x5632x512 : Shape := ⟨3, ![1, 5632, 512]⟩
abbrev S416x512 : Shape := ⟨2, ![416, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S1x5632x2048, .f32⟩
  | .hbm, ⟨2, _⟩ => ⟨S8320x2048, .f32⟩
  | .hbm, ⟨3, _⟩ => ⟨S8320x2048, .f32⟩
  | .local _ .vmem, ⟨0, _⟩ => ⟨S416x5632, .bf16⟩
  | .local _ .vmem, ⟨1, _⟩ => ⟨S416x5632, .bf16⟩
  | .local _ .vmem, ⟨2, _⟩ => ⟨S1x5632x512, .f32⟩
  | .local _ .vmem, ⟨3, _⟩ => ⟨S1x5632x512, .f32⟩
  | .local _ .vmem, ⟨4, _⟩ => ⟨S416x512, .f32⟩
  | .local _ .vmem, ⟨5, _⟩ => ⟨S416x512, .f32⟩
  | .local _ .vmem, ⟨6, _⟩ => ⟨S416x512, .f32⟩
  | .local _ .vmem, ⟨7, _⟩ => ⟨S416x512, .f32⟩
  | .local _ .vmem, ⟨8, _⟩ => ⟨S5632x512, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S416x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S416x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8320x5632 : Shape := ⟨2, ![8320, 5632]⟩
abbrev S1x5632x2048 : Shape := ⟨3, ![1, 5632, 2048]⟩
abbrev S8320x2048 : Shape := ⟨2, ![8320, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S1x5632x2048, .f32⟩
  | .hbm, ⟨2, _⟩ => ⟨S8320x2048, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MoeDown.lean ====
abbrev S18944x7168 : Shape := ⟨2, ![18944, 7168]⟩
abbrev S8x7168x2048 : Shape := ⟨3, ![8, 7168, 2048]⟩
abbrev S74 : Shape := ⟨1, ![74]⟩
abbrev S1 : Shape := ⟨1, ![1]⟩
abbrev S18944x2048 : Shape := ⟨2, ![18944, 2048]⟩
abbrev S256x7168 : Shape := ⟨2, ![256, 7168]⟩
abbrev S256x512 : Shape := ⟨2, ![256, 512]⟩
abbrev S2x1x7168x512 : Shape := ⟨4, ![2, 1, 7168, 512]⟩
abbrev S1x7168x512 : Shape := ⟨3, ![1, 7168, 512]⟩
abbrev S2x1 : Shape := ⟨2, ![2, 1]⟩
abbrev S1x1 : Shape := ⟨2, ![1, 1]⟩
abbrev S_ : Shape := ⟨0, ![]⟩
abbrev S1x1x7168x512 : Shape := ⟨4, ![1, 1, 7168, 512]⟩
abbrev S7168x512 : Shape := ⟨2, ![7168, 512]⟩

abbrev nBuf : Space → Nat
  | .hbm => 3
  | .vmem => 6
  | .smem => 5
  | _ => 0

abbrev bufTy : (tb : Table) → Fin (tcTables nBuf tb) → BufTy
  | .hbm, ⟨0, _⟩ => ⟨S18944x7168, .bf16⟩
  | .hbm, ⟨1, _⟩ => ⟨S8x7168x2048, .f32⟩
  | .hbm, ⟨2, _⟩ => ⟨S18944x2048, .f32⟩
  | .local _ .vmem, ⟨0, _⟩ => ⟨S256x7168, .bf16⟩
  | .local _ .vmem, ⟨1, _⟩ => ⟨S256x7168, .bf16⟩
  | .local _ .vmem, ⟨2, _⟩ => ⟨S256x512, .f32⟩
  | .local _ .vmem, ⟨3, _⟩ => ⟨S256x512, .f32⟩
  | .local _ .vmem, ⟨4, _⟩ => ⟨S2x1x7168x512, .f32⟩
  | .local _ .vmem, ⟨5, _⟩ => ⟨S1x7168x512, .bf16⟩
  | .local _ .smem, ⟨0, _⟩ => ⟨S74, .i32⟩
  | .local _ .smem, ⟨1, _⟩ => ⟨S74, .i32⟩
  | .local _ .smem, ⟨2, _⟩ => ⟨S74, .i32⟩
  | .local _ .smem, ⟨3, _⟩ => ⟨S1, .i32⟩
  | .local _ .smem, ⟨4, _⟩ => ⟨S1, .i32⟩
  | _, _ => ⟨S18944x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 74], ![false, false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_12 : BitVec 32 := 0#32
  c0_i32_12
def k0_off1 (v24 : BitVec 32) : Fin 3 → Nat :=
  let c0_i32_19 : BitVec 32 := 0#32
  let c0_i32_12 : BitVec 32 := 0#32
  let v25 : BitVec 32 := c0_i32_12
  ![v24.toNat, 0, 0]

def k0_chk1 (i : grid0.Coords) (v24 : BitVec 32) : Prop :=
  (∀ (k0_h1 : k0_cond1 i = 1#1), ∀ a, (k0_off1 v24) a + S1x7168x512.size a ≤ S8x7168x2048.size a)
theorem k0_off1_inb : ∀ (i : grid0.Coords) (v24 : BitVec 32) (k0_hw1 : k0_chk1 i v24), ∀ (k0_h1 : k0_cond1 i = 1#1), ∀ a, (k0_off1 v24) a + S1x7168x512.size a ≤ S8x7168x2048.size a := fun i v24 k0_hw1 k0_h1 => k0_hw1 k0_h1

def k0_off2 (i : grid0.Coords) : Fin 1 → Nat :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v9 : Index := Scalar.indexCast v6
  ![v9.toNat]
def k0_off3 (i : grid0.Coords) : Fin 1 → Nat :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v34 : Index := Scalar.indexCast v6
  ![v34.toNat]
def k0_mult2 (i : grid0.Coords) : BitVec 32 :=
  let arg0 : BitVec 32 := BitVec.ofNat 32 (i 0).val
  let c512_i32 : BitVec 32 := 512#32
  let v36 : BitVec 32 := Scalar.muli arg0 c512_i32
  v36
def k0_off4 (v23 : BitVec 32) : Fin 2 → Nat :=
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c0_i32_16 : BitVec 32 := 0#32
  ![v33.toNat, 0]
def k0_cond2 (i : grid0.Coords) (v7 : BitVec 32) (v10 : BitVec 32) : BitVec 1 :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v8 : BitVec 1 := Scalar.cmpi .slt v6 v7
  let c1_i32_3 : BitVec 32 := 1#32
  let v11 : BitVec 1 := Scalar.cmpi .eq v10 c1_i32_3
  let v12 : BitVec 1 := Scalar.andi v8 v11
  let v13 : BitVec 32 := Scalar.extui v12
  let c0_i32_4 : BitVec 32 := 0#32
  let v14 : BitVec 1 := Scalar.cmpi .ne v13 c0_i32_4
  v14

def k0_off5 (v23 : BitVec 32) : Fin 4 → Nat :=
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c0_i32_15 : BitVec 32 := 0#32
  let c0_i32_17 : BitVec 32 := 0#32
  let c0_i32_18 : BitVec 32 := 0#32
  ![v33.toNat, 0, 0, 0]
def k0_off6 (i : grid0.Coords) (v35 : BitVec 32) : Fin 3 → Nat :=
  let c0_i32_19 : BitVec 32 := 0#32
  let arg0 : BitVec 32 := BitVec.ofNat 32 (i 0).val
  let c512_i32 : BitVec 32 := 512#32
  let v36 : BitVec 32 := Scalar.muli arg0 c512_i32
  let v37 : BitVec 32 := v36
  ![v35.toNat, 0, v37.toNat]

def k0_chk3 (i : grid0.Coords) (v7 : BitVec 32) (v10 : BitVec 32) (v35 : BitVec 32) : Prop :=
  (∀ (k0_h2 : k0_cond2 i v7 v10 = 1#1), ∀ a, (k0_off6 i v35) a + S1x7168x512.size a ≤ S8x7168x2048.size a)
theorem k0_off6_inb : ∀ (i : grid0.Coords) (v7 : BitVec 32) (v10 : BitVec 32) (v35 : BitVec 32) (k0_hw3 : k0_chk3 i v7 v10 v35), ∀ (k0_h2 : k0_cond2 i v7 v10 = 1#1), ∀ a, (k0_off6 i v35) a + S1x7168x512.size a ≤ S8x7168x2048.size a := fun i v7 v10 v35 k0_hw3 k0_h2 => k0_hw3 k0_h2

def k0_off7 (v23 : BitVec 32) : Fin 4 → Nat :=
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v44 : Index := Scalar.indexCast v33
  let c0_20 : Index := 0#32
  let c0_21 : Index := 0#32
  let c0_22 : Index := 0#32
  ![v44.toNat, 0, 0, 0]

def k0_chk2 (i : grid0.Coords) (v7 : BitVec 32) (v10 : BitVec 32) (v23 : BitVec 32) : Prop :=
  (∀ (k0_h2 : k0_cond2 i v7 v10 = 1#1), ∀ a, (k0_off4 v23) a + S1x1.size a ≤ S2x1.size a) ∧
  (∀ (k0_h2 : k0_cond2 i v7 v10 = 1#1), ∀ a, (k0_off5 v23) a + S1x1x7168x512.size a ≤ S2x1x7168x512.size a) ∧
  (∀ (k0_h2 : k0_cond2 i v7 v10 = 1#1), ∀ a, (k0_off7 v23) a + S1x1x7168x512.size a ≤ S2x1x7168x512.size a)
theorem k0_off4_inb : ∀ (i : grid0.Coords) (v7 : BitVec 32) (v10 : BitVec 32) (v23 : BitVec 32) (k0_hw2 : k0_chk2 i v7 v10 v23), ∀ (k0_h2 : k0_cond2 i v7 v10 = 1#1), ∀ a, (k0_off4 v23) a + S1x1.size a ≤ S2x1.size a := fun i v7 v10 v23 k0_hw2 k0_h2 => k0_hw2.1 k0_h2
theorem k0_off5_inb : ∀ (i : grid0.Coords) (v7 : BitVec 32) (v10 : BitVec 32) (v23 : BitVec 32) (k0_hw2 : k0_chk2 i v7 v10 v23), ∀ (k0_h2 : k0_cond2 i v7 v10 = 1#1), ∀ a, (k0_off5 v23) a + S1x1x7168x512.size a ≤ S2x1x7168x512.size a := fun i v7 v10 v23 k0_hw2 k0_h2 => k0_hw2.2.1 k0_h2
theorem k0_off7_inb : ∀ (i : grid0.Coords) (v7 : BitVec 32) (v10 : BitVec 32) (v23 : BitVec 32) (k0_hw2 : k0_chk2 i v7 v10 v23), ∀ (k0_h2 : k0_cond2 i v7 v10 = 1#1), ∀ a, (k0_off7 v23) a + S1x1x7168x512.size a ≤ S2x1x7168x512.size a := fun i v7 v10 v23 k0_hw2 k0_h2 => k0_hw2.2.2 k0_h2

def k0_off8 (i : grid0.Coords) : Fin 1 → Nat :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v51 : Index := Scalar.indexCast v6
  ![v51.toNat]
def k0_off9 (v52 : BitVec 32) : Fin 1 → Nat :=
  let v65 : Index := Scalar.indexCast v52
  ![v65.toNat]
def k0_cond3 (v52 : BitVec 32) : BitVec 1 :=
  let c0_i32_26 : BitVec 32 := 0#32
  let v53 : BitVec 1 := Scalar.cmpi .sge v52 c0_i32_26
  let v54 : BitVec 32 := Scalar.extui v53
  let c0_i32_27 : BitVec 32 := 0#32
  let v55 : BitVec 1 := Scalar.cmpi .ne v54 c0_i32_27
  v55

def k0_mult3 (i : grid0.Coords) : BitVec 32 :=
  let arg0 : BitVec 32 := BitVec.ofNat 32 (i 0).val
  let c512_i32_35 : BitVec 32 := 512#32
  let v68 : BitVec 32 := Scalar.muli arg0 c512_i32_35
  v68
def k0_off10 (v23 : BitVec 32) : Fin 2 → Nat :=
  let c1_i32_34 : BitVec 32 := 1#32
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v67 : BitVec 32 := Scalar.subi c1_i32_34 v33
  let c0_i32_37 : BitVec 32 := 0#32
  ![v67.toNat, 0]
def k0_off11 (v23 : BitVec 32) : Fin 4 → Nat :=
  let c1_i32_34 : BitVec 32 := 1#32
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v67 : BitVec 32 := Scalar.subi c1_i32_34 v33
  let c0_i32_36 : BitVec 32 := 0#32
  let c0_i32_38 : BitVec 32 := 0#32
  let c0_i32_39 : BitVec 32 := 0#32
  ![v67.toNat, 0, 0, 0]
def k0_off12 (i : grid0.Coords) (v66 : BitVec 32) : Fin 3 → Nat :=
  let c0_i32_40 : BitVec 32 := 0#32
  let arg0 : BitVec 32 := BitVec.ofNat 32 (i 0).val
  let c512_i32_35 : BitVec 32 := 512#32
  let v68 : BitVec 32 := Scalar.muli arg0 c512_i32_35
  let v69 : BitVec 32 := v68
  ![v66.toNat, 0, v69.toNat]

def k0_chk5 (i : grid0.Coords) (v7 : BitVec 32) (v10 : BitVec 32) (v52 : BitVec 32) (v66 : BitVec 32) : Prop :=
  (∀ (k0_h2 : k0_cond2 i v7 v10 = 1#1), ∀ (k0_h3 : k0_cond3 v52 = 1#1), ∀ a, (k0_off12 i v66) a + S1x7168x512.size a ≤ S8x7168x2048.size a)
theorem k0_off12_inb : ∀ (i : grid0.Coords) (v7 : BitVec 32) (v10 : BitVec 32) (v52 : BitVec 32) (v66 : BitVec 32) (k0_hw5 : k0_chk5 i v7 v10 v52 v66), ∀ (k0_h2 : k0_cond2 i v7 v10 = 1#1), ∀ (k0_h3 : k0_cond3 v52 = 1#1), ∀ a, (k0_off12 i v66) a + S1x7168x512.size a ≤ S8x7168x2048.size a := fun i v7 v10 v52 v66 k0_hw5 k0_h2 k0_h3 => k0_hw5 k0_h2 k0_h3

def k0_mult4 (i : grid0.Coords) : BitVec 32 :=
  let arg0 : BitVec 32 := BitVec.ofNat 32 (i 0).val
  let c1_i32_35 : BitVec 32 := 1#32
  let v66 : BitVec 32 := Scalar.addi arg0 c1_i32_35
  let c512_i32_37 : BitVec 32 := 512#32
  let v68 : BitVec 32 := Scalar.muli v66 c512_i32_37
  v68
def k0_off13 (v23 : BitVec 32) : Fin 2 → Nat :=
  let c1_i32_36 : BitVec 32 := 1#32
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v67 : BitVec 32 := Scalar.subi c1_i32_36 v33
  let c0_i32_39 : BitVec 32 := 0#32
  ![v67.toNat, 0]
def k0_cond4 (i : grid0.Coords) (v52 : BitVec 32) : BitVec 1 :=
  let c0_i32_28 : BitVec 32 := 0#32
  let v56 : BitVec 1 := Scalar.cmpi .slt v52 c0_i32_28
  let arg0 : BitVec 32 := BitVec.ofNat 32 (i 0).val
  let c1_i32_29 : BitVec 32 := 1#32
  let v57 : BitVec 32 := Scalar.addi arg0 c1_i32_29
  let c4_i32 : BitVec 32 := 4#32
  let v58 : BitVec 1 := Scalar.cmpi .slt v57 c4_i32
  let v59 : BitVec 1 := Scalar.andi v56 v58
  let v60 : BitVec 32 := Scalar.extui v59
  let c0_i32_30 : BitVec 32 := 0#32
  let v61 : BitVec 1 := Scalar.cmpi .ne v60 c0_i32_30
  v61

def k0_off14 (v23 : BitVec 32) : Fin 4 → Nat :=
  let c1_i32_36 : BitVec 32 := 1#32
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v67 : BitVec 32 := Scalar.subi c1_i32_36 v33
  let c0_i32_38 : BitVec 32 := 0#32
  let c0_i32_40 : BitVec 32 := 0#32
  let c0_i32_41 : BitVec 32 := 0#32
  ![v67.toNat, 0, 0, 0]

def k0_chk4 (i : grid0.Coords) (v7 : BitVec 32) (v10 : BitVec 32) (v23 : BitVec 32) (v52 : BitVec 32) : Prop :=
  (∀ (k0_h2 : k0_cond2 i v7 v10 = 1#1), ∀ (k0_h3 : k0_cond3 v52 = 1#1), ∀ a, (k0_off9 v52) a + S1.size a ≤ S74.size a) ∧
  (∀ (k0_h2 : k0_cond2 i v7 v10 = 1#1), ∀ (k0_h3 : k0_cond3 v52 = 1#1), ∀ a, (k0_off10 v23) a + S1x1.size a ≤ S2x1.size a) ∧
  (∀ (k0_h2 : k0_cond2 i v7 v10 = 1#1), ∀ (k0_h3 : k0_cond3 v52 = 1#1), ∀ a, (k0_off11 v23) a + S1x1x7168x512.size a ≤ S2x1x7168x512.size a) ∧
  (∀ (k0_h2 : k0_cond2 i v7 v10 = 1#1), ∀ (k0_h4 : k0_cond4 i v52 = 1#1), ∀ a, (k0_off13 v23) a + S1x1.size a ≤ S2x1.size a) ∧
  (∀ (k0_h2 : k0_cond2 i v7 v10 = 1#1), ∀ (k0_h4 : k0_cond4 i v52 = 1#1), ∀ a, (k0_off14 v23) a + S1x1x7168x512.size a ≤ S2x1x7168x512.size a)
theorem k0_off9_inb : ∀ (i : grid0.Coords) (v7 : BitVec 32) (v10 : BitVec 32) (v23 : BitVec 32) (v52 : BitVec 32) (k0_hw4 : k0_chk4 i v7 v10 v23 v52), ∀ (k0_h2 : k0_cond2 i v7 v10 = 1#1), ∀ (k0_h3 : k0_cond3 v52 = 1#1), ∀ a, (k0_off9 v52) a + S1.size a ≤ S74.size a := fun i v7 v10 v23 v52 k0_hw4 k0_h2 k0_h3 => k0_hw4.1 k0_h2 k0_h3
theorem k0_off10_inb : ∀ (i : grid0.Coords) (v7 : BitVec 32) (v10 : BitVec 32) (v23 : BitVec 32) (v52 : BitVec 32) (k0_hw4 : k0_chk4 i v7 v10 v23 v52), ∀ (k0_h2 : k0_cond2 i v7 v10 = 1#1), ∀ (k0_h3 : k0_cond3 v52 = 1#1), ∀ a, (k0_off10 v23) a + S1x1.size a ≤ S2x1.size a := fun i v7 v10 v23 v52 k0_hw4 k0_h2 k0_h3 => k0_hw4.2.1 k0_h2 k0_h3
theorem k0_off11_inb : ∀ (i : grid0.Coords) (v7 : BitVec 32) (v10 : BitVec 32) (v23 : BitVec 32) (v52 : BitVec 32) (k0_hw4 : k0_chk4 i v7 v10 v23 v52), ∀ (k0_h2 : k0_cond2 i v7 v10 = 1#1), ∀ (k0_h3 : k0_cond3 v52 = 1#1), ∀ a, (k0_off11 v23) a + S1x1x7168x512.size a ≤ S2x1x7168x512.size a := fun i v7 v10 v23 v52 k0_hw4 k0_h2 k0_h3 => k0_hw4.2.2.1 k0_h2 k0_h3
theorem k0_off13_inb : ∀ (i : grid0.Coords) (v7 : BitVec 32) (v10 : BitVec 32) (v23 : BitVec 32) (v52 : BitVec 32) (k0_hw4 : k0_chk4 i v7 v10 v23 v52), ∀ (k0_h2 : k0_cond2 i v7 v10 = 1#1), ∀ (k0_h4 : k0_cond4 i v52 = 1#1), ∀ a, (k0_off13 v23) a + S1x1.size a ≤ S2x1.size a := fun i v7 v10 v23 v52 k0_hw4 k0_h2 k0_h4 => k0_hw4.2.2.2.1 k0_h2 k0_h4
theorem k0_off14_inb : ∀ (i : grid0.Coords) (v7 : BitVec 32) (v10 : BitVec 32) (v23 : BitVec 32) (v52 : BitVec 32) (k0_hw4 : k0_chk4 i v7 v10 v23 v52), ∀ (k0_h2 : k0_cond2 i v7 v10 = 1#1), ∀ (k0_h4 : k0_cond4 i v52 = 1#1), ∀ a, (k0_off14 v23) a + S1x1x7168x512.size a ≤ S2x1x7168x512.size a := fun i v7 v10 v23 v52 k0_hw4 k0_h2 k0_h4 => k0_hw4.2.2.2.2 k0_h2 k0_h4

def k0_off15 (i : grid0.Coords) (v65 : BitVec 32) : Fin 3 → Nat :=
  let c0_i32_42 : BitVec 32 := 0#32
  let arg0 : BitVec 32 := BitVec.ofNat 32 (i 0).val
  let c1_i32_35 : BitVec 32 := 1#32
  let v66 : BitVec 32 := Scalar.addi arg0 c1_i32_35
  let c512_i32_37 : BitVec 32 := 512#32
  let v68 : BitVec 32 := Scalar.muli v66 c512_i32_37
  let v69 : BitVec 32 := v68
  ![v65.toNat, 0, v69.toNat]

def k0_chk6 (i : grid0.Coords) (v7 : BitVec 32) (v10 : BitVec 32) (v52 : BitVec 32) (v65 : BitVec 32) : Prop :=
  (∀ (k0_h2 : k0_cond2 i v7 v10 = 1#1), ∀ (k0_h4 : k0_cond4 i v52 = 1#1), ∀ a, (k0_off15 i v65) a + S1x7168x512.size a ≤ S8x7168x2048.size a)
theorem k0_off15_inb : ∀ (i : grid0.Coords) (v7 : BitVec 32) (v10 : BitVec 32) (v52 : BitVec 32) (v65 : BitVec 32) (k0_hw6 : k0_chk6 i v7 v10 v52 v65), ∀ (k0_h2 : k0_cond2 i v7 v10 = 1#1), ∀ (k0_h4 : k0_cond4 i v52 = 1#1), ∀ a, (k0_off15 i v65) a + S1x7168x512.size a ≤ S8x7168x2048.size a := fun i v7 v10 v52 v65 k0_hw6 k0_h2 k0_h4 => k0_hw6 k0_h2 k0_h4

def k0_cond5 (i : grid0.Coords) (v15 : BitVec 32) : BitVec 1 :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v16 : BitVec 1 := Scalar.cmpi .slt v6 v15
  let v17 : BitVec 32 := Scalar.extui v16
  let c0_i32_6 : BitVec 32 := 0#32
  let v18 : BitVec 1 := Scalar.cmpi .ne v17 c0_i32_6
  v18

def k0_cond6 (i : grid0.Coords) (v19 : BitVec 32) : BitVec 1 :=
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v20 : BitVec 1 := Scalar.cmpi .sge v6 v19
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== MoeDownRefIdeal.lean ====
abbrev S18944x7168 : Shape := ⟨2, ![18944, 7168]⟩
abbrev S8x7168x2048 : Shape := ⟨3, ![8, 7168, 2048]⟩
abbrev S74 : Shape := ⟨1, ![74]⟩
abbrev S1 : Shape := ⟨1, ![1]⟩
abbrev S_ : Shape := ⟨0, ![]⟩
abbrev S74x256 : Shape := ⟨2, ![74, 256]⟩
abbrev S18944 : Shape := ⟨1, ![18944]⟩
abbrev S18944x2048 : Shape := ⟨2, ![18944, 2048]⟩
abbrev S18944x1 : Shape := ⟨2, ![18944, 1]⟩
abbrev S1x7168x2048 : Shape := ⟨3, ![1, 7168, 2048]⟩
abbrev S7168x2048 : Shape := ⟨2, ![7168, 2048]⟩

abbrev nBuf : Space → Nat
  | .hbm => 97
  | .vmem => 0
  | .smem => 0
  | _ => 0

abbrev bufTy : (tb : Table) → Fin (tcTables nBuf tb) → BufTy
  | .hbm, ⟨0, _⟩ => ⟨S18944x7168, .bf16⟩
  | .hbm, ⟨1, _⟩ => ⟨S8x7168x2048, .f32⟩
  | .hbm, ⟨2, _⟩ => ⟨S74, .i32⟩
  | .hbm, ⟨3, _⟩ => ⟨S74, .i32⟩
  | .hbm, ⟨4, _⟩ => ⟨S74, .i32⟩
  | .hbm, ⟨5, _⟩ => ⟨S1, .i32⟩
  | .hbm, ⟨6, _⟩ => ⟨S18944x7168, .f32⟩
  | .hbm, ⟨7, _⟩ => ⟨S74, .i32⟩
  | .hbm, ⟨8, _⟩ => ⟨S_, .i32⟩
  | .hbm, ⟨9, _⟩ => ⟨S74, .i32⟩
  | .hbm, ⟨10, _⟩ => ⟨S74, .i1⟩
  | .hbm, ⟨11, _⟩ => ⟨S74x256, .i1⟩
  | .hbm, ⟨12, _⟩ => ⟨S18944, .i1⟩
  | .hbm, ⟨13, _⟩ => ⟨S74x256, .i32⟩
  | .hbm, ⟨14, _⟩ => ⟨S18944, .i32⟩
  | .hbm, ⟨15, _⟩ => ⟨S_, .f32⟩
  | .hbm, ⟨16, _⟩ => ⟨S18944x2048, .f32⟩
  | .hbm, ⟨17, _⟩ => ⟨S_, .i32⟩
  | .hbm, ⟨18, _⟩ => ⟨S18944, .i32⟩
  | .hbm, ⟨19, _⟩ => ⟨S18944, .i1⟩
  | .hbm, ⟨20, _⟩ => ⟨S18944, .i1⟩
  | .hbm, ⟨21, _⟩ => ⟨S18944x1, .i1⟩
  | .hbm, ⟨22, _⟩ => ⟨S1x7168x2048, .f32⟩
  | .hbm, ⟨23, _⟩ => ⟨S7168x2048, .f32⟩
  | .hbm, ⟨24, _⟩ => ⟨S18944x2048, .f32⟩
  | .hbm, ⟨25, _⟩ => ⟨S18944x2048, .i1⟩
  | .hbm, ⟨26, _⟩ => ⟨S18944x2048, .f32⟩
  | .hbm, ⟨27, _⟩ => ⟨S_, .i32⟩
  | .hbm, ⟨28, _⟩ => ⟨S18944, .i32⟩
  | .hbm, ⟨29, _⟩ => ⟨S18944, .i1⟩
  | .hbm, ⟨30, _⟩ => ⟨S18944, .i1⟩
  | .hbm, ⟨31, _⟩ => ⟨S18944x1, .i1⟩
  | .hbm, ⟨32, _⟩ => ⟨S1x7168x2048, .f32⟩
  | .hbm, ⟨33, _⟩ => ⟨S7168x2048, .f32⟩
  | .hbm, ⟨34, _⟩ => ⟨S18944x2048, .f32⟩
  | .hbm, ⟨35, _⟩ => ⟨S18944x2048, .i1⟩
  | .hbm, ⟨36, _⟩ => ⟨S18944x2048, .f32⟩
  | .hbm, ⟨37, _⟩ => ⟨S_, .i32⟩
  | .hbm, ⟨38, _⟩ => ⟨S18944, .i32⟩
  | .hbm, ⟨39, _⟩ => ⟨S18944, .i1⟩
  | .hbm, ⟨40, _⟩ => ⟨S18944, .i1⟩
  | .hbm, ⟨41, _⟩ => ⟨S18944x1, .i1⟩
  | .hbm, ⟨42, _⟩ => ⟨S1x7168x2048, .f32⟩
  | .hbm, ⟨43, _⟩ => ⟨S7168x2048, .f32⟩
  | .hbm, ⟨44, _⟩ => ⟨S18944x2048, .f32⟩
  | .hbm, ⟨45, _⟩ => ⟨S18944x2048, .i1⟩
  | .hbm, ⟨46, _⟩ => ⟨S18944x2048, .f32⟩
  | .hbm, ⟨47, _⟩ => ⟨S_, .i32⟩
  | .hbm, ⟨48, _⟩ => ⟨S18944, .i32⟩
  | .hbm, ⟨49, _⟩ => ⟨S18944, .i1⟩
  | .hbm, ⟨50, _⟩ => ⟨S18944, .i1⟩
  | .hbm, ⟨51, _⟩ => ⟨S18944x1, .i1⟩
  | .hbm, ⟨52, _⟩ => ⟨S1x7168x2048, .f32⟩
  | .hbm, ⟨53, _⟩ => ⟨S7168x2048, .f32⟩
  | .hbm, ⟨54, _⟩ => ⟨S18944x2048, .f32⟩
  | .hbm, ⟨55, _⟩ => ⟨S18944x2048, .i1⟩
  | .hbm, ⟨56, _⟩ => ⟨S18944x2048, .f32⟩
  | .hbm, ⟨57, _⟩ => ⟨S_, .i32⟩
  | .hbm, ⟨58, _⟩ => ⟨S18944, .i32⟩
  | .hbm, ⟨59, _⟩ => ⟨S18944, .i1⟩
  | .hbm, ⟨60, _⟩ => ⟨S18944, .i1⟩
  | .hbm, ⟨61, _⟩ => ⟨S18944x1, .i1⟩
  | .hbm, ⟨62, _⟩ => ⟨S1x7168x2048, .f32⟩
  | .hbm, ⟨63, _⟩ => ⟨S7168x2048, .f32⟩
  | .hbm, ⟨64, _⟩ => ⟨S18944x2048, .f32⟩
  | .hbm, ⟨65, _⟩ => ⟨S18944x2048, .i1⟩
  | .hbm, ⟨66, _⟩ => ⟨S18944x2048, .f32⟩
  | .hbm, ⟨67, _⟩ => ⟨S_, .i32⟩
  | .hbm, ⟨68, _⟩ => ⟨S18944, .i32⟩
  | .hbm, ⟨69, _⟩ => ⟨S18944, .i1⟩
  | .hbm, ⟨70, _⟩ => ⟨S18944, .i1⟩
  | .hbm, ⟨71, _⟩ => ⟨S18944x1, .i1⟩
  | .hbm, ⟨72, _⟩ => ⟨S1x7168x2048, .f32⟩
  | .hbm, ⟨73, _⟩ => ⟨S7168x2048, .f32⟩
  | .hbm, ⟨74, _⟩ => ⟨S18944x2048, .f32⟩
  | .hbm, ⟨75, _⟩ => ⟨S18944x2048, .i1⟩
  | .hbm, ⟨76, _⟩ => ⟨S18944x2048, .f32⟩
  | .hbm, ⟨77, _⟩ => ⟨S_, .i32⟩
  | .hbm, ⟨78, _⟩ => ⟨S18944, .i32⟩
  | .hbm, ⟨79, _⟩ => ⟨S18944, .i1⟩
  | .hbm, ⟨80, _⟩ => ⟨S18944, .i1⟩
  | .hbm, ⟨81, _⟩ => ⟨S18944x1, .i1⟩
  | .hbm, ⟨82, _⟩ => ⟨S1x7168x2048, .f32⟩
  | .hbm, ⟨83, _⟩ => ⟨S7168x2048, .f32⟩
  | .hbm, ⟨84, _⟩ => ⟨S18944x2048, .f32⟩
  | .hbm, ⟨85, _⟩ => ⟨S18944x2048, .i1⟩
  | .hbm, ⟨86, _⟩ => ⟨S18944x2048, .f32⟩
  | .hbm, ⟨87, _⟩ => ⟨S_, .i32⟩
  | .hbm, ⟨88, _⟩ => ⟨S18944, .i32⟩
  | .hbm, ⟨89, _⟩ => ⟨S18944, .i1⟩
  | .hbm, ⟨90, _⟩ => ⟨S18944, .i1⟩
  | .hbm, ⟨91, _⟩ => ⟨S18944x1, .i1⟩
  | .hbm, ⟨92, _⟩ => ⟨S1x7168x2048, .f32⟩
  | .hbm, ⟨93, _⟩ => ⟨S7168x2048, .f32⟩
  | .hbm, ⟨94, _⟩ => ⟨S18944x2048, .f32⟩
  | .hbm, ⟨95, _⟩ => ⟨S18944x2048, .i1⟩
  | .hbm, ⟨96, _⟩ => ⟨S18944x2048, .f32⟩
  | _, _ => ⟨S18944x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call2_v0 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call3_v0 : Ref sig .tc := ⟨.hbm, 55, rfl⟩
abbrev main_v41 : Ref sig .tc := ⟨.hbm, 56, rfl⟩
abbrev main_c_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call4_v0 : Ref sig .tc := ⟨.hbm, 65, rfl⟩
abbrev main_v49 : Ref sig .tc := ⟨.hbm, 66, rfl⟩
abbrev main_c_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_call5_v0 : Ref sig .tc := ⟨.hbm, 75, rfl⟩
abbrev main_v57 : Ref sig .tc := ⟨.hbm, 76, rfl⟩
abbrev main_c_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call6_v0 : Ref sig .tc := ⟨.hbm, 85, rfl⟩
abbrev main_v65 : Ref sig .tc := ⟨.hbm, 86, rfl⟩
abbrev main_c_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call7_v0 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== MoeGate.lean ====
abbrev S18944x2048 : Shape := ⟨2, ![18944, 2048]⟩
abbrev S8x2048x7168 : Shape := ⟨3, ![8, 2048, 7168]⟩
abbrev S74 : Shape := ⟨1, ![74]⟩
abbrev S1 : Shape := ⟨1, ![1]⟩
abbrev S18944x7168 : Shape := ⟨2, ![18944, 7168]⟩
abbrev S512x2048 : Shape := ⟨2, ![512, 2048]⟩
abbrev S512x1024 : Shape := ⟨2, ![512, 1024]⟩
abbrev S2x2x2048x1024 : Shape := ⟨4, ![2, 2, 2048, 1024]⟩
abbrev S2x2048x1024 : Shape := ⟨3, ![2, 2048, 1024]⟩
abbrev S2x2 : Shape := ⟨2, ![2, 2]⟩
abbrev S1x1 : Shape := ⟨2, ![1, 1]⟩
abbrev S_ : Shape := ⟨0, ![]⟩
abbrev S1x1x2048x1024 : Shape := ⟨4, ![1, 1, 2048, 1024]⟩
abbrev S2048x1024 : Shape := ⟨2, ![2048, 1024]⟩
abbrev S1x2048x1024 : Shape := ⟨3, ![1, 2048, 1024]⟩
abbrev S256x2048 : Shape := ⟨2, ![256, 2048]⟩
abbrev S256x1024 : Shape := ⟨2, ![256, 1024]⟩

abbrev nBuf : Space → Nat
  | .hbm => 4
  | .vmem => 6
  | .smem => 5
  | _ => 0

abbrev bufTy : (tb : Table) → Fin (tcTables nBuf tb) → BufTy
  | .hbm, ⟨0, _⟩ => ⟨S18944x2048, .bf16⟩
  | .hbm, ⟨1, _⟩ => ⟨S8x2048x7168, .f32⟩
  | .hbm, ⟨2, _⟩ => ⟨S8x2048x7168, .f32⟩
  | .hbm, ⟨3, _⟩ => ⟨S18944x7168, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2x2x2048x1024, .f32⟩
  | .local _ .vmem, ⟨5, _⟩ => ⟨S2x2048x1024, .bf16⟩
  | .local _ .smem, ⟨0, _⟩ => ⟨S74, .i32⟩
  | .local _ .smem, ⟨1, _⟩ => ⟨S74, .i32⟩
  | .local _ .smem, ⟨2, _⟩ => ⟨S74, .i32⟩
  | .local _ .smem, ⟨3, _⟩ => ⟨S1, .i32⟩
  | .local _ .smem, ⟨4, _⟩ => ⟨S1, .i32⟩
  | _, _ => ⟨S18944x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![7, 37], ![false, false]⟩

abbrev pre0 : Pipeline.Prefetch sig := ⟨4, ![main_arg3.idx, main_arg4.idx, main_arg5.idx, main_arg6.idx], fun | 0 => main_arg3.names | 1 => main_arg4.names | 2 => main_arg5.names | 3 => main_arg6.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_20 : BitVec 32 := 0#32
  c0_i32_20
def k0_off1 (v42 : BitVec 32) : Fin 3 → Nat :=
  let c0_i32_27 : BitVec 32 := 0#32
  let c0_i32_20 : BitVec 32 := 0#32
  let v43 : BitVec 32 := c0_i32_20
  ![v42.toNat, 0, 0]

def k0_chk1 (i : grid0.Coords) (v42 : BitVec 32) : Prop :=
  (∀ (k0_h1 : k0_cond1 i = 1#1), ∀ a, (k0_off1 v42) a + S1x2048x1024.size a ≤ S8x2048x7168.size a)
theorem k0_off1_inb : ∀ (i : grid0.Coords) (v42 : BitVec 32) (k0_hw1 : k0_chk1 i v42), ∀ (k0_h1 : k0_cond1 i = 1#1), ∀ a, (k0_off1 v42) a + S1x2048x1024.size a ≤ S8x2048x7168.size a := fun i v42 k0_hw1 k0_h1 => k0_hw1 k0_h1

def k0_off2 (i : grid0.Coords) : Fin 1 → Nat :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v9 : Index := Scalar.indexCast v6
  ![v9.toNat]
def k0_off3 (i : grid0.Coords) : Fin 1 → Nat :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v52 : Index := Scalar.indexCast v6
  ![v52.toNat]
def k0_mult2 (i : grid0.Coords) : BitVec 32 :=
  let arg0 : BitVec 32 := BitVec.ofNat 32 (i 0).val
  let c1024_i32 : BitVec 32 := 1024#32
  let v54 : BitVec 32 := Scalar.muli arg0 c1024_i32
  v54
def k0_off4 (v41 : BitVec 32) : Fin 2 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_25 : BitVec 32 := 0#32
  ![v51.toNat, 0]
def k0_cond2 (i : grid0.Coords) (v7 : BitVec 32) (v10 : BitVec 32) : BitVec 1 :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v8 : BitVec 1 := Scalar.cmpi .slt v6 v7
  let c1_i32 : BitVec 32 := 1#32
  let v11 : BitVec 1 := Scalar.cmpi .eq v10 c1_i32
  let v12 : BitVec 1 := Scalar.andi v8 v11
  let v13 : BitVec 32 := Scalar.extui v12
  let c0_i32_3 : BitVec 32 := 0#32
  let v14 : BitVec 1 := Scalar.cmpi .ne v13 c0_i32_3
  v14

def k0_off5 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let c0_i32_26 : BitVec 32 := 0#32
  let c0_i32_27 : BitVec 32 := 0#32
  ![v51.toNat, 0, 0, 0]
def k0_off6 (i : grid0.Coords) (v53 : BitVec 32) : Fin 3 → Nat :=
  let c0_i32_28 : BitVec 32 := 0#32
  let arg0 : BitVec 32 := BitVec.ofNat 32 (i 0).val
  let c1024_i32 : BitVec 32 := 1024#32
  let v54 : BitVec 32 := Scalar.muli arg0 c1024_i32
  let v55 : BitVec 32 := v54
  ![v53.toNat, 0, v55.toNat]

def k0_chk3 (i : grid0.Coords) (v7 : BitVec 32) (v10 : BitVec 32) (v53 : BitVec 32) : Prop :=
  (∀ (k0_h2 : k0_cond2 i v7 v10 = 1#1), ∀ a, (k0_off6 i v53) a + S1x2048x1024.size a ≤ S8x2048x7168.size a)
theorem k0_off6_inb : ∀ (i : grid0.Coords) (v7 : BitVec 32) (v10 : BitVec 32) (v53 : BitVec 32) (k0_hw3 : k0_chk3 i v7 v10 v53), ∀ (k0_h2 : k0_cond2 i v7 v10 = 1#1), ∀ a, (k0_off6 i v53) a + S1x2048x1024.size a ≤ S8x2048x7168.size a := fun i v7 v10 v53 k0_hw3 k0_h2 => k0_hw3 k0_h2

def k0_off7 (v41 : BitVec 32) : Fin 2 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c1_i32_30 : BitVec 32 := 1#32
  ![v51.toNat, 1]
def k0_off8 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c1_i32_29 : BitVec 32 := 1#32
  let c0_i32_31 : BitVec 32 := 0#32
  let c0_i32_32 : BitVec 32 := 0#32
  ![v51.toNat, 1, 0, 0]
def k0_off9 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v68 : Index := Scalar.indexCast v51
  let c0_34 : Index := 0#32
  let c0_35 : Index := 0#32
  let c0_36 : Index := 0#32
  ![v68.toNat, 0, 0, 0]
def k0_off10 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v75 : Index := Scalar.indexCast v51
  let c1 : Index := 1#32
  let c0_40 : Index := 0#32
  let c0_41 : Index := 0#32
  ![v75.toNat, 1, 0, 0]

def k0_chk2 (i : grid0.Coords) (v7 : BitVec 32) (v10 : BitVec 32) (v41 : BitVec 32) : Prop :=
  (∀ (k0_h2 : k0_cond2 i v7 v10 = 1#1), ∀ a, (k0_off4 v41) a + S1x1.size a ≤ S2x2.size a) ∧
  (∀ (k0_h2 : k0_cond2 i v7 v10 = 1#1), ∀ a, (k0_off5 v41) a + S1x1x2048x1024.size a ≤ S2x2x2048x1024.size a) ∧
  (∀ (k0_h2 : k0_cond2 i v7 v10 = 1#1), ∀ a, (k0_off7 v41) a + S1x1.size a ≤ S2x2.size a) ∧
  (∀ (k0_h2 : k0_cond2 i v7 v10 = 1#1), ∀ a, (k0_off8 v41) a + S1x1x2048x1024.size a ≤ S2x2x2048x1024.size a) ∧
  (∀ (k0_h2 : k0_cond2 i v7 v10 = 1#1), ∀ a, (k0_off9 v41) a + S1x1x2048x1024.size a ≤ S2x2x2048x1024.size a) ∧
  (∀ (k0_h2 : k0_cond2 i v7 v10 = 1#1), ∀ a, (k0_off10 v41) a + S1x1x2048x1024.size a ≤ S2x2x2048x1024.size a)
theorem k0_off4_inb : ∀ (i : grid0.Coords) (v7 : BitVec 32) (v10 : BitVec 32) (v41 : BitVec 32) (k0_hw2 : k0_chk2 i v7 v10 v41), ∀ (k0_h2 : k0_cond2 i v7 v10 = 1#1), ∀ a, (k0_off4 v41) a + S1x1.size a ≤ S2x2.size a := fun i v7 v10 v41 k0_hw2 k0_h2 => k0_hw2.1 k0_h2
theorem k0_off5_inb : ∀ (i : grid0.Coords) (v7 : BitVec 32) (v10 : BitVec 32) (v41 : BitVec 32) (k0_hw2 : k0_chk2 i v7 v10 v41), ∀ (k0_h2 : k0_cond2 i v7 v10 = 1#1), ∀ a, (k0_off5 v41) a + S1x1x2048x1024.size a ≤ S2x2x2048x1024.size a := fun i v7 v10 v41 k0_hw2 k0_h2 => k0_hw2.2.1 k0_h2
theorem k0_off7_inb : ∀ (i : grid0.Coords) (v7 : BitVec 32) (v10 : BitVec 32) (v41 : BitVec 32) (k0_hw2 : k0_chk2 i v7 v10 v41), ∀ (k0_h2 : k0_cond2 i v7 v10 = 1#1), ∀ a, (k0_off7 v41) a + S1x1.size a ≤ S2x2.size a := fun i v7 v10 v41 k0_hw2 k0_h2 => k0_hw2.2.2.1 k0_h2
theorem k0_off8_inb : ∀ (i : grid0.Coords) (v7 : BitVec 32) (v10 : BitVec 32) (v41 : BitVec 32) (k0_hw2 : k0_chk2 i v7 v10 v41), ∀ (k0_h2 : k0_cond2 i v7 v10 = 1#1), ∀ a, (k0_off8 v41) a + S1x1x2048x1024.size a ≤ S2x2x2048x1024.size a := fun i v7 v10 v41 k0_hw2 k0_h2 => k0_hw2.2.2.2.1 k0_h2
theorem k0_off9_inb : ∀ (i : grid0.Coords) (v7 : BitVec 32) (v10 : BitVec 32) (v41 : BitVec 32) (k0_hw2 : k0_chk2 i v7 v10 v41), ∀ (k0_h2 : k0_cond2 i v7 v10 = 1#1), ∀ a, (k0_off9 v41) a + S1x1x2048x1024.size a ≤ S2x2x2048x1024.size a := fun i v7 v10 v41 k0_hw2 k0_h2 => k0_hw2.2.2.2.2.1 k0_h2
theorem k0_off10_inb : ∀ (i : grid0.Coords) (v7 : BitVec 32) (v10 : BitVec 32) (v41 : BitVec 32) (k0_hw2 : k0_chk2 i v7 v10 v41), ∀ (k0_h2 : k0_cond2 i v7 v10 = 1#1), ∀ a, (k0_off10 v41) a + S1x1x2048x1024.size a ≤ S2x2x2048x1024.size a := fun i v7 v10 v41 k0_hw2 k0_h2 => k0_hw2.2.2.2.2.2 k0_h2

def k0_off11 (i : grid0.Coords) : Fin 1 → Nat :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v82 : Index := Scalar.indexCast v6
  ![v82.toNat]
def k0_off12 (v83 : BitVec 32) : Fin 1 → Nat :=
  let v96 : Index := Scalar.indexCast v83
  ![v96.toNat]
def k0_cond3 (v83 : BitVec 32) : BitVec 1 :=
  let c0_i32_45 : BitVec 32 := 0#32
  let v84 : BitVec 1 := Scalar.cmpi .sge v83 c0_i32_45
  let v85 : BitVec 32 := Scalar.extui v84
  let c0_i32_46 : BitVec 32 := 0#32
  let v86 : BitVec 1 := Scalar.cmpi .ne v85 c0_i32_46
  v86

def k0_mult3 (i : grid0.Coords) : BitVec 32 :=
  let arg0 : BitVec 32 := BitVec.ofNat 32 (i 0).val
  let c1024_i32_54 : BitVec 32 := 1024#32
  let v99 : BitVec 32 := Scalar.muli arg0 c1024_i32_54
  v99
def k0_off13 (v41 : BitVec 32) : Fin 2 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c0_i32_56 : BitVec 32 := 0#32
  ![v98.toNat, 0]
def k0_off14 (v41 : BitVec 32) : Fin 4 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c0_i32_55 : BitVec 32 := 0#32
  let c0_i32_57 : BitVec 32 := 0#32
  let c0_i32_58 : BitVec 32 := 0#32
  ![v98.toNat, 0, 0, 0]
def k0_off15 (i : grid0.Coords) (v97 : BitVec 32) : Fin 3 → Nat :=
  let c0_i32_59 : BitVec 32 := 0#32
  let arg0 : BitVec 32 := BitVec.ofNat 32 (i 0).val
  let c1024_i32_54 : BitVec 32 := 1024#32
  let v99 : BitVec 32 := Scalar.muli arg0 c1024_i32_54
  let v100 : BitVec 32 := v99
  ![v97.toNat, 0, v100.toNat]

def k0_chk5 (i : grid0.Coords) (v7 : BitVec 32) (v10 : BitVec 32) (v83 : BitVec 32) (v97 : BitVec 32) : Prop :=
  (∀ (k0_h2 : k0_cond2 i v7 v10 = 1#1), ∀ (k0_h3 : k0_cond3 v83 = 1#1), ∀ a, (k0_off15 i v97) a + S1x2048x1024.size a ≤ S8x2048x7168.size a)
theorem k0_off15_inb : ∀ (i : grid0.Coords) (v7 : BitVec 32) (v10 : BitVec 32) (v83 : BitVec 32) (v97 : BitVec 32) (k0_hw5 : k0_chk5 i v7 v10 v83 v97), ∀ (k0_h2 : k0_cond2 i v7 v10 = 1#1), ∀ (k0_h3 : k0_cond3 v83 = 1#1), ∀ a, (k0_off15 i v97) a + S1x2048x1024.size a ≤ S8x2048x7168.size a := fun i v7 v10 v83 v97 k0_hw5 k0_h2 k0_h3 => k0_hw5 k0_h2 k0_h3

def k0_off16 (v41 : BitVec 32) : Fin 2 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c1_i32_61 : BitVec 32 := 1#32
  ![v98.toNat, 1]
def k0_off17 (v41 : BitVec 32) : Fin 4 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c1_i32_60 : BitVec 32 := 1#32
  let c0_i32_62 : BitVec 32 := 0#32
  let c0_i32_63 : BitVec 32 := 0#32
  ![v98.toNat, 1, 0, 0]
def k0_mult4 (i : grid0.Coords) : BitVec 32 :=
  let arg0 : BitVec 32 := BitVec.ofNat 32 (i 0).val
  let c1_i32_54 : BitVec 32 := 1#32
  let v97 : BitVec 32 := Scalar.addi arg0 c1_i32_54
  let c1024_i32_56 : BitVec 32 := 1024#32
  let v99 : BitVec 32 := Scalar.muli v97 c1024_i32_56
  v99
def k0_off18 (v41 : BitVec 32) : Fin 2 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c0_i32_58 : BitVec 32 := 0#32
  ![v98.toNat, 0]
def k0_cond4 (i : grid0.Coords) (v83 : BitVec 32) : BitVec 1 :=
  let c0_i32_47 : BitVec 32 := 0#32
  let v87 : BitVec 1 := Scalar.cmpi .slt v83 c0_i32_47
  let arg0 : BitVec 32 := BitVec.ofNat 32 (i 0).val
  let c1_i32_48 : BitVec 32 := 1#32
  let v88 : BitVec 32 := Scalar.addi arg0 c1_i32_48
  let c7_i32 : BitVec 32 := 7#32
  let v89 : BitVec 1 := Scalar.cmpi .slt v88 c7_i32
  let v90 : BitVec 1 := Scalar.andi v87 v89
  let v91 : BitVec 32 := Scalar.extui v90
  let c0_i32_49 : BitVec 32 := 0#32
  let v92 : BitVec 1 := Scalar.cmpi .ne v91 c0_i32_49
  v92

def k0_off19 (v41 : BitVec 32) : Fin 4 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c0_i32_57 : BitVec 32 := 0#32
  let c0_i32_59 : BitVec 32 := 0#32
  let c0_i32_60 : BitVec 32 := 0#32
  ![v98.toNat, 0, 0, 0]
def k0_off20 (i : grid0.Coords) (v96 : BitVec 32) : Fin 3 → Nat :=
  let c0_i32_61 : BitVec 32 := 0#32
  let arg0 : BitVec 32 := BitVec.ofNat 32 (i 0).val
  let c1_i32_54 : BitVec 32 := 1#32
  let v97 : BitVec 32 := Scalar.addi arg0 c1_i32_54
  let c1024_i32_56 : BitVec 32 := 1024#32
  let v99 : BitVec 32 := Scalar.muli v97 c1024_i32_56
  let v100 : BitVec 32 := v99
  ![v96.toNat, 0, v100.toNat]

def k0_chk6 (i : grid0.Coords) (v7 : BitVec 32) (v10 : BitVec 32) (v83 : BitVec 32) (v96 : BitVec 32) : Prop :=
  (∀ (k0_h2 : k0_cond2 i v7 v10 = 1#1), ∀ (k0_h4 : k0_cond4 i v83 = 1#1), ∀ a, (k0_off20 i v96) a + S1x2048x1024.size a ≤ S8x2048x7168.size a)
theorem k0_off20_inb : ∀ (i : grid0.Coords) (v7 : BitVec 32) (v10 : BitVec 32) (v83 : BitVec 32) (v96 : BitVec 32) (k0_hw6 : k0_chk6 i v7 v10 v83 v96), ∀ (k0_h2 : k0_cond2 i v7 v10 = 1#1), ∀ (k0_h4 : k0_cond4 i v83 = 1#1), ∀ a, (k0_off20 i v96) a + S1x2048x1024.size a ≤ S8x2048x7168.size a := fun i v7 v10 v83 v96 k0_hw6 k0_h2 k0_h4 => k0_hw6 k0_h2 k0_h4

def k0_off21 (v41 : BitVec 32) : Fin 2 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c1_i32_63 : BitVec 32 := 1#32
  ![v98.toNat, 1]
def k0_off22 (v41 : BitVec 32) : Fin 4 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c1_i32_62 : BitVec 32 := 1#32
  let c0_i32_64 : BitVec 32 := 0#32
  let c0_i32_65 : BitVec 32 := 0#32
  ![v98.toNat, 1, 0, 0]

def k0_chk4 (i : grid0.Coords) (v7 : BitVec 32) (v10 : BitVec 32) (v41 : BitVec 32) (v83 : BitVec 32) : Prop :=
  (∀ (k0_h2 : k0_cond2 i v7 v10 = 1#1), ∀ (k0_h3 : k0_cond3 v83 = 1#1), ∀ a, (k0_off12 v83) a + S1.size a ≤ S74.size a) ∧
  (∀ (k0_h2 : k0_cond2 i v7 v10 = 1#1), ∀ (k0_h3 : k0_cond3 v83 = 1#1), ∀ a, (k0_off13 v41) a + S1x1.size a ≤ S2x2.size a) ∧
  (∀ (k0_h2 : k0_cond2 i v7 v10 = 1#1), ∀ (k0_h3 : k0_cond3 v83 = 1#1), ∀ a, (k0_off14 v41) a + S1x1x2048x1024.size a ≤ S2x2x2048x1024.size a) ∧
  (∀ (k0_h2 : k0_cond2 i v7 v10 = 1#1), ∀ (k0_h3 : k0_cond3 v83 = 1#1), ∀ a, (k0_off16 v41) a + S1x1.size a ≤ S2x2.size a) ∧
  (∀ (k0_h2 : k0_cond2 i v7 v10 = 1#1), ∀ (k0_h3 : k0_cond3 v83 = 1#1), ∀ a, (k0_off17 v41) a + S1x1x2048x1024.size a ≤ S2x2x2048x1024.size a) ∧
  (∀ (k0_h2 : k0_cond2 i v7 v10 = 1#1), ∀ (k0_h4 : k0_cond4 i v83 = 1#1), ∀ a, (k0_off18 v41) a + S1x1.size a ≤ S2x2.size a) ∧
  (∀ (k0_h2 : k0_cond2 i v7 v10 = 1#1), ∀ (k0_h4 : k0_cond4 i v83 = 1#1), ∀ a, (k0_off19 v41) a + S1x1x2048x1024.size a ≤ S2x2x2048x1024.size a) ∧
  (∀ (k0_h2 : k0_cond2 i v7 v10 = 1#1), ∀ (k0_h4 : k0_cond4 i v83 = 1#1), ∀ a, (k0_off21 v41) a + S1x1.size a ≤ S2x2.size a) ∧
  (∀ (k0_h2 : k0_cond2 i v7 v10 = 1#1), ∀ (k0_h4 : k0_cond4 i v83 = 1#1), ∀ a, (k0_off22 v41) a + S1x1x2048x1024.size a ≤ S2x2x2048x1024.size a)
theorem k0_off12_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h3 : k0_cond3 v83 = 1#1), ∀ a, (k0_off12 v83) a + S1.size a ≤ S74.size a := fun i v7 v10 v41 v83 k0_hw4 k0_h2 k0_h3 => k0_hw4.1 k0_h2 k0_h3
theorem k0_off13_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h3 : k0_cond3 v83 = 1#1), ∀ a, (k0_off13 v41) a + S1x1.size a ≤ S2x2.size a := fun i v7 v10 v41 v83 k0_hw4 k0_h2 k0_h3 => k0_hw4.2.1 k0_h2 k0_h3
theorem k0_off14_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h3 : k0_cond3 v83 = 1#1), ∀ a, (k0_off14 v41) a + S1x1x2048x1024.size a ≤ S2x2x2048x1024.size a := fun i v7 v10 v41 v83 k0_hw4 k0_h2 k0_h3 => k0_hw4.2.2.1 k0_h2 k0_h3
theorem k0_off16_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h3 : k0_cond3 v83 = 1#1), ∀ a, (k0_off16 v41) a + S1x1.size a ≤ S2x2.size a := fun i v7 v10 v41 v83 k0_hw4 k0_h2 k0_h3 => k0_hw4.2.2.2.1 k0_h2 k0_h3
theorem k0_off17_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h3 : k0_cond3 v83 = 1#1), ∀ a, (k0_off17 v41) a + S1x1x2048x1024.size a ≤ S2x2x2048x1024.size a := fun i v7 v10 v41 v83 k0_hw4 k0_h2 k0_h3 => k0_hw4.2.2.2.2.1 k0_h2 k0_h3
theorem k0_off18_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h4 : k0_cond4 i v83 = 1#1), ∀ a, (k0_off18 v41) a + S1x1.size a ≤ S2x2.size a := fun i v7 v10 v41 v83 k0_hw4 k0_h2 k0_h4 => k0_hw4.2.2.2.2.2.1 k0_h2 k0_h4
theorem k0_off19_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h4 : k0_cond4 i v83 = 1#1), ∀ a, (k0_off19 v41) a + S1x1x2048x1024.size a ≤ S2x2x2048x1024.size a := fun i v7 v10 v41 v83 k0_hw4 k0_h2 k0_h4 => k0_hw4.2.2.2.2.2.2.1 k0_h2 k0_h4
theorem k0_off21_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h4 : k0_cond4 i v83 = 1#1), ∀ a, (k0_off21 v41) a + S1x1.size a ≤ S2x2.size a := fun i v7 v10 v41 v83 k0_hw4 k0_h2 k0_h4 => k0_hw4.2.2.2.2.2.2.2.1 k0_h2 k0_h4
theorem k0_off22_inb : ∀ (i : grid0.Coords) (v7 : BitVec 32) (v10 : BitVec 32) (v41 : BitVec 32) (v83 : BitVec 32) (k0_hw4 : k0_chk4 i v7 v10 v41 v83), ∀ (k0_h2 : k0_cond2 i v7 v10 = 1#1), ∀ (k0_h4 : k0_cond4 i v83 = 1#1), ∀ a, (k0_off22 v41) a + S1x1x2048x1024.size a ≤ S2x2x2048x1024.size a := fun i v7 v10 v41 v83 k0_hw4 k0_h2 k0_h4 => k0_hw4.2.2.2.2.2.2.2.2 k0_h2 k0_h4

def k0_off23 (i : grid0.Coords) : Fin 1 → Nat :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v27 : Index := Scalar.indexCast v24
  ![v27.toNat]
def k0_off24 (i : grid0.Coords) : Fin 1 → Nat :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v52 : Index := Scalar.indexCast v24
  ![v52.toNat]
def k0_mult5 (i : grid0.Coords) : BitVec 32 :=
  let arg0 : BitVec 32 := BitVec.ofNat 32 (i 0).val
  let c1024_i32 : BitVec 32 := 1024#32
  let v54 : BitVec 32 := Scalar.muli arg0 c1024_i32
  v54
def k0_off25 (v41 : BitVec 32) : Fin 2 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_25 : BitVec 32 := 0#32
  ![v51.toNat, 0]
def k0_cond7 (i : grid0.Coords) (v25 : BitVec 32) (v28 : BitVec 32) : BitVec 1 :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v26 : BitVec 1 := Scalar.cmpi .slt v24 v25
  let c1_i32_11 : BitVec 32 := 1#32
  let v29 : BitVec 1 := Scalar.cmpi .eq v28 c1_i32_11
  let v30 : BitVec 1 := Scalar.andi v26 v29
  let v31 : BitVec 32 := Scalar.extui v30
  let c0_i32_12 : BitVec 32 := 0#32
  let v32 : BitVec 1 := Scalar.cmpi .ne v31 c0_i32_12
  v32

def k0_off26 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let c0_i32_26 : BitVec 32 := 0#32
  let c0_i32_27 : BitVec 32 := 0#32
  ![v51.toNat, 0, 0, 0]
def k0_off27 (i : grid0.Coords) (v53 : BitVec 32) : Fin 3 → Nat :=
  let c0_i32_28 : BitVec 32 := 0#32
  let arg0 : BitVec 32 := BitVec.ofNat 32 (i 0).val
  let c1024_i32 : BitVec 32 := 1024#32
  let v54 : BitVec 32 := Scalar.muli arg0 c1024_i32
  let v55 : BitVec 32 := v54
  ![v53.toNat, 0, v55.toNat]

def k0_chk8 (i : grid0.Coords) (v25 : BitVec 32) (v28 : BitVec 32) (v53 : BitVec 32) : Prop :=
  (∀ (k0_h7 : k0_cond7 i v25 v28 = 1#1), ∀ a, (k0_off27 i v53) a + S1x2048x1024.size a ≤ S8x2048x7168.size a)
theorem k0_off27_inb : ∀ (i : grid0.Coords) (v25 : BitVec 32) (v28 : BitVec 32) (v53 : BitVec 32) (k0_hw8 : k0_chk8 i v25 v28 v53), ∀ (k0_h7 : k0_cond7 i v25 v28 = 1#1), ∀ a, (k0_off27 i v53) a + S1x2048x1024.size a ≤ S8x2048x7168.size a := fun i v25 v28 v53 k0_hw8 k0_h7 => k0_hw8 k0_h7

def k0_off28 (v41 : BitVec 32) : Fin 2 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c1_i32_30 : BitVec 32 := 1#32
  ![v51.toNat, 1]
def k0_off29 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c1_i32_29 : BitVec 32 := 1#32
  let c0_i32_31 : BitVec 32 := 0#32
  let c0_i32_32 : BitVec 32 := 0#32
  ![v51.toNat, 1, 0, 0]
def k0_off30 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v68 : Index := Scalar.indexCast v51
  let c0_34 : Index := 0#32
  let c0_35 : Index := 0#32
  let c0_36 : Index := 0#32
  ![v68.toNat, 0, 0, 0]
def k0_off31 (v41 : BitVec 32) : Fin 4 → Nat :=
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v75 : Index := Scalar.indexCast v51
  let c1 : Index := 1#32
  let c0_40 : Index := 0#32
  let c0_41 : Index := 0#32
  ![v75.toNat, 1, 0, 0]

def k0_chk7 (i : grid0.Coords) (v25 : BitVec 32) (v28 : BitVec 32) (v41 : BitVec 32) : Prop :=
  (∀ (k0_h7 : k0_cond7 i v25 v28 = 1#1), ∀ a, (k0_off25 v41) a + S1x1.size a ≤ S2x2.size a) ∧
  (∀ (k0_h7 : k0_cond7 i v25 v28 = 1#1), ∀ a, (k0_off26 v41) a + S1x1x2048x1024.size a ≤ S2x2x2048x1024.size a) ∧
  (∀ (k0_h7 : k0_cond7 i v25 v28 = 1#1), ∀ a, (k0_off28 v41) a + S1x1.size a ≤ S2x2.size a) ∧
  (∀ (k0_h7 : k0_cond7 i v25 v28 = 1#1), ∀ a, (k0_off29 v41) a + S1x1x2048x1024.size a ≤ S2x2x2048x1024.size a) ∧
  (∀ (k0_h7 : k0_cond7 i v25 v28 = 1#1), ∀ a, (k0_off30 v41) a + S1x1x2048x1024.size a ≤ S2x2x2048x1024.size a) ∧
  (∀ (k0_h7 : k0_cond7 i v25 v28 = 1#1), ∀ a, (k0_off31 v41) a + S1x1x2048x1024.size a ≤ S2x2x2048x1024.size a)
theorem k0_off25_inb : ∀ (i : grid0.Coords) (v25 : BitVec 32) (v28 : BitVec 32) (v41 : BitVec 32) (k0_hw7 : k0_chk7 i v25 v28 v41), ∀ (k0_h7 : k0_cond7 i v25 v28 = 1#1), ∀ a, (k0_off25 v41) a + S1x1.size a ≤ S2x2.size a := fun i v25 v28 v41 k0_hw7 k0_h7 => k0_hw7.1 k0_h7
theorem k0_off26_inb : ∀ (i : grid0.Coords) (v25 : BitVec 32) (v28 : BitVec 32) (v41 : BitVec 32) (k0_hw7 : k0_chk7 i v25 v28 v41), ∀ (k0_h7 : k0_cond7 i v25 v28 = 1#1), ∀ a, (k0_off26 v41) a + S1x1x2048x1024.size a ≤ S2x2x2048x1024.size a := fun i v25 v28 v41 k0_hw7 k0_h7 => k0_hw7.2.1 k0_h7
theorem k0_off28_inb : ∀ (i : grid0.Coords) (v25 : BitVec 32) (v28 : BitVec 32) (v41 : BitVec 32) (k0_hw7 : k0_chk7 i v25 v28 v41), ∀ (k0_h7 : k0_cond7 i v25 v28 = 1#1), ∀ a, (k0_off28 v41) a + S1x1.size a ≤ S2x2.size a := fun i v25 v28 v41 k0_hw7 k0_h7 => k0_hw7.2.2.1 k0_h7
theorem k0_off29_inb : ∀ (i : grid0.Coords) (v25 : BitVec 32) (v28 : BitVec 32) (v41 : BitVec 32) (k0_hw7 : k0_chk7 i v25 v28 v41), ∀ (k0_h7 : k0_cond7 i v25 v28 = 1#1), ∀ a, (k0_off29 v41) a + S1x1x2048x1024.size a ≤ S2x2x2048x1024.size a := fun i v25 v28 v41 k0_hw7 k0_h7 => k0_hw7.2.2.2.1 k0_h7
theorem k0_off30_inb : ∀ (i : grid0.Coords) (v25 : BitVec 32) (v28 : BitVec 32) (v41 : BitVec 32) (k0_hw7 : k0_chk7 i v25 v28 v41), ∀ (k0_h7 : k0_cond7 i v25 v28 = 1#1), ∀ a, (k0_off30 v41) a + S1x1x2048x1024.size a ≤ S2x2x2048x1024.size a := fun i v25 v28 v41 k0_hw7 k0_h7 => k0_hw7.2.2.2.2.1 k0_h7
theorem k0_off31_inb : ∀ (i : grid0.Coords) (v25 : BitVec 32) (v28 : BitVec 32) (v41 : BitVec 32) (k0_hw7 : k0_chk7 i v25 v28 v41), ∀ (k0_h7 : k0_cond7 i v25 v28 = 1#1), ∀ a, (k0_off31 v41) a + S1x1x2048x1024.size a ≤ S2x2x2048x1024.size a := fun i v25 v28 v41 k0_hw7 k0_h7 => k0_hw7.2.2.2.2.2 k0_h7

def k0_off32 (i : grid0.Coords) : Fin 1 → Nat :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v82 : Index := Scalar.indexCast v24
  ![v82.toNat]
def k0_off33 (v83 : BitVec 32) : Fin 1 → Nat :=
  let v96 : Index := Scalar.indexCast v83
  ![v96.toNat]
def k0_cond8 (v83 : BitVec 32) : BitVec 1 :=
  let c0_i32_45 : BitVec 32 := 0#32
  let v84 : BitVec 1 := Scalar.cmpi .sge v83 c0_i32_45
  let v85 : BitVec 32 := Scalar.extui v84
  let c0_i32_46 : BitVec 32 := 0#32
  let v86 : BitVec 1 := Scalar.cmpi .ne v85 c0_i32_46
  v86

def k0_mult6 (i : grid0.Coords) : BitVec 32 :=
  let arg0 : BitVec 32 := BitVec.ofNat 32 (i 0).val
  let c1024_i32_54 : BitVec 32 := 1024#32
  let v99 : BitVec 32 := Scalar.muli arg0 c1024_i32_54
  v99
def k0_off34 (v41 : BitVec 32) : Fin 2 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c0_i32_56 : BitVec 32 := 0#32
  ![v98.toNat, 0]
def k0_off35 (v41 : BitVec 32) : Fin 4 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c0_i32_55 : BitVec 32 := 0#32
  let c0_i32_57 : BitVec 32 := 0#32
  let c0_i32_58 : BitVec 32 := 0#32
  ![v98.toNat, 0, 0, 0]
def k0_off36 (i : grid0.Coords) (v97 : BitVec 32) : Fin 3 → Nat :=
  let c0_i32_59 : BitVec 32 := 0#32
  let arg0 : BitVec 32 := BitVec.ofNat 32 (i 0).val
  let c1024_i32_54 : BitVec 32 := 1024#32
  let v99 : BitVec 32 := Scalar.muli arg0 c1024_i32_54
  let v100 : BitVec 32 := v99
  ![v97.toNat, 0, v100.toNat]

def k0_chk10 (i : grid0.Coords) (v25 : BitVec 32) (v28 : BitVec 32) (v83 : BitVec 32) (v97 : BitVec 32) : Prop :=
  (∀ (k0_h7 : k0_cond7 i v25 v28 = 1#1), ∀ (k0_h8 : k0_cond8 v83 = 1#1), ∀ a, (k0_off36 i v97) a + S1x2048x1024.size a ≤ S8x2048x7168.size a)
theorem k0_off36_inb : ∀ (i : grid0.Coords) (v25 : BitVec 32) (v28 : BitVec 32) (v83 : BitVec 32) (v97 : BitVec 32) (k0_hw10 : k0_chk10 i v25 v28 v83 v97), ∀ (k0_h7 : k0_cond7 i v25 v28 = 1#1), ∀ (k0_h8 : k0_cond8 v83 = 1#1), ∀ a, (k0_off36 i v97) a + S1x2048x1024.size a ≤ S8x2048x7168.size a := fun i v25 v28 v83 v97 k0_hw10 k0_h7 k0_h8 => k0_hw10 k0_h7 k0_h8

def k0_off37 (v41 : BitVec 32) : Fin 2 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c1_i32_61 : BitVec 32 := 1#32
  ![v98.toNat, 1]
def k0_off38 (v41 : BitVec 32) : Fin 4 → Nat :=
  let c1_i32_53 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_53 v51
  let c1_i32_60 : BitVec 32 := 1#32
  let c0_i32_62 : BitVec 32 := 0#32
  let c0_i32_63 : BitVec 32 := 0#32
  ![v98.toNat, 1, 0, 0]
def k0_mult7 (i : grid0.Coords) : BitVec 32 :=
  let arg0 : BitVec 32 := BitVec.ofNat 32 (i 0).val
  let c1_i32_54 : BitVec 32 := 1#32
  let v97 : BitVec 32 := Scalar.addi arg0 c1_i32_54
  let c1024_i32_56 : BitVec 32 := 1024#32
  let v99 : BitVec 32 := Scalar.muli v97 c1024_i32_56
  v99
def k0_off39 (v41 : BitVec 32) : Fin 2 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c0_i32_58 : BitVec 32 := 0#32
  ![v98.toNat, 0]
def k0_cond9 (i : grid0.Coords) (v83 : BitVec 32) : BitVec 1 :=
  let c0_i32_47 : BitVec 32 := 0#32
  let v87 : BitVec 1 := Scalar.cmpi .slt v83 c0_i32_47
  let arg0 : BitVec 32 := BitVec.ofNat 32 (i 0).val
  let c1_i32_48 : BitVec 32 := 1#32
  let v88 : BitVec 32 := Scalar.addi arg0 c1_i32_48
  let c7_i32 : BitVec 32 := 7#32
  let v89 : BitVec 1 := Scalar.cmpi .slt v88 c7_i32
  let v90 : BitVec 1 := Scalar.andi v87 v89
  let v91 : BitVec 32 := Scalar.extui v90
  let c0_i32_49 : BitVec 32 := 0#32
  let v92 : BitVec 1 := Scalar.cmpi .ne v91 c0_i32_49
  v92

def k0_off40 (v41 : BitVec 32) : Fin 4 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c0_i32_57 : BitVec 32 := 0#32
  let c0_i32_59 : BitVec 32 := 0#32
  let c0_i32_60 : BitVec 32 := 0#32
  ![v98.toNat, 0, 0, 0]
def k0_off41 (i : grid0.Coords) (v96 : BitVec 32) : Fin 3 → Nat :=
  let c0_i32_61 : BitVec 32 := 0#32
  let arg0 : BitVec 32 := BitVec.ofNat 32 (i 0).val
  let c1_i32_54 : BitVec 32 := 1#32
  let v97 : BitVec 32 := Scalar.addi arg0 c1_i32_54
  let c1024_i32_56 : BitVec 32 := 1024#32
  let v99 : BitVec 32 := Scalar.muli v97 c1024_i32_56
  let v100 : BitVec 32 := v99
  ![v96.toNat, 0, v100.toNat]

def k0_chk11 (i : grid0.Coords) (v25 : BitVec 32) (v28 : BitVec 32) (v83 : BitVec 32) (v96 : BitVec 32) : Prop :=
  (∀ (k0_h7 : k0_cond7 i v25 v28 = 1#1), ∀ (k0_h9 : k0_cond9 i v83 = 1#1), ∀ a, (k0_off41 i v96) a + S1x2048x1024.size a ≤ S8x2048x7168.size a)
theorem k0_off41_inb : ∀ (i : grid0.Coords) (v25 : BitVec 32) (v28 : BitVec 32) (v83 : BitVec 32) (v96 : BitVec 32) (k0_hw11 : k0_chk11 i v25 v28 v83 v96), ∀ (k0_h7 : k0_cond7 i v25 v28 = 1#1), ∀ (k0_h9 : k0_cond9 i v83 = 1#1), ∀ a, (k0_off41 i v96) a + S1x2048x1024.size a ≤ S8x2048x7168.size a := fun i v25 v28 v83 v96 k0_hw11 k0_h7 k0_h9 => k0_hw11 k0_h7 k0_h9

def k0_off42 (v41 : BitVec 32) : Fin 2 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c1_i32_63 : BitVec 32 := 1#32
  ![v98.toNat, 1]
def k0_off43 (v41 : BitVec 32) : Fin 4 → Nat :=
  let c1_i32_55 : BitVec 32 := 1#32
  let c2_i32_18 : BitVec 32 := 2#32
  let c0_i32_19 : BitVec 32 := 0#32
  let v42 : BitVec 1 := Scalar.cmpi .eq c2_i32_18 c0_i32_19
  let c1_i32_20 : BitVec 32 := 1#32
  let v43 : BitVec 32 := Scalar.select v42 c1_i32_20 c2_i32_18
  let v44 : BitVec 32 := Scalar.remsi v41 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let v98 : BitVec 32 := Scalar.subi c1_i32_55 v51
  let c1_i32_62 : BitVec 32 := 1#32
  let c0_i32_64 : BitVec 32 := 0#32
  let c0_i32_65 : BitVec 32 := 0#32
  ![v98.toNat, 1, 0, 0]

def k0_chk9 (i : grid0.Coords) (v25 : BitVec 32) (v28 : BitVec 32) (v41 : BitVec 32) (v83 : BitVec 32) : Prop :=
  (∀ (k0_h7 : k0_cond7 i v25 v28 = 1#1), ∀ (k0_h8 : k0_cond8 v83 = 1#1), ∀ a, (k0_off33 v83) a + S1.size a ≤ S74.size a) ∧
  (∀ (k0_h7 : k0_cond7 i v25 v28 = 1#1), ∀ (k0_h8 : k0_cond8 v83 = 1#1), ∀ a, (k0_off34 v41) a + S1x1.size a ≤ S2x2.size a) ∧
  (∀ (k0_h7 : k0_cond7 i v25 v28 = 1#1), ∀ (k0_h8 : k0_cond8 v83 = 1#1), ∀ a, (k0_off35 v41) a + S1x1x2048x1024.size a ≤ S2x2x2048x1024.size a) ∧
  (∀ (k0_h7 : k0_cond7 i v25 v28 = 1#1), ∀ (k0_h8 : k0_cond8 v83 = 1#1), ∀ a, (k0_off37 v41) a + S1x1.size a ≤ S2x2.size a) ∧
  (∀ (k0_h7 : k0_cond7 i v25 v28 = 1#1), ∀ (k0_h8 : k0_cond8 v83 = 1#1), ∀ a, (k0_off38 v41) a + S1x1x2048x1024.size a ≤ S2x2x2048x1024.size a) ∧
  (∀ (k0_h7 : k0_cond7 i v25 v28 = 1#1), ∀ (k0_h9 : k0_cond9 i v83 = 1#1), ∀ a, (k0_off39 v41) a + S1x1.size a ≤ S2x2.size a) ∧
  (∀ (k0_h7 : k0_cond7 i v25 v28 = 1#1), ∀ (k0_h9 : k0_cond9 i v83 = 1#1), ∀ a, (k0_off40 v41) a + S1x1x2048x1024.size a ≤ S2x2x2048x1024.size a) ∧
  (∀ (k0_h7 : k0_cond7 i v25 v28 = 1#1), ∀ (k0_h9 : k0_cond9 i v83 = 1#1), ∀ a, (k0_off42 v41) a + S1x1.size a ≤ S2x2.size a) ∧
  (∀ (k0_h7 : k0_cond7 i v25 v28 = 1#1), ∀ (k0_h9 : k0_cond9 i v83 = 1#1), ∀ a, (k0_off43 v41) a + S1x1x2048x1024.size a ≤ S2x2x2048x1024.size a)
theorem k0_off33_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h8 : k0_cond8 v83 = 1#1), ∀ a, (k0_off33 v83) a + S1.size a ≤ S74.size a := fun i v25 v28 v41 v83 k0_hw9 k0_h7 k0_h8 => k0_hw9.1 k0_h7 k0_h8
theorem k0_off34_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h8 : k0_cond8 v83 = 1#1), ∀ a, (k0_off34 v41) a + S1x1.size a ≤ S2x2.size a := fun i v25 v28 v41 v83 k0_hw9 k0_h7 k0_h8 => k0_hw9.2.1 k0_h7 k0_h8
theorem k0_off35_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h8 : k0_cond8 v83 = 1#1), ∀ a, (k0_off35 v41) a + S1x1x2048x1024.size a ≤ S2x2x2048x1024.size a := fun i v25 v28 v41 v83 k0_hw9 k0_h7 k0_h8 => k0_hw9.2.2.1 k0_h7 k0_h8
theorem k0_off37_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h8 : k0_cond8 v83 = 1#1), ∀ a, (k0_off37 v41) a + S1x1.size a ≤ S2x2.size a := fun i v25 v28 v41 v83 k0_hw9 k0_h7 k0_h8 => k0_hw9.2.2.2.1 k0_h7 k0_h8
theorem k0_off38_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h8 : k0_cond8 v83 = 1#1), ∀ a, (k0_off38 v41) a + S1x1x2048x1024.size a ≤ S2x2x2048x1024.size a := fun i v25 v28 v41 v83 k0_hw9 k0_h7 k0_h8 => k0_hw9.2.2.2.2.1 k0_h7 k0_h8
theorem k0_off39_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h9 : k0_cond9 i v83 = 1#1), ∀ a, (k0_off39 v41) a + S1x1.size a ≤ S2x2.size a := fun i v25 v28 v41 v83 k0_hw9 k0_h7 k0_h9 => k0_hw9.2.2.2.2.2.1 k0_h7 k0_h9
theorem k0_off40_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h9 : k0_cond9 i v83 = 1#1), ∀ a, (k0_off40 v41) a + S1x1x2048x1024.size a ≤ S2x2x2048x1024.size a := fun i v25 v28 v41 v83 k0_hw9 k0_h7 k0_h9 => k0_hw9.2.2.2.2.2.2.1 k0_h7 k0_h9
theorem k0_off42_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h9 : k0_cond9 i v83 = 1#1), ∀ a, (k0_off42 v41) a + S1x1.size a ≤ S2x2.size a := fun i v25 v28 v41 v83 k0_hw9 k0_h7 k0_h9 => k0_hw9.2.2.2.2.2.2.2.1 k0_h7 k0_h9
theorem k0_off43_inb : ∀ (i : grid0.Coords) (v25 : BitVec 32) (v28 : BitVec 32) (v41 : BitVec 32) (v83 : BitVec 32) (k0_hw9 : k0_chk9 i v25 v28 v41 v83), ∀ (k0_h7 : k0_cond7 i v25 v28 = 1#1), ∀ (k0_h9 : k0_cond9 i v83 = 1#1), ∀ a, (k0_off43 v41) a + S1x1x2048x1024.size a ≤ S2x2x2048x1024.size a := fun i v25 v28 v41 v83 k0_hw9 k0_h7 k0_h9 => k0_hw9.2.2.2.2.2.2.2.2 k0_h7 k0_h9

def k0_cond5 (i : grid0.Coords) (v15 : BitVec 32) : BitVec 1 :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v16 : BitVec 1 := Scalar.cmpi .slt v6 v15
  let v17 : BitVec 32 := Scalar.extui v16
  let c0_i32_5 : BitVec 32 := 0#32
  let v18 : BitVec 1 := Scalar.cmpi .ne v17 c0_i32_5
  v18

def k0_cond6 (i : grid0.Coords) (v19 : BitVec 32) : BitVec 1 :=
  let arg1 : BitVec 32 := BitVec.ofNat 32 (i 1).val
  let c2_i32 : BitVec 32 := 2#32
  let v5 : BitVec 32 := Scalar.muli arg1 c2_i32
  let c0_i32_2 : BitVec 32 := 0#32
  let v6 : BitVec 32 := Scalar.addi v5 c0_i32_2
  let v20 : BitVec 1 := Scalar.cmpi .sge v6 v19
  let v21 : BitVec 32 := Scalar.extui v20
  let c0_i32_7 : BitVec 32 := 0#32
  let v22 : BitVec 1 := Scalar.cmpi .ne v21 c0_i32_7
  v22

def k0_cond10 (i : grid0.Coords) (v33 : BitVec 32) : BitVec 1 :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v34 : BitVec 1 := Scalar.cmpi .slt v24 v33
  let v35 : BitVec 32 := Scalar.extui v34
  let c0_i32_14 : BitVec 32 := 0#32
  let v36 : BitVec 1 := Scalar.cmpi .ne v35 c0_i32_14
  v36

def k0_cond11 (i : grid0.Coords) (v37 : BitVec 32) : BitVec 1 :=
  let arg1 : BitVec 32 := BitVec.ofNat 32 (i 1).val
  let c2_i32_8 : BitVec 32 := 2#32
  let v23 : BitVec 32 := Scalar.muli arg1 c2_i32_8
  let c1_i32_9 : BitVec 32 := 1#32
  let v24 : BitVec 32 := Scalar.addi v23 c1_i32_9
  let v38 : BitVec 1 := Scalar.cmpi .sge v24 v37
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== MoeGateRefIdeal.lean ====
abbrev S18944x2048 : Shape := ⟨2, ![18944, 2048]⟩
abbrev S8x2048x7168 : Shape := ⟨3, ![8, 2048, 7168]⟩
abbrev S74 : Shape := ⟨1, ![74]⟩
abbrev S1 : Shape := ⟨1, ![1]⟩
abbrev S_ : Shape := ⟨0, ![]⟩
abbrev S74x256 : Shape := ⟨2, ![74, 256]⟩
abbrev S18944 : Shape := ⟨1, ![18944]⟩
abbrev S18944x7168 : Shape := ⟨2, ![18944, 7168]⟩
abbrev S18944x1 : Shape := ⟨2, ![18944, 1]⟩
abbrev S1x2048x7168 : Shape := ⟨3, ![1, 2048, 7168]⟩
abbrev S2048x7168 : Shape := ⟨2, ![2048, 7168]⟩

abbrev nBuf : Space → Nat
  | .hbm => 203
  | .vmem => 0
  | .smem => 0
  | _ => 0

abbrev hbmTy0_0 (i : Nat) : BufTy := match i % 128 with
  | 0 => ⟨S18944x2048, .bf16⟩
  | 1 => ⟨S8x2048x7168, .f32⟩
  | 2 => ⟨S8x2048x7168, .f32⟩
  | 3 => ⟨S74, .i32⟩
  | 4 => ⟨S74, .i32⟩
  | 5 => ⟨S74, .i32⟩
  | 6 => ⟨S1, .i32⟩
  | 7 => ⟨S18944x2048, .f32⟩
  | 8 => ⟨S74, .i32⟩
  | 9 => ⟨S_, .i32⟩
  | 10 => ⟨S74, .i32⟩
  | 11 => ⟨S74, .i1⟩
  | 12 => ⟨S74x256, .i1⟩
  | 13 => ⟨S18944, .i1⟩
  | 14 => ⟨S74x256, .i32⟩
  | 15 => ⟨S18944, .i32⟩
  | 16 => ⟨S_, .f32⟩
  | 17 => ⟨S18944x7168, .f32⟩
  | 18 => ⟨S_, .i32⟩
  | 19 => ⟨S18944, .i32⟩
  | 20 => ⟨S18944, .i1⟩
  | 21 => ⟨S18944, .i1⟩
  | 22 => ⟨S18944x1, .i1⟩
  | 23 => ⟨S1x2048x7168, .f32⟩
  | 24 => ⟨S2048x7168, .f32⟩
  | 25 => ⟨S18944x7168, .f32⟩
  | 26 => ⟨S18944x7168, .f32⟩
  | 27 => ⟨S18944x7168, .f32⟩
  | 28 => ⟨S_, .f32⟩
  | 29 => ⟨S18944x7168, .f32⟩
  | 30 => ⟨S18944x7168, .f32⟩
  | 31 => ⟨S_, .f32⟩
  | 32 => ⟨S18944x7168, .f32⟩
  | 33 => ⟨S18944x7168, .f32⟩
  | 34 => ⟨S18944x7168, .f32⟩
  | 35 => ⟨S1x2048x7168, .f32⟩
  | 36 => ⟨S2048x7168, .f32⟩
  | 37 => ⟨S18944x7168, .f32⟩
  | 38 => ⟨S18944x7168, .f32⟩
  | 39 => ⟨S18944x7168, .i1⟩
  | 40 => ⟨S18944x7168, .f32⟩
  | 41 => ⟨S_, .i32⟩
  | 42 => ⟨S18944, .i32⟩
  | 43 => ⟨S18944, .i1⟩
  | 44 => ⟨S18944, .i1⟩
  | 45 => ⟨S18944x1, .i1⟩
  | 46 => ⟨S1x2048x7168, .f32⟩
  | 47 => ⟨S2048x7168, .f32⟩
  | 48 => ⟨S18944x7168, .f32⟩
  | 49 => ⟨S18944x7168, .f32⟩
  | 50 => ⟨S18944x7168, .f32⟩
  | 51 => ⟨S_, .f32⟩
  | 52 => ⟨S18944x7168, .f32⟩
  | 53 => ⟨S18944x7168, .f32⟩
  | 54 => ⟨S_, .f32⟩
  | 55 => ⟨S18944x7168, .f32⟩
  | 56 => ⟨S18944x7168, .f32⟩
  | 57 => ⟨S18944x7168, .f32⟩
  | 58 => ⟨S1x2048x7168, .f32⟩
  | 59 => ⟨S2048x7168, .f32⟩
  | 60 => ⟨S18944x7168, .f32⟩
  | 61 => ⟨S18944x7168, .f32⟩
  | 62 => ⟨S18944x7168, .i1⟩
  | 63 => ⟨S18944x7168, .f32⟩
  | 64 => ⟨S_, .i32⟩
  | 65 => ⟨S18944, .i32⟩
  | 66 => ⟨S18944, .i1⟩
  | 67 => ⟨S18944, .i1⟩
  | 68 => ⟨S18944x1, .i1⟩
  | 69 => ⟨S1x2048x7168, .f32⟩
  | 70 => ⟨S2048x7168, .f32⟩
  | 71 => ⟨S18944x7168, .f32⟩
  | 72 => ⟨S18944x7168, .f32⟩
  | 73 => ⟨S18944x7168, .f32⟩
  | 74 => ⟨S_, .f32⟩
  | 75 => ⟨S18944x7168, .f32⟩
  | 76 => ⟨S18944x7168, .f32⟩
  | 77 => ⟨S_, .f32⟩
  | 78 => ⟨S18944x7168, .f32⟩
  | 79 => ⟨S18944x7168, .f32⟩
  | 80 => ⟨S18944x7168, .f32⟩
  | 81 => ⟨S1x2048x7168, .f32⟩
  | 82 => ⟨S2048x7168, .f32⟩
  | 83 => ⟨S18944x7168, .f32⟩
  | 84 => ⟨S18944x7168, .f32⟩
  | 85 => ⟨S18944x7168, .i1⟩
  | 86 => ⟨S18944x7168, .f32⟩
  | 87 => ⟨S_, .i32⟩
  | 88 => ⟨S18944, .i32⟩
  | 89 => ⟨S18944, .i1⟩
  | 90 => ⟨S18944, .i1⟩
  | 91 => ⟨S18944x1, .i1⟩
  | 92 => ⟨S1x2048x7168, .f32⟩
  | 93 => ⟨S2048x7168, .f32⟩
  | 94 => ⟨S18944x7168, .f32⟩
  | 95 => ⟨S18944x7168, .f32⟩
  | 96 => ⟨S18944x7168, .f32⟩
  | 97 => ⟨S_, .f32⟩
  | 98 => ⟨S18944x7168, .f32⟩
  | 99 => ⟨S18944x7168, .f32⟩
  | 100 => ⟨S_, .f32⟩
  | 101 => ⟨S18944x7168, .f32⟩
  | 102 => ⟨S18944x7168, .f32⟩
  | 103 => ⟨S18944x7168, .f32⟩
  | 104 => ⟨S1x2048x7168, .f32⟩
  | 105 => ⟨S2048x7168, .f32⟩
  | 106 => ⟨S18944x7168, .f32⟩
  | 107 => ⟨S18944x7168, .f32⟩
  | 108 => ⟨S18944x7168, .i1⟩
  | 109 => ⟨S18944x7168, .f32⟩
  | 110 => ⟨S_, .i32⟩
  | 111 => ⟨S18944, .i32⟩
  | 112 => ⟨S18944, .i1⟩
  | 113 => ⟨S18944, .i1⟩
  | 114 => ⟨S18944x1, .i1⟩
  | 115 => ⟨S1x2048x7168, .f32⟩
  | 116 => ⟨S2048x7168, .f32⟩
  | 117 => ⟨S18944x7168, .f32⟩
  | 118 => ⟨S18944x7168, .f32⟩
  | 119 => ⟨S18944x7168, .f32⟩
  | 120 => ⟨S_, .f32⟩
  | 121 => ⟨S18944x7168, .f32⟩
  | 122 => ⟨S18944x7168, .f32⟩
  | 123 => ⟨S_, .f32⟩
  | 124 => ⟨S18944x7168, .f32⟩
  | 125 => ⟨S18944x7168, .f32⟩
  | 126 => ⟨S18944x7168, .f32⟩
  | 127 => ⟨S1x2048x7168, .f32⟩
  | _ => ⟨S18944x2048, .bf16⟩

abbrev hbmTy0_1 (i : Nat) : BufTy := match i % 128 with
  | 0 => ⟨S2048x7168, .f32⟩
  | 1 => ⟨S18944x7168, .f32⟩
  | 2 => ⟨S18944x7168, .f32⟩
  | 3 => ⟨S18944x7168, .i1⟩
  | 4 => ⟨S18944x7168, .f32⟩
  | 5 => ⟨S_, .i32⟩
  | 6 => ⟨S18944, .i32⟩
  | 7 => ⟨S18944, .i1⟩
  | 8 => ⟨S18944, .i1⟩
  | 9 => ⟨S18944x1, .i1⟩
  | 10 => ⟨S1x2048x7168, .f32⟩
  | 11 => ⟨S2048x7168, .f32⟩
  | 12 => ⟨S18944x7168, .f32⟩
  | 13 => ⟨S18944x7168, .f32⟩
  | 14 => ⟨S18944x7168, .f32⟩
  | 15 => ⟨S_, .f32⟩
  | 16 => ⟨S18944x7168, .f32⟩
  | 17 => ⟨S18944x7168, .f32⟩
  | 18 => ⟨S_, .f32⟩
  | 19 => ⟨S18944x7168, .f32⟩
  | 20 => ⟨S18944x7168, .f32⟩
  | 21 => ⟨S18944x7168, .f32⟩
  | 22 => ⟨S1x2048x7168, .f32⟩
  | 23 => ⟨S2048x7168, .f32⟩
  | 24 => ⟨S18944x7168, .f32⟩
  | 25 => ⟨S18944x7168, .f32⟩
  | 26 => ⟨S18944x7168, .i1⟩
  | 27 => ⟨S18944x7168, .f32⟩
  | 28 => ⟨S_, .i32⟩
  | 29 => ⟨S18944, .i32⟩
  | 30 => ⟨S18944, .i1⟩
  | 31 => ⟨S18944, .i1⟩
  | 32 => ⟨S18944x1, .i1⟩
  | 33 => ⟨S1x2048x7168, .f32⟩
  | 34 => ⟨S2048x7168, .f32⟩
  | 35 => ⟨S18944x7168, .f32⟩
  | 36 => ⟨S18944x7168, .f32⟩
  | 37 => ⟨S18944x7168, .f32⟩
  | 38 => ⟨S_, .f32⟩
  | 39 => ⟨S18944x7168, .f32⟩
  | 40 => ⟨S18944x7168, .f32⟩
  | 41 => ⟨S_, .f32⟩
  | 42 => ⟨S18944x7168, .f32⟩
  | 43 => ⟨S18944x7168, .f32⟩
  | 44 => ⟨S18944x7168, .f32⟩
  | 45 => ⟨S1x2048x7168, .f32⟩
  | 46 => ⟨S2048x7168, .f32⟩
  | 47 => ⟨S18944x7168, .f32⟩
  | 48 => ⟨S18944x7168, .f32⟩
  | 49 => ⟨S18944x7168, .i1⟩
  | 50 => ⟨S18944x7168, .f32⟩
  | 51 => ⟨S_, .i32⟩
  | 52 => ⟨S18944, .i32⟩
  | 53 => ⟨S18944, .i1⟩
  | 54 => ⟨S18944, .i1⟩
  | 55 => ⟨S18944x1, .i1⟩
  | 56 => ⟨S1x2048x7168, .f32⟩
  | 57 => ⟨S2048x7168, .f32⟩
  | 58 => ⟨S18944x7168, .f32⟩
  | 59 => ⟨S18944x7168, .f32⟩
  | 60 => ⟨S18944x7168, .f32⟩
  | 61 => ⟨S_, .f32⟩
  | 62 => ⟨S18944x7168, .f32⟩
  | 63 => ⟨S18944x7168, .f32⟩
  | 64 => ⟨S_, .f32⟩
  | 65 => ⟨S18944x7168, .f32⟩
  | 66 => ⟨S18944x7168, .f32⟩
  | 67 => ⟨S18944x7168, .f32⟩
  | 68 => ⟨S1x2048x7168, .f32⟩
  | 69 => ⟨S2048x7168, .f32⟩
  | 70 => ⟨S18944x7168, .f32⟩
  | 71 => ⟨S18944x7168, .f32⟩
  | 72 => ⟨S18944x7168, .i1⟩
  | 73 => ⟨S18944x7168, .f32⟩
  | 74 => ⟨S18944x7168, .bf16⟩
  | _ => ⟨S18944x2048, .bf16⟩

abbrev hbmTy (i : Nat) : BufTy := match i / 128 with
  | 0 => hbmTy0_0 i
  | 1 => hbmTy0_1 i
  | _ => ⟨S18944x2048, .bf16⟩

abbrev bufTy : (tb : Table) → Fin (tcTables nBuf tb) → BufTy
  | .hbm, ⟨i, _⟩ => hbmTy i
  | _, _ => ⟨S18944x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_v22 : Ref sig .tc := ⟨.hbm, 40, rfl⟩
abbrev main_c_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call3_v0 : Ref sig .tc := ⟨.hbm, 62, rfl⟩
abbrev main_v35 : Ref sig .tc := ⟨.hbm, 63, rfl⟩
abbrev main_c_1 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call5_v0 : Ref sig .tc := ⟨.hbm, 85, rfl⟩
abbrev main_v48 : Ref sig .tc := ⟨.hbm, 86, rfl⟩
abbrev main_c_2 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call6_v0 : Ref sig .tc := ⟨.hbm, 95, rfl⟩
abbrev main_call6_v1 : Ref sig .tc := ⟨.hbm, 96, rfl⟩
abbrev main_call6_cst : Ref sig .tc := ⟨.hbm, 97, rfl⟩
abbrev main_call6_v2 : Ref sig .tc := ⟨.hbm, 98, rfl⟩
abbrev main_call6_v3 : Ref sig .tc := ⟨.hbm, 99, rfl⟩
abbrev main_call6_cst_0 : Ref sig .tc := ⟨.hbm, 100, rfl⟩
abbrev main_call6_v4 : Ref sig .tc := ⟨.hbm, 101, rfl⟩
abbrev main_call6_v5 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call7_v0 : Ref sig .tc := ⟨.hbm, 108, rfl⟩
abbrev main_v61 : Ref sig .tc := ⟨.hbm, 109, rfl⟩
abbrev main_c_3 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call8_v0 : Ref sig .tc := ⟨.hbm, 118, rfl⟩
abbrev main_call8_v1 : Ref sig .tc := ⟨.hbm, 119, rfl⟩
abbrev main_call8_cst : Ref sig .tc := ⟨.hbm, 120, rfl⟩
abbrev main_call8_v2 : Ref sig .tc := ⟨.hbm, 121, rfl⟩
abbrev main_call8_v3 : Ref sig .tc := ⟨.hbm, 122, rfl⟩
abbrev main_call8_cst_0 : Ref sig .tc := ⟨.hbm, 123, rfl⟩
abbrev main_call8_v4 : Ref sig .tc := ⟨.hbm, 124, rfl⟩
abbrev main_call8_v5 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_call9_v0 : Ref sig .tc := ⟨.hbm, 131, rfl⟩
abbrev main_v74 : Ref sig .tc := ⟨.hbm, 132, rfl⟩
abbrev main_c_4 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_call10_v0 : Ref sig .tc := ⟨.hbm, 141, rfl⟩
abbrev main_call10_v1 : Ref sig .tc := ⟨.hbm, 142, rfl⟩
abbrev main_call10_cst : Ref sig .tc := ⟨.hbm, 143, rfl⟩
abbrev main_call10_v2 : Ref sig .tc := ⟨.hbm, 144, rfl⟩
abbrev main_call10_v3 : Ref sig .tc := ⟨.hbm, 145, rfl⟩
abbrev main_call10_cst_0 : Ref sig .tc := ⟨.hbm, 146, rfl⟩
abbrev main_call10_v4 : Ref sig .tc := ⟨.hbm, 147, rfl⟩
abbrev main_call10_v5 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_call11_v0 : Ref sig .tc := ⟨.hbm, 154, rfl⟩
abbrev main_v87 : Ref sig .tc := ⟨.hbm, 155, rfl⟩
abbrev main_c_5 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_call12_v0 : Ref sig .tc := ⟨.hbm, 164, rfl⟩
abbrev main_call12_v1 : Ref sig .tc := ⟨.hbm, 165, rfl⟩
abbrev main_call12_cst : Ref sig .tc := ⟨.hbm, 166, rfl⟩
abbrev main_call12_v2 : Ref sig .tc := ⟨.hbm, 167, rfl⟩
abbrev main_call12_v3 : Ref sig .tc := ⟨.hbm, 168, rfl⟩
abbrev main_call12_cst_0 : Ref sig .tc := ⟨.hbm, 169, rfl⟩
abbrev main_call12_v4 : Ref sig .tc := ⟨.hbm, 170, rfl⟩
abbrev main_call12_v5 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_call13_v0 : Ref sig .tc := ⟨.hbm, 177, rfl⟩
abbrev main_v100 : Ref sig .tc := ⟨.hbm, 178, rfl⟩
abbrev main_c_6 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_call14_v0 : Ref sig .tc := ⟨.hbm, 187, rfl⟩
abbrev main_call14_v1 : Ref sig .tc := ⟨.hbm, 188, rfl⟩
abbrev main_call14_cst : Ref sig .tc := ⟨.hbm, 189, rfl⟩
abbrev main_call14_v2 : Ref sig .tc := ⟨.hbm, 190, rfl⟩
abbrev main_call14_v3 : Ref sig .tc := ⟨.hbm, 191, rfl⟩
abbrev main_call14_cst_0 : Ref sig .tc := ⟨.hbm, 192, rfl⟩
abbrev main_call14_v4 : Ref sig .tc := ⟨.hbm, 193, rfl⟩
abbrev main_call14_v5 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_call15_v0 : Ref sig .tc := ⟨.hbm, 200, rfl⟩
abbrev main_v113 : Ref sig .tc := ⟨.hbm, 201, rfl⟩
abbrev main_v114 : Ref sig .tc := ⟨.hbm, 202, rfl⟩

abbrev nD : Nat := 1
abbrev τ : Topo := Topo.v7x

variable {F : FTy → Type} [FloatOps F]
-- ==== Ple.lean ====
abbrev S8320x2048 : Shape := ⟨2, ![8320, 2048]⟩
abbrev S2x8192x256 : Shape := ⟨3, ![2, 8192, 256]⟩
abbrev S2x128x256 : Shape := ⟨3, ![2, 128, 256]⟩
abbrev S2x2048x2048 : Shape := ⟨3, ![2, 2048, 2048]⟩
abbrev S2x256x2048 : Shape := ⟨3, ![2, 256, 2048]⟩
abbrev S832x2048 : Shape := ⟨2, ![832, 2048]⟩
abbrev S1x832x256 : Shape := ⟨3, ![1, 832, 256]⟩
abbrev S1x128x256 : Shape := ⟨3, ![1, 128, 256]⟩
abbrev S1x2048x1024 : Shape := ⟨3, ![1, 2048, 1024]⟩
abbrev S1x256x1024 : Shape := ⟨3, ![1, 256, 1024]⟩
abbrev S832x1024 : Shape := ⟨2, ![832, 1024]⟩
abbrev S2048x1024 : Shape := ⟨2, ![2048, 1024]⟩
abbrev S256x1024 : Shape := ⟨2, ![256, 1024]⟩
abbrev S832x256 : Shape := ⟨2, ![832, 256]⟩
abbrev S128x256 : Shape := ⟨2, ![128, 256]⟩
abbrev S1x704x256 : Shape := ⟨3, ![1, 704, 256]⟩
abbrev S704x256 : Shape := ⟨2, ![704, 256]⟩

abbrev nBuf : Space → Nat
  | .hbm => 7
  | .vmem => 15
  | .smem => 0
  | _ => 0

abbrev bufTy : (tb : Table) → Fin (tcTables nBuf tb) → BufTy
  | .hbm, ⟨0, _⟩ => ⟨S8320x2048, .bf16⟩
  | .hbm, ⟨1, _⟩ => ⟨S2x8192x256, .f32⟩
  | .hbm, ⟨2, _⟩ => ⟨S2x128x256, .f32⟩
  | .hbm, ⟨3, _⟩ => ⟨S2x2048x2048, .f32⟩
  | .hbm, ⟨4, _⟩ => ⟨S2x256x2048, .f32⟩
  | .hbm, ⟨5, _⟩ => ⟨S8320x2048, .f32⟩
  | .hbm, ⟨6, _⟩ => ⟨S8320x2048, .f32⟩
  | .local _ .vmem, ⟨0, _⟩ => ⟨S832x2048, .bf16⟩
  | .local _ .vmem, ⟨1, _⟩ => ⟨S832x2048, .bf16⟩
  | .local _ .vmem, ⟨2, _⟩ => ⟨S1x832x256, .f32⟩
  | .local _ .vmem, ⟨3, _⟩ => ⟨S1x832x256, .f32⟩
  | .local _ .vmem, ⟨4, _⟩ => ⟨S1x128x256, .f32⟩
  | .local _ .vmem, ⟨5, _⟩ => ⟨S1x2048x1024, .f32⟩
  | .local _ .vmem, ⟨6, _⟩ => ⟨S1x2048x1024, .f32⟩
  | .local _ .vmem, ⟨7, _⟩ => ⟨S1x256x1024, .f32⟩
  | .local _ .vmem, ⟨8, _⟩ => ⟨S1x256x1024, .f32⟩
  | .local _ .vmem, ⟨9, _⟩ => ⟨S832x1024, .f32⟩
  | .local _ .vmem, ⟨10, _⟩ => ⟨S832x1024, .f32⟩
  | .local _ .vmem, ⟨11, _⟩ => ⟨S832x1024, .f32⟩
  | .local _ .vmem, ⟨12, _⟩ => ⟨S832x1024, .f32⟩
  | .local _ .vmem, ⟨13, _⟩ => ⟨S2048x1024, .bf16⟩
  | .local _ .vmem, ⟨14, _⟩ => ⟨S256x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 10], ![false, false]⟩

def k0_cond3 (i : grid0.Coords) : BitVec 1 :=
  let arg1 : BitVec 32 := BitVec.ofNat 32 (i 1).val
  let c9_i32 : BitVec 32 := 9#32
  let v6 : BitVec 1 := Scalar.cmpi .slt arg1 c9_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c9_i32_4 : BitVec 32 := 9#32
  let v9 : BitVec 1 := Scalar.cmpi .eq arg1 c9_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x832x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S8320x2048 : Shape := ⟨2, ![8320, 2048]⟩
abbrev S2x8192x256 : Shape := ⟨3, ![2, 8192, 256]⟩
abbrev S2x128x256 : Shape := ⟨3, ![2, 128, 256]⟩
abbrev S2x2048x2048 : Shape := ⟨3, ![2, 2048, 2048]⟩
abbrev S2x256x2048 : Shape := ⟨3, ![2, 256, 2048]⟩
abbrev S1x8192x256 : Shape := ⟨3, ![1, 8192, 256]⟩
abbrev S8192x256 : Shape := ⟨2, ![8192, 256]⟩
abbrev S1x128x256 : Shape := ⟨3, ![1, 128, 256]⟩
abbrev S128x256 : Shape := ⟨2, ![128, 256]⟩
abbrev S8320x256 : Shape := ⟨2, ![8320, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x8192x256, .f32⟩
  | .hbm, ⟨2, _⟩ => ⟨S2x128x256, .f32⟩
  | .hbm, ⟨3, _⟩ => ⟨S2x2048x2048, .f32⟩
  | .hbm, ⟨4, _⟩ => ⟨S2x256x2048, .f32⟩
  | .hbm, ⟨5, _⟩ => ⟨S8320x2048, .f32⟩
  | .hbm, ⟨6, _⟩ => ⟨S1x8192x256, .f32⟩
  | .hbm, ⟨7, _⟩ => ⟨S8192x256, .f32⟩
  | .hbm, ⟨8, _⟩ => ⟨S1x128x256, .f32⟩
  | .hbm, ⟨9, _⟩ => ⟨S128x256, .f32⟩
  | .hbm, ⟨10, _⟩ => ⟨S8320x256, .f32⟩
  | .hbm, ⟨11, _⟩ => ⟨S1x256x2048, .f32⟩
  | .hbm, ⟨12, _⟩ => ⟨S256x2048, .f32⟩
  | .hbm, ⟨13, _⟩ => ⟨S8320x2048, .f32⟩
  | .hbm, ⟨14, _⟩ => ⟨S8320x2048, .f32⟩
  | .hbm, ⟨15, _⟩ => ⟨S1x2048x2048, .f32⟩
  | .hbm, ⟨16, _⟩ => ⟨S2048x2048, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320x2048, .f32⟩
  | .hbm, ⟨22, _⟩ => ⟨S8320x2048, .f32⟩
  | .hbm, ⟨23, _⟩ => ⟨S_, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutProj.lean ====
abbrev S8192x1024 : Shape := ⟨2, ![8192, 1024]⟩
abbrev S128x1024 : Shape := ⟨2, ![128, 1024]⟩
abbrev S8320x512 : Shape := ⟨2, ![8320, 512]⟩
abbrev S8192x512 : Shape := ⟨2, ![8192, 512]⟩
abbrev S128x512 : Shape := ⟨2, ![128, 512]⟩
abbrev S2x2048x2048 : Shape := ⟨3, ![2, 2048, 2048]⟩
abbrev S8320x2048 : Shape := ⟨2, ![8320, 2048]⟩
abbrev S832x1024 : Shape := ⟨2, ![832, 1024]⟩
abbrev S832x512 : Shape := ⟨2, ![832, 512]⟩
abbrev S1x2048x1024 : Shape := ⟨3, ![1, 2048, 1024]⟩
abbrev S2048x1024 : Shape := ⟨2, ![2048, 1024]⟩
abbrev S1024x1024 : Shape := ⟨2, ![1024, 1024]⟩
abbrev S512x1024 : Shape := ⟨2, ![512, 1024]⟩
abbrev S704x1024 : Shape := ⟨2, ![704, 1024]⟩
abbrev S704x512 : Shape := ⟨2, ![704, 512]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S128x1024, .f32⟩
  | .hbm, ⟨2, _⟩ => ⟨S8320x512, .bf16⟩
  | .hbm, ⟨3, _⟩ => ⟨S8192x512, .bf16⟩
  | .hbm, ⟨4, _⟩ => ⟨S128x512, .f32⟩
  | .hbm, ⟨5, _⟩ => ⟨S2x2048x2048, .f32⟩
  | .hbm, ⟨6, _⟩ => ⟨S8320x2048, .f32⟩
  | .hbm, ⟨7, _⟩ => ⟨S8320x2048, .f32⟩
  | .local _ .vmem, ⟨0, _⟩ => ⟨S832x1024, .bf16⟩
  | .local _ .vmem, ⟨1, _⟩ => ⟨S832x1024, .bf16⟩
  | .local _ .vmem, ⟨2, _⟩ => ⟨S128x1024, .f32⟩
  | .local _ .vmem, ⟨3, _⟩ => ⟨S832x512, .bf16⟩
  | .local _ .vmem, ⟨4, _⟩ => ⟨S832x512, .bf16⟩
  | .local _ .vmem, ⟨5, _⟩ => ⟨S832x512, .bf16⟩
  | .local _ .vmem, ⟨6, _⟩ => ⟨S832x512, .bf16⟩
  | .local _ .vmem, ⟨7, _⟩ => ⟨S128x512, .f32⟩
  | .local _ .vmem, ⟨8, _⟩ => ⟨S1x2048x1024, .f32⟩
  | .local _ .vmem, ⟨9, _⟩ => ⟨S1x2048x1024, .f32⟩
  | .local _ .vmem, ⟨10, _⟩ => ⟨S832x1024, .f32⟩
  | .local _ .vmem, ⟨11, _⟩ => ⟨S832x1024, .f32⟩
  | .local _ .vmem, ⟨12, _⟩ => ⟨S832x1024, .f32⟩
  | .local _ .vmem, ⟨13, _⟩ => ⟨S832x1024, .f32⟩
  | .local _ .vmem, ⟨14, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v3 : BitVec 1 := Scalar.cmpi .slt arg1 c9_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c9_i32_2 : BitVec 32 := 9#32
  let v6 : BitVec 1 := Scalar.cmpi .eq arg1 c9_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S832x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S832x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S832x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S8192x1024 : Shape := ⟨2, ![8192, 1024]⟩
abbrev S128x1024 : Shape := ⟨2, ![128, 1024]⟩
abbrev S8320x512 : Shape := ⟨2, ![8320, 512]⟩
abbrev S8192x512 : Shape := ⟨2, ![8192, 512]⟩
abbrev S128x512 : Shape := ⟨2, ![128, 512]⟩
abbrev S2x2048x2048 : Shape := ⟨3, ![2, 2048, 2048]⟩
abbrev S8320x2048 : Shape := ⟨2, ![8320, 2048]⟩
abbrev S8320x1024 : Shape := ⟨2, ![8320, 1024]⟩
abbrev S1x2048x2048 : Shape := ⟨3, ![1, 2048, 2048]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .f32⟩
  | .hbm, ⟨2, _⟩ => ⟨S8320x512, .bf16⟩
  | .hbm, ⟨3, _⟩ => ⟨S8192x512, .bf16⟩
  | .hbm, ⟨4, _⟩ => ⟨S128x512, .f32⟩
  | .hbm, ⟨5, _⟩ => ⟨S2x2048x2048, .f32⟩
  | .hbm, ⟨6, _⟩ => ⟨S8320x2048, .f32⟩
  | .hbm, ⟨7, _⟩ => ⟨S8192x1024, .f32⟩
  | .hbm, ⟨8, _⟩ => ⟨S8320x1024, .f32⟩
  | .hbm, ⟨9, _⟩ => ⟨S8192x512, .f32⟩
  | .hbm, ⟨10, _⟩ => ⟨S8320x512, .f32⟩
  | .hbm, ⟨11, _⟩ => ⟨S8320x512, .f32⟩
  | .hbm, ⟨12, _⟩ => ⟨S8320x2048, .f32⟩
  | .hbm, ⟨13, _⟩ => ⟨S1x2048x2048, .f32⟩
  | .hbm, ⟨14, _⟩ => ⟨S2048x2048, .f32⟩
  | .hbm, ⟨15, _⟩ => ⟨S8320x2048, .f32⟩
  | .hbm, ⟨16, _⟩ => ⟨S8320x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Norm.lean ====
abbrev S8320x2048 : Shape := ⟨2, ![8320, 2048]⟩
abbrev S2048 : Shape := ⟨1, ![2048]⟩
abbrev S1x2048 : Shape := ⟨2, ![1, 2048]⟩
abbrev S832x2048 : Shape := ⟨2, ![832, 2048]⟩
abbrev S832 : Shape := ⟨1, ![832]⟩
abbrev S832x1 : Shape := ⟨2, ![832, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S832x2048, .f32⟩
  | .local _ .vmem, ⟨1, _⟩ => ⟨S832x2048, .f32⟩
  | .local _ .vmem, ⟨2, _⟩ => ⟨S1x2048, .f32⟩
  | .local _ .vmem, ⟨3, _⟩ => ⟨S832x2048, .bf16⟩
  | .local _ .vmem, ⟨4, _⟩ => ⟨S832x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Whole.lean ====
/- Loads of a buffer whose contents are known: of the whole of it and of a part, as it was held or after a store of the whole. -/
module

public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.VecWindow

@[expose] public section

namespace Cert.Whole

open Idealize.ShloMosaic Idealize.ShloMosaic.TcCoe

variable {F : FTy → Type} [FloatOps F] {sig : RefSig} {s : Shape} {e : EltTy}

/-- A whole load of a held block is the block. -/
theorem full_read (arg : Memref sig .tc .vmem s e) (harg : arg.IsWhole) {off : Fin s.rank → ℕ}
    (inb : ∀ a, off a + s.size a ≤ s.size a) (x : s.Idx → Elt F e) :
    arg.view.readAt (Elt F) (Rect.unit off (no_index s.size) inb).toLoadRect (harg.unread x) = x := by
  rw [View.readAt_full, harg.read_unread]

/-- A whole load after a whole store is the block stored. -/
theorem full_readCov (arg : Memref sig .tc .vmem s e) {off off' : Fin s.rank → ℕ}
    (inb : ∀ a, off a + s.size a ≤ s.size a) (inb' : ∀ a, off' a + s.size a ≤ s.size a) (w : s.Idx → Elt F e) (L : List (View.Piece (Elt F) s e)) :
    arg.view.readCov ((⟨Rect.unit off' (no_index s.size) inb', w⟩ : View.Piece (Elt F) s e) :: L) (Rect.unit off (no_index s.size) inb).toLoadRect = w :=
  View.readCov_full arg.view inb inb' w L

/-- A load of a part of a held block is that part. -/
theorem part_read (arg : Memref sig .tc .vmem s e) (harg : arg.IsWhole) (r : Rect s) (x : s.Idx → Elt F e) :
    arg.view.readAt (Elt F) r.toLoadRect (harg.unread x) = View.ld x r := by
  funext y
  rw [View.readAt_apply]
  exact congrFun (harg.read_unread x) _

/-- A load of a part after a whole store is that part of the block stored. -/
theorem part_readCov (arg : Memref sig .tc .vmem s e) {off' : Fin s.rank → ℕ}
    (inb' : ∀ a, off' a + s.size a ≤ s.size a) (w : s.Idx → Elt F e) (L : List (View.Piece (Elt F) s e)) (r : Rect s) :
    arg.view.readCov ((⟨Rect.unit off' (no_index s.size) inb', w⟩ : View.Piece (Elt F) s e) :: L) r.toLoadRect = View.ld w r := by
  have h : ∀ j, (Rect.unit off' s.size inb').emb j = j := fun j => funext fun a => Fin.ext (by
    rw [Rect.emb_apply]
    have := inb' a
    show off' a + 1 * (j a : ℕ) = j a
    omega)
  rw [View.readCov_eq_canon']
  funext j
  refine Eq.trans ?_ (View.canon_cons_emb (Rect.unit off' s.size inb') w L (r.toLoadRect.idx j))
  rw [h]

end Cert.Whole
-- ==== Proof.PleIdealFrame.lean ====
/- The per-layer embedding's kernel run: at each grid point a tile of the result is written from a tile of rows and the two
   cast weight tiles, which the first point of a column tile writes. The prompt's rows end inside the last row tile. -/
module

public import proofs.«01_k».proof.Proof.Gen.PleIdeal.Launch
public import proofs.«01_k».proof.Proof.Gen.PleIdeal.Skeleton
public import proofs.«01_k».proof.Proof.Whole
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.PleIdeal.Hand

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Whole

/-! ## The body -/

/-- The first 704 rows of a tile. -/
def top (x : Vec F S1x832x256 .f32) : Vec F S1x704x256 .f32 := fun y =>
  x (ix3 (y 0) ⟨(y 1).val, lt_trans (show (y 1).val < 704 from (y 1).isLt) (by decide)⟩ (y 2))

theorem top_read (arg3 : Memref sig .tc .vmem S1x832x256 .f32) (harg3 : arg3.IsWhole) (x : Vec F S1x832x256 .f32) :
    arg3.view.readAt (Elt F) (Rect.unit (s := S1x832x256) ![0, 0, 0] S1x704x256.size inb_S1x832x256_S1x704x256_0_0_0).toLoadRect (harg3.unread x) = top x := by
  funext y
  rw [View.readAt_apply]
  refine (congrFun (harg3.read_unread x) _).trans (congrArg x (funext fun a => Fin.ext ?_))
  fin_cases a
  · show 0 + 1 * (y 0).val = (y 0).val
    omega
  · show 0 + 1 * (y 1).val = (y 1).val
    omega
  · show 0 + 1 * (y 2).val = (y 2).val
    omega

/-- The body's first two tests: the first row tile of a column tile. -/
abbrev isFirst (i : grid0.Coords) : Prop := (Scalar.cmpi .ne (Scalar.extui (Scalar.cmpi .eq (BitVec.ofNat 32 (i 1).val) 0#32)) 0#32) = 1#1

theorem tests : ∀ t : Fin cfg0.N, (isFirst (grid0.coords t) ↔ t.val % 10 = 0) ∧ (k0_cond3 (grid0.coords t) = 1#1 ↔ t.val % 10 < 9)
    ∧ (k0_cond4 (grid0.coords t) = 1#1 ↔ t.val % 10 = 9) :=
  (by decide +kernel : ∀ t : Fin grid0.N, _)
section Body
variable (c : Dev nD) (i : grid0.Coords) (arg2 : Memref sig .tc .vmem S832x2048 .bf16) (harg2 : arg2.IsWhole) (arg3 : Memref sig .tc .vmem S1x832x256 .f32) (harg3 : arg3.IsWhole) (arg4 : Memref sig .tc .vmem S1x128x256 .f32) (harg4 : arg4.IsWhole) (arg5 : Memref sig .tc .vmem S1x2048x1024 .f32) (harg5 : arg5.IsWhole) (arg6 : Memref sig .tc .vmem S1x256x1024 .f32) (harg6 : arg6.IsWhole) (arg7 : Memref sig .tc .vmem S832x1024 .f32) (harg7 : arg7.IsWhole) (arg8 : Memref sig .tc .vmem S832x1024 .f32) (harg8 : arg8.IsWhole) (arg9 : Memref sig .tc .vmem S2048x1024 .bf16) (harg9 : arg9.IsWhole) (arg10 : Memref sig .tc .vmem S256x1024 .bf16) (harg10 : arg10.IsWhole)
  (x0 : Vec F S832x2048 .bf16) (x1 : Vec F S1x832x256 .f32) (x2 : Vec F S1x128x256 .f32) (x3 : Vec F S1x2048x1024 .f32)
  (x4 : Vec F S1x256x1024 .f32) (x5 : Vec F S832x1024 .f32)

/-- The inputs' tiles, held. -/
abbrev held : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5)

set_option maxHeartbeats 1000000 in
/-- The first row tile of a column tile: both weight tiles are cast, then the block is written. -/
theorem run_first (h1 : isFirst i) (h3 : k0_cond3 i = 1#1) (h4 : ¬ k0_cond4 i = 1#1) (E : Set ℕ) (K : PUnit → sProp 𝕄) :
    iprop(held c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d)
        ∗ (iprop(held c arg2 arg3 arg4 arg5 arg6 arg7 x0 x1 x2 x3 x4 x5 ∗ owns (c : Thread nD τ) arg8 fullShare (k0_pay3 x1 x0 (k0_pay1 x3) (k0_pay2 x4) x5) ∗ owns (c : Thread nD τ) arg9 fullShare (k0_pay1 x3) ∗ owns (c : Thread nD τ) arg10 fullShare (k0_pay2 x4)) -∗ K ⟨⟩))
      ⊢ wp frame (wpE (defs₀ (F := F)) Variants.none c none) E (cc0_mm_ple i arg2 harg2 arg3 harg3 arg4 harg4 arg5 harg5 arg6 harg6 arg7 harg7 arg8 harg8 arg9 harg9 arg10 harg10) K := by
  simp only [cc0_mm_ple_eq_skeleton]; unfold cc0_mm_ple_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5

  sl_exec (disch := first | sl_exact h1 | sl_exact h3 | sl_exact h4)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H8]
  · iexists _; isplitr
    swap; · iexact H8
    ipureintro
    refine (View.read_writes_full _ _ _ _ _).trans ?_
    unfold run_first.sl.v15 run_first.sl.v18 run_first.sl.H9_1 run_first.sl.H10_1
    simp only [full_read, full_readCov]
  isplitl [H9]
  · iexists _; isplitr
    swap; · iexact H9
    ipureintro
    refine (View.read_writes_full _ _ _ _ _).trans ?_
    simp only [full_read, full_readCov]
  iexists _; isplitr
  swap; · iexact H10
  ipureintro
  refine (View.read_writes_full _ _ _ _ _).trans ?_
  simp only [full_read, full_readCov]

set_option maxHeartbeats 1000000 in
/-- A later row tile but the last: the block is written from the cast tiles. -/
theorem run_mid (h1 : ¬ isFirst i) (h3 : k0_cond3 i = 1#1) (h4 : ¬ k0_cond4 i = 1#1) (g : Vec F S2048x1024 .bf16) (p : Vec F S256x1024 .bf16) (E : Set ℕ) (K : PUnit → sProp 𝕄) :
    iprop(held c arg2 arg3 arg4 arg5 arg6 arg7 x0 x1 x2 x3 x4 x5 ∗ (∃ d, owns (c : Thread nD τ) arg8 fullShare d) ∗ owns (c : Thread nD τ) arg9 fullShare g ∗ owns (c : Thread nD τ) arg10 fullShare p
        ∗ (iprop(held c arg2 arg3 arg4 arg5 arg6 arg7 x0 x1 x2 x3 x4 x5 ∗ owns (c : Thread nD τ) arg8 fullShare (k0_pay3 x1 x0 g p x5) ∗ owns (c : Thread nD τ) arg9 fullShare g ∗ owns (c : Thread nD τ) arg10 fullShare p) -∗ K ⟨⟩))
      ⊢ wp frame (wpE (defs₀ (F := F)) Variants.none c none) E (cc0_mm_ple i arg2 harg2 arg3 harg3 arg4 harg4 arg5 harg5 arg6 harg6 arg7 harg7 arg8 harg8 arg9 harg9 arg10 harg10) K := by
  simp only [cc0_mm_ple_eq_skeleton]; unfold cc0_mm_ple_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf9; obtain rfl := harg10.eq_unread hf10
  sl_exec (disch := first | sl_exact h1 | sl_exact h3 | sl_exact h4)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H8]
  · iexists _; isplitr
    swap; · iexact H8
    ipureintro
    refine (View.read_writes_full _ _ _ _ _).trans ?_
    simp only [full_read, full_readCov]
  isplitl [H9]
  · iexists _; isplitr; · ipureintro; exact harg9.read_unread _
    iexact H9
  iexists _; isplitr; · ipureintro; exact harg10.read_unread _
  iexact H10

set_option maxHeartbeats 1000000 in
/-- The last row tile: the rows are the 704 last prompt rows, then the sample rows. -/
theorem run_last (h1 : ¬ isFirst i) (h3 : ¬ k0_cond3 i = 1#1) (h4 : k0_cond4 i = 1#1) (g : Vec F S2048x1024 .bf16) (p : Vec F S256x1024 .bf16) (E : Set ℕ) (K : PUnit → sProp 𝕄) :
    iprop(held c arg2 arg3 arg4 arg5 arg6 arg7 x0 x1 x2 x3 x4 x5 ∗ (∃ d, owns (c : Thread nD τ) arg8 fullShare d) ∗ owns (c : Thread nD τ) arg9 fullShare g ∗ owns (c : Thread nD τ) arg10 fullShare p
        ∗ (iprop(held c arg2 arg3 arg4 arg5 arg6 arg7 x0 x1 x2 x3 x4 x5 ∗ owns (c : Thread nD τ) arg8 fullShare (k0_pay4 x2 (top x1) x0 g p x5) ∗ owns (c : Thread nD τ) arg9 fullShare g ∗ owns (c : Thread nD τ) arg10 fullShare p) -∗ K ⟨⟩))
      ⊢ wp frame (wpE (defs₀ (F := F)) Variants.none c none) E (cc0_mm_ple i arg2 harg2 arg3 harg3 arg4 harg4 arg5 harg5 arg6 harg6 arg7 harg7 arg8 harg8 arg9 harg9 arg10 harg10) K := by
  simp only [cc0_mm_ple_eq_skeleton]; unfold cc0_mm_ple_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf9; obtain rfl := harg10.eq_unread hf10
  sl_exec (disch := first | sl_exact h1 | sl_exact h3 | sl_exact h4)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H8]
  · iexists _; isplitr
    swap; · iexact H8
    ipureintro
    refine (View.read_writes_full _ _ _ _ _).trans ?_
    simp only [full_read]
    exact congrArg (fun z => k0_pay4 x2 z x0 g p x5) (top_read arg3 harg3 x1)
  isplitl [H9]
  · iexists _; isplitr; · ipureintro; exact harg9.read_unread _
    iexact H9
  iexists _; isplitr; · ipureintro; exact harg10.read_unread _
  iexact H10

end Body

/-! ## The run -/

variable (m : (ℓ : Loc nD τ sig) → Buf (Elt F) ℓ) (ρ : Dev nD → PrngReg)

/-- Core `c`'s arrays when the kernel starts. -/
abbrev V (c : Dev nD) (b : Ref sig .tc) : Buf (Elt F) ((c : Thread nD τ).loc b) := m ((c : Thread nD τ).loc b)

set_option maxHeartbeats 800000 in
/-- The program is the kernel alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The part of the prompt's tile that lies inside the array. -/
theorem psize : ∀ t : Fin cfg0.N, ∀ a, (cfg0.win 1).xsize (grid0.coords t) a = ![1, if t.val % 10 = 9 then 704 else 832, 256] a :=
  (by decide +kernel : ∀ t : Fin grid0.N, ∀ a : Fin 3, win0_1.xsize (grid0.coords t) a = ![1, if t.val % 10 = 9 then 704 else 832, 256] a)

/-- A row of the prompt's tile is inside the array: any row, but in the last tile only the first 704. -/
theorem pmoved (t : Fin cfg0.N) (j : S1x832x256.Idx) (h : t.val % 10 = 9 → (j 1).val < 704) : (cfg0.win 1).moved (grid0.coords t) j = true := by
  refine ((cfg0.win 1).moved_iff _ j).mpr fun a => ?_
  rw [psize t a]
  fin_cases a
  · exact (j 0).isLt
  · show (j 1).val < if t.val % 10 = 9 then 704 else 832
    split
    · exact h ‹_›
    · exact (j 1).isLt
  · exact (j 2).isLt

/-- The prompt's tile over earlier contents `d`. -/
def pfill (c : Dev nD) (t : Fin cfg0.N) (d : Vec F S1x832x256 .f32) : Vec F S1x832x256 .f32 :=
  (cfg0.win 1).fill (grid0.coords t) d (iblk m c 1 t)

/-- The prompt's tile. -/
def prow (c : Dev nD) (t : Fin cfg0.N) : Vec F S1x832x256 .f32 := pfill m c t fun _ => Classical.choice ((inferInstance : ∀ e, Nonempty (Elt F e)) .f32)

theorem pfill_apply (c : Dev nD) (t : Fin cfg0.N) (d : Vec F S1x832x256 .f32) (j : S1x832x256.Idx) (h : t.val % 10 = 9 → (j 1).val < 704) :
    pfill m c t d j = prow m c t j := by
  unfold prow pfill Window.fill
  rw [dif_pos (pmoved t j h), dif_pos (pmoved t j h)]

/-- Before the last tile the rows are all inside the array. -/
theorem pfill_mid (c : Dev nD) (t : Fin cfg0.N) (d : Vec F S1x832x256 .f32) (h : t.val % 10 ≠ 9) : pfill m c t d = prow m c t :=
  funext fun j => pfill_apply m c t d j fun h' => absurd h' h

/-- In any tile the first 704 rows are. -/
theorem pfill_top (c : Dev nD) (t : Fin cfg0.N) (d : Vec F S1x832x256 .f32) : top (pfill m c t d) = top (prow m c t) :=
  funext fun j => pfill_apply m c t d _ fun _ => show (j 1).val < 704 from (j 1).isLt

/-- The first point of a point's column tile. -/
def base (t : Fin cfg0.N) : Fin cfg0.N := ⟨t.val / 10 * 10, lt_of_le_of_lt (Nat.div_mul_le_self _ _) t.isLt⟩

/-- The cast gate weight of a column tile. -/
def gate (c : Dev nD) (t : Fin cfg0.N) : Vec F S2048x1024 .bf16 := k0_pay1 (iblk m c 3 (base t))
/-- The cast embedding weight of a column tile. -/
def emb (c : Dev nD) (t : Fin cfg0.N) : Vec F S256x1024 .bf16 := k0_pay2 (iblk m c 4 (base t))

/-- The block written at a point. -/
def out (c : Dev nD) (t : Fin cfg0.N) : Vec F S832x1024 .f32 :=
  if t.val % 10 = 9 then k0_pay4 (iblk m c 2 t) (top (prow m c t)) (iblk m c 0 t) (gate m c t) (emb m c t) (iblk m c 5 t)
  else k0_pay3 (prow m c t) (iblk m c 0 t) (gate m c t) (emb m c t) (iblk m c 5 t)

theorem base_first (t : Fin cfg0.N) (h : t.val % 10 = 0) : base t = t := Fin.ext (show t.val / 10 * 10 = t.val by omega)
theorem base_pred (t : Fin cfg0.N) (h : t.val % 10 ≠ 0) (h' : t.val - 1 < cfg0.N) : base ⟨t.val - 1, h'⟩ = base t :=
  Fin.ext (show (t.val - 1) / 10 * 10 = t.val / 10 * 10 by omega)

/-- The two cast tiles between points. -/
def casts (c : Dev nD) (t : Fin cfg0.N) : sProp 𝕄 :=
  iprop(owns (c : Thread nD τ) (Memref.whole cc0_scratch0 : Memref sig .tc .vmem S2048x1024 .bf16) fullShare (gate m c t)
    ∗ owns (c : Thread nD τ) (Memref.whole cc0_scratch1 : Memref sig .tc .vmem S256x1024 .bf16) fullShare (emb m c t))

/-- The state before position `n`: anything at the start, then the cast tiles of the point before. -/
def Phi (c : Dev nD) : (n : ℕ) → n ≤ cfg0.N → sProp 𝕄
  | 0, _ => Pipeline.ΦA spec0 c
  | n + 1, hn => iprop(casts m c ⟨n, hn⟩ ∗ (∃ r, prngReg c r))

theorem PhiA_eq (c : Dev nD) :
    (Pipeline.ΦA spec0 c : sProp 𝕄)
      = iprop(iprop((∃ d, owns (c : Thread nD τ) (Memref.whole cc0_scratch0 : Memref sig .tc .vmem S2048x1024 .bf16) fullShare d)
        ∗ (∃ d, owns (c : Thread nD τ) (Memref.whole cc0_scratch1 : Memref sig .tc .vmem S256x1024 .bf16) fullShare d)) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(casts m c ⟨n - 1, by omega⟩ ∗ (∃ r, prngReg c r)) := by
  cases n with
  | zero => exact absurd rfl hz
  | succ n => rfl

/-- At any point the cast buffers hold something. -/
theorem Phi_any (c : Dev nD) (n : ℕ) (h : n ≤ cfg0.N) : Phi m c n h ⊢ Pipeline.ΦA spec0 c := by
  cases n with
  | zero => exact Idealize.SL.BI.Entails.refl _
  | succ n =>
    rw [PhiA_eq]
    unfold Phi casts
    iintro ⟨⟨HS0, HS1⟩, Hg⟩
    isplitl [HS0 HS1]
    · isplitl [HS0]
      · iexists _; iexact HS0
      iexists _; iexact HS1
    iexact Hg

/-- The proof data: what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => prow m c t
    | ⟨2, _⟩ => iblk m c 2 t
    | ⟨3, _⟩ => iblk m c 3 t
    | ⟨4, _⟩ => iblk m c 4 t
    | ⟨5, _⟩ => iblk m c 5 t
    | ⟨6, _⟩ => out m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = prow m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; rfl) t d).trans rfl

/-- Points with one block index end alike. -/
theorem pclip : ∀ t t' : Fin cfg0.N, (cfg0.win 1).index t = (cfg0.win 1).index t' →
    (cfg0.win 1).clip (cfg0.grid.coords t) = (cfg0.win 1).clip (cfg0.grid.coords t') := fun t t' h => by
  funext a
  exact congrFun (congrArg (fun ix : Fin 3 → ℕ => fun a => Pipeline.Clip.of (ix a) (S1x832x256.size a) (S2x8192x256.size a)) h) a

theorem before1 (c : Dev nD) (t : Fin cfg0.N) (d) : (dats m 0 c).before 1 t d = pfill m c t d :=
  ((dats m 0 c).before_in_eq_fetched 1 rfl (fun _ => rfl) pclip (fun t => by
    rw [after1]; unfold prow pfill; exact (cfg0.win 1).cut_fill _ _ _) t d).trans rfl

/-- The result's window is written at every point. -/
theorem live6 : ∀ t : Fin cfg0.N, cfg0.idle 6 (cfg0.grid.coords t) = false :=
  (by decide +kernel : ∀ t : Fin grid0.N, idle0 6 (grid0.coords t) = false)

/-- The kernel body at a point. -/
abbrev bodyAt (t : Fin cfg0.N) : Prog (TpuEff nD τ sig (Elt F) Λ₀ .tc) PUnit :=
  cc0_mm_ple (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)

/-- The inputs' buffers at a point, the prompt's over earlier contents `d`. -/
def tiles (c : Dev nD) (t : Fin cfg0.N) (d : Vec F S1x832x256 .f32) : sProp 𝕄 :=
  held c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (iblk m c 0 t) (pfill m c t d) (iblk m c 2 t) (iblk m c 3 t) (iblk m c 4 t) (iblk m c 5 t)

abbrev stage6 (t : Fin cfg0.N) : Memref sig .tc .vmem S832x1024 .f32 := win0_6.stage (cfg0.slots t 6)

set_option maxHeartbeats 1600000 in
/-- The body at any point. -/
theorem body_run (c : Dev nD) (t : Fin cfg0.N) (d : Vec F S1x832x256 .f32) (K : PUnit → sProp 𝕄) :
    iprop(Phi m c t.val (Nat.le_of_lt t.isLt) ∗ tiles m c t d ∗ (∃ d, owns (c : Thread nD τ) (stage6 t) fullShare d)
        ∗ (iprop(Phi m c (t.val + 1) t.isLt ∗ tiles m c t d ∗ owns (c : Thread nD τ) (stage6 t) fullShare (out m c t)) -∗ K ⟨⟩))
      ⊢ wp frame (wpE (defs₀ (F := F)) Variants.none c none) Set.univ (bodyAt t) K := by
  obtain ⟨e1, e3, e4⟩ := tests t
  by_cases h1 : t.val % 10 = 0
  · have hb := base_first t h1
    have hout : out m c t = k0_pay3 (pfill m c t d) (iblk m c 0 t) (k0_pay1 (iblk m c 3 t)) (k0_pay2 (iblk m c 4 t)) (iblk m c 5 t) := by
      unfold out gate emb; rw [if_neg (by omega), hb, pfill_mid m c t d (by omega)]
    have hc : (casts m c t : sProp 𝕄) = iprop(owns (c : Thread nD τ) (Memref.whole cc0_scratch0 : Memref sig .tc .vmem S2048x1024 .bf16) fullShare (k0_pay1 (iblk m c 3 t))
        ∗ owns (c : Thread nD τ) (Memref.whole cc0_scratch1 : Memref sig .tc .vmem S256x1024 .bf16) fullShare (k0_pay2 (iblk m c 4 t))) := by
      unfold casts gate emb; rw [hb]
    refine (BIBase.Entails.trans (Laws.sep_mono_left (Phi_any m c _ _)) ?_)
    rw [PhiA_eq, hout, show Phi m c (t.val + 1) t.isLt = iprop(casts m c t ∗ (∃ r, prngReg c r)) from rfl, hc]
    unfold tiles
    iintro ⟨⟨⟨HS0, HS1⟩, Hg⟩, Ht, H6, Hk⟩
    iapply (run_first c (grid0.coords t) _ _ _ _ _ _ _ _ _ _ _ _ _ _ _ _ _ _ _ _ _ _ _ _ (e1.2 h1) (e3.2 (by omega)) (fun h => by have := e4.1 h; omega) Set.univ _)
    isplitl [Ht]; · iexact Ht
    isplitl [H6]; · iexact H6
    isplitl [HS0]; · iexact HS0
    isplitl [HS1]; · iexact HS1
    iintro ⟨Ht, H6, HS0, HS1⟩
    iapply Hk
    isplitl [HS0 HS1 Hg]
    · isplitl [HS0 HS1]
      · isplitl [HS0]; · iexact HS0
        iexact HS1
      iexact Hg
    isplitl [Ht]; · iexact Ht
    iexact H6
  · have hb := base_pred t h1 (by omega)
    have hc : (casts m c ⟨t.val - 1, by omega⟩ : sProp 𝕄) = casts m c t := by
      unfold casts gate emb; rw [hb]
    rw [Phi_pos m c _ _ (by omega), hc, show Phi m c (t.val + 1) t.isLt = iprop(casts m c t ∗ (∃ r, prngReg c r)) from rfl]
    by_cases h9 : t.val % 10 = 9
    · have hout : out m c t = k0_pay4 (iblk m c 2 t) (top (pfill m c t d)) (iblk m c 0 t) (gate m c t) (emb m c t) (iblk m c 5 t) := by
        unfold out; rw [if_pos h9, pfill_top m c t d]
      rw [hout]
      unfold tiles casts
      iintro ⟨⟨⟨HS0, HS1⟩, Hg⟩, Ht, H6, Hk⟩
      iapply (run_last c (grid0.coords t) _ _ _ _ _ _ _ _ _ _ _ _ _ _ _ _ _ _ _ _ _ _ _ _ (fun h => h1 (e1.1 h)) (fun h => by have := e3.1 h; omega) (e4.2 h9) _ _ Set.univ _)
      isplitl [Ht]; · iexact Ht
      isplitl [H6]; · iexact H6
      isplitl [HS0]; · iexact HS0
      isplitl [HS1]; · iexact HS1
      iintro ⟨Ht, H6, HS0, HS1⟩
      iapply Hk
      isplitl [HS0 HS1 Hg]
      · isplitl [HS0 HS1]
        · isplitl [HS0]; · iexact HS0
          iexact HS1
        iexact Hg
      isplitl [Ht]; · iexact Ht
      iexact H6
    · have hout : out m c t = k0_pay3 (pfill m c t d) (iblk m c 0 t) (gate m c t) (emb m c t) (iblk m c 5 t) := by
        unfold out; rw [if_neg h9, pfill_mid m c t d h9]
      rw [hout]
      unfold tiles casts
      iintro ⟨⟨⟨HS0, HS1⟩, Hg⟩, Ht, H6, Hk⟩
      iapply (run_mid c (grid0.coords t) _ _ _ _ _ _ _ _ _ _ _ _ _ _ _ _ _ _ _ _ _ _ _ _ (fun h => h1 (e1.1 h)) (e3.2 (by omega)) (fun h => h9 (e4.1 h)) _ _ Set.univ _)
      isplitl [Ht]; · iexact Ht
      isplitl [H6]; · iexact H6
      isplitl [HS0]; · iexact HS0
      isplitl [HS1]; · iexact HS1
      iintro ⟨Ht, H6, HS0, HS1⟩
      iapply Hk
      isplitl [HS0 HS1 Hg]
      · isplitl [HS0 HS1]
        · isplitl [HS0]; · iexact HS0
          iexact HS1
        iexact Hg
      isplitl [Ht]; · iexact Ht
      iexact H6

theorem defs₀_row (t : Fin cfg0.N) : defs₀ (F := F) .tc cfg0.body (cfg0.bodyArgs t (cfg0.slots t)) = bodyAt t := by
  unfold defs₀; rw [Defs.onTc_tc]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns: the prompt's buffer only on the part inside the array. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ (∃ d, owns (c : Thread nD τ) (win0_1.stage (cfg0.slots t 1)) fullShare
        ((cfg0.win 1).fill (cfg0.grid.coords t) d ((cfg0.win 1).cut (cfg0.grid.coords t) ((dats m 0 c).after 1 t))))
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem sound_body (c : Dev nD) (t : Fin cfg0.N) :
    bodyPre m c t ⊢ wp frame (wpE (defs₀ (F := F)) Variants.none c none) Set.univ (bodyAt t) (fun _ => bodyPost m c t) := by
  have hcut : ∀ d : Vec F S1x832x256 .f32, (cfg0.win 1).fill (cfg0.grid.coords t) d ((cfg0.win 1).cut (cfg0.grid.coords t) ((dats m 0 c).after 1 t)) = pfill m c t d := fun d => by
    rw [after1]; unfold prow pfill; exact congrArg _ ((cfg0.win 1).cut_fill _ _ _)
  unfold bodyPre bodyPost
  simp only [hcut, before0, before1, before2, before3, before4, before5]
  rw [show (dats m 0 c).owesAt () t.succ = (dats m 0 c).owesAt () t.castSucc from rfl,
    after0, after2, after3, after4, after5, after6, Phi_castSucc,
    show (dats m 0 c).Φ t.succ = Phi m c (t.val + 1) t.isLt from rfl]
  iintro ⟨HP, Ho, ⟨%d0, H0⟩, ⟨%d1, H1⟩, ⟨%d2, H2⟩, ⟨%d3, H3⟩, ⟨%d4, H4⟩, ⟨%d5, H5⟩, ⟨%d6, H6⟩⟩
  iapply (body_run m c t d1 _)
  unfold tiles held
  isplitl [HP]; · iexact HP
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  iintro ⟨HP, ⟨H0, H1, H2, H3, H4, H5⟩, H6⟩
  isplitl [HP]; · iexact HP
  isplitl [Ho]; · iexact Ho
  isplitl [H0]; · iexact H0
  isplitl [H1]; · iexists d1; iexact H1
  isplitl [H2]; · iexact H2
  isplitl [H3]; · iexact H3
  isplitl [H4]; · iexact H4
  isplitl [H5]; · iexact H5
  iexact H6

theorem body_obligation (c : Dev nD) : BodyObligationLoose (dats (F := F) m 0 c) (defs₀ (F := F)) Variants.none () Set.univ := fun t => by
  rw [bigSep_W0, bigSep_W0, defs₀_row]
  refine triple_restated (sound_body m c t) rfl .rfl fun _ => ?_
  rw [live6 t]
  exact .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl]
  exact Phi_any m c _ _

set_option backward.isDefEq.respectTransparency.types false in
/-- The program's run: every array ends at what the proof data says, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- A run that ends as the pipeline says leaves the arguments as they were. -/
theorem kept_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have e : ∀ w : Fin cfg0.W, (cfg0.win w).isOut = false → r.2.mem _ = V m c (Pipeline.arrRef spec0 w) := fun w hw =>
    ((h c).1 w).trans (((dats m 0 c).arrAt_in w hw _).trans (A_eq m c w))
  ⟨e 0 rfl, e 1 rfl, e 2 rfl, e 3 rfl, e 4 rfl, e 5 rfl⟩

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept_of m h.1, h.2⟩) (run_main m ρ)

end Cert.PleIdeal.Hand

end
-- ==== Proof.PleValue.lean ====
/- The per-layer embedding's kernel over the extended reals: its result array, entry by entry. -/
module

public import proofs.«01_k».proof.Defs
public import proofs.«01_k».proof.Proof.PleIdealFrame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Val

open Cert.PleIdeal Cert.PleIdeal.Gen Cert.PleIdeal.Hand

variable (m : (ℓ : Loc nD τ sig) → Buf (Elt Ideal) ℓ)

/-- The embedding's rows: the prompt's 8192, then the sample's 128. -/
def row (p : Vec Ideal S2x8192x256 .f32) (s : Vec Ideal S2x128x256 .f32) (r : Fin 8320) (k : Fin 256) : EReal :=
  if h : r.val < 8192 then p (ix3 (0 : Fin 2) ⟨r.val, h⟩ k)
  else s (ix3 (0 : Fin 2) ⟨r.val - 8192, by have := r.isLt; omega⟩ k)

/-- The result: the residual plus the embedding's product, gated by the sigmoid of the hidden rows' product. -/
def ple (e : Vec Ideal S8320x2048 .bf16) (p : Vec Ideal S2x8192x256 .f32) (s : Vec Ideal S2x128x256 .f32)
    (wg : Vec Ideal S2x2048x2048 .f32) (wp : Vec Ideal S2x256x2048 .f32) (h : Vec Ideal S8320x2048 .f32) : Vec Ideal S8320x2048 .f32 := fun i =>
  h i + (∑ k : Fin 256, row p s (i 0) k * wp (ix3 (0 : Fin 2) k (i 1)))
    * Idealize.ShloMosaic.Ideal.logistic (∑ k : Fin 2048, e (ix2 (i 0 : Fin 8320) k) * wg (ix3 (0 : Fin 2) k (i 1)))

/-- Where each window's block lies at a point. -/
theorem idx : ∀ t : Fin cfg0.N,
    win0_0.index t = ![t.val % 10, 0] ∧ win0_1.index t = ![0, t.val % 10, 0] ∧ win0_2.index t = ![0, 0, 0] ∧
      win0_3.index t = ![0, 0, t.val / 10] ∧ win0_4.index t = ![0, 0, t.val / 10] ∧
      win0_5.index t = ![t.val % 10, t.val / 10] ∧ win0_6.index t = ![t.val % 10, t.val / 10] :=
  (by decide +kernel : ∀ t : Fin grid0.N, _)

/-- A tile's rows are rows of the array. -/
theorem row_lt (t : Fin cfg0.N) (r : Fin 832) : 832 * (t.val % 10) + r.val < 8320 := by omega

/-- A tile's columns are columns of the array. -/
theorem col_lt (t : Fin cfg0.N) (n : Fin 1024) : 1024 * (t.val / 10) + n.val < 2048 := by
  have ht : t.val < 20 := t.isLt.trans_eq N_0
  omega

/-- A row of the prompt's tile that is inside the array. -/
theorem prow_apply (c : Dev nD) (t : Fin cfg0.N) (r : Fin 832) (k : Fin 256) (h : 832 * (t.val % 10) + r.val < 8192) :
    prow m c t (ix3 (0 : Fin 1) r k) = row (m ((c : Thread nD τ).loc main_arg1)) (m ((c : Thread nD τ).loc main_arg2)) ⟨832 * (t.val % 10) + r.val, row_lt t r⟩ k := by
  unfold row
  rw [dif_pos h]
  unfold prow pfill Pipeline.Window.fill
  rw [dif_pos (pmoved t _ fun h9 => show r.val < 704 by omega)]
  unfold iblk
  refine congrArg (m ((c : Thread nD τ).loc main_arg1)) (funext fun a => Fin.ext ?_)
  have e := (idx t).2.1
  fin_cases a
  · refine (Pipeline.Window.rect_emb_val (cfg0.win 1) t _ 0 rfl).trans ?_
    rw [show (cfg0.win 1).index t = _ from e]; rfl
  · refine (Pipeline.Window.rect_emb_val (cfg0.win 1) t _ 1 rfl).trans ?_
    rw [show (cfg0.win 1).index t = _ from e]
    show t.val % 10 * 832 + r.val = 832 * (t.val % 10) + r.val
    omega
  · refine (Pipeline.Window.rect_emb_val (cfg0.win 1) t _ 2 rfl).trans ?_
    rw [show (cfg0.win 1).index t = _ from e]
    show 0 * 256 + k.val = k.val
    omega

/-- The sample's rows. -/
theorem sample_apply (c : Dev nD) (t : Fin cfg0.N) (r : Fin 128) (k : Fin 256) (r' : Fin 8320) (h : r'.val = 8192 + r.val) :
    (iblk m c 2 t : Vec Ideal S1x128x256 .f32) (ix3 (0 : Fin 1) r k)
      = row (m ((c : Thread nD τ).loc main_arg1)) (m ((c : Thread nD τ).loc main_arg2)) r' k := by
  unfold row
  rw [dif_neg (by omega)]
  have e : (⟨r'.val - 8192, by have := r'.isLt; omega⟩ : Fin 128) = r := Fin.ext (by show r'.val - 8192 = r.val; omega)
  rw [e]
  blk_ext [iblk, V, idx t]

/-- The cast gate weight of a point. -/
theorem gate_apply (c : Dev nD) (t : Fin cfg0.N) (k : Fin 2048) (n : Fin 1024) :
    gate m c t (ix2 k n) = (m ((c : Thread nD τ).loc main_arg3) : Vec Ideal S2x2048x2048 .f32) (ix3 (0 : Fin 2) k ⟨1024 * (t.val / 10) + n.val, col_lt t n⟩) := by
  unfold gate
  pointwise [k0_pay1]
  have e : (base t).val / 10 = t.val / 10 := by show t.val / 10 * 10 / 10 = t.val / 10; omega
  blk_ext [iblk, V, idx (base t), e]

/-- The cast embedding weight of a point. -/
theorem emb_apply (c : Dev nD) (t : Fin cfg0.N) (k : Fin 256) (n : Fin 1024) :
    emb m c t (ix2 k n) = (m ((c : Thread nD τ).loc main_arg4) : Vec Ideal S2x256x2048 .f32) (ix3 (0 : Fin 2) k ⟨1024 * (t.val / 10) + n.val, col_lt t n⟩) := by
  unfold emb
  pointwise [k0_pay2]
  have e : (base t).val / 10 = t.val / 10 := by show t.val / 10 * 10 / 10 = t.val / 10; omega
  blk_ext [iblk, V, idx (base t), e]

/-- A residual tile, read as numbers. -/
abbrev resid (x : Vec Ideal S832x1024 .f32) : S832x1024.Idx → EReal := x
/-- A tile of hidden rows, read as numbers. -/
abbrev hidden (x : Vec Ideal S832x2048 .bf16) : S832x2048.Idx → EReal := x

/-- The block a point writes. -/
theorem block (c : Dev nD) (t : Fin cfg0.N) (y : S832x1024.Idx) :
    (out m c t : Vec Ideal S832x1024 .f32) y
      = resid (iblk m c 5 t) y + (∑ k : Fin 256, row (m ((c : Thread nD τ).loc main_arg1)) (m ((c : Thread nD τ).loc main_arg2))
          ⟨832 * (t.val % 10) + (y 0).val, row_lt t (y 0)⟩ k * emb m c t (ix2 k (y 1)))
        * Idealize.ShloMosaic.Ideal.logistic (∑ k : Fin 2048, hidden (iblk m c 0 t) (ix2 (y 0 : Fin 832) k) * gate m c t (ix2 k (y 1))) := by
  have hy : (y 0).val < 832 := (y 0).isLt
  unfold out
  split
  · rename_i h9
    pointwise [k0_pay4]
    congr 2
    refine Finset.sum_congr rfl fun k _ => ?_
    congr 1
    split
    · rename_i h
      refine Eq.trans ?_ (prow_apply m c t (y 0) k (by have : (y 0).val < 704 := h; omega))
      unfold top
      rfl
    · rename_i h
      exact sample_apply m c t ⟨(y 0).val - 704, by have : (y 0).val < 832 := hy; omega⟩ k _ (by have : ¬ (y 0).val < 704 := h; show 832 * (t.val % 10) + (y 0).val = 8192 + ((y 0).val - 704); omega)
  · rename_i h9
    pointwise [k0_pay3]
    congr 2
    refine Finset.sum_congr rfl fun k _ => ?_
    congr 1
    exact prow_apply m c t (y 0) k (by omega)

/-- The result the kernel computes from its arguments. -/
def result (c : Dev nD) : Vec Ideal S8320x2048 .f32 :=
  ple (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The kernel's result array ends holding the result. -/
theorem final (c : Dev nD) : (dats m 0 c).arrAt 6 cfg0.N = result m c := by
  unfold result
  refine (dats m 0 c).arrAt_eq_of_covers 6 _ (by decide +kernel) fun t hf y => ?_
  rw [after6]
  refine (block m c t y).trans ?_
  have e0 : (((cfg0.win 6).blk t).view.emb y 0 : Fin 8320) = ⟨832 * (t.val % 10) + (y 0).val, row_lt t (y 0)⟩ := by
    refine Fin.ext ((Pipeline.Window.rect_emb_val (cfg0.win 6) t y 0 rfl).trans ?_)
    rw [show (cfg0.win 6).index t = _ from (idx t).2.2.2.2.2.2]
    show t.val % 10 * 832 + (y 0).val = 832 * (t.val % 10) + (y 0).val
    omega
  have e1 : (((cfg0.win 6).blk t).view.emb y 1 : Fin 2048) = ⟨1024 * (t.val / 10) + (y 1).val, col_lt t (y 1)⟩ := by
    refine Fin.ext ((Pipeline.Window.rect_emb_val (cfg0.win 6) t y 1 rfl).trans ?_)
    rw [show (cfg0.win 6).index t = _ from (idx t).2.2.2.2.2.2]
    show t.val / 10 * 1024 + (y 1).val = 1024 * (t.val / 10) + (y 1).val
    omega
  show _ = ple _ _ _ _ _ _ (((cfg0.win 6).blk t).view.emb y)
  unfold ple
  rw [e0, e1]
  refine congrArg₂ (· + ·) ?_ (congrArg₂ (· * ·) (Finset.sum_congr rfl fun k _ => ?_) (congrArg _ (Finset.sum_congr rfl fun k _ => ?_)))
  · unfold resid
    blk_point [iblk, V, idx t]
  · exact congrArg (row _ _ _ k * ·) (emb_apply m c t k (y 1))
  · refine congrArg₂ (· * ·) ?_ (gate_apply m c t k (y 1))
    unfold hidden
    blk_ext [iblk, V, idx t]

/-- The run leaves it. -/
theorem result_of {r : PUnit × MemSt nD τ sig (Elt Ideal)} (h : Pipeline.FramePost cfgs (dats m) 0 (V m) r) (c : Dev nD) :
    r.2.mem ((c.tc : Thread nD τ).loc main_v0) = result m c :=
  ((h c).1 6).trans (final m c)

end Cert.PleIdeal.Val
-- ==== Proof.PleRefValue.lean ====
/- The per-layer embedding's reference over the extended reals, entry by entry. -/
module

public import proofs.«01_k».proof.Defs
public import proofs.«01_k».proof.Proof.PleValue
public import proofs.«01_k».proof.Proof.Gen.PleRefIdeal.Run
public import Idealize.ShloMosaic.Lib.Pointwise

@[expose] public section

set_option maxRecDepth 16384

noncomputable section

open Idealize.ShloMosaic Idealize.ShloMosaic.TcCoe Idealize.SL.Sem

namespace Cert.PleRefIdeal.Val

open Cert.PleRefIdeal Cert.PleRefIdeal.Gen

/-- The reference is the residual plus the gated embedding product. -/
theorem ref_ple (e : Vec Ideal S8320x2048 .bf16) (p : Vec Ideal S2x8192x256 .f32) (s : Vec Ideal S2x128x256 .f32)
    (wg : Vec Ideal S2x2048x2048 .f32) (wp : Vec Ideal S2x256x2048 .f32) (h : Vec Ideal S8320x2048 .f32) :
    addf (F := Ideal) h (mulf (Host.dotGeneral (φ₁ := .f32) (φ₂ := .f32) dot_S8320x256_S256x2048_S8320x2048_1_0_0_1_n_n none
        (concatenate S8320x256 0
          [⟨S8192x256, shapeCast _ (extractStridedSlice S1x8192x256 ![0, 0, 0] p slices_S2x8192x256_S1x8192x256_0_0_0) shapeCasts_S1x8192x256_S8192x256⟩,
           ⟨S128x256, shapeCast _ (extractStridedSlice S1x128x256 ![0, 0, 0] s slices_S2x128x256_S1x128x256_0_0_0) shapeCasts_S1x128x256_S128x256⟩]
          concatenates_S8192x256_S128x256_S8320x256_d0)
        (shapeCast _ (extractStridedSlice S1x256x2048 ![0, 0, 0] wp slices_S2x256x2048_S1x256x2048_0_0_0) shapeCasts_S1x256x2048_S256x2048))
      (Host.divf (broadcastInDim S8320x2048 ![] bcast_S_S8320x2048 (constant S_ .f32 0x3F800000#32))
        (addf (broadcastInDim S8320x2048 ![] bcast_S_S8320x2048 (constant S_ .f32 0x3F800000#32))
          (Host.exp (Host.negf (Host.dotGeneral (φ₁ := .f32) (φ₂ := .f32) dot_S8320x2048_S2048x2048_S8320x2048_1_0_0_1_n_n none (extf .f32 e bitsLt_bf16_f32)
            (shapeCast _ (extractStridedSlice S1x2048x2048 ![0, 0, 0] wg slices_S2x2048x2048_S1x2048x2048_0_0_0) shapeCasts_S1x2048x2048_S2048x2048)))))))
      = PleIdeal.Val.ple e p s wg wp h := by
  funext i
  pointwise [PleIdeal.Val.ple, PleIdeal.Val.row]
  rfl

end Cert.PleRefIdeal.Val
-- ==== Proof.OutProjIdealFrame.lean ====
/- The output projection's kernel run: at each grid point a tile of the result is written from three tiles of rows and the
   cast weight tile, which the first point of a column tile writes. The prompt's rows end inside the last row tile. -/
module

public import proofs.«01_k».proof.Proof.Gen.OutProjIdeal.Launch
public import proofs.«01_k».proof.Proof.Gen.OutProjIdeal.Skeleton
public import proofs.«01_k».proof.Proof.Whole
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Whole

/-! ## The body -/

/-- The first 704 rows of a tile of 1024 columns; -/
def topA (x : Vec F S832x1024 .bf16) : Vec F S704x1024 .bf16 := View.ld x (Rect.unit (s := S832x1024) ![0, 0] S704x1024.size inb_S832x1024_S704x1024_0_0)
/-- of 512. -/
def topC (x : Vec F S832x512 .bf16) : Vec F S704x512 .bf16 := View.ld x (Rect.unit (s := S832x512) ![0, 0] S704x512.size inb_S832x512_S704x512_0_0)
/-- The weight's rows of the first part, -/
def partA (g : Vec F S2048x1024 .bf16) : Vec F S1024x1024 .bf16 := View.ld g (Rect.unit (s := S2048x1024) ![0, 0] S1024x1024.size inb_S2048x1024_S1024x1024_0_0)
/-- of the second -/
def partB (g : Vec F S2048x1024 .bf16) : Vec F S512x1024 .bf16 := View.ld g (Rect.unit (s := S2048x1024) ![1024, 0] S512x1024.size inb_S2048x1024_S512x1024_1024_0)
/-- and of the third. -/
def partC (g : Vec F S2048x1024 .bf16) : Vec F S512x1024 .bf16 := View.ld g (Rect.unit (s := S2048x1024) ![1536, 0] S512x1024.size inb_S2048x1024_S512x1024_1536_0)

/-- The first test: the first row tile of a column tile. -/
abbrev isFirst (i : grid0.Coords) : Prop := (Scalar.cmpi .ne (Scalar.extui (Scalar.cmpi .eq (BitVec.ofNat 32 (i 1).val) 0#32)) 0#32) = 1#1

theorem tests : ∀ t : Fin cfg0.N, (isFirst (grid0.coords t) ↔ t.val % 10 = 0) ∧ (k0_cond2 (grid0.coords t) = 1#1 ↔ t.val % 10 < 9)
    ∧ (k0_cond3 (grid0.coords t) = 1#1 ↔ t.val % 10 = 9) :=
  (by decide +kernel : ∀ t : Fin grid0.N, _)

section Body
variable (c : Dev nD) (i : grid0.Coords) (arg2 : Memref sig .tc .vmem S832x1024 .bf16) (harg2 : arg2.IsWhole)
  (arg3 : Memref sig .tc .vmem S128x1024 .f32) (harg3 : arg3.IsWhole)
  (arg4 : Memref sig .tc .vmem S832x512 .bf16) (harg4 : arg4.IsWhole)
  (arg5 : Memref sig .tc .vmem S832x512 .bf16) (harg5 : arg5.IsWhole)
  (arg6 : Memref sig .tc .vmem S128x512 .f32) (harg6 : arg6.IsWhole)
  (arg7 : Memref sig .tc .vmem S1x2048x1024 .f32) (harg7 : arg7.IsWhole)
  (arg8 : Memref sig .tc .vmem S832x1024 .f32) (harg8 : arg8.IsWhole)
  (arg9 : Memref sig .tc .vmem S832x1024 .f32) (harg9 : arg9.IsWhole)
  (arg10 : Memref sig .tc .vmem S2048x1024 .bf16) (harg10 : arg10.IsWhole)
  (x0 : Vec F S832x1024 .bf16) (x1 : Vec F S128x1024 .f32) (x2 : Vec F S832x512 .bf16) (x3 : Vec F S832x512 .bf16) (x4 : Vec F S128x512 .f32) (x5 : Vec F S1x2048x1024 .f32) (x6 : Vec F S832x1024 .f32)

/-- The block written before the last row tile. -/
def mid (g : Vec F S2048x1024 .bf16) : Vec F S832x1024 .f32 := k0_pay2 x0 x3 (partA g) x2 (partB g) (partC g) x6
/-- The last row tile's block: the rows are the 704 last prompt rows, then the sample rows. -/
def last (g : Vec F S2048x1024 .bf16) : Vec F S832x1024 .f32 := k0_pay3 x1 (topA x0) x4 (topC x3) (partA g) x2 (partB g) (partC g) x6

/-- The inputs' tiles, held. -/
abbrev held : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

set_option maxHeartbeats 1000000 in
/-- The first row tile of a column tile: the weight tile is cast, then the block is written. -/
theorem run_first (h1 : isFirst i) (h2 : k0_cond2 i = 1#1) (h3 : ¬ k0_cond3 i = 1#1) (E : Set ℕ) (K : PUnit → sProp 𝕄) :
    iprop(held c arg2 arg3 arg4 arg5 arg6 arg7 arg8 x0 x1 x2 x3 x4 x5 x6 ∗ (∃ d, owns (c : Thread nD τ) arg9 fullShare d) ∗ (∃ d, owns (c : Thread nD τ) arg10 fullShare d)
        ∗ (iprop(held c arg2 arg3 arg4 arg5 arg6 arg7 arg8 x0 x1 x2 x3 x4 x5 x6 ∗ owns (c : Thread nD τ) arg9 fullShare (mid x0 x2 x3 x6 (k0_pay1 x5)) ∗ owns (c : Thread nD τ) arg10 fullShare (k0_pay1 x5)) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10) K := by
  simp only [cc0_out_proj_eq_skeleton]; unfold cc0_out_proj_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1 | sl_exact h2 | sl_exact h3)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H9]
  · iexists _; isplitr
    swap; · iexact H9
    ipureintro
    refine (View.read_writes_full _ _ _ _ _).trans ?_
    unfold run_first.sl.v11 run_first.sl.v14 run_first.sl.v17 run_first.sl.H10_1
    simp only [full_read, part_readCov]
    rfl
  iexists _; isplitr
  swap; · iexact H10
  ipureintro
  refine (View.read_writes_full _ _ _ _ _).trans ?_
  simp only [full_read]

set_option maxHeartbeats 1000000 in
/-- A later row tile but the last. -/
theorem run_mid (h1 : ¬ isFirst i) (h2 : k0_cond2 i = 1#1) (h3 : ¬ k0_cond3 i = 1#1) (g : Vec F S2048x1024 .bf16) (E : Set ℕ) (K : PUnit → sProp 𝕄) :
    iprop(held c arg2 arg3 arg4 arg5 arg6 arg7 arg8 x0 x1 x2 x3 x4 x5 x6 ∗ (∃ d, owns (c : Thread nD τ) arg9 fullShare d) ∗ owns (c : Thread nD τ) arg10 fullShare g
        ∗ (iprop(held c arg2 arg3 arg4 arg5 arg6 arg7 arg8 x0 x1 x2 x3 x4 x5 x6 ∗ owns (c : Thread nD τ) arg9 fullShare (mid x0 x2 x3 x6 g) ∗ owns (c : Thread nD τ) arg10 fullShare g) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10) K := by
  simp only [cc0_out_proj_eq_skeleton]; unfold cc0_out_proj_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d9, %f9, -, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf10
  sl_exec (disch := first | sl_exact h1 | sl_exact h2 | sl_exact h3)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H9]
  · iexists _; isplitr
    swap; · iexact H9
    ipureintro
    refine (View.read_writes_full _ _ _ _ _).trans ?_
    simp only [full_read]
    simp only [part_read]
    rfl
  iexists _; isplitr; · ipureintro; exact harg10.read_unread _
  iexact H10

set_option maxHeartbeats 1000000 in
/-- The last row tile. -/
theorem run_last (h1 : ¬ isFirst i) (h2 : ¬ k0_cond2 i = 1#1) (h3 : k0_cond3 i = 1#1) (g : Vec F S2048x1024 .bf16) (E : Set ℕ) (K : PUnit → sProp 𝕄) :
    iprop(held c arg2 arg3 arg4 arg5 arg6 arg7 arg8 x0 x1 x2 x3 x4 x5 x6 ∗ (∃ d, owns (c : Thread nD τ) arg9 fullShare d) ∗ owns (c : Thread nD τ) arg10 fullShare g
        ∗ (iprop(held c arg2 arg3 arg4 arg5 arg6 arg7 arg8 x0 x1 x2 x3 x4 x5 x6 ∗ owns (c : Thread nD τ) arg9 fullShare (last x0 x1 x2 x3 x4 x6 g) ∗ owns (c : Thread nD τ) arg10 fullShare g) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10) K := by
  simp only [cc0_out_proj_eq_skeleton]; unfold cc0_out_proj_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d9, %f9, -, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf10
  sl_exec (disch := first | sl_exact h1 | sl_exact h2 | sl_exact h3)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H9]
  · iexists _; isplitr
    swap; · iexact H9
    ipureintro
    refine (View.read_writes_full _ _ _ _ _).trans ?_
    simp only [full_read]
    simp only [part_read]
    rfl
  iexists _; isplitr; · ipureintro; exact harg10.read_unread _
  iexact H10

end Body

/-! ## The run -/

variable (m : (ℓ : Loc nD τ sig) → Buf (Elt F) ℓ) (ρ : Dev nD → PrngReg)

/-- Core `c`'s arrays when the kernel starts. -/
abbrev V (c : Dev nD) (b : Ref sig .tc) : Buf (Elt F) ((c : Thread nD τ).loc b) := m ((c : Thread nD τ).loc b)

set_option maxHeartbeats 800000 in
/-- The program is the kernel alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The part of the first prompt tile that lies inside the array. -/
theorem size0 : ∀ t : Fin cfg0.N, ∀ a, (cfg0.win 0).xsize (grid0.coords t) a = ![if t.val % 10 = 9 then 704 else 832, 1024] a :=
  (by decide +kernel : ∀ t : Fin grid0.N, ∀ a : Fin 2, win0_0.xsize (grid0.coords t) a = ![if t.val % 10 = 9 then 704 else 832, 1024] a)

/-- A row of it is inside the array: any row, but in the last tile only the first 704. -/
theorem moved0 (t : Fin cfg0.N) (j : S832x1024.Idx) (h : t.val % 10 = 9 → (j 0).val < 704) : (cfg0.win 0).moved (grid0.coords t) j = true := by
  refine ((cfg0.win 0).moved_iff _ j).mpr fun a => ?_
  rw [size0 t a]
  fin_cases a
  · show (j 0).val < if t.val % 10 = 9 then 704 else 832
    split
    · exact h ‹_›
    · exact (j 0).isLt
  · exact (j 1).isLt

/-- The tile over earlier contents `d`; -/
def fill0 (c : Dev nD) (t : Fin cfg0.N) (d : Vec F S832x1024 .bf16) : Vec F S832x1024 .bf16 :=
  (cfg0.win 0).fill (grid0.coords t) d (iblk m c 0 t)

/-- over some. -/
def row0 (c : Dev nD) (t : Fin cfg0.N) : Vec F S832x1024 .bf16 := fill0 m c t fun _ => Classical.choice ((inferInstance : ∀ e, Nonempty (Elt F e)) .bf16)

theorem fill0_apply (c : Dev nD) (t : Fin cfg0.N) (d : Vec F S832x1024 .bf16) (j : S832x1024.Idx) (h : t.val % 10 = 9 → (j 0).val < 704) :
    fill0 m c t d j = row0 m c t j := by
  unfold row0 fill0 Window.fill
  rw [dif_pos (moved0 t j h), dif_pos (moved0 t j h)]

/-- Before the last tile the rows are all inside the array. -/
theorem fill0_mid (c : Dev nD) (t : Fin cfg0.N) (d : Vec F S832x1024 .bf16) (h : t.val % 10 ≠ 9) : fill0 m c t d = row0 m c t :=
  funext fun j => fill0_apply m c t d j fun h' => absurd h' h

/-- In any tile the first 704 rows are. -/
theorem fill0_top (c : Dev nD) (t : Fin cfg0.N) (d : Vec F S832x1024 .bf16) : topA (fill0 m c t d) = topA (row0 m c t) :=
  funext fun j => fill0_apply m c t d _ fun _ => by
    have : (j 0).val < 704 := (j 0).isLt
    show 0 + 1 * (j 0).val < 704
    omega

/-- The part of the third prompt tile that lies inside the array. -/
theorem size3 : ∀ t : Fin cfg0.N, ∀ a, (cfg0.win 3).xsize (grid0.coords t) a = ![if t.val % 10 = 9 then 704 else 832, 512] a :=
  (by decide +kernel : ∀ t : Fin grid0.N, ∀ a : Fin 2, win0_3.xsize (grid0.coords t) a = ![if t.val % 10 = 9 then 704 else 832, 512] a)

/-- A row of it is inside the array: any row, but in the last tile only the first 704. -/
theorem moved3 (t : Fin cfg0.N) (j : S832x512.Idx) (h : t.val % 10 = 9 → (j 0).val < 704) : (cfg0.win 3).moved (grid0.coords t) j = true := by
  refine ((cfg0.win 3).moved_iff _ j).mpr fun a => ?_
  rw [size3 t a]
  fin_cases a
  · show (j 0).val < if t.val % 10 = 9 then 704 else 832
    split
    · exact h ‹_›
    · exact (j 0).isLt
  · exact (j 1).isLt

/-- The tile over earlier contents `d`; -/
def fill3 (c : Dev nD) (t : Fin cfg0.N) (d : Vec F S832x512 .bf16) : Vec F S832x512 .bf16 :=
  (cfg0.win 3).fill (grid0.coords t) d (iblk m c 3 t)

/-- over some. -/
def row3 (c : Dev nD) (t : Fin cfg0.N) : Vec F S832x512 .bf16 := fill3 m c t fun _ => Classical.choice ((inferInstance : ∀ e, Nonempty (Elt F e)) .bf16)

theorem fill3_apply (c : Dev nD) (t : Fin cfg0.N) (d : Vec F S832x512 .bf16) (j : S832x512.Idx) (h : t.val % 10 = 9 → (j 0).val < 704) :
    fill3 m c t d j = row3 m c t j := by
  unfold row3 fill3 Window.fill
  rw [dif_pos (moved3 t j h), dif_pos (moved3 t j h)]

/-- Before the last tile the rows are all inside the array. -/
theorem fill3_mid (c : Dev nD) (t : Fin cfg0.N) (d : Vec F S832x512 .bf16) (h : t.val % 10 ≠ 9) : fill3 m c t d = row3 m c t :=
  funext fun j => fill3_apply m c t d j fun h' => absurd h' h

/-- In any tile the first 704 rows are. -/
theorem fill3_top (c : Dev nD) (t : Fin cfg0.N) (d : Vec F S832x512 .bf16) : topC (fill3 m c t d) = topC (row3 m c t) :=
  funext fun j => fill3_apply m c t d _ fun _ => by
    have : (j 0).val < 704 := (j 0).isLt
    show 0 + 1 * (j 0).val < 704
    omega

/-- The first point of a point's column tile. -/
def base (t : Fin cfg0.N) : Fin cfg0.N := ⟨t.val / 10 * 10, lt_of_le_of_lt (Nat.div_mul_le_self _ _) t.isLt⟩

/-- The cast weight of a column tile. -/
def weight (c : Dev nD) (t : Fin cfg0.N) : Vec F S2048x1024 .bf16 := k0_pay1 (iblk m c 5 (base t))

/-- The block written at a point. -/
def out (c : Dev nD) (t : Fin cfg0.N) : Vec F S832x1024 .f32 :=
  if t.val % 10 = 9 then last (row0 m c t) (iblk m c 1 t) (iblk m c 2 t) (row3 m c t) (iblk m c 4 t) (iblk m c 6 t) (weight m c t)
  else mid (row0 m c t) (iblk m c 2 t) (row3 m c t) (iblk m c 6 t) (weight m c t)

theorem base_first (t : Fin cfg0.N) (h : t.val % 10 = 0) : base t = t := Fin.ext (show t.val / 10 * 10 = t.val by omega)
theorem base_pred (t : Fin cfg0.N) (h : t.val % 10 ≠ 0) (h' : t.val - 1 < cfg0.N) : base ⟨t.val - 1, h'⟩ = base t :=
  Fin.ext (show (t.val - 1) / 10 * 10 = t.val / 10 * 10 by omega)

/-- The cast tile between points. -/
def cast (c : Dev nD) (t : Fin cfg0.N) : sProp 𝕄 :=
  owns (c : Thread nD τ) (Memref.whole cc0_scratch0 : Memref sig .tc .vmem S2048x1024 .bf16) fullShare (weight m c t)

/-- The state before position `n`: anything at the start, then the cast tile of the point before. -/
def Phi (c : Dev nD) : (n : ℕ) → n ≤ cfg0.N → sProp 𝕄
  | 0, _ => Pipeline.ΦA spec0 c
  | n + 1, hn => iprop(cast m c ⟨n, hn⟩ ∗ (∃ r, prngReg c r))

theorem PhiA_eq (c : Dev nD) :
    (Pipeline.ΦA spec0 c : sProp 𝕄) = iprop((∃ d, owns (c : Thread nD τ) (Memref.whole cc0_scratch0 : Memref sig .tc .vmem S2048x1024 .bf16) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(cast m c ⟨n - 1, by omega⟩ ∗ (∃ r, prngReg c r)) := by
  cases n with
  | zero => exact absurd rfl hz
  | succ n => rfl

/-- At any point the cast buffers hold something. -/
theorem Phi_any (c : Dev nD) (n : ℕ) (h : n ≤ cfg0.N) : Phi m c n h ⊢ Pipeline.ΦA spec0 c := by
  cases n with
  | zero => exact Idealize.SL.BI.Entails.refl _
  | succ n =>
    rw [PhiA_eq]
    unfold Phi cast
    iintro ⟨HS, Hg⟩
    isplitl [HS]
    · iexists _; iexact HS
    iexact Hg

/-- The proof data: what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => row0 m c t
    | ⟨1, _⟩ => iblk m c 1 t
    | ⟨2, _⟩ => iblk m c 2 t
    | ⟨3, _⟩ => row3 m c t
    | ⟨4, _⟩ => iblk m c 4 t
    | ⟨5, _⟩ => iblk m c 5 t
    | ⟨6, _⟩ => iblk m c 6 t
    | ⟨7, _⟩ => out m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = row0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = row3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out m c t := by dsimp only [dats]

theorem before1 (c : Dev nD) (t : Fin cfg0.N) (d) : (dats m 0 c).before 1 t d = iblk m c 1 t :=
  ((dats m 0 c).before_in_eq_fetched 1 rfl (fun _ => rfl) (fun _ _ _ => rfl) (fun t => by rw [after1]; rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; rfl) t d).trans rfl
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; rfl) t d).trans rfl

/-- Points with one block index end alike. -/
theorem clip0 : ∀ t t' : Fin cfg0.N, (cfg0.win 0).index t = (cfg0.win 0).index t' →
    (cfg0.win 0).clip (cfg0.grid.coords t) = (cfg0.win 0).clip (cfg0.grid.coords t') := fun t t' h => by
  funext a
  exact congrFun (congrArg (fun ix : Fin 2 → ℕ => fun a => Pipeline.Clip.of (ix a) (S832x1024.size a) (S8192x1024.size a)) h) a

theorem before0 (c : Dev nD) (t : Fin cfg0.N) (d) : (dats m 0 c).before 0 t d = fill0 m c t d :=
  ((dats m 0 c).before_in_eq_fetched 0 rfl (fun _ => rfl) clip0 (fun t => by
    rw [after0]; unfold row0 fill0; exact (cfg0.win 0).cut_fill _ _ _) t d).trans rfl

theorem clip3 : ∀ t t' : Fin cfg0.N, (cfg0.win 3).index t = (cfg0.win 3).index t' →
    (cfg0.win 3).clip (cfg0.grid.coords t) = (cfg0.win 3).clip (cfg0.grid.coords t') := fun t t' h => by
  funext a
  exact congrFun (congrArg (fun ix : Fin 2 → ℕ => fun a => Pipeline.Clip.of (ix a) (S832x512.size a) (S8192x512.size a)) h) a

theorem before3 (c : Dev nD) (t : Fin cfg0.N) (d) : (dats m 0 c).before 3 t d = fill3 m c t d :=
  ((dats m 0 c).before_in_eq_fetched 3 rfl (fun _ => rfl) clip3 (fun t => by
    rw [after3]; unfold row3 fill3; exact (cfg0.win 3).cut_fill _ _ _) t d).trans rfl

/-- The result's window is written at every point. -/
theorem live7 : ∀ t : Fin cfg0.N, cfg0.idle 7 (cfg0.grid.coords t) = false :=
  (by decide +kernel : ∀ t : Fin grid0.N, idle0 7 (grid0.coords t) = false)

/-- The kernel body at a point. -/
abbrev bodyAt (t : Fin cfg0.N) : Prog (TpuEff nD τ sig (Elt F) Λ₀ .tc) PUnit :=
  cc0_out_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _)

/-- The inputs' buffers at a point, the prompt's over earlier contents. -/
def tiles (c : Dev nD) (t : Fin cfg0.N) (d0 : Vec F S832x1024 .bf16) (d3 : Vec F S832x512 .bf16) : sProp 𝕄 :=
  held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6))
    (fill0 m c t d0) (iblk m c 1 t) (iblk m c 2 t) (fill3 m c t d3) (iblk m c 4 t) (iblk m c 5 t) (iblk m c 6 t)

set_option maxHeartbeats 1600000 in
/-- The body at any point. -/
theorem body_run (c : Dev nD) (t : Fin cfg0.N) (d0 : Vec F S832x1024 .bf16) (d3 : Vec F S832x512 .bf16) (K : PUnit → sProp 𝕄) :
    iprop(Phi m c t.val (Nat.le_of_lt t.isLt) ∗ tiles m c t d0 d3 ∗ (∃ d, owns (c : Thread nD τ) (win0_7.stage (cfg0.slots t 7)) fullShare d)
        ∗ (iprop(Phi m c (t.val + 1) t.isLt ∗ tiles m c t d0 d3 ∗ owns (c : Thread nD τ) (win0_7.stage (cfg0.slots t 7)) fullShare (out m c t)) -∗ K ⟨⟩))
      ⊢ wp frame (wpE (defs₀ (F := F)) Variants.none c none) Set.univ (bodyAt t) K := by
  obtain ⟨e1, e2, e3⟩ := tests t
  have hmid : ∀ h9 : t.val % 10 ≠ 9, out m c t = mid (fill0 m c t d0) (iblk m c 2 t) (fill3 m c t d3) (iblk m c 6 t) (weight m c t) := fun h9 => by
    unfold out; rw [if_neg h9, fill0_mid m c t d0 h9, fill3_mid m c t d3 h9]
  by_cases h1 : t.val % 10 = 0
  · have hw : weight m c t = k0_pay1 (iblk m c 5 t) := by unfold weight; rw [base_first t h1]
    refine (BIBase.Entails.trans (Laws.sep_mono_left (Phi_any m c _ _)) ?_)
    rw [PhiA_eq, show Phi m c (t.val + 1) t.isLt = iprop(cast m c t ∗ (∃ r, prngReg c r)) from rfl]
    unfold tiles cast
    rw [hmid (by omega), hw]
    iintro ⟨⟨HS, Hg⟩, Ht, H7, Hk⟩
    iapply (run_first c (grid0.coords t) _ _ _ _ _ _ _ _ _ _ _ _ _ _ _ _ _ _ _ _ _ _ _ _ _ (e1.2 h1) (e2.2 (by omega)) (fun h => by have := e3.1 h; omega) Set.univ _)
    isplitl [Ht]; · iexact Ht
    isplitl [H7]; · iexact H7
    isplitl [HS]; · iexact HS
    iintro ⟨Ht, H7, HS⟩
    iapply Hk
    isplitl [HS Hg]
    · isplitl [HS]; · iexact HS
      iexact Hg
    isplitl [Ht]; · iexact Ht
    iexact H7
  · have hc : (cast m c ⟨t.val - 1, by omega⟩ : sProp 𝕄) = cast m c t := by
      unfold cast weight; rw [base_pred t h1 (by omega)]
    rw [Phi_pos m c _ _ (by omega), hc, show Phi m c (t.val + 1) t.isLt = iprop(cast m c t ∗ (∃ r, prngReg c r)) from rfl]
    unfold tiles cast
    by_cases h9 : t.val % 10 = 9
    · have hout : out m c t = last (fill0 m c t d0) (iblk m c 1 t) (iblk m c 2 t) (fill3 m c t d3) (iblk m c 4 t) (iblk m c 6 t) (weight m c t) := by
        unfold out last; rw [if_pos h9, fill0_top m c t d0, fill3_top m c t d3]
      rw [hout]
      iintro ⟨⟨HS, Hg⟩, Ht, H7, Hk⟩
      iapply (run_last c (grid0.coords t) _ _ _ _ _ _ _ _ _ _ _ _ _ _ _ _ _ _ _ _ _ _ _ _ _ (fun h => h1 (e1.1 h)) (fun h => by have := e2.1 h; omega) (e3.2 h9) _ Set.univ _)
      isplitl [Ht]; · iexact Ht
      isplitl [H7]; · iexact H7
      isplitl [HS]; · iexact HS
      iintro ⟨Ht, H7, HS⟩
      iapply Hk
      isplitl [HS Hg]
      · isplitl [HS]; · iexact HS
        iexact Hg
      isplitl [Ht]; · iexact Ht
      iexact H7
    · rw [hmid h9]
      iintro ⟨⟨HS, Hg⟩, Ht, H7, Hk⟩
      iapply (run_mid c (grid0.coords t) _ _ _ _ _ _ _ _ _ _ _ _ _ _ _ _ _ _ _ _ _ _ _ _ _ (fun h => h1 (e1.1 h)) (e2.2 (by omega)) (fun h => h9 (e3.1 h)) _ Set.univ _)
      isplitl [Ht]; · iexact Ht
      isplitl [H7]; · iexact H7
      isplitl [HS]; · iexact HS
      iintro ⟨Ht, H7, HS⟩
      iapply Hk
      isplitl [HS Hg]
      · isplitl [HS]; · iexact HS
        iexact Hg
      isplitl [Ht]; · iexact Ht
      iexact H7

theorem defs₀_row (t : Fin cfg0.N) : defs₀ (F := F) .tc cfg0.body (cfg0.bodyArgs t (cfg0.slots t)) = bodyAt t := by
  unfold defs₀; rw [Defs.onTc_tc]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it returns: the prompt's buffers only on the parts inside the arrays. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare
        ((cfg0.win 0).fill (cfg0.grid.coords t) d ((cfg0.win 0).cut (cfg0.grid.coords t) ((dats m 0 c).after 0 t))))
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, owns (c : Thread nD τ) (win0_3.stage (cfg0.slots t 3)) fullShare
        ((cfg0.win 3).fill (cfg0.grid.coords t) d ((cfg0.win 3).cut (cfg0.grid.coords t) ((dats m 0 c).after 3 t))))
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

theorem sound_body (c : Dev nD) (t : Fin cfg0.N) :
    bodyPre m c t ⊢ wp frame (wpE (defs₀ (F := F)) Variants.none c none) Set.univ (bodyAt t) (fun _ => bodyPost m c t) := by
  have hcut0 : ∀ d : Vec F S832x1024 .bf16, (cfg0.win 0).fill (cfg0.grid.coords t) d ((cfg0.win 0).cut (cfg0.grid.coords t) ((dats m 0 c).after 0 t)) = fill0 m c t d := fun d => by
    rw [after0]; unfold row0 fill0; exact congrArg _ ((cfg0.win 0).cut_fill _ _ _)
  have hcut3 : ∀ d : Vec F S832x512 .bf16, (cfg0.win 3).fill (cfg0.grid.coords t) d ((cfg0.win 3).cut (cfg0.grid.coords t) ((dats m 0 c).after 3 t)) = fill3 m c t d := fun d => by
    rw [after3]; unfold row3 fill3; exact congrArg _ ((cfg0.win 3).cut_fill _ _ _)
  unfold bodyPre bodyPost
  simp only [hcut0, hcut3, before0, before1, before2, before3, before4, before5, before6]
  rw [show (dats m 0 c).owesAt () t.succ = (dats m 0 c).owesAt () t.castSucc from rfl,
    after1, after2, after4, after5, after6, after7, Phi_castSucc,
    show (dats m 0 c).Φ t.succ = Phi m c (t.val + 1) t.isLt from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run m c t d0 d3 _)
  unfold tiles held
  isplitl [HP]; · iexact HP
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨HP, ⟨H0, H1, H2, H3, H4, H5, H6⟩, H7⟩
  isplitl [HP]; · iexact HP
  isplitl [Ho]; · iexact Ho
  isplitl [H0]; · iexists d0; iexact H0
  isplitl [H1]; · iexact H1
  isplitl [H2]; · iexact H2
  isplitl [H3]; · iexists d3; iexact H3
  isplitl [H4]; · iexact H4
  isplitl [H5]; · iexact H5
  isplitl [H6]; · iexact H6
  iexact H7

theorem body_obligation (c : Dev nD) : BodyObligationLoose (dats (F := F) m 0 c) (defs₀ (F := F)) Variants.none () Set.univ := fun t => by
  rw [bigSep_W0, bigSep_W0, defs₀_row]
  refine triple_restated (sound_body m c t) rfl .rfl fun _ => ?_
  rw [live7 t]
  exact .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl]
  exact Phi_any m c _ _

set_option backward.isDefEq.respectTransparency.types false in
/-- The program's run: every array ends at what the proof data says, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- A run that ends as the pipeline says leaves the arguments as they were. -/
theorem kept_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have e : ∀ w : Fin cfg0.W, (cfg0.win w).isOut = false → r.2.mem _ = V m c (Pipeline.arrRef spec0 w) := fun w hw =>
    ((h c).1 w).trans (((dats m 0 c).arrAt_in w hw _).trans (A_eq m c w))
  ⟨e 0 rfl, e 1 rfl, e 2 rfl, e 3 rfl, e 4 rfl, e 5 rfl, e 6 rfl⟩

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨kept_of m h.1, h.2⟩) (run_main m ρ)

end Cert.OutProjIdeal.Hand

end
-- ==== Proof.OutProjValue.lean ====
/- The output projection's kernel over the extended reals: its result array, entry by entry. -/
module

public import proofs.«01_k».proof.Defs
public import proofs.«01_k».proof.Proof.OutProjIdealFrame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Val

open Cert.OutProjIdeal Cert.OutProjIdeal.Gen Cert.OutProjIdeal.Hand

variable (m : (ℓ : Loc nD τ sig) → Buf (Elt Ideal) ℓ)

/-- A mixer's rows: the prompt's 8192, then the sample's 128. -/
def row {n : ℕ} (p : Vec Ideal ⟨2, ![8192, n]⟩ .bf16) (s : Vec Ideal ⟨2, ![128, n]⟩ .f32) (r : Fin 8320) (k : Fin n) : EReal :=
  if h : r.val < 8192 then p (ix2 (⟨r.val, h⟩ : Fin 8192) k)
  else s (ix2 (⟨r.val - 8192, by have := r.isLt; omega⟩ : Fin 128) k)

/-- The three mixers' columns, side by side. -/
def cat (p1 : Vec Ideal S8192x1024 .bf16) (s1 : Vec Ideal S128x1024 .f32) (y : Vec Ideal S8320x512 .bf16)
    (p3 : Vec Ideal S8192x512 .bf16) (s3 : Vec Ideal S128x512 .f32) (r : Fin 8320) (k : Fin 2048) : EReal :=
  if h : k.val < 1024 then row p1 s1 r (⟨k.val, h⟩ : Fin 1024)
  else if h' : k.val - 1024 < 512 then y (ix2 r (⟨k.val - 1024, h'⟩ : Fin 512))
  else row p3 s3 r (⟨k.val - 1024 - 512, by have := k.isLt; omega⟩ : Fin 512)

/-- The result: the residual plus the product of the mixers' columns. -/
def mix (p1 : Vec Ideal S8192x1024 .bf16) (s1 : Vec Ideal S128x1024 .f32) (y : Vec Ideal S8320x512 .bf16)
    (p3 : Vec Ideal S8192x512 .bf16) (s3 : Vec Ideal S128x512 .f32) (w : Vec Ideal S2x2048x2048 .f32)
    (h : Vec Ideal S8320x2048 .f32) : Vec Ideal S8320x2048 .f32 := fun i =>
  h i + ∑ k : Fin 2048, cat p1 s1 y p3 s3 (i 0) k * w (ix3 (0 : Fin 2) k (i 1))

/-- A sum over the columns, mixer by mixer. -/
theorem sum_parts (f : Fin 2048 → EReal) : ∑ k, f k
    = (∑ k : Fin 1024, f ⟨k.val, by omega⟩ + ∑ k : Fin 512, f ⟨1024 + k.val, by omega⟩) + ∑ k : Fin 512, f ⟨1536 + k.val, by omega⟩ :=
  (Fin.sum_univ_add (a := 1536) (b := 512) f).trans
    (congrArg (· + _) (Fin.sum_univ_add (a := 1024) (b := 512) fun k => f (Fin.castAdd 512 k)))

/-- Where each window's block lies at a point. -/
theorem idx : ∀ t : Fin cfg0.N,
    win0_0.index t = ![t.val % 10, 0] ∧ win0_1.index t = ![0, 0] ∧ win0_2.index t = ![t.val % 10, 0] ∧
      win0_3.index t = ![t.val % 10, 0] ∧ win0_4.index t = ![0, 0] ∧ win0_5.index t = ![0, 0, t.val / 10] ∧
      win0_6.index t = ![t.val % 10, t.val / 10] ∧ win0_7.index t = ![t.val % 10, t.val / 10] :=
  (by decide +kernel : ∀ t : Fin grid0.N, _)

/-- A tile's rows are rows of the array. -/
theorem row_lt (t : Fin cfg0.N) (r : Fin 832) : 832 * (t.val % 10) + r.val < 8320 := by omega

/-- A tile's columns are columns of the array. -/
theorem col_lt (t : Fin cfg0.N) (n : Fin 1024) : 1024 * (t.val / 10) + n.val < 2048 := by
  have ht : t.val < 20 := t.isLt.trans_eq N_0
  omega

/-- A row of the first prompt tile that is inside the array; -/
theorem row0_apply (c : Dev nD) (t : Fin cfg0.N) (r : Fin 832) (k : Fin 1024) (h : 832 * (t.val % 10) + r.val < 8192) :
    row0 m c t (ix2 r k) = row (m ((c : Thread nD τ).loc main_arg0)) (m ((c : Thread nD τ).loc main_arg1)) ⟨832 * (t.val % 10) + r.val, row_lt t r⟩ k := by
  unfold row
  rw [dif_pos h]
  unfold row0 fill0 Pipeline.Window.fill
  rw [dif_pos (moved0 t _ fun h9 => show r.val < 704 by omega)]
  unfold iblk
  refine congrArg (m ((c : Thread nD τ).loc main_arg0)) (funext fun a => Fin.ext ?_)
  fin_cases a
  · refine (Pipeline.Window.rect_emb_val (cfg0.win 0) t _ 0 rfl).trans ?_
    rw [show (cfg0.win 0).index t = _ from (idx t).1]
    show t.val % 10 * 832 + r.val = 832 * (t.val % 10) + r.val
    omega
  · refine (Pipeline.Window.rect_emb_val (cfg0.win 0) t _ 1 rfl).trans ?_
    rw [show (cfg0.win 0).index t = _ from (idx t).1]
    show 0 * 1024 + k.val = k.val
    omega

/-- of the third. -/
theorem row3_apply (c : Dev nD) (t : Fin cfg0.N) (r : Fin 832) (k : Fin 512) (h : 832 * (t.val % 10) + r.val < 8192) :
    row3 m c t (ix2 r k) = row (m ((c : Thread nD τ).loc main_arg3)) (m ((c : Thread nD τ).loc main_arg4)) ⟨832 * (t.val % 10) + r.val, row_lt t r⟩ k := by
  unfold row
  rw [dif_pos h]
  unfold row3 fill3 Pipeline.Window.fill
  rw [dif_pos (moved3 t _ fun h9 => show r.val < 704 by omega)]
  unfold iblk
  refine congrArg (m ((c : Thread nD τ).loc main_arg3)) (funext fun a => Fin.ext ?_)
  fin_cases a
  · refine (Pipeline.Window.rect_emb_val (cfg0.win 3) t _ 0 rfl).trans ?_
    rw [show (cfg0.win 3).index t = _ from (idx t).2.2.2.1]
    show t.val % 10 * 832 + r.val = 832 * (t.val % 10) + r.val
    omega
  · refine (Pipeline.Window.rect_emb_val (cfg0.win 3) t _ 1 rfl).trans ?_
    rw [show (cfg0.win 3).index t = _ from (idx t).2.2.2.1]
    show 0 * 512 + k.val = k.val
    omega

/-- A row past the prompt's is the sample's. -/
theorem row_sample {n : ℕ} (p : Vec Ideal ⟨2, ![8192, n]⟩ .bf16) (s : Vec Ideal ⟨2, ![128, n]⟩ .f32) (r : Fin 128) (k : Fin n)
    (r' : Fin 8320) (h : r'.val = 8192 + r.val) : row p s r' k = s (ix2 r k) := by
  unfold row
  rw [dif_neg (by omega)]
  exact congrArg (fun z : Fin 128 => s (ix2 z k)) (Fin.ext (by show r'.val - 8192 = r.val; omega))

/-- The cast weight of a point. -/
theorem weight_apply (c : Dev nD) (t : Fin cfg0.N) (k : Fin 2048) (n : Fin 1024) :
    weight m c t (ix2 k n) = (m ((c : Thread nD τ).loc main_arg5) : Vec Ideal S2x2048x2048 .f32) (ix3 (0 : Fin 2) k ⟨1024 * (t.val / 10) + n.val, col_lt t n⟩) := by
  unfold weight
  pointwise [k0_pay1]
  have e : (base t).val / 10 = t.val / 10 := by show t.val / 10 * 10 / 10 = t.val / 10; omega
  blk_ext [iblk, V, idx (base t), e]

/-- The first part's rows in the cast weight, -/
theorem partA_apply (g : Vec Ideal S2048x1024 .bf16) (k n : Fin 1024) : partA g (ix2 k n) = g (ix2 (⟨k.val, by omega⟩ : Fin 2048) n) := by
  refine congrArg g (funext fun a => Fin.ext ?_)
  fin_cases a
  · show 0 + 1 * k.val = k.val
    omega
  · show 0 + 1 * n.val = n.val
    omega

/-- the second's -/
theorem partB_apply (g : Vec Ideal S2048x1024 .bf16) (k : Fin 512) (n : Fin 1024) : partB g (ix2 k n) = g (ix2 (⟨1024 + k.val, by omega⟩ : Fin 2048) n) := by
  refine congrArg g (funext fun a => Fin.ext ?_)
  fin_cases a
  · show 1024 + 1 * k.val = 1024 + k.val
    omega
  · show 0 + 1 * n.val = n.val
    omega

/-- and the third's. -/
theorem partC_apply (g : Vec Ideal S2048x1024 .bf16) (k : Fin 512) (n : Fin 1024) : partC g (ix2 k n) = g (ix2 (⟨1536 + k.val, by omega⟩ : Fin 2048) n) := by
  refine congrArg g (funext fun a => Fin.ext ?_)
  fin_cases a
  · show 1536 + 1 * k.val = 1536 + k.val
    omega
  · show 0 + 1 * n.val = n.val
    omega

/-- A tile of the second mixer's rows, read as numbers. -/
abbrev second (x : Vec Ideal S832x512 .bf16) : S832x512.Idx → EReal := x
/-- A residual tile, read as numbers. -/
abbrev resid (x : Vec Ideal S832x1024 .f32) : S832x1024.Idx → EReal := x

/-- The block a point writes. -/
theorem block (c : Dev nD) (t : Fin cfg0.N) (y : S832x1024.Idx) :
    (out m c t : Vec Ideal S832x1024 .f32) y
      = resid (iblk m c 6 t) y + ((∑ k : Fin 1024, row (m ((c : Thread nD τ).loc main_arg0)) (m ((c : Thread nD τ).loc main_arg1))
            ⟨832 * (t.val % 10) + (y 0).val, row_lt t (y 0)⟩ k * partA (weight m c t) (ix2 k (y 1))
          + ∑ k : Fin 512, second (iblk m c 2 t) (ix2 (y 0 : Fin 832) k) * partB (weight m c t) (ix2 k (y 1)))
        + ∑ k : Fin 512, row (m ((c : Thread nD τ).loc main_arg3)) (m ((c : Thread nD τ).loc main_arg4))
            ⟨832 * (t.val % 10) + (y 0).val, row_lt t (y 0)⟩ k * partC (weight m c t) (ix2 k (y 1))) := by
  have hy : (y 0).val < 832 := (y 0).isLt
  unfold out
  split
  · rename_i h9
    unfold last
    pointwise [k0_pay3]
    refine congrArg₂ (· + ·) rfl (congrArg₂ (· + ·) (congrArg₂ (· + ·) (Finset.sum_congr rfl fun k _ => congrArg (· * _) ?_) rfl)
      (Finset.sum_congr rfl fun k _ => congrArg (· * _) ?_))
    · split
      · rename_i h
        refine Eq.trans ?_ (row0_apply m c t (y 0) k (by have : (y 0).val < 704 := h; omega))
        refine congrArg (row0 m c t) (funext fun a => Fin.ext ?_)
        fin_cases a
        · show 0 + 1 * (y 0).val = (y 0).val
          omega
        · show 0 + 1 * k.val = k.val
          omega
      · rename_i h
        have h' : ¬ (y 0).val < 704 := h
        refine Eq.trans ?_ (row_sample _ _ (⟨(y 0).val - 704, by omega⟩ : Fin 128) k _ (by show 832 * (t.val % 10) + (y 0).val = 8192 + ((y 0).val - 704); omega)).symm
        blk_ext [iblk, V, idx t]
    · split
      · rename_i h
        refine Eq.trans ?_ (row3_apply m c t (y 0) k (by have : (y 0).val < 704 := h; omega))
        refine congrArg (row3 m c t) (funext fun a => Fin.ext ?_)
        fin_cases a
        · show 0 + 1 * (y 0).val = (y 0).val
          omega
        · show 0 + 1 * k.val = k.val
          omega
      · rename_i h
        have h' : ¬ (y 0).val < 704 := h
        refine Eq.trans ?_ (row_sample _ _ (⟨(y 0).val - 704, by omega⟩ : Fin 128) k _ (by show 832 * (t.val % 10) + (y 0).val = 8192 + ((y 0).val - 704); omega)).symm
        blk_ext [iblk, V, idx t]
  · rename_i h9
    unfold mid
    pointwise [k0_pay2]
    exact congrArg₂ (· + ·) rfl (congrArg₂ (· + ·) (congrArg₂ (· + ·) (Finset.sum_congr rfl fun k _ => congrArg (· * _) (row0_apply m c t (y 0) k (by omega))) rfl)
      (Finset.sum_congr rfl fun k _ => congrArg (· * _) (row3_apply m c t (y 0) k (by omega))))

/-- The result the kernel computes from its arguments. -/
def result (c : Dev nD) : Vec Ideal S8320x2048 .f32 :=
  mix (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The kernel's result array ends holding the result. -/
theorem final (c : Dev nD) : (dats m 0 c).arrAt 7 cfg0.N = result m c := by
  unfold result
  refine (dats m 0 c).arrAt_eq_of_covers 7 _ (by decide +kernel) fun t hf y => ?_
  rw [after7]
  refine (block m c t y).trans ?_
  have e0 : (((cfg0.win 7).blk t).view.emb y 0 : Fin 8320) = ⟨832 * (t.val % 10) + (y 0).val, row_lt t (y 0)⟩ := by
    refine Fin.ext ((Pipeline.Window.rect_emb_val (cfg0.win 7) t y 0 rfl).trans ?_)
    rw [show (cfg0.win 7).index t = _ from (idx t).2.2.2.2.2.2.2]
    show t.val % 10 * 832 + (y 0).val = 832 * (t.val % 10) + (y 0).val
    omega
  have e1 : (((cfg0.win 7).blk t).view.emb y 1 : Fin 2048) = ⟨1024 * (t.val / 10) + (y 1).val, col_lt t (y 1)⟩ := by
    refine Fin.ext ((Pipeline.Window.rect_emb_val (cfg0.win 7) t y 1 rfl).trans ?_)
    rw [show (cfg0.win 7).index t = _ from (idx t).2.2.2.2.2.2.2]
    show t.val / 10 * 1024 + (y 1).val = 1024 * (t.val / 10) + (y 1).val
    omega
  show _ = mix _ _ _ _ _ _ _ (((cfg0.win 7).blk t).view.emb y)
  unfold mix
  rw [e0, e1, sum_parts]
  refine congrArg₂ (· + ·) ?_ (congrArg₂ (· + ·) (congrArg₂ (· + ·) (Finset.sum_congr rfl fun k _ => congrArg₂ (· * ·) ?_ ?_)
    (Finset.sum_congr rfl fun k _ => congrArg₂ (· * ·) ?_ ?_)) (Finset.sum_congr rfl fun k _ => congrArg₂ (· * ·) ?_ ?_))
  · unfold resid
    blk_point [iblk, V, idx t]
  · unfold cat
    rw [dif_pos (show k.val < 1024 from k.isLt)]
    rfl
  · exact (partA_apply _ k (y 1)).trans (weight_apply m c t _ (y 1))
  · have hk : 1024 + k.val - 1024 = k.val := by omega
    unfold cat second
    rw [dif_neg (show ¬ 1024 + k.val < 1024 by omega), dif_pos (show 1024 + k.val - 1024 < 512 by omega)]
    simp only [hk]
    blk_ext [iblk, V, idx t]
  · exact (partB_apply _ k (y 1)).trans (weight_apply m c t _ (y 1))
  · have hk : 1536 + k.val - 1024 - 512 = k.val := by omega
    unfold cat
    rw [dif_neg (show ¬ 1536 + k.val < 1024 by omega), dif_neg (show ¬ 1536 + k.val - 1024 < 512 by omega)]
    simp only [hk]
    rfl
  · exact (partC_apply _ k (y 1)).trans (weight_apply m c t _ (y 1))

/-- The run leaves it. -/
theorem result_of {r : PUnit × MemSt nD τ sig (Elt Ideal)} (h : Pipeline.FramePost cfgs (dats m) 0 (V m) r) (c : Dev nD) :
    r.2.mem ((c.tc : Thread nD τ).loc main_v0) = result m c :=
  ((h c).1 7).trans (final m c)

end Cert.OutProjIdeal.Val
-- ==== Proof.OutProjRefValue.lean ====
/- The output projection's reference over the extended reals, entry by entry. -/
module

public import proofs.«01_k».proof.Defs
public import proofs.«01_k».proof.Proof.OutProjValue
public import proofs.«01_k».proof.Proof.Gen.OutProjRefIdeal.Run
public import Idealize.ShloMosaic.Lib.Pointwise

@[expose] public section

set_option maxRecDepth 16384

noncomputable section

open Idealize.ShloMosaic Idealize.ShloMosaic.TcCoe Idealize.SL.Sem

namespace Cert.OutProjRefIdeal.Val

open Cert.OutProjRefIdeal Cert.OutProjRefIdeal.Gen

/-- The reference is the residual plus the product of the mixers' columns. -/
theorem ref_mix (p1 : Vec Ideal S8192x1024 .bf16) (s1 : Vec Ideal S128x1024 .f32) (y : Vec Ideal S8320x512 .bf16)
    (p3 : Vec Ideal S8192x512 .bf16) (s3 : Vec Ideal S128x512 .f32) (w : Vec Ideal S2x2048x2048 .f32) (h : Vec Ideal S8320x2048 .f32) :
    addf (F := Ideal) h (Host.dotGeneral (φ₁ := .f32) (φ₂ := .f32) dot_S8320x2048_S2048x2048_S8320x2048_1_0_0_1_n_n none
        (concatenate S8320x2048 1
          [⟨S8320x1024, concatenate S8320x1024 0 [⟨S8192x1024, extf (F := Ideal) .f32 p1 bitsLt_bf16_f32⟩, ⟨S128x1024, s1⟩] concatenates_S8192x1024_S128x1024_S8320x1024_d0⟩,
           ⟨S8320x512, extf (F := Ideal) .f32 y bitsLt_bf16_f32⟩,
           ⟨S8320x512, concatenate S8320x512 0 [⟨S8192x512, extf (F := Ideal) .f32 p3 bitsLt_bf16_f32⟩, ⟨S128x512, s3⟩] concatenates_S8192x512_S128x512_S8320x512_d0⟩]
          concatenates_S8320x1024_S8320x512_S8320x512_S8320x2048_d1)
        (shapeCast _ (extractStridedSlice S1x2048x2048 ![0, 0, 0] w slices_S2x2048x2048_S1x2048x2048_0_0_0) shapeCasts_S1x2048x2048_S2048x2048))
      = OutProjIdeal.Val.mix p1 s1 y p3 s3 w h := by
  funext i
  pointwise [OutProjIdeal.Val.mix, OutProjIdeal.Val.cat, OutProjIdeal.Val.row]

end Cert.OutProjRefIdeal.Val
-- ==== Proof.NormValue.lean ====
/- The normalisation's kernel over the extended reals: its result array, entry by entry. -/
module

public import proofs.«01_k».proof.Defs
public import proofs.«01_k».proof.Proof.Gen.NormIdeal.Frame
public import proofs.«01_k».proof.Proof.Gen.NormIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Val

open Cert.NormIdeal Cert.NormIdeal.Gen

variable (m : (ℓ : Loc nD τ sig) → Buf (Elt Ideal) ℓ)

/-- Where each window's block lies at a point. -/
theorem idx : ∀ t : Fin cfg0.N,
    win0_0.index t = ![t.val, 0] ∧ win0_1.index t = ![0, 0] ∧ win0_2.index t = ![t.val, 0] :=
  (by decide +kernel : ∀ t : Fin grid0.N, _)

/-- A row divided by its root mean square, then scaled column by column. -/
def norm (x : Vec Ideal S8320x2048 .f32) (g : Vec Ideal S2048 .f32) : Vec Ideal S8320x2048 .bf16 := fun i =>
  x i * Ideal.rsqrt (Ideal.div (∑ k : Fin 2048, x (ix2 (i 0 : Fin 8320) k) * x (ix2 (i 0 : Fin 8320) k)) (Ideal.ofBits .f32 0x45000000#32)
    + Ideal.ofBits .f32 0x358637BD#32) * g (ix1 (i 1 : Fin 2048))

/-- A tile of rows, read as numbers. -/
abbrev rows (x : Vec Ideal S832x2048 .f32) : S832x2048.Idx → EReal := x
/-- The scales' tile, read as numbers. -/
abbrev scales (x : Vec Ideal S1x2048 .f32) : S1x2048.Idx → EReal := x

/-- The block a point writes. -/
theorem block (c : Dev nD) (t : Fin cfg0.N) (y : S832x2048.Idx) :
    (out0_2 (iblk m c 0 t) (iblk m c 1 t) : Vec Ideal S832x2048 .bf16) y
      = rows (iblk m c 0 t) y * Ideal.rsqrt (Ideal.div (∑ k : Fin 2048, rows (iblk m c 0 t) (ix2 (y 0 : Fin 832) k) * rows (iblk m c 0 t) (ix2 (y 0 : Fin 832) k))
          (Ideal.ofBits .f32 0x45000000#32) + Ideal.ofBits .f32 0x358637BD#32) * scales (iblk m c 1 t) (ix2 (0 : Fin 1) (y 1 : Fin 2048)) := by
  unfold out0_2
  frame_out
  pointwise [k0_pay1]

/-- The scales as the kernel finds them: one row of them. -/
theorem scales_eq (c : Dev nD) :
    V m c main_v0 = shapeCast S1x2048 (m ((c : Thread nD τ).loc main_arg1) : Vec Ideal S2048 .f32) shapeCasts_S2048_S1x2048 := by
  show StableHlo.after hostOps0 (fun b => m (c, b)) (Proc.devRef .tc main_v0) = _
  unfold hostOps0
  after_results
  rfl

/-- The scale of a column. -/
theorem scale_apply (c : Dev nD) (t : Fin cfg0.N) (n : Fin 2048) :
    scales (iblk m c 1 t) (ix2 (0 : Fin 1) n) = (m ((c : Thread nD τ).loc main_arg1) : Vec Ideal S2048 .f32) (ix1 n) := by
  have e : scales (iblk m c 1 t) (ix2 (0 : Fin 1) n) = (V m c main_v0 : Vec Ideal S1x2048 .f32) (ix2 (0 : Fin 1) n) := by
    unfold scales
    blk_ext [iblk, idx t]
  rw [e, scales_eq]
  pointwise

/-- A tile's rows are rows of the array. -/
theorem row_lt (t : Fin cfg0.N) (r : Fin 832) : 832 * t.val + r.val < 8320 := by
  have ht : t.val < 10 := t.isLt.trans_eq N_0
  omega

/-- A row's entry. -/
theorem row_apply (c : Dev nD) (t : Fin cfg0.N) (r : Fin 832) (k : Fin 2048) :
    rows (iblk m c 0 t) (ix2 r k) = (m ((c : Thread nD τ).loc main_arg0) : Vec Ideal S8320x2048 .f32) (ix2 (⟨832 * t.val + r.val, row_lt t r⟩ : Fin 8320) k) := by
  rw [← V_main_arg0 m c]
  unfold rows
  blk_ext [iblk, idx t]

/-- Where a block's entry lies in the result. -/
theorem emb_out (t : Fin cfg0.N) (y : S832x2048.Idx) :
    (((cfg0.win 2).blk t).view.emb y : S8320x2048.Idx) = ix2 (⟨832 * t.val + (y 0).val, row_lt t (y 0)⟩ : Fin 8320) (y 1 : Fin 2048) := by
  funext a
  refine Fin.ext ((Pipeline.Window.rect_emb_val (cfg0.win 2) t y a rfl).trans ?_)
  rw [show (cfg0.win 2).index t = _ from (idx t).2.2]
  fin_cases a
  · show t.val * 832 + (y 0).val = 832 * t.val + (y 0).val
    omega
  · show 0 * 2048 + (y 1).val = (y 1).val
    omega

/-- The block a point writes is the normalised rows' block there. -/
theorem block_norm (c : Dev nD) (t : Fin cfg0.N) (y : S832x2048.Idx) :
    (out0_2 (iblk m c 0 t) (iblk m c 1 t) : Vec Ideal S832x2048 .bf16) y
      = norm (m ((c : Thread nD τ).loc main_arg0)) (m ((c : Thread nD τ).loc main_arg1)) (ix2 (⟨832 * t.val + (y 0).val, row_lt t (y 0)⟩ : Fin 8320) (y 1 : Fin 2048)) := by
  have ey : y = ix2 (y 0 : Fin 832) (y 1 : Fin 2048) := funext fun a => by fin_cases a <;> rfl
  refine (block m c t y).trans ?_
  exact congrArg₂ (· * ·) (congrArg₂ (· * ·) ((congrArg (rows (iblk m c 0 t)) ey).trans (row_apply m c t (y 0) (y 1)))
    (congrArg (fun z => Ideal.rsqrt (Ideal.div z (Ideal.ofBits .f32 0x45000000#32) + Ideal.ofBits .f32 0x358637BD#32))
      (Finset.sum_congr rfl fun k _ => congrArg₂ (· * ·) (row_apply m c t (y 0) k) (row_apply m c t (y 0) k)))) (scale_apply m c t (y 1))

/-- The same, read through the window. -/
theorem block_emb (c : Dev nD) (t : Fin cfg0.N) (y : S832x2048.Idx) :
    (out0_2 (iblk m c 0 t) (iblk m c 1 t) : Vec Ideal S832x2048 .bf16) y
      = norm (m ((c : Thread nD τ).loc main_arg0)) (m ((c : Thread nD τ).loc main_arg1)) (((cfg0.win 2).blk t).view.emb y) :=
  (block_norm m c t y).trans (congrArg (norm (m ((c : Thread nD τ).loc main_arg0)) (m ((c : Thread nD τ).loc main_arg1))) (emb_out t y).symm)

/-- The kernel's result array ends holding the normalised rows. -/
theorem final (c : Dev nD) : (dats m 0 c).arrAt 2 cfg0.N
    = norm (m ((c : Thread nD τ).loc main_arg0)) (m ((c : Thread nD τ).loc main_arg1)) := by
  refine (dats m 0 c).arrAt_eq_of_covers 2 _ (by decide +kernel) fun t hf y => ?_
  rw [after0_2]
  exact (cast_eq _ _).trans (block_emb m c t y)

end Cert.NormIdeal.Val
-- ==== Proof.NormRefValue.lean ====
/- The normalisation's reference over the extended reals, entry by entry. -/
module

public import proofs.«01_k».proof.Defs
public import proofs.«01_k».proof.Proof.NormValue
public import proofs.«01_k».proof.Proof.Gen.NormRefIdeal.Run
public import Idealize.ShloMosaic.Lib.Pointwise

@[expose] public section

set_option maxRecDepth 16384

noncomputable section

open Idealize.ShloMosaic Idealize.ShloMosaic.TcCoe Idealize.SL.Sem

namespace Cert.NormRefIdeal.Val

open Cert.NormRefIdeal Cert.NormRefIdeal.Gen

/-- The reference divides each row by its root mean square and scales it column by column. -/
theorem ref_norm (x : Vec Ideal S8320x2048 .f32) (g : Vec Ideal S2048 .f32) :
    truncf (F := Ideal) .bf16 (mulf (mulf x (broadcastInDim S8320x2048 ![0, 1] bcast_S8320x1_S8320x2048_0_1 (Host.rsqrt (addf (Host.divf (broadcastInDim S8320x1 ![0] bcast_S8320_S8320x1_0 (Host.reduceAdd (mulf x x) (constant (F := Ideal) S_ .f32 0x00000000#32) reducesTo_S8320x2048_S8320_d1 h_S_)) (broadcastInDim S8320x1 ![] bcast_S_S8320x1 (constant (F := Ideal) S_ .f32 0x45000000#32))) (broadcastInDim S8320x1 ![] bcast_S_S8320x1 (constant (F := Ideal) S_ .f32 0x358637BD#32)))))) (broadcastInDim S8320x2048 ![0, 1] bcast_S1x2048_S8320x2048_0_1 (broadcastInDim S1x2048 ![1] bcast_S2048_S1x2048_1 g))) bitsLt_bf16_f32
      = NormIdeal.Val.norm x g := by
  funext i
  pointwise [NormIdeal.Val.norm]

end Cert.NormRefIdeal.Val
-- ==== Proof.Routing.lean ====
/- The tables of a routing and the order in which the grouped product meets them. The tiles of the sorted rows are
   visited column by column of the weight; a position is a column's tile, `column * 74 + tile`. -/
module

public import proofs.«01_k».proof.Pre_routing_tables
public import Idealize.ShloMosaic.Lib.Pointwise

@[expose] public section

set_option maxRecDepth 16384

noncomputable section

namespace Cert.Routing

open Idealize.ShloMosaic

/-- What the precondition says of the four tables, read at natural numbers: `te` the expert of a tile, `first` whether
    an expert's rows begin there, `next` the following such tile, `nv` the number of tiles that hold rows. -/
structure Tables (te first next : ℕ → BitVec 32) (nv : BitVec 32) : Prop where
  pos : 1 ≤ nv.toNat
  le : nv.toNat ≤ 74
  te_lt : ∀ t < 74, (te t).toNat < 8
  first0 : first 0 = 1#32
  keep : ∀ t, t + 1 < nv.toNat → first (t + 1) ≠ 1#32 → te (t + 1) = te t
  hit : ∀ t < nv.toNat, first t = 1#32 → 0 ≤ (next t).toInt →
    t < (next t).toNat ∧ (next t).toNat < nv.toNat ∧ first (next t).toNat = 1#32
  nearest : ∀ t s, t < s → s < nv.toNat → first t = 1#32 → first s = 1#32 →
    0 ≤ (next t).toInt ∧ (next t).toNat ≤ s

variable {te first next : ℕ → BitVec 32} {nv : BitVec 32}

/-- The position fetches a new weight tile: its tile holds rows and begins an expert's. -/
def Starts (first : ℕ → BitVec 32) (nv : BitVec 32) (n : ℕ) : Prop := n % 74 < nv.toNat ∧ first (n % 74) = 1#32

instance (first : ℕ → BitVec 32) (nv : BitVec 32) (n : ℕ) : Decidable (Starts first nv n) := by
  unfold Starts; infer_instance

/-- How many positions before `n` fetched a new weight tile. -/
def count (first : ℕ → BitVec 32) (nv : BitVec 32) : ℕ → ℕ
  | 0 => 0
  | n + 1 => count first nv n + if Starts first nv n then 1 else 0

theorem count_le (n : ℕ) : count first nv n ≤ n := by
  induction n with
  | zero => exact le_rfl
  | succ n ih => unfold count; split <;> omega

/-- The weight tile for position `n'` is the next one wanted at `n`, of `N` positions in all (`N` when none is left). -/
structure Upcoming (first : ℕ → BitVec 32) (nv : BitVec 32) (N n n' : ℕ) : Prop where
  from_le : n ≤ n'
  le : n' ≤ N
  none_before : ∀ k, n ≤ k → k < n' → ¬ Starts first nv k
  starts : n' < N → Starts first nv n'

/-- The next one wanted is unique. -/
theorem Upcoming.unique {N n a b : ℕ} (ha : Upcoming first nv N n a) (hb : Upcoming first nv N n b) : a = b := by
  rcases lt_trichotomy a b with h | h | h
  · exact absurd (ha.starts (lt_of_lt_of_le h hb.le)) (hb.none_before a ha.from_le h)
  · exact h
  · exact absurd (hb.starts (lt_of_lt_of_le h ha.le)) (ha.none_before b hb.from_le h)

/-- A position that fetches nothing leaves the next one wanted as it was. -/
theorem Upcoming.skip {N n n' : ℕ} (h : Upcoming first nv N n n') (hn : n < N) (hs : ¬ Starts first nv n) :
    Upcoming first nv N (n + 1) n' := by
  have hne : n ≠ n' := fun e => hs (by rw [e]; exact h.starts (e ▸ hn))
  exact ⟨lt_of_le_of_ne h.from_le hne, h.le, fun k hk => h.none_before k (Nat.le_of_succ_le hk), h.starts⟩

/-- At a position that fetches, the tile wanted is its own. -/
theorem Upcoming.here {N n n' : ℕ} (h : Upcoming first nv N n n') (hs : Starts first nv n) : n' = n := by
  rcases Nat.eq_or_lt_of_le h.from_le with e | e
  · exact e.symm
  · exact absurd hs (h.none_before n le_rfl e)

/-- The first position of a column fetches. -/
theorem Tables.starts_col (T : Tables te first next nv) (j : ℕ) : Starts first nv (j * 74) := by
  unfold Starts
  rw [Nat.mul_mod_left]
  exact ⟨T.pos, T.first0⟩

/-- After a fetching position whose tile names a following one, that one in the same column is wanted. -/
theorem Tables.upcoming_next (T : Tables te first next nv) {J j t : ℕ} (hj : j < J) (ht : t < 74)
    (hs : Starts first nv (j * 74 + t)) (hx : 0 ≤ (next t).toInt) :
    Upcoming first nv (J * 74) (j * 74 + t + 1) (j * 74 + (next t).toNat) := by
  have e : (j * 74 + t) % 74 = t := by omega
  unfold Starts at hs
  rw [e] at hs
  obtain ⟨h1, h2, h3⟩ := T.hit t hs.1 hs.2 hx
  have hle := T.le
  have hJ : (j + 1) * 74 ≤ J * 74 := Nat.mul_le_mul_right _ hj
  refine ⟨by omega, by omega, fun k hk hk' hst => ?_, fun _ => ?_⟩
  · unfold Starts at hst
    rw [show k % 74 = k - j * 74 by omega] at hst
    have := (T.nearest t (k - j * 74) (by omega) hst.1 hs.2 hst.2).2
    omega
  · unfold Starts
    rw [show (j * 74 + (next t).toNat) % 74 = (next t).toNat by omega]
    exact ⟨h2, h3⟩

/-- After a fetching position whose tile names none, the next column's first tile is wanted, if there is one. -/
theorem Tables.upcoming_col (T : Tables te first next nv) {J j t : ℕ} (hj : j < J) (ht : t < 74)
    (hs : Starts first nv (j * 74 + t)) (hx : ¬ 0 ≤ (next t).toInt) :
    Upcoming first nv (J * 74) (j * 74 + t + 1) ((j + 1) * 74) := by
  have e : (j * 74 + t) % 74 = t := by omega
  unfold Starts at hs
  rw [e] at hs
  have hle := T.le
  refine ⟨by omega, Nat.mul_le_mul_right _ hj, fun k hk hk' hst => ?_, fun _ => T.starts_col _⟩
  unfold Starts at hst
  rw [show k % 74 = k - j * 74 by omega] at hst
  exact hx (T.nearest t (k - j * 74) (by omega) hst.1 hs.2 hst.2).1

/-- The first position is wanted at the start. -/
theorem Tables.upcoming_start (T : Tables te first next nv) {J : ℕ} : Upcoming first nv (J * 74) 0 0 :=
  ⟨le_rfl, Nat.zero_le _, fun _ _ h => absurd h (Nat.not_lt_zero _), fun _ => by simpa using T.starts_col 0⟩

/-- The entry of a table at a tile, and zero past its end. -/
def word (v : IVec ⟨1, ![74]⟩ 32) (t : ℕ) : BitVec 32 := if h : t < 74 then v (ix1 (⟨t, h⟩ : Fin 74)) else 0#32

/-! ## The precondition's comparisons, read as statements about integers -/

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem not_one (a : BitVec 1) : ~~~a = 1#1 ↔ ¬ a = 1#1 := by revert a; decide
theorem ofBool_one (p : Bool) : BitVec.ofBool p = 1#1 ↔ p = true := by cases p <;> decide
theorem eq_one (a b : BitVec 32) : IntOp.cmpi .eq a b = 1#1 ↔ a = b := by
  simp only [IntOp.cmpi, ofBool_one, beq_iff_eq]
theorem ne_one (a b : BitVec 32) : IntOp.cmpi .ne a b = 1#1 ↔ a ≠ b := by
  simp only [IntOp.cmpi, ofBool_one, bne_iff_ne]
theorem slt_one (a b : BitVec 32) : IntOp.cmpi .slt a b = 1#1 ↔ a.toInt < b.toInt := by
  simp only [IntOp.cmpi, ofBool_one, BitVec.slt, decide_eq_true_eq]
theorem sle_one (a b : BitVec 32) : IntOp.cmpi .sle a b = 1#1 ↔ a.toInt ≤ b.toInt := by
  simp only [IntOp.cmpi, ofBool_one, BitVec.sle, decide_eq_true_eq]
theorem sge_one (a b : BitVec 32) : IntOp.cmpi .sge a b = 1#1 ↔ b.toInt ≤ a.toInt := by
  simp only [IntOp.cmpi, ofBool_one, BitVec.sle, decide_eq_true_eq]

/-- A tile's number as a word. -/
theorem toInt_tile {t : ℕ} (h : t < 1024) : (BitVec.ofNat 32 t).toInt = t := by
  rw [BitVec.toInt_eq_toNat_cond, BitVec.toNat_ofNat, Nat.mod_eq_of_lt (by omega), if_pos (by omega)]

theorem toInt_0 : (0#32).toInt = 0 := by decide
theorem toInt_1 : (1#32).toInt = 1 := by decide
theorem toInt_8 : (8#32).toInt = 8 := by decide
theorem toInt_74 : (74#32).toInt = 74 := by decide

/-- A word that is not negative reads the same unsigned. -/
theorem toInt_eq_toNat {w : BitVec 32} (h : 0 ≤ w.toInt) : w.toInt = w.toNat := by
  rw [BitVec.toInt_eq_toNat_cond] at h ⊢
  split at h <;> split <;> omega

/-- Tile numbers are told apart by their words. -/
theorem tile_succ {t s : ℕ} (ht : t < 74) (h : s = t + 1) : IntOp.addi (BitVec.ofNat 32 t) 1#32 = BitVec.ofNat 32 s := by
  subst h
  simp only [IntOp.addi]
  exact (BitVec.ofNat_add t 1).symm

/-- The tables of a memory the precondition admits. -/
theorem tables_of (te first next : IVec ⟨1, ![74]⟩ 32) (nv : BitVec 32)
    (h0 : (1#32).toInt ≤ nv.toInt ∧ nv.toInt ≤ (74#32).toInt)
    (h1 : ∀ t : Fin 74, (0#32).toInt ≤ (te (ix1 t)).toInt ∧ (te (ix1 t)).toInt < (8#32).toInt)
    (h2 : ∀ t : Fin 74, BitVec.ofNat 32 t.val ≠ 0#32 ∨ first (ix1 t) = 1#32)
    (h3 : ∀ s t : Fin 74, (¬ (IntOp.addi (BitVec.ofNat 32 t.val) 1#32 = BitVec.ofNat 32 s.val
        ∧ (BitVec.ofNat 32 s.val).toInt < nv.toInt) ∨ first (ix1 s) = 1#32) ∨ te (ix1 s) = te (ix1 t))
    (h4 : ∀ t : Fin 74, (¬ ((BitVec.ofNat 32 t.val).toInt < nv.toInt ∧ first (ix1 t) = 1#32)
        ∨ (next (ix1 t)).toInt < (0#32).toInt)
      ∨ ((BitVec.ofNat 32 t.val).toInt < (next (ix1 t)).toInt ∧ (next (ix1 t)).toInt < nv.toInt))
    (h5 : ∀ s t : Fin 74, ¬ (((BitVec.ofNat 32 t.val).toInt < nv.toInt ∧ first (ix1 t) = 1#32)
        ∧ next (ix1 t) = BitVec.ofNat 32 s.val) ∨ first (ix1 s) = 1#32)
    (h6 : ∀ s t : Fin 74, ¬ ((((BitVec.ofNat 32 t.val).toInt < nv.toInt ∧ first (ix1 t) = 1#32)
        ∧ (BitVec.ofNat 32 s.val).toInt < nv.toInt ∧ first (ix1 s) = 1#32)
        ∧ (BitVec.ofNat 32 t.val).toInt < (BitVec.ofNat 32 s.val).toInt)
      ∨ ((0#32).toInt ≤ (next (ix1 t)).toInt ∧ (next (ix1 t)).toInt ≤ (BitVec.ofNat 32 s.val).toInt)) :
    Tables (word te) (word first) (word next) nv := by
  rw [toInt_1, toInt_74] at h0
  have hn : nv.toInt = nv.toNat := toInt_eq_toNat (by omega)
  have tile : ∀ t : Fin 74, (BitVec.ofNat 32 t.val).toInt = t.val := fun t => toInt_tile (by omega)
  have wd : ∀ (v : IVec ⟨1, ![74]⟩ 32) (t : ℕ) (h : t < 74), word v t = v (ix1 (⟨t, h⟩ : Fin 74)) :=
    fun v t h => dif_pos h
  simp only [tile, hn, toInt_0, toInt_8] at h1 h3 h4 h5 h6
  have hle : nv.toNat ≤ 74 := by omega
  refine ⟨by omega, hle, fun t ht => ?_, ?_, fun t ht hf => ?_, fun t ht hf hx => ?_, fun t s hts hs hf hf' => ?_⟩
  · rw [wd te t ht]
    have := h1 ⟨t, ht⟩
    rw [toInt_eq_toNat this.1] at this
    omega
  · rw [wd first 0 (by omega)]
    exact (h2 ⟨0, by omega⟩).resolve_left fun h => h rfl
  · rw [wd first _ (by omega)] at hf
    rw [wd te _ (by omega), wd te t (by omega)]
    refine ((h3 ⟨t + 1, by omega⟩ ⟨t, by omega⟩).resolve_left fun h => ?_)
    rcases h with h | h
    · exact h ⟨tile_succ (by omega) rfl, by exact_mod_cast ht⟩
    · exact hf h
  · rw [wd first t (by omega)] at hf
    rw [wd next t (by omega)] at hx ⊢
    have h := h4 ⟨t, by omega⟩
    have hlt : (⟨t, by omega⟩ : Fin 74).val < (nv.toNat : ℤ) := by simpa using ht
    have h' := (h.resolve_left fun h => h.elim (fun h => h ⟨hlt, hf⟩) (fun h => by omega))
    rw [toInt_eq_toNat hx] at h'
    have hs : (next (ix1 (⟨t, by omega⟩ : Fin 74))).toNat < 74 := by omega
    refine ⟨by simpa using h'.1, by simpa using h'.2, ?_⟩
    rw [wd first _ hs]
    exact (h5 ⟨_, hs⟩ ⟨t, by omega⟩).resolve_left fun h => h ⟨⟨hlt, hf⟩, by simp⟩
  · rw [wd first _ (by omega)] at hf hf'
    rw [wd next t (by omega)]
    have hlt : (⟨t, by omega⟩ : Fin 74).val < (nv.toNat : ℤ) := by simpa using hts.trans hs
    have hls : (⟨s, by omega⟩ : Fin 74).val < (nv.toNat : ℤ) := by simpa using hs
    have h := (h6 ⟨s, by omega⟩ ⟨t, by omega⟩).resolve_left fun h =>
      h ⟨⟨⟨hlt, hf⟩, hls, hf'⟩, by simpa using hts⟩
    refine ⟨h.1, ?_⟩
    rw [toInt_eq_toNat h.1] at h
    simpa using h.2

open Cert.Pre_routing_tables in
/-- The precondition of the down product's call admits only such tables. -/
theorem tables_of_pre {F : FTy → Type} [FloatOps F] [Cert.Pre_routing_tables.Facts]
    (x : FVec F S18944x7168 .bf16) (w : FVec F S8x7168x2048 .f32) (te first next : IVec S74 32) (nv : IVec S1 32)
    (h : (fn x w te first next nv).1 = (fun _ => 1#1) ∧ (fn x w te first next nv).2.1 = (fun _ => 1#1)
      ∧ (fn x w te first next nv).2.2.1 = (fun _ => 1#1) ∧ (fn x w te first next nv).2.2.2.1 = (fun _ => 1#1)
      ∧ (fn x w te first next nv).2.2.2.2.1 = (fun _ => 1#1) ∧ (fn x w te first next nv).2.2.2.2.2.1 = (fun _ => 1#1)
      ∧ (fn x w te first next nv).2.2.2.2.2.2 = (fun _ => 1#1)) :
    Tables (word te) (word first) (word next) (nv (ix1 0)) := by
  obtain ⟨e0, e1, e2, e3, e4, e5, e6⟩ := h
  refine tables_of te first next (nv (ix1 0)) ?_ (fun t => ?_) (fun t => ?_) (fun s t => ?_) (fun t => ?_)
    (fun s t => ?_) (fun s t => ?_)
  · have e := congrFun e0 (ix1 0)
    simp only [fn, fn_part1, fn_part2, fn_part3, fn_part4] at e
    pointwise [] at e
    simpa only [andi_one, ori_one, not_one, eq_one, ne_one, slt_one, sle_one, sge_one] using e
  · have e := congrFun e1 (ix1 t)
    simp only [fn, fn_part1, fn_part2, fn_part3, fn_part4] at e
    pointwise [] at e
    simpa only [andi_one, ori_one, not_one, eq_one, ne_one, slt_one, sle_one, sge_one] using e
  · have e := congrFun e2 (ix1 t)
    simp only [fn, fn_part1, fn_part2, fn_part3, fn_part4] at e
    pointwise [] at e
    simpa only [andi_one, ori_one, not_one, eq_one, ne_one, slt_one, sle_one, sge_one] using e
  · have e := congrFun e3 (ix2 s t)
    simp only [fn, fn_part1, fn_part2, fn_part3, fn_part4] at e
    pointwise [] at e
    simpa only [andi_one, ori_one, not_one, eq_one, ne_one, slt_one, sle_one, sge_one] using e
  · have e := congrFun e4 (ix1 t)
    simp only [fn, fn_part1, fn_part2, fn_part3, fn_part4] at e
    pointwise [] at e
    simpa only [andi_one, ori_one, not_one, eq_one, ne_one, slt_one, sle_one, sge_one] using e
  · have e := congrFun e5 (ix2 s t)
    simp only [fn, fn_part1, fn_part2, fn_part3, fn_part4] at e
    pointwise [] at e
    simpa only [andi_one, ori_one, not_one, eq_one, ne_one, slt_one, sle_one, sge_one] using e
  · have e := congrFun e6 (ix2 s t)
    simp only [fn, fn_part1, fn_part2, fn_part3, fn_part4] at e
    pointwise [] at e
    simpa only [andi_one, ori_one, not_one, eq_one, ne_one, slt_one, sle_one, sge_one] using e

end Cert.Routing
-- ==== Proof.MoeDownIdealStep.lean ====
/- The steps of the grouped down product's kernel: what a grid point does to the run counter, the weight ring, the weight
   tile it multiplies by and the block it writes. -/
module

public import proofs.«01_k».proof.Proof.Routing
public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.Frame
public import Idealize.ShloMosaic.Lib.Transfers
public import Idealize.ShloMosaic.Lib.VecWindow
public import Idealize.ShloMosaic.Lib.Tactic

@[expose] public section

set_option maxRecDepth 16384

noncomputable section

namespace Cert.MoeDownIdeal.Hand

open Cert.MoeDownIdeal Cert.MoeDownIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's operands -/

/-- The tables: a tile's expert, whether an expert begins there, the following such tile, the number of tiles used. -/
abbrev teM : Memref sig .tc .smem S74 .i32 := Memref.whole main_arg2
abbrev firstM : Memref sig .tc .smem S74 .i32 := Memref.whole main_arg3
abbrev nextM : Memref sig .tc .smem S74 .i32 := Memref.whole main_arg4
abbrev nvM : Memref sig .tc .smem S1 .i32 := Memref.whole main_arg5
/-- The weights, left in HBM. -/
abbrev wM : Memref sig .tc .hbm S8x7168x2048 .f32 := Memref.whole main_arg1
/-- The ring of two weight tiles, the cast weight tile, the run counter. -/
abbrev ringM : Memref sig .tc .vmem S2x1x7168x512 .f32 := Memref.whole cc0_scratch0
abbrev castM : Memref sig .tc .vmem S1x7168x512 .bf16 := Memref.whole cc0_scratch1
abbrev runM : Memref sig .tc .smem S1 .i32 := Memref.whole cc0_scratch3

/-- A memref's buffer on core `c` held whole at share `q`. -/
abbrev pt (c : Dev nD) (q : PosShare TreeShare) {sp : Space} {S : Shape} {e : EltTy} (M : Memref sig .tc sp S e)
    (f : Buf (Elt F) (M.view.loc (c : Thread nD τ))) : sProp 𝕄 := M.view.loc (c : Thread nD τ) ↦{q} f

/-! ## The ring's slots, cells and the weight tiles -/

theorem slot_inb (s : Fin 2) : ∀ a, (![s.val, 0, 0, 0] : Fin 4 → ℕ) a + S1x1x7168x512.size a ≤ S2x1x7168x512.size a := by
  revert s; decide
theorem cell_inb (s : Fin 2) : ∀ a, (![s.val, 0] : Fin 2 → ℕ) a + S1x1.size a ≤ S2x1.size a := by revert s; decide
theorem tile_inb (e : Fin 8) (j : Fin 4) :
    ∀ a, (![e.val, 0, j.val * 512] : Fin 3 → ℕ) a + S1x7168x512.size a ≤ S8x7168x2048.size a := by revert e j; decide

/-- Slot `s` of the ring. -/
abbrev slot (s : Fin 2) : Memref sig .tc .vmem S7168x512 .f32 :=
  (ringM.slice (Rect.unit (s := S2x1x7168x512) ![s.val, 0, 0, 0] S1x1x7168x512.size (slot_inb s)) (fun _ => rfl)).squeeze
    S7168x512 squeezes_S1x1x7168x512_S7168x512
/-- Its semaphore. -/
abbrev cell (s : Fin 2) : DmaSem sig :=
  ((cc0_scratch2.slice (Rect.unit (s := S2x1) ![s.val, 0] S1x1.size (cell_inb s))).squeeze S_ squeezes_S1x1_S_).sem
/-- Expert `e`'s weights at column block `j`. -/
abbrev tile (e : Fin 8) (j : Fin 4) : Memref sig .tc .hbm S7168x512 .f32 :=
  (wM.slice (Rect.unit (s := S8x7168x2048) ![e.val, 0, j.val * 512] S1x7168x512.size (tile_inb e j)) (fun _ => rfl)).squeeze
    S7168x512 squeezes_S1x7168x512_S7168x512

theorem amount_pos (s : Fin 2) : 0 < (slot s).view.amount (.dma (cell s)) := by revert s; decide +kernel

variable (c : Dev nD) (w : Buf (Elt F) (wM.view.loc (c : Thread nD τ)))

/-- Slot `s` of a ring's contents. -/
def inSlot (s : Fin 2) (f : Buf (Elt F) (ringM.view.loc (c : Thread nD τ))) : Vec F S7168x512 .f32 := (slot s).view.read (Elt F) f
/-- A weight tile, as it lies in HBM. -/
def tileOf (e : Fin 8) (j : Fin 4) : Vec F S7168x512 .f32 := (tile e j).view.read (Elt F) w
/-- A weight tile, cast. -/
def castTile (e : Fin 8) (j : Fin 4) : Vec F S1x7168x512 .bf16 :=
  shapeCast S1x7168x512 (truncf (F := F) (φ := .f32) .bf16 (tileOf c w e j))

/-- What a tile's transfer into slot `s` delivers: the ring with the tile in the slot, and the tile's weights back. -/
def arrived (e : Fin 8) (j : Fin 4) (s : Fin 2) : sProp 𝕄 :=
  iprop((∃ f, ⌜inSlot c s f = tileOf c w e j⌝ ∗ pt c fullShare ringM f)
    ∗ (wM.view.loc (c : Thread nD τ) ↦[(tile e j).view.set]{fullShare} w))

/-- A tile's transfer under way, with the weights that are not moving. -/
def flying (e : Fin 8) (j : Fin 4) (s : Fin 2) : sProp 𝕄 :=
  iprop(Transfers.Flight (countersEmb (U := Pipeline.UD sig nD τ)) (c : Thread nD τ) (.dma (cell s)) () ((slot s).view.amount (.dma (cell s)))
      (arrived c w e j s)
    ∗ (wM.view.loc (c : Thread nD τ) ↦[Finset.univ \ (tile e j).view.set]{fullShare} w))

variable {α : Type}

/-- A tile's transfer starts. -/
theorem issue {e : Fin 8} {j : Fin 4} {s : Fin 2} {o9 : Fin 2 → ℕ} {o7 : Fin 3 → ℕ} {o11 : Fin 4 → ℕ}
    (e9 : o9 = ![s.val, 0]) (e7 : o7 = ![e.val, 0, j.val * 512]) (e11 : o11 = ![s.val, 0, 0, 0])
    {h9 : ∀ a, o9 a + S1x1.size a ≤ S2x1.size a} {h7 : ∀ a, o7 a + S1x7168x512.size a ≤ S8x7168x2048.size a}
    {h11 : ∀ a, o11 a + S1x1x7168x512.size a ≤ S2x1x7168x512.size a} {hs hd ht}
    {k : PUnit → Prog (TpuEff nD τ sig (Elt F) Λ₀ .tc) α} {Q : α → sProp 𝕄} :
    iprop(pt c fullShare wM w ∗ (∃ f, pt c fullShare ringM f) ∗ semVal ((c : Thread nD τ), SemLoc.dma (cell s)) 0)
      ⊢ iprop((flying c w e j s -∗ wp frame (wpE (defs₀ (F := F)) Variants.none (c : Thread nD τ) none) Set.univ (k ⟨⟩) Q)
        -∗ wp frame (wpE (defs₀ (F := F)) Variants.none (c : Thread nD τ) none) Set.univ
          (.op (.enqueueDma
            ((wM.slice (Rect.unit (s := S8x7168x2048) o7 S1x7168x512.size h7) (fun _ => rfl)).squeeze S7168x512 squeezes_S1x7168x512_S7168x512)
            (.here ((ringM.slice (Rect.unit (s := S2x1x7168x512) o11 S1x1x7168x512.size h11) (fun _ => rfl)).squeeze S7168x512 squeezes_S1x1x7168x512_S7168x512))
            (.dma ((cc0_scratch2.slice (Rect.unit (s := S2x1) o9 S1x1.size h9)).squeeze S_ squeezes_S1x1_S_).sem) hs hd ht) k) Q) := by
  subst e9 e7 e11
  iintro ⟨Hw, ⟨%f, Hr⟩, Hv⟩ Hk
  ihave Hw' := (pointsTo_split_subset (I := (tile e j).view.set) (Finset.subset_univ _)) $$ Hw
  icases Hw' with ⟨Hs, Hrest⟩
  iapply (Transfers.wp_dmaLocal (countersEmb (U := Pipeline.UD sig nD τ)) Variants.none (c : Thread nD τ) none (src := tile e j) (dst := slot s)
    (Sd := Finset.univ) () _ rfl (amount_pos s) (Finset.subset_univ _)) $$ [Hs Hr Hv]
  · isplitl [Hs]; · iexact Hs
    isplitl [Hr]; · iexact Hr
    iexact Hv
  iintro HF
  iapply Hk
  unfold flying
  isplitl [HF]
  · iapply (Transfers.Flight_mono (countersEmb (U := Pipeline.UD sig nD τ)) (c : Thread nD τ) _) $$ HF
    unfold arrived
    iintro ⟨Hr, Hs⟩
    isplitl [Hr]
    · iexists _
      isplitr; swap; · iexact Hr
      ipureintro
      exact View.read_write_univ _ _
    · iexact Hs
  · iexact Hrest

/-- A tile's transfer is waited for: the ring comes back with the tile in its slot. -/
theorem await {e : Fin 8} {j : Fin 4} {s : Fin 2} {o4 : Fin 2 → ℕ} {o6 : Fin 3 → ℕ} {o5 : Fin 4 → ℕ}
    (e4 : o4 = ![s.val, 0]) (e5 : o5 = ![s.val, 0, 0, 0])
    {h4 : ∀ a, o4 a + S1x1.size a ≤ S2x1.size a} {h6 : ∀ a, o6 a + S1x7168x512.size a ≤ S8x7168x2048.size a}
    {h5 : ∀ a, o5 a + S1x1x7168x512.size a ≤ S2x1x7168x512.size a} {hs hd} {W : Waits sig Unit}
    {k : PUnit → Prog (TpuEff nD τ sig (Elt F) Λ₀ .tc) α} {Q : α → sProp 𝕄} :
    iprop(flying c w e j s ∗ owes (c : Thread nD τ) 0 W)
      ⊢ iprop(((pt c fullShare wM w ∗ (∃ f, ⌜inSlot c s f = tileOf c w e j⌝ ∗ pt c fullShare ringM f)
            ∗ semVal ((c : Thread nD τ), SemLoc.dma (cell s)) 0 ∗ (∃ W', owes (c : Thread nD τ) 0 W'))
          -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch2.slice (Rect.unit (s := S2x1) o4 S1x1.size h4)).squeeze S_ squeezes_S1x1_S_).sem
            ((wM.slice (Rect.unit (s := S8x7168x2048) o6 S1x7168x512.size h6) (fun _ => rfl)).squeeze S7168x512 squeezes_S1x7168x512_S7168x512)
            ((ringM.slice (Rect.unit (s := S2x1x7168x512) o5 S1x1x7168x512.size h5) (fun _ => rfl)).squeeze S7168x512 squeezes_S1x1x7168x512_S7168x512)
            hs hd) k) Q) := by
  subst e4 e5
  unfold flying
  iintro ⟨⟨HF, Hrest⟩, HW⟩ Hk
  iapply (Transfers.wp_waitLocal (countersEmb (U := Pipeline.UD sig nD τ)) Variants.none (c : Thread nD τ) none (dstw := slot s) () rfl) $$ [HF HW]
  · isplitl [HF]; · iexact HF
    iexact HW
  unfold arrived
  iintro ⟨⟨Hr, Hs⟩, Hv, HW⟩
  iapply Hk
  isplitl [Hs Hrest]
  · iapply (pointsTo_split_subset (I := (tile e j).view.set) (Finset.subset_univ _)).2
    isplitl [Hs]; · iexact Hs
    iexact Hrest
  isplitl [Hr]; · iexact Hr
  isplitl [Hv]; · iexact Hv
  iexists _; iexact HW

/-! ## The kernel's offsets, conditions and side conditions at the words it meets -/

/-- The run counter's word after `n` runs. -/
abbrev runWord (n : ℕ) : BitVec 32 := BitVec.ofNat 32 n
/-- The slot of run `n`. -/
abbrev slotOf (n : ℕ) : Fin 2 := ⟨n % 2, Nat.mod_lt _ (by decide)⟩
/-- An expert's word. -/
abbrev expWord (e : Fin 8) : BitVec 32 := BitVec.ofNat 32 e.val

theorem off4_at : ∀ n : Fin 512, k0_off4 (runWord n.val) = ![(slotOf n.val).val, 0] := by decide +kernel
theorem off5_at : ∀ n : Fin 512, k0_off5 (runWord n.val) = ![(slotOf n.val).val, 0, 0, 0] := by decide +kernel
theorem off7_at : ∀ n : Fin 512, k0_off7 (runWord n.val) = ![(slotOf n.val).val, 0, 0, 0] := by decide +kernel
theorem off10_at : ∀ n : Fin 512, k0_off10 (runWord n.val) = ![(slotOf (n.val + 1)).val, 0] := by decide +kernel
theorem off11_at : ∀ n : Fin 512, k0_off11 (runWord n.val) = ![(slotOf (n.val + 1)).val, 0, 0, 0] := by decide +kernel
theorem off13_at : ∀ n : Fin 512, k0_off13 (runWord n.val) = ![(slotOf (n.val + 1)).val, 0] := by decide +kernel
theorem off14_at : ∀ n : Fin 512, k0_off14 (runWord n.val) = ![(slotOf (n.val + 1)).val, 0, 0, 0] := by decide +kernel

theorem off1_at : ∀ e : Fin 8, k0_off1 (expWord e) = ![e.val, 0, (0 : Fin 4).val * 512] := by decide +kernel
theorem off6_at (i : grid0.Coords) (e : Fin 8) : k0_off6 i (expWord e) = ![e.val, 0, (i 0).val * 512] := by
  unfold k0_off6
  generalize i 0 = j
  revert j e; decide +kernel
theorem off12_at (i : grid0.Coords) (e : Fin 8) : k0_off12 i (expWord e) = ![e.val, 0, (i 0).val * 512] := by
  unfold k0_off12
  generalize i 0 = j
  revert j e; decide +kernel
theorem off15_at (i : grid0.Coords) (e : Fin 8) : k0_off15 i (expWord e) = ![e.val, 0, ((i 0).val + 1) * 512] := by
  unfold k0_off15
  generalize i 0 = j
  revert j e; decide +kernel
theorem off2_at (i : grid0.Coords) : k0_off2 i = ![(i 1).val] := by
  unfold k0_off2; generalize i 1 = j; revert j; decide +kernel
theorem off3_at (i : grid0.Coords) : k0_off3 i = ![(i 1).val] := by
  unfold k0_off3; generalize i 1 = j; revert j; decide +kernel
theorem off8_at (i : grid0.Coords) : k0_off8 i = ![(i 1).val] := by
  unfold k0_off8; generalize i 1 = j; revert j; decide +kernel

theorem cond1_iff (i : grid0.Coords) : k0_cond1 i = 1#1 ↔ (i 0).val = 0 ∧ (i 1).val = 0 := by
  unfold k0_cond1
  generalize i 0 = j; generalize i 1 = t
  revert j t; decide +kernel

/-- A condition widened to a word and tested against zero is the condition. -/
theorem widened_one (b : BitVec 1) : IntOp.cmpi .ne (Scalar.extui b : BitVec 32) 0#32 = 1#1 ↔ b = 1#1 := by revert b; decide
theorem tile_word (i : grid0.Coords) : (Scalar.addi (Scalar.muli (BitVec.ofNat 32 (i 1).val) 1#32) 0#32) = BitVec.ofNat 32 (i 1).val := by
  generalize i 1 = t; revert t; decide +kernel
theorem tile_int (i : grid0.Coords) : (BitVec.ofNat 32 (i 1).val).toInt = (i 1).val :=
  toInt_tile (lt_of_lt_of_le (i 1).isLt (by decide))

theorem cond2_iff (i : grid0.Coords) (v7 v10 : BitVec 32) :
    k0_cond2 i v7 v10 = 1#1 ↔ ((i 1).val : ℤ) < v7.toInt ∧ v10 = 1#32 := by
  unfold k0_cond2
  show IntOp.cmpi .ne (Scalar.extui (IntOp.andi (IntOp.cmpi .slt (Scalar.addi (Scalar.muli (BitVec.ofNat 32 (i 1).val) 1#32) 0#32) v7)
    (IntOp.cmpi .eq v10 1#32))) 0#32 = 1#1 ↔ _
  rw [widened_one, andi_one, slt_one, eq_one, tile_word, tile_int]
theorem cond3_iff (v : BitVec 32) : k0_cond3 v = 1#1 ↔ 0 ≤ v.toInt := by
  unfold k0_cond3
  show IntOp.cmpi .ne (Scalar.extui (IntOp.cmpi .sge v 0#32)) 0#32 = 1#1 ↔ _
  rw [widened_one, sge_one, toInt_0]
theorem cond4_iff (i : grid0.Coords) (v : BitVec 32) : k0_cond4 i v = 1#1 ↔ ¬ 0 ≤ v.toInt ∧ (i 0).val + 1 < 4 := by
  have hj : IntOp.cmpi .slt (Scalar.addi (BitVec.ofNat 32 (i 0).val) 1#32) 4#32 = 1#1 ↔ (i 0).val + 1 < 4 := by
    generalize i 0 = j; revert j; decide +kernel
  unfold k0_cond4
  show IntOp.cmpi .ne (Scalar.extui (IntOp.andi (IntOp.cmpi .slt v 0#32)
    (IntOp.cmpi .slt (Scalar.addi (BitVec.ofNat 32 (i 0).val) 1#32) 4#32))) 0#32 = 1#1 ↔ _
  rw [widened_one, andi_one, slt_one, toInt_0, hj, not_le]
theorem cond5_iff (i : grid0.Coords) (v : BitVec 32) : k0_cond5 i v = 1#1 ↔ ((i 1).val : ℤ) < v.toInt := by
  unfold k0_cond5
  show IntOp.cmpi .ne (Scalar.extui (IntOp.cmpi .slt (Scalar.addi (Scalar.muli (BitVec.ofNat 32 (i 1).val) 1#32) 0#32) v)) 0#32 = 1#1 ↔ _
  rw [widened_one, slt_one, tile_word, tile_int]
theorem cond6_iff (i : grid0.Coords) (v : BitVec 32) : k0_cond6 i v = 1#1 ↔ ¬ ((i 1).val : ℤ) < v.toInt := by
  unfold k0_cond6
  show IntOp.cmpi .ne (Scalar.extui (IntOp.cmpi .sge (Scalar.addi (Scalar.muli (BitVec.ofNat 32 (i 1).val) 1#32) 0#32) v)) 0#32 = 1#1 ↔ _
  rw [widened_one, sge_one, tile_word, tile_int, not_lt]

theorem chk2_at (i : grid0.Coords) (v7 v10 : BitVec 32) {n : ℕ} (hn : n < 512) : k0_chk2 i v7 v10 (runWord n) := by
  unfold k0_chk2
  rw [off4_at ⟨n, hn⟩, off5_at ⟨n, hn⟩, off7_at ⟨n, hn⟩]
  exact ⟨fun _ => cell_inb _, fun _ => slot_inb _, fun _ => slot_inb _⟩
theorem chk3_at (i : grid0.Coords) (v7 v10 : BitVec 32) (e : Fin 8) : k0_chk3 i v7 v10 (expWord e) := by
  unfold k0_chk3
  rw [off6_at]
  exact fun _ => tile_inb e (i 0)
theorem chk4_at (i : grid0.Coords) (v7 v10 : BitVec 32) {n : ℕ} (hn : n < 512) (v : BitVec 32) (hv : v.toInt < 74) :
    k0_chk4 i v7 v10 (runWord n) v := by
  unfold k0_chk4
  rw [off10_at ⟨n, hn⟩, off11_at ⟨n, hn⟩, off13_at ⟨n, hn⟩, off14_at ⟨n, hn⟩]
  refine ⟨fun _ h a => ?_, fun _ _ => cell_inb _, fun _ _ => slot_inb _, fun _ _ => cell_inb _, fun _ _ => slot_inb _⟩
  have h0 := (cond3_iff v).1 h
  have := toInt_eq_toNat h0
  fin_cases a
  show v.toNat + 1 ≤ 74
  omega
theorem chk5_at (i : grid0.Coords) (v7 v10 v : BitVec 32) (e : Fin 8) : k0_chk5 i v7 v10 v (expWord e) := by
  unfold k0_chk5
  rw [off12_at]
  exact fun _ _ => tile_inb e (i 0)
theorem chk6_at (i : grid0.Coords) (v7 v10 v : BitVec 32) (e : Fin 8) : k0_chk6 i v7 v10 v (expWord e) := by
  unfold k0_chk6
  rw [off15_at]
  exact fun _ h => tile_inb e ⟨(i 0).val + 1, ((cond4_iff i v).1 h).2⟩

/-! ## What the loads read -/

/-- The table of experts read at an offset. -/
abbrev rdTe (te : Buf (Elt F) (teM.view.loc (c : Thread nD τ))) (o : Fin 1 → ℕ) (h : ∀ a, o a + S1.size a ≤ S74.size a) : BitVec 32 :=
  teM.view.readAt (Elt F) (Rect.unit (s := S74) o S1.size h).toLoadRect te (Shape.Idx.first (s := S1) (by decide))
/-- The table of beginnings read at an offset. -/
abbrev rdFirst (first : Buf (Elt F) (firstM.view.loc (c : Thread nD τ))) (o : Fin 1 → ℕ) (h : ∀ a, o a + S1.size a ≤ S74.size a) : BitVec 32 :=
  firstM.view.readAt (Elt F) (Rect.unit (s := S74) o S1.size h).toLoadRect first (Shape.Idx.first (s := S1) (by decide))
/-- The table of following beginnings read at an offset. -/
abbrev rdNext (next : Buf (Elt F) (nextM.view.loc (c : Thread nD τ))) (o : Fin 1 → ℕ) (h : ∀ a, o a + S1.size a ≤ S74.size a) : BitVec 32 :=
  nextM.view.readAt (Elt F) (Rect.unit (s := S74) o S1.size h).toLoadRect next (Shape.Idx.first (s := S1) (by decide))

theorem word_idx (v : IVec S74 32) {o : Fin 1 → ℕ} {t : ℕ} (ho : o = ![t]) (h : ∀ a, o a + S1.size a ≤ S74.size a)
    (y : (Rect.unit (s := S74) o S1.size h).shape.Idx) : v ((Rect.unit (s := S74) o S1.size h).toLoadRect.idx y) = word v t := by
  subst ho
  have ht : t < 74 := by have := h 0; simp at this; omega
  unfold word
  rw [dif_pos ht]
  refine congrArg v (funext fun a => Fin.ext ?_)
  fin_cases a
  have hy : (y 0).val = 0 := by have := (y 0).isLt; change (y 0).val < 1 at this; omega
  show t + 1 * (y 0).val = t
  omega
theorem rdTe_eq (te : Buf (Elt F) (teM.view.loc (c : Thread nD τ))) {o : Fin 1 → ℕ} {t : ℕ} (ho : o = ![t])
    (h : ∀ a, o a + S1.size a ≤ S74.size a) : rdTe c te o h = word te t := word_idx te ho h _
theorem rdFirst_eq (first : Buf (Elt F) (firstM.view.loc (c : Thread nD τ))) {o : Fin 1 → ℕ} {t : ℕ} (ho : o = ![t])
    (h : ∀ a, o a + S1.size a ≤ S74.size a) : rdFirst c first o h = word first t := word_idx first ho h _
theorem rdNext_eq (next : Buf (Elt F) (nextM.view.loc (c : Thread nD τ))) {o : Fin 1 → ℕ} {t : ℕ} (ho : o = ![t])
    (h : ∀ a, o a + S1.size a ≤ S74.size a) : rdNext c next o h = word next t := word_idx next ho h _

/-- The run counter read, when it holds `v`. -/
theorem rdRun_const (v : BitVec 32) :
    runM.view.readAt (Elt F) (Rect.unit (s := S1) ![0] S1.size inb_S1_S1_0).toLoadRect
      ((fun _ => v : Buf (Elt F) (runM.view.loc (c : Thread nD τ)))) (Shape.Idx.first (s := S1) (by decide)) = v := rfl

/-! ## A run's weights arrive -/

/-- The ring when run `n` is the next: its tile under way, or no tile left to fetch. -/
def ring (n : ℕ) : Option (Fin 8 × Fin 4) → sProp 𝕄
  | some p => iprop(flying c w p.1 p.2 (slotOf n) ∗ semVal ((c : Thread nD τ), SemLoc.dma (cell (slotOf (n + 1)))) 0)
  | none => iprop(pt c fullShare wM w ∗ (∃ f, pt c fullShare ringM f)
      ∗ semVal ((c : Thread nD τ), SemLoc.dma (cell (slotOf n))) 0 ∗ semVal ((c : Thread nD τ), SemLoc.dma (cell (slotOf (n + 1)))) 0)

theorem slotOf_add_two (n : ℕ) : slotOf (n + 1 + 1) = slotOf n := Fin.ext (by show (n + 1 + 1) % 2 = n % 2; omega)

/-- The cast of what lies in a slot is the cast tile, once the slot holds the tile. -/
theorem pay3_slot {e : Fin 8} {j : Fin 4} {s : Fin 2} {f : Buf (Elt F) (ringM.view.loc (c : Thread nD τ))}
    (hf : inSlot c s f = tileOf c w e j) {o : Fin 4 → ℕ} (ho : o = ![s.val, 0, 0, 0])
    (h : ∀ a, o a + S1x1x7168x512.size a ≤ S2x1x7168x512.size a) :
    k0_pay3 (ringM.view.readAt (Elt F) (Rect.unit (s := S2x1x7168x512) o S1x1x7168x512.size h).toLoadRect f) = castTile c w e j := by
  subst ho
  unfold castTile
  rw [← hf]
  rfl

theorem full_store {sp : Space} {S : Shape} {e : EltTy} (v : View sig .tc sp S e) (f : v.ty.Contents (Elt F)) {off : Fin S.rank → ℕ}
    (inb : ∀ a, off a + S.size a ≤ S.size a) (x : S.Idx → Elt F e) :
    v.read (Elt F) (v.writes (Elt F) f [⟨Rect.unit off S.size inb, x⟩]) = x := View.read_writes_full v f inb x []

theorem cast_read (f : Buf (Elt F) (castM.view.loc (c : Thread nD τ))) (x : Vec F S1x7168x512 .bf16) :
    castM.view.writes (Elt F) f
      [⟨Rect.unit (s := S1x7168x512) ![0, 0, 0] S1x7168x512.size inb_S1x7168x512_S1x7168x512_0_0_0, x⟩] = x := by
  have h := full_store (F := F) castM.view f inb_S1x7168x512_S1x7168x512_0_0_0 x
  rw [View.read_whole] at h
  exact h

set_option maxHeartbeats 1000000 in
theorem part1_next (i : grid0.Coords) (arg6 : Memref sig .tc .vmem S256x7168 .bf16) (harg6 : arg6.IsWhole)
    (arg8 : Memref sig .tc .vmem S256x512 .f32) (harg8 : arg8.IsWhole)
    (te : Buf (Elt F) (teM.view.loc (c : Thread nD τ)))
    (next : Buf (Elt F) (nextM.view.loc (c : Thread nD τ)))
    (n : ℕ) (hn : n < 512) (j : Fin 4) (hj : i 0 = j) (e e' : Fin 8) (he : word te (i 1).val = expWord e)
    (hx : (word next (i 1).val).toInt < 74)
    (he' : 0 ≤ (word next (i 1).val).toInt → word te (word next (i 1).val).toNat = expWord e')
    (a0 v6 v7 v10 : BitVec 32) (h2 : k0_cond2 i v7 v10 = 1#1)
    (K : (v23 : Elt F .i32) ×' (_ : BitVec 32) ×' (v52 : Elt F .i32) ×' k0_chk4 i v7 v10 v23 v52 → sProp 𝕄) :
    iprop(pt c fullShare.right teM te ∗ pt c fullShare.right nextM next ∗ ring c w n (some (e, j))
        ∗ (∃ f, pt c fullShare castM f) ∗ pt c fullShare runM (fun _ => runWord n)
        ∗ (∃ W, owes (c : Thread nD τ) 0 W)
        ∗ (∀ r, ⌜r.1 = runWord n ∧ r.2.2.1 = word next (i 1).val⌝ -∗ pt c fullShare.right teM te -∗ pt c fullShare.right nextM next
            -∗ ring c w (n + 1) (if 0 ≤ (word next (i 1).val).toInt then some (e', j) else none)
            -∗ pt c fullShare castM (castTile c w e j) -∗ pt c fullShare runM (fun _ => runWord n)
            -∗ (∃ W, owes (c : Thread nD τ) 0 W) -∗ K r))
      ⊢ wp frame (wpE (defs₀ (F := F)) Variants.none c none) Set.univ
          (k0_part1 i teM (Memref.isWhole_whole _) firstM (Memref.isWhole_whole _) nextM (Memref.isWhole_whole _)
            nvM (Memref.isWhole_whole _) arg6 harg6 wM (Memref.isWhole_whole _) arg8 harg8 ringM (Memref.isWhole_whole _)
            castM (Memref.isWhole_whole _) cc0_scratch2 runM (Memref.isWhole_whole _) a0 v6 v7 v10 h2) K := by
  subst hj
  simp only [k0_part1_eq_skeleton]; unfold k0_part1_skel
  unfold ring
  iintro ⟨Ht, Hn, ⟨HF, Hv⟩, ⟨%fc, Hc⟩, Hu, ⟨%W, HW⟩, Hk⟩
  have k2 := chk2_at i v7 v10 hn
  have k3 : k0_chk3 i v7 v10 (rdTe c te (k0_off3 i) (k0_off3_inb i)) := by
    rw [rdTe_eq c te (off3_at i), he]; exact chk3_at i v7 v10 e
  sl_exec (disch := first | sl_exact k2 | sl_exact k3)
  iapply (await c w (off4_at ⟨n, hn⟩) (off5_at ⟨n, hn⟩)) $$ [HF HW]
  · isplitl [HF]; · iexact HF
    iexact HW
  iintro ⟨Hw, ⟨%fr, %hfr, Hr⟩, Hv0, ⟨%W', HW⟩⟩
  have k4 : k0_chk4 i v7 v10 (runWord n) (rdNext c next (k0_off8 i) (k0_off8_inb i)) := by
    rw [rdNext_eq c next (off8_at i)]; exact chk4_at i v7 v10 hn _ hx
  by_cases h3 : k0_cond3 (rdNext c next (k0_off8 i) (k0_off8_inb i)) = 1#1
  · have hb := k0_off9_inb i v7 v10 _ _ k4 h2 h3
    have h0 : 0 ≤ (word next (i 1).val).toInt := by
      have := (cond3_iff _).1 h3
      rwa [rdNext_eq c next (off8_at i)] at this
    have hw : rdTe c te (k0_off9 (rdNext c next (k0_off8 i) (k0_off8_inb i))) hb = expWord e' := by
      rw [← he' h0]
      exact rdTe_eq c te (by rw [rdNext_eq c next (off8_at i)]; rfl) hb
    have k5 : k0_chk5 i v7 v10 (rdNext c next (k0_off8 i) (k0_off8_inb i))
        (rdTe c te (k0_off9 (rdNext c next (k0_off8 i) (k0_off8_inb i))) hb) := by
      rw [hw]; exact chk5_at i v7 v10 _ e'
    have e7 : k0_off12 i (rdTe c te (k0_off9 (rdNext c next (k0_off8 i) (k0_off8_inb i))) hb) = ![e'.val, 0, (i 0).val * 512] := by
      rw [hw]; exact off12_at i e'
    set_option sl_exec.stopBefore "k0_off10" in
    sl_exec (disch := first | sl_exact k4 | sl_exact h3 | sl_exact k5)
    iapply (issue c w (off10_at ⟨n, hn⟩) e7 (off11_at ⟨n, hn⟩)) $$ [Hw Hr Hv]
    · isplitl [Hw]; · iexact Hw
      isplitl [Hr]; · iexists _; iexact Hr
      iexact Hv
    iintro HF
    sl_exec
    sl_step
    ispecialize Hk $$ %_
    iapply Hk $$ [] Ht Hn [HF Hv0] [Hc] Hu [HW]
    · ipureintro; exact ⟨rdRun_const (F := F) c (runWord n), rdNext_eq c next (off8_at i) _⟩
    · rw [if_pos h0, slotOf_add_two]
      isplitl [HF]; · iexact HF
      iexact Hv0
    · have hc := (cast_read c fc _).trans (pay3_slot c w hfr (off7_at ⟨n, hn⟩) (k0_off7_inb i v7 v10 (runWord n) k2 h2))
      rw [← hc]; iexact Hc
    · iexists _; iexact HW
  · have h0 : ¬ 0 ≤ (word next (i 1).val).toInt := fun h => h3 (by
      rw [rdNext_eq c next (off8_at i)]; exact (cond3_iff _).2 h)
    sl_exec (disch := first | sl_exact k4 | sl_exact h3)
    sl_step
    ispecialize Hk $$ %_
    iapply Hk $$ [] Ht Hn [Hw Hr Hv Hv0] [Hc] Hu [HW]
    · ipureintro; exact ⟨rdRun_const (F := F) c (runWord n), rdNext_eq c next (off8_at i) _⟩
    · rw [if_neg h0, slotOf_add_two]
      isplitl [Hw]; · iexact Hw
      isplitl [Hr]; · iexists _; iexact Hr
      isplitl [Hv]; · iexact Hv
      iexact Hv0
    · have hc := (cast_read c fc _).trans (pay3_slot c w hfr (off7_at ⟨n, hn⟩) (k0_off7_inb i v7 v10 (runWord n) k2 h2))
      rw [← hc]; iexact Hc
    · iexists _; iexact HW

/-! ## A grid point -/

/-- The expert of tile `t`. -/
def expOf (te : IVec S74 32) (t : ℕ) : Fin 8 := ⟨(word te t).toNat % 8, Nat.mod_lt _ (by decide)⟩

theorem expOf_word {te : IVec S74 32} {t : ℕ} (h : (word te t).toNat < 8) : word te t = expWord (expOf te t) := by
  unfold expOf
  apply BitVec.eq_of_toNat_eq
  rw [BitVec.toNat_ofNat]
  show _ = (_ % 8) % _
  omega

/-- The number of tiles used, read. -/
abbrev rdNv (nv : Buf (Elt F) (nvM.view.loc (c : Thread nD τ))) : BitVec 32 :=
  nvM.view.readAt (Elt F) (Rect.unit (s := S1) ![0] S1.size inb_S1_S1_0).toLoadRect nv (Shape.Idx.first (s := S1) (by decide))

theorem ring_elim (n : ℕ) : (ring c w n none : sProp 𝕄)
    ⊢ iprop(pt c fullShare wM w ∗ (∃ f, pt c fullShare ringM f)
      ∗ semVal ((c : Thread nD τ), SemLoc.dma (cell (slotOf n))) 0 ∗ semVal ((c : Thread nD τ), SemLoc.dma (cell (slotOf (n + 1)))) 0) := .rfl

theorem ring_intro (n : ℕ) (p : Fin 8 × Fin 4) :
    iprop(flying c w p.1 p.2 (slotOf n) ∗ semVal ((c : Thread nD τ), SemLoc.dma (cell (slotOf (n + 1)))) 0) ⊢ (ring c w n (some p) : sProp 𝕄) :=
  .rfl

theorem run_store (f : Buf (Elt F) (runM.view.loc (c : Thread nD τ))) (v : BitVec 32) :
    runM.view.writes (Elt F) f [⟨Rect.unit (s := S1) ![0] S1.size inb_S1_S1_0, fun _ => v⟩] = fun _ => v := by
  have h := full_store (F := F) runM.view f inb_S1_S1_0 (fun _ => v)
  rw [View.read_whole] at h
  exact h

theorem run_succ (n : ℕ) : Scalar.addi (runM.view.readAt (Elt F) (Rect.unit (s := S1) ![0] S1.size inb_S1_S1_0).toLoadRect
      ((fun _ => runWord n : Buf (Elt F) (runM.view.loc (c : Thread nD τ)))) (Shape.Idx.first (s := S1) (by decide))) 1#32 = runWord (n + 1) := by
  rw [rdRun_const]
  exact (BitVec.ofNat_add n 1).symm

theorem run_step (n : ℕ) (f : Buf (Elt F) (runM.view.loc (c : Thread nD τ))) (v : BitVec 32) (h : v = runWord (n + 1)) :
    (pt c fullShare runM (runM.view.writes (Elt F) f [⟨Rect.unit (s := S1) ![0] S1.size inb_S1_S1_0, fun _ => v⟩]) : sProp 𝕄)
      ⊢ pt c fullShare runM (fun _ => runWord (n + 1)) := by
  rw [run_store, h]

/-- The block a tile in use writes. -/
theorem block_read (arg6 : Memref sig .tc .vmem S256x7168 .bf16) (harg6 : arg6.IsWhole) (arg8 : Memref sig .tc .vmem S256x512 .f32)
    (f : arg8.view.ty.Contents (Elt F)) (x : Vec F S256x7168 .bf16) (g : Vec F S1x7168x512 .bf16) :
    arg8.view.read (Elt F) (arg8.view.writes (Elt F) f [⟨Rect.unit (s := S256x512) ![0, 0] S256x512.size inb_S256x512_S256x512_0_0,
      k0_pay1 (arg6.view.readAt (Elt F) (Rect.unit (s := S256x7168) ![0, 0] S256x7168.size inb_S256x7168_S256x7168_0_0).toLoadRect (harg6.unread x))
        (castM.view.readAt (Elt F) (Rect.unit (s := S1x7168x512) ![0, 0, 0] S1x7168x512.size inb_S1x7168x512_S1x7168x512_0_0_0).toLoadRect g)⟩])
      = k0_pay1 x g := by
  have hx : arg6.view.readAt (Elt F) (Rect.unit (s := S256x7168) ![0, 0] S256x7168.size inb_S256x7168_S256x7168_0_0).toLoadRect (harg6.unread x) = x :=
    (View.readAt_full arg6.view _ inb_S256x7168_S256x7168_0_0).trans (harg6.read_unread x)
  have hg : castM.view.readAt (Elt F) (Rect.unit (s := S1x7168x512) ![0, 0, 0] S1x7168x512.size inb_S1x7168x512_S1x7168x512_0_0_0).toLoadRect g = g :=
    (View.readAt_full castM.view g inb_S1x7168x512_S1x7168x512_0_0_0).trans (View.read_whole _ _)
  have h := full_store (F := F) arg8.view f inb_S256x512_S256x512_0_0 (k0_pay1 x g)
  rw [hx, hg]
  exact h

/-- The transfers' state before any has started. -/
def freeRing : sProp 𝕄 :=
  iprop(pt c fullShare wM w ∗ (∃ f, pt c fullShare ringM f) ∗ semVal ((c : Thread nD τ), SemLoc.dma (cell (slotOf 0))) 0
    ∗ semVal ((c : Thread nD τ), SemLoc.dma (cell (slotOf 1))) 0 ∗ (∃ u, pt c fullShare runM u))
/-- The transfers' state when run `n` is next. -/
def ringAt (n : ℕ) (o : Option (Fin 8 × Fin 4)) : sProp 𝕄 :=
  iprop(ring c w n o ∗ pt c fullShare runM (fun _ => runWord n))

/-- The tables, at the share the body holds them. -/
def tables (te : Buf (Elt F) (teM.view.loc (c : Thread nD τ))) (first : Buf (Elt F) (firstM.view.loc (c : Thread nD τ)))
    (next : Buf (Elt F) (nextM.view.loc (c : Thread nD τ))) (nv : Buf (Elt F) (nvM.view.loc (c : Thread nD τ))) : sProp 𝕄 :=
  iprop(pt c fullShare.right teM te ∗ pt c fullShare.right firstM first ∗ pt c fullShare.right nextM next ∗ pt c fullShare.right nvM nv)

/-- The tile to fetch after the run at tile `t` of column block `j`. -/
def following (te : IVec S74 32) (next : IVec S74 32) (j : Fin 4) (t : ℕ) : Option (Fin 8 × Fin 4) :=
  if 0 ≤ (word next t).toInt then some (expOf te (word next t).toNat, j)
  else if h : j.val + 1 < 4 then some (expOf te 0, ⟨j.val + 1, h⟩) else none

set_option maxHeartbeats 4000000 in
theorem body_run (i : grid0.Coords) (arg6 : Memref sig .tc .vmem S256x7168 .bf16) (harg6 : arg6.IsWhole)
    (arg8 : Memref sig .tc .vmem S256x512 .f32) (harg8 : arg8.IsWhole)
    (te : Buf (Elt F) (teM.view.loc (c : Thread nD τ))) (first : Buf (Elt F) (firstM.view.loc (c : Thread nD τ)))
    (next : Buf (Elt F) (nextM.view.loc (c : Thread nD τ))) (nv : Buf (Elt F) (nvM.view.loc (c : Thread nD τ)))
    (hte : ∀ t, t < 74 → word te t = expWord (expOf te t)) (hnext : (i 1).val < (rdNv c nv).toInt → word first (i 1).val = 1#32 → (word next (i 1).val).toInt < 74)
    (n : ℕ) (hn : n < 512) (j : Fin 4) (hj : i 0 = j) (o : Option (Fin 8 × Fin 4)) (S : sProp 𝕄)
    (hS : (k0_cond1 i = 1#1 ∧ S = freeRing c w ∧ n = 0 ∧ o = some (expOf te 0, 0)) ∨ (¬ k0_cond1 i = 1#1 ∧ S = ringAt c w n o))
    (hact : (i 1).val < (rdNv c nv).toInt → word first (i 1).val = 1#32 → o = some (expOf te (i 1).val, j))
    (x : Vec F S256x7168 .bf16) (g : Vec F S1x7168x512 .bf16) (K : PUnit → sProp 𝕄) :
    iprop(tables c te first next nv ∗ owns (c : Thread nD τ) arg6 fullShare x ∗ (∃ d, owns (c : Thread nD τ) arg8 fullShare d)
        ∗ S ∗ pt c fullShare castM g ∗ (∃ W, owes (c : Thread nD τ) 0 W)
        ∗ (tables c te first next nv -∗ owns (c : Thread nD τ) arg6 fullShare x
            -∗ ringAt c w (if (i 1).val < (rdNv c nv).toInt ∧ word first (i 1).val = 1#32 then n + 1 else n)
                (if (i 1).val < (rdNv c nv).toInt ∧ word first (i 1).val = 1#32 then following te next j (i 1).val else o)
            -∗ pt c fullShare castM (if (i 1).val < (rdNv c nv).toInt ∧ word first (i 1).val = 1#32
                  then castTile c w (expOf te (i 1).val) j else g)
            -∗ owns (c : Thread nD τ) arg8 fullShare (if (i 1).val < (rdNv c nv).toInt
                  then k0_pay1 x (if (i 1).val < (rdNv c nv).toInt ∧ word first (i 1).val = 1#32
                    then castTile c w (expOf te (i 1).val) j else g) else k0_pay2)
            -∗ (∃ W, owes (c : Thread nD τ) 0 W) -∗ K ⟨⟩))
      ⊢ wp frame (wpE (defs₀ (F := F)) Variants.none c none) Set.univ
          (cc0_moe_down i teM (Memref.isWhole_whole _) firstM (Memref.isWhole_whole _) nextM (Memref.isWhole_whole _)
            nvM (Memref.isWhole_whole _) arg6 harg6 wM (Memref.isWhole_whole _) arg8 harg8 ringM (Memref.isWhole_whole _)
            castM (Memref.isWhole_whole _) cc0_scratch2 runM (Memref.isWhole_whole _)) K := by
  simp only [cc0_moe_down_eq_skeleton]; unfold cc0_moe_down_skel
  unfold owns tables ringAt
  iintro ⟨⟨Ht, Hf, Hn, Hv⟩, ⟨%f6, %h6, H6⟩, ⟨%d8, %f8, -, H8⟩, HS, Hc, ⟨%W, HW⟩, Hk⟩
  obtain rfl := harg6.eq_unread h6
  rcases hS with ⟨h1, rfl, rfl, rfl⟩ | ⟨h1, rfl⟩
  case' inl =>
    unfold freeRing
    icases HS with ⟨Hw, Hr, Hv0, Hv1, ⟨%u, Hu⟩⟩
    have hw : rdTe c te ![0] inb_S74_S1_0 = expWord (expOf te 0) := by rw [rdTe_eq c te rfl]; exact hte 0 (by decide)
    have k1 : k0_chk1 i (rdTe c te ![0] inb_S74_S1_0) := by
      rw [hw]; unfold k0_chk1; rw [off1_at]; exact fun _ => tile_inb _ 0
    have e7 : k0_off1 (rdTe c te ![0] inb_S74_S1_0) = ![(expOf te 0).val, 0, (0 : Fin 4).val * 512] := by rw [hw, off1_at]
    set_option sl_exec.stopBefore "k0_cond2" in
    sl_exec (disch := first | sl_exact h1 | sl_exact k1)
    iapply (issue c w (s := slotOf 0) rfl e7 rfl) $$ [Hw Hr Hv0]
    · isplitl [Hw]; · iexact Hw
      isplitl [Hr]; · iexact Hr
      iexact Hv0
    iintro HF
    ihave HR := (ring_intro c w 0 (expOf te 0, 0)) $$ [HF Hv1]
    · isplitl [HF]; · iexact HF
      iexact Hv1
    rw [run_store]
  case' inr =>
    unfold ringAt
    icases HS with ⟨HR, Hu⟩
    set_option sl_exec.stopBefore "k0_cond2" in
    sl_exec (disch := first | sl_exact h1)
  all_goals
    have hv10 : rdFirst c first (k0_off2 i) (k0_off2_inb i) = word first (i 1).val := rdFirst_eq c first (off2_at i) _
    by_cases h5 : ((i 1).val : ℤ) < (rdNv c nv).toInt
    · have hc5 : k0_cond5 i (rdNv c nv) = 1#1 := (cond5_iff _ _).2 h5
      have hc6 : ¬ k0_cond6 i (rdNv c nv) = 1#1 := fun h => (cond6_iff _ _).1 h h5
      by_cases hf : word first (i 1).val = 1#32
      on_goal 1 =>
        have hyes : ((i 1).val : ℤ) < (rdNv c nv).toInt ∧ word first (i 1).val = 1#32 := ⟨h5, hf⟩
        have h2 : k0_cond2 i (rdNv c nv) (rdFirst c first (k0_off2 i) (k0_off2_inb i)) = 1#1 :=
          (cond2_iff _ _ _).2 ⟨h5, hv10.trans hf⟩
        have ho := hact h5 hf
        have ht : (i 1).val < 74 := (i 1).isLt
        have he' : 0 ≤ (word next (i 1).val).toInt → word te (word next (i 1).val).toNat = expWord (expOf te (word next (i 1).val).toNat) :=
          fun h => hte _ (by have := toInt_eq_toNat h; have := hnext h5 hf; omega)
        have hjv : (i 0).val = j.val := congrArg Fin.val hj
        rw [ho, if_pos hyes, if_pos hyes, if_pos hyes, if_pos h5]
        set_option sl_exec.stopBefore "k0_part1" in
        sl_exec (disch := first | sl_exact h2)
        beta_reduce
        rw [wp_bind]
        iapply (part1_next c w i arg6 harg6 arg8 harg8 te next _ hn j hj (expOf te (i 1).val) (expOf te (word next (i 1).val).toNat)
          (hte _ ht) (hnext h5 hf) he')
        isplitl [Ht]; · iexact Ht
        isplitl [Hn]; · iexact Hn
        isplitl [HR]; · iexact HR
        isplitl [Hc]; · iexists _; iexact Hc
        isplitl [Hu]; · iexact Hu
        isplitl [HW]; · iexists _; iexact HW
        iintro %r %hr Ht Hn HR Hc Hu ⟨%W', HW⟩
        obtain ⟨v23, v33, v52, hw4⟩ := r
        obtain ⟨rfl, rfl⟩ := hr
        by_cases h0 : 0 ≤ (word next (i 1).val).toInt
        on_goal 1 =>
          have hfol : following te next j (i 1).val = some (expOf te (word next (i 1).val).toNat, j) := if_pos h0
          have hc4 : ¬ k0_cond4 i (word next (i 1).val) = 1#1 := fun h => ((cond4_iff _ _).1 h).1 h0
          rw [if_pos h0, hfol]
          sl_exec (disch := first | sl_exact hc4 | sl_exact hc5 | sl_exact hc6)
        on_goal 2 =>
          rw [if_neg h0]
          by_cases hl : j.val + 1 < 4
        on_goal 2 =>
          have hfol : following te next j (i 1).val = some (expOf te 0, ⟨j.val + 1, hl⟩) := by
            unfold following; rw [if_neg h0, dif_pos hl]
          have hc4 : k0_cond4 i (word next (i 1).val) = 1#1 := (cond4_iff _ _).2 ⟨h0, hjv ▸ hl⟩
          have hw : rdTe c te ![0] inb_S74_S1_0 = expWord (expOf te 0) := by rw [rdTe_eq c te rfl]; exact hte 0 (by decide)
          have k6 : k0_chk6 i (rdNv c nv) (rdFirst c first (k0_off2 i) (k0_off2_inb i)) (word next (i 1).val) (rdTe c te ![0] inb_S74_S1_0) := by
            rw [hw]; exact chk6_at _ _ _ _ _
          have e7 : k0_off15 i (rdTe c te ![0] inb_S74_S1_0) = ![(expOf te 0).val, 0, (⟨j.val + 1, hl⟩ : Fin 4).val * 512] := by
            rw [hw, off15_at, hjv]
          rw [hfol]
          ihave HR := (ring_elim c w _) $$ HR
          icases HR with ⟨Hw, Hr, Hv0, Hv1⟩
          sl_exec (disch := first | sl_exact hc4 | sl_exact k6)
          iapply (issue c w (s := slotOf (_ + 1)) (off13_at ⟨_, hn⟩) e7 (off14_at ⟨_, hn⟩)) $$ [Hw Hr Hv0]
          · isplitl [Hw]; · iexact Hw
            isplitl [Hr]; · iexact Hr
            iexact Hv0
          iintro HF
          ihave HR := (ring_intro c w _ (expOf te 0, ⟨j.val + 1, hl⟩)) $$ [HF Hv1]
          · isplitl [HF]; · iexact HF
            iexact Hv1
          sl_exec (disch := first | sl_exact hc5 | sl_exact hc6)
        on_goal 3 =>
          have hfol : following te next j (i 1).val = none := by
            unfold following; rw [if_neg h0, dif_neg hl]
          have hc4 : ¬ k0_cond4 i (word next (i 1).val) = 1#1 := fun h => hl (hjv ▸ ((cond4_iff _ _).1 h).2)
          rw [hfol]
          sl_exec (disch := first | sl_exact hc4 | sl_exact hc5 | sl_exact hc6)
        all_goals
          sl_step
      on_goal 4 =>
        have h2 : ¬ k0_cond2 i (rdNv c nv) (rdFirst c first (k0_off2 i) (k0_off2_inb i)) = 1#1 := fun h =>
          hf (hv10 ▸ ((cond2_iff _ _ _).1 h).2)
        have hno : ¬ (((i 1).val : ℤ) < (rdNv c nv).toInt ∧ word first (i 1).val = 1#32) := fun h => hf h.2
        rw [if_neg hno, if_neg hno, if_neg hno, if_pos h5]
        sl_exec (disch := first | sl_exact h2 | sl_exact hc5 | sl_exact hc6)
      on_goal 4 => sl_step
      all_goals
        iapply Hk $$ [Ht Hf Hn Hv] [H6] [HR Hu] Hc [H8] [HW]
        · isplitl [Ht]; · iexact Ht
          isplitl [Hf]; · iexact Hf
          isplitl [Hn]; · iexact Hn
          iexact Hv
        · iexists _; isplitr; swap; · iexact H6
          ipureintro; exact harg6.read_unread _
        · isplitl [HR]; · iexact HR
          first
          | iexact Hu
          | (iapply (run_step c _ _ _ (run_succ (F := F) c _)); iexact Hu)
        · iexists _; isplitr; swap; · iexact H8
          ipureintro; exact block_read arg6 harg6 arg8 _ _ _
        · iexists _; iexact HW
    · have h2 : ¬ k0_cond2 i (rdNv c nv) (rdFirst c first (k0_off2 i) (k0_off2_inb i)) = 1#1 := fun h => h5 ((cond2_iff _ _ _).1 h).1
      have hc5 : ¬ k0_cond5 i (rdNv c nv) = 1#1 := fun h => h5 ((cond5_iff _ _).1 h)
      have hc6 : k0_cond6 i (rdNv c nv) = 1#1 := (cond6_iff _ _).2 h5
      sl_exec (disch := first | sl_exact h2 | sl_exact hc5 | sl_exact hc6)
      sl_step
      have hno : ¬ (((i 1).val : ℤ) < (rdNv c nv).toInt ∧ word first (i 1).val = 1#32) := fun h => h5 h.1
      rw [if_neg hno, if_neg hno, if_neg hno, if_neg h5]
      iapply Hk $$ [Ht Hf Hn Hv] [H6] [HR Hu] Hc [H8] [HW]
      · isplitl [Ht]; · iexact Ht
        isplitl [Hf]; · iexact Hf
        isplitl [Hn]; · iexact Hn
        iexact Hv
      · iexists _; isplitr; swap; · iexact H6
        ipureintro; exact harg6.read_unread _
      · isplitl [HR]; · iexact HR
        iexact Hu
      · iexists _; isplitr; swap; · iexact H8
        ipureintro; exact full_store arg8.view _ _ _
      · iexists _; iexact HW

end Cert.MoeDownIdeal.Hand
-- ==== Proof.MoeDownIdealFrame.lean ====
/- The grouped down product's run: the state before each grid point, and what each point writes. -/
module

public import proofs.«01_k».proof.Proof.MoeDownIdealStep
public import Idealize.ShloMosaic.Lib.Claim

@[expose] public section

set_option maxRecDepth 16384

noncomputable section

namespace Cert.MoeDownIdeal.Hand

open Cert Cert.MoeDownIdeal Cert.MoeDownIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays at the launch -/

abbrev V (c : Dev nD) (b : Ref sig .tc) : Buf (Elt F) ((c : Thread nD τ).loc b) := m ((c : Thread nD τ).loc b)

abbrev teB (c : Dev nD) : Buf (Elt F) (teM.view.loc (c : Thread nD τ)) := m (teM.view.loc (c : Thread nD τ))
abbrev firstB (c : Dev nD) : Buf (Elt F) (firstM.view.loc (c : Thread nD τ)) := m (firstM.view.loc (c : Thread nD τ))
abbrev nextB (c : Dev nD) : Buf (Elt F) (nextM.view.loc (c : Thread nD τ)) := m (nextM.view.loc (c : Thread nD τ))
abbrev nvB (c : Dev nD) : Buf (Elt F) (nvM.view.loc (c : Thread nD τ)) := m (nvM.view.loc (c : Thread nD τ))
abbrev wB (c : Dev nD) : Buf (Elt F) (wM.view.loc (c : Thread nD τ)) := m (wM.view.loc (c : Thread nD τ))

/-- The number of tiles in use. -/
abbrev nvW (c : Dev nD) : BitVec 32 := rdNv c (nvB m c)

/-- The tables are a routing's. -/
def Routed : Prop := ∀ c : Dev nD, Tables (word (teB m c)) (word (firstB m c)) (word (nextB m c)) (nvW m c)

/-! ## The state before a position -/

/-- The weight tile wanted at position `n'`. -/
def wanted (te : IVec S74 32) (n' : ℕ) : Option (Fin 8 × Fin 4) :=
  if h : n' < 4 * 74 then some (expOf te (n' % 74), ⟨n' / 74, by omega⟩) else none

theorem wanted_at (te : IVec S74 32) (j : Fin 4) {t : ℕ} (ht : t < 74) : wanted te (j.val * 74 + t) = some (expOf te t, j) := by
  have hj := j.isLt
  unfold wanted
  rw [dif_pos (by omega)]
  congr 2
  · rw [show (j.val * 74 + t) % 74 = t by omega]
  · exact Fin.ext (by show (j.val * 74 + t) / 74 = j.val; omega)

/-- Before position `p` the cast weight tile is that of the tile before in the same column, when that one is in use. -/
def Kept (c : Dev nD) (p : ℕ) (g : Buf (Elt F) (castM.view.loc (c : Thread nD τ))) : Prop :=
  ∀ (j : Fin 4) (t : ℕ), t + 1 < 74 → p = j.val * 74 + (t + 1) → t < (nvW m c).toNat → g = castTile c (wB m c) (expOf (teB m c) t) j

/-- The state before position `p`: the tables, the transfers (none begun before the first position), the cast tile. -/
def Inv (c : Dev nD) (p : ℕ) : sProp 𝕄 :=
  iprop(tables c (teB m c) (firstB m c) (nextB m c) (nvB m c) ∗ (∃ r, prngReg c r)
    ∗ ∃ (n' : ℕ) (S : sProp 𝕄) (g : Buf (Elt F) (castM.view.loc (c : Thread nD τ))),
      ⌜Upcoming (word (firstB m c)) (nvW m c) (4 * 74) p n' ∧ Kept m c p g
        ∧ ((p = 0 ∧ S = freeRing c (wB m c))
          ∨ (p ≠ 0 ∧ S = ringAt c (wB m c) (Routing.count (word (firstB m c)) (nvW m c) p) (wanted (teB m c) n')))⌝
      ∗ S ∗ pt c fullShare castM g)

/-- The block written at column block `j` and tile `t`, of the rows `x`. -/
def block (c : Dev nD) (j : Fin 4) (t : ℕ) (x : Vec F S256x7168 .bf16) : Vec F S256x512 .f32 :=
  if t < (nvW m c).toNat then k0_pay1 x (castTile c (wB m c) (expOf (teB m c) t) j) else k0_pay2

/-- The number of tiles used is the one entry of its array. -/
theorem nvW_eq (c : Dev nD) (nv : IVec S1 32) (h : nvB m c = nv) : nvW m c = nv (ix1 0) := by
  subst h
  exact congrArg (nvB m c) (funext fun a => Fin.ext (by fin_cases a; rfl))

/-- The tables in memory are good ones when the arrays handed in are. -/
theorem Routed.of (h : ∀ c : Dev nD, Tables (word (m ((c.tc : Thread nD τ).loc main_arg2))) (word (m ((c.tc : Thread nD τ).loc main_arg3)))
    (word (m ((c.tc : Thread nD τ).loc main_arg4))) ((m ((c.tc : Thread nD τ).loc main_arg5) : IVec S1 32) (ix1 0))) : Routed m := by
  intro c
  rw [nvW_eq m c _ rfl]
  exact h c

variable {m}

section Step
variable (hT : Routed m) (c : Dev nD)
include hT

theorem Routed.toInt : (nvW m c).toInt = (nvW m c).toNat := by
  have := (hT c).le
  rw [BitVec.toInt_eq_toNat_cond, if_pos (by omega)]

theorem Routed.used (t : ℕ) : (t : ℤ) < (nvW m c).toInt ↔ t < (nvW m c).toNat := by
  rw [hT.toInt c]; exact Nat.cast_lt

/-- A position fetches exactly when the body's two tests succeed. -/
theorem Routed.starts (j : Fin 4) {t : ℕ} (ht : t < 74) :
    Starts (word (firstB m c)) (nvW m c) (j.val * 74 + t) ↔ (t : ℤ) < (nvW m c).toInt ∧ word (firstB m c) t = 1#32 := by
  unfold Starts
  rw [show (j.val * 74 + t) % 74 = t by omega, hT.used c]

/-- The runs begun so far, after a position. -/
theorem Routed.count_step (j : Fin 4) {t : ℕ} (ht : t < 74) :
    (if (t : ℤ) < (nvW m c).toInt ∧ word (firstB m c) t = 1#32
      then Routing.count (word (firstB m c)) (nvW m c) (j.val * 74 + t) + 1 else Routing.count (word (firstB m c)) (nvW m c) (j.val * 74 + t))
      = Routing.count (word (firstB m c)) (nvW m c) (j.val * 74 + t + 1) := by
  have e := hT.starts c j ht
  conv_rhs => unfold Routing.count
  by_cases h : Starts (word (firstB m c)) (nvW m c) (j.val * 74 + t)
  · rw [if_pos (e.1 h), if_pos h]
  · rw [if_neg (fun h' => h (e.2 h')), if_neg h]; rfl

/-- The weight tile wanted, after a position. -/
theorem Routed.wanted_step (j : Fin 4) {t : ℕ} (ht : t < 74) {n' : ℕ}
    (h : Upcoming (word (firstB m c)) (nvW m c) (4 * 74) (j.val * 74 + t) n') :
    ∃ n'', Upcoming (word (firstB m c)) (nvW m c) (4 * 74) (j.val * 74 + t + 1) n''
      ∧ wanted (teB m c) n'' = if (t : ℤ) < (nvW m c).toInt ∧ word (firstB m c) t = 1#32
          then following (teB m c) (nextB m c) j t else wanted (teB m c) n' := by
  have e := hT.starts c j ht
  have hj := j.isLt
  by_cases hs : Starts (word (firstB m c)) (nvW m c) (j.val * 74 + t)
  · rw [if_pos (e.1 hs)]
    unfold following
    by_cases h0 : 0 ≤ (word (nextB m c) t).toInt
    · refine ⟨_, (hT c).upcoming_next hj ht hs h0, ?_⟩
      have hh := (hT c).hit t ((hT.used c t).1 (e.1 hs).1) (e.1 hs).2 h0
      have := (hT c).le
      rw [if_pos h0]
      exact wanted_at _ _ (by omega)
    · refine ⟨_, (hT c).upcoming_col hj ht hs h0, ?_⟩
      rw [if_neg h0]
      by_cases hl : j.val + 1 < 4
      · rw [dif_pos hl]
        exact wanted_at (teB m c) ⟨j.val + 1, hl⟩ (t := 0) (by decide)
      · rw [dif_neg hl]; unfold wanted; rw [dif_neg (by omega)]
  · rw [if_neg (fun h' => hs (e.2 h'))]
    exact ⟨n', h.skip (by omega) hs, rfl⟩

/-- The weight tile a position multiplies by, if its tile is in use. -/
theorem Routed.tile_step (j : Fin 4) {t : ℕ} (ht : t < 74) {g : Buf (Elt F) (castM.view.loc (c : Thread nD τ))}
    (hg : Kept m c (j.val * 74 + t) g) (hu : t < (nvW m c).toNat) :
    (if (t : ℤ) < (nvW m c).toInt ∧ word (firstB m c) t = 1#32 then castTile c (wB m c) (expOf (teB m c) t) j else g)
      = castTile c (wB m c) (expOf (teB m c) t) j := by
  by_cases h : (t : ℤ) < (nvW m c).toInt ∧ word (firstB m c) t = 1#32
  · rw [if_pos h]
  · rw [if_neg h]
    have hf : word (firstB m c) t ≠ 1#32 := fun h' => h ⟨(hT.used c t).2 hu, h'⟩
    cases t with
    | zero => exact absurd (hT c).first0 hf
    | succ s =>
      rw [hg j s ht rfl (by omega)]
      have hk := (hT c).keep s hu hf
      unfold expOf
      simp only [hk]

/-- What is kept, after a position. -/
theorem Routed.kept_step (j : Fin 4) {t : ℕ} (ht : t < 74) {g : Buf (Elt F) (castM.view.loc (c : Thread nD τ))}
    (hg : Kept m c (j.val * 74 + t) g) :
    Kept m c (j.val * 74 + t + 1)
      (if (t : ℤ) < (nvW m c).toInt ∧ word (firstB m c) t = 1#32 then castTile c (wB m c) (expOf (teB m c) t) j else g) := by
  intro j' t' ht' hp hu
  have hj : j' = j := Fin.ext (by omega)
  have htt : t' = t := by subst hj; omega
  subst hj htt
  exact hT.tile_step c j' ht hg hu

end Step

/-! ## The proof data -/

section Data
variable (m)

/-- The tables the region reads at its entry. -/
abbrev tbl : pre0.Contents (Elt F) := fun k => m (((0 : Dev nD) : Thread nD τ).loc (pre0.ref k))
abbrev adm : (pcfg0 (F := F)).Adm := ⟨tbl m, (show ok0 (tbl m) from trivial)⟩
abbrev cfgM : Pipeline.Cfg sig Λ₀ := cfg0 (adm m)

/-- Window `w`'s block at point `t`, as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The rows at point `t`, and the block written there. -/
def rowsAt (c : Dev nD) (t : Fin (cfgM m).N) : Vec F S256x7168 .bf16 := iblk m c 0 t
def outAt (c : Dev nD) (t : Fin (cfgM m).N) : Vec F S256x512 .f32 :=
  block m c (grid0.coords t 0) (grid0.coords t 1).val (rowsAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m c t
  Φ t := Inv m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := rfl
theorem after0_1 (c : Dev nD) (t : Fin (cfgM m).N) : (dats m 0 c).after 1 t = outAt m c t := rfl

theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; try rfl)

theorem coords_pos : ∀ t : Fin grid0.N, t.val = (grid0.coords t 0).val * 74 + (grid0.coords t 1).val := by decide +kernel

/-- The staging buffers at point `t`, and the body called there. -/
abbrev ms0_0 (t : Fin (cfgM m).N) : Memref sig .tc .vmem S256x7168 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S256x512 .f32 := spec0_1.stage ((cfgM m).slots t 1)
abbrev hs0_1 (t : Fin (cfgM m).N) : (ms0_1 m t).IsWhole := hstage0_1 (((cfgM m).slots t 1).cast nbuf0_1)
abbrev bodyAt0 (t : Fin (cfgM m).N) : Prog (TpuEff nD τ sig (Elt F) Λ₀ .tc) PUnit :=
  cc0_moe_down (grid0.coords t) teM (Memref.isWhole_whole _) firstM (Memref.isWhole_whole _) nextM (Memref.isWhole_whole _)
    nvM (Memref.isWhole_whole _) (ms0_0 m t) (hs0_0 m t) wM (Memref.isWhole_whole _) (ms0_1 m t) (hs0_1 m t)
    ringM (Memref.isWhole_whole _) castM (Memref.isWhole_whole _) cc0_scratch2 runM (Memref.isWhole_whole _)

theorem defs₀_row (t : Fin (cfgM m).N) :
    defs₀ (F := F) .tc (cfgM m).body ((cfgM m).bodyArgs t ((cfgM m).slots t)) = bodyAt0 m t := by
  unfold defs₀; rw [Defs.onTc_tc]

/-- Every point writes its block. -/
theorem idle0_1 (t : Fin (cfgM m).N) : (cfgM m).idle 1 ((cfgM m).grid.coords t) = false := by
  show (!(k0_cond5 (grid0.coords t) _ == 1#1) && !(k0_cond6 (grid0.coords t) _ == 1#1)) = false
  generalize (tbl m).atD 3 ![0] = v
  by_cases h : ((grid0.coords t 1).val : ℤ) < (v : BitVec 32).toInt
  · rw [(cond5_iff _ _).2 h]; rfl
  · rw [(cond6_iff _ _).2 h]; exact Bool.and_false _

end Data

end Cert.MoeDownIdeal.Hand
-- ==== Proof.MoeDownIdealRun.lean ====
/- The grouped down product's run: the body at every point, the launch, and the argument arrays unchanged. -/
module

public import proofs.«01_k».proof.Proof.MoeDownIdealFrame
public import Idealize.ShloMosaic.Lib.Claim

@[expose] public section

set_option maxRecDepth 16384

noncomputable section

namespace Cert.MoeDownIdeal.Hand

open Cert Cert.MoeDownIdeal Cert.MoeDownIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body at every point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem inv_eq (c : Dev nD) (p : Fin ((cfgM m).N + 1)) : (dats m 0 c).Φ p = Inv m c p.val := by dsimp only [dats]
theorem owed_eq (c : Dev nD) (p : Fin ((cfgM m).N + 1)) : (dats m 0 c).owed p = 0 := by dsimp only [dats]

theorem sound_body (hT : Routed m) (c : Dev nD) (t : Fin (cfgM m).N) :
    bodyPre m c t ⊢ wp frame (wpE (defs₀ (F := F)) Variants.none c none) Set.univ (bodyAt0 m t) (fun _ => bodyPost m c t) := by
  obtain ⟨j, hj⟩ : ∃ j : Fin 4, grid0.coords t 0 = j := ⟨_, rfl⟩
  have ht : (grid0.coords t 1).val < 74 := (grid0.coords t 1).isLt
  have hp : t.val = j.val * 74 + (grid0.coords t 1).val := by rw [← hj]; exact coords_pos t
  have hN : t.val < 296 := lt_of_lt_of_eq t.isLt N_0
  unfold bodyPre bodyPost
  simp only [before0_0]
  rw [after0_0, after0_1]
  rw [inv_eq, inv_eq]
  unfold Dat.owesAt Pipeline.owesWithin
  rw [owed_eq, owed_eq, Fin.val_castSucc, Fin.val_succ]
  unfold Inv
  iintro ⟨⟨HT, Hg, ⟨%n', %S, %g, %hI, HS, Hc⟩⟩, ⟨%W, %hW, HO⟩, ⟨%d0, H0⟩, H1⟩
  obtain ⟨hup, hk, hS⟩ := hI
  rw [hp] at hup hk
  obtain ⟨n'', hup', hw'⟩ := hT.wanted_step c j ht hup
  iapply (body_run c (wB m c) (grid0.coords t) (ms0_0 m t) (hs0_0 m t) (ms0_1 m t) (hs0_1 m t) (teB m c) (firstB m c) (nextB m c) (nvB m c)
    (fun t ht => expOf_word ((hT c).te_lt t ht))
    (fun h hf => by
      by_cases h0 : 0 ≤ (word (nextB m c) (grid0.coords t 1).val).toInt
      · have := (hT c).hit _ ((hT.used c _).1 h) hf h0
        have := (hT c).le
        rw [toInt_eq_toNat h0]; omega
      · omega)
    (Routing.count (word (firstB m c)) (nvW m c) t.val) (by have := count_le (first := word (firstB m c)) (nv := nvW m c) t.val; omega)
    j hj (wanted (teB m c) n') S
    (by
      rcases hS with ⟨h0, rfl⟩ | ⟨h0, rfl⟩
      · refine .inl ⟨(cond1_iff _).2 ⟨by rw [hj]; omega, by omega⟩, rfl, by rw [h0]; rfl, ?_⟩
        rw [← hp, h0] at hup
        rw [hup.unique (hT c).upcoming_start]
        exact wanted_at (teB m c) 0 (t := 0) (by decide)
      · refine .inr ⟨fun h => h0 ?_, rfl⟩
        have := (cond1_iff _).1 h
        rw [hj] at this; omega)
    (fun h hf => by rw [hup.here ((hT.starts c j ht).2 ⟨h, hf⟩)]; exact wanted_at _ _ ht)
    (rowsAt m c t) g)
  isplitl [HT]; · iexact HT
  isplitl [H0]; · iexact H0
  isplitl [H1]; · icases H1 with ⟨%d, H1⟩; iexists _; iexact H1
  isplitl [HS]; · iexact HS
  isplitl [Hc]; · iexact Hc
  isplitl [HO]; · iexists _; iexact HO
  iintro HT H0 HS Hc H1 ⟨%W', HO⟩
  isplitl [HT Hg HS Hc]
  · isplitl [HT]; · iexact HT
    isplitl [Hg]; · iexact Hg
    iexists n'', _, _
    isplitr; swap
    · isplitl [HS]; · iexact HS
      iexact Hc
    ipureintro
    refine ⟨by rw [hp]; exact hup', by rw [hp]; exact hT.kept_step c j ht hk, .inr ⟨by omega, ?_⟩⟩
    rw [hw', hp, hT.count_step c j ht]
  isplitl [HO]
  · iexists W'
    isplitr; · ipureintro; exact fun _ _ => Or.inl trivial
    iexact HO
  isplitl [H0]; · iexact H0
  have hb : outAt m c t = if ((grid0.coords t 1).val : ℤ) < (nvW m c).toInt
      then k0_pay1 (rowsAt m c t) (if ((grid0.coords t 1).val : ℤ) < (nvW m c).toInt ∧ word (firstB m c) (grid0.coords t 1).val = 1#32
        then castTile c (wB m c) (expOf (teB m c) (grid0.coords t 1).val) j else g) else k0_pay2 := by
    unfold outAt block
    rw [hj]
    by_cases hu : (grid0.coords t 1).val < (nvW m c).toNat
    · rw [if_pos hu, hT.tile_step c j ht hk hu, if_pos ((hT.used c _).2 hu)]
    · rw [if_neg hu, if_neg fun h => hu ((hT.used c _).1 h)]
  rw [hb]
  iexact H1

theorem body_obligation (hT : Routed m) (c : Dev nD) :
    BodyObligation (dats (F := F) m 0 c) (defs₀ (F := F)) Variants.none () Set.univ := fun t => by
  rw [bigSep_W0, bigSep_W0, defs₀_row]
  refine triple_restated (sound_body m hT c t) rfl .rfl fun _ => ?_
  have h := idle0_1 m t
  unfold bodyPost
  refine sep_mono .rfl (sep_mono .rfl (sep_mono .rfl ?_))
  dsimp only
  split
  · rename_i h'; exact absurd (show true = false from h'.symm.trans h) (by decide)
  · exact .rfl

/-! ## The launch -/

/-- The kernel's own semaphores, one a slot of the ring. -/
def osem : Fin 2 → SemLoc sig := fun s => SemLoc.dma (cell s)
theorem ownSemFacts : Pipeline.OwnSemFacts spec0 osem := by decide +kernel
theorem ownSems_eq (c : Dev nD) : (Pipeline.ownSems0 osem c : sProp 𝕄)
    = iprop(semVal ((c : Thread nD τ), SemLoc.dma (cell 0)) 0 ∗ semVal ((c : Thread nD τ), SemLoc.dma (cell 1)) 0) := by
  rw [Pipeline.ownSems0_eq_of_list c osem [0, 1] (by decide) (by decide)]; rfl

/-- The weights are the one array the kernel reads by itself. -/
def H0 : Finset (Ref sig .tc) := {main_arg1}
theorem H0_sub : H0 ⊆ Pipeline.restRefsP sig pre0 spec0 := by decide
theorem hbm_eq (c : Dev nD) (V : (b : Ref sig .tc) → Buf (Elt F) ((c : Thread nD τ).loc b)) :
    (bigSep H0 (fun b => (((c : Thread nD τ).loc b) ↦{fullShare} V b : sProp 𝕄))) = iprop(((c : Thread nD τ).loc main_arg1) ↦{fullShare} V main_arg1) := by
  rw [BI.bigSep_eq_bigSepL_of_eq [main_arg1] (by decide) (by decide)]; rfl

theorem tables_eq (c : Dev nD) : (Pipeline.ΦT pre0 (tbl m) c : sProp 𝕄) = tables c (teB m c) (firstB m c) (nextB m c) (nvB m c) := by
  obtain rfl : c = 0 := Subsingleton.elim _ _
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl
theorem V_pre (c : Dev nD) (k : Fin 4) : V m c (pre0.ref k) = tbl m k := by
  obtain rfl : c = 0 := Subsingleton.elim _ _
  rfl

theorem slots_two (n : ℕ) : (slotOf n = 0 ∧ slotOf (n + 1) = 1) ∨ (slotOf n = 1 ∧ slotOf (n + 1) = 0) := by
  rcases Nat.mod_two_eq_zero_or_one n with h | h
  · exact .inl ⟨Fin.ext h, Fin.ext (by show (n + 1) % 2 = 1; omega)⟩
  · exact .inr ⟨Fin.ext h, Fin.ext (by show (n + 1) % 2 = 0; omega)⟩

/-- With nothing left to fetch, the kernel holds its buffers and both its semaphores at zero. -/
theorem ring_end (c : Dev nD) (w : Buf (Elt F) (wM.view.loc (c : Thread nD τ))) (n : ℕ) : (ring c w n none : sProp 𝕄)
    ⊢ iprop(pt c fullShare wM w ∗ (∃ f, pt c fullShare ringM f)
      ∗ semVal ((c : Thread nD τ), SemLoc.dma (cell 0)) 0 ∗ semVal ((c : Thread nD τ), SemLoc.dma (cell 1)) 0) := by
  iintro H
  ihave H := ring_elim c w n $$ H
  rcases slots_two n with ⟨h0, h1⟩ | ⟨h0, h1⟩
  · rw [h0, h1]; iexact H
  · rw [h0, h1]
    icases H with ⟨Hw, Hf, Ha, Hb⟩
    isplitl [Hw]; · iexact Hw
    isplitl [Hf]; · iexact Hf
    isplitl [Hb]; · iexact Hb
    iexact Ha

theorem wanted_end (te : IVec S74 32) {n' : ℕ} (h : 296 ≤ n') : wanted te n' = none := by
  unfold wanted; rw [dif_neg (by omega)]

theorem inv_first (hT : Routed m) (c : Dev nD) :
    iprop(Pipeline.ΦD osem spec0 H0 (V m) c ∗ Pipeline.ΦT pre0 (tbl m) c) ⊢ (Inv m c 0 : sProp 𝕄) := by
  rw [tables_eq]
  unfold Pipeline.ΦD
  rw [scopedRest0_eq, ownSems_eq, hbm_eq]
  unfold Inv
  iintro ⟨⟨⟨Hr, ⟨%g, Hc⟩, Hn⟩, Hg, ⟨Ha, Hb⟩, Hw⟩, HT⟩
  isplitl [HT]; · iexact HT
  isplitl [Hg]; · iexact Hg
  iexists 0, freeRing c (wB m c), g
  isplitr
  · ipureintro
    exact ⟨(hT c).upcoming_start, fun j t _ h => absurd h (by omega), .inl ⟨rfl, rfl⟩⟩
  isplitr [Hc]; swap
  · iexact Hc
  unfold freeRing
  isplitl [Hw]; · iexact Hw
  isplitl [Hr]; · iexact Hr
  isplitl [Ha]; · iexact Ha
  isplitl [Hb]; · iexact Hb
  iexact Hn

theorem inv_last (c : Dev nD) : (Inv m c 296 : sProp 𝕄) ⊢ Pipeline.ΦD osem spec0 H0 (V m) c := by
  unfold Pipeline.ΦD
  rw [scopedRest0_eq, ownSems_eq, hbm_eq]
  unfold Inv
  iintro ⟨HT, Hg, ⟨%n', %S, %g, %hI, HS, Hc⟩⟩
  obtain ⟨hup, -, h⟩ := hI
  rcases h with ⟨h, -⟩ | ⟨-, rfl⟩
  · omega
  rw [wanted_end _ hup.from_le]
  unfold ringAt
  icases HS with ⟨HS, Hn⟩
  ihave HS := ring_end c _ _ $$ HS
  icases HS with ⟨Hw, Hr, Ha, Hb⟩
  isplitl [Hr Hc Hn]
  · isplitl [Hr]; · iexact Hr
    isplitl [Hc]; · iexists _; iexact Hc
    iexists _; iexact Hn
  isplitl [Hg]; · iexact Hg
  isplitl [Ha Hb]
  · isplitl [Ha]; · iexact Ha
    iexact Hb
  iexact Hw

theorem inv_begin (c : Dev nD) : (dats m 0 c).Φ 0 = Inv m c 0 := inv_eq m c 0
theorem inv_end (c : Dev nD) : (dats m 0 c).Φ (Fin.last (cfgM m).N) = Inv m c 296 := by
  rw [inv_eq, Fin.val_last]; exact congrArg (Inv m c) N_0

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_region pcfgs 0 defs₀ 𝒱₀ m main fun c => (main_chain c).trans rfl

set_option backward.isDefEq.respectTransparency.types false in
/-- Every execution from zero counters ends, with the arrays at what the proof data say and the counters at zero. -/
theorem run_quiescent (hT : Routed m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none ownSemFacts H0 H0_sub m ρ main
    (hbody := fun c => (body_obligation m hT c).loose) (hshare := fun c => (dats m 0 c).share_full fun _ => rfl) (howed := fun _ _ => rfl)
    (V := V m) (hmain := hmain m Variants.none) (hA := A_eq m) (hpf := V_pre m)
    (hin := fun c => (inv_first m hT c).trans (Eq.le (inv_begin m c).symm))
    (hout := fun c => (Eq.le (inv_end m c)).trans (inv_last m c))

/-! The arrays no window stages. -/
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)
theorem rest_arg5 : main_arg5 ∈ Pipeline.restRefs sig spec0 := Pipeline.mem_restRefs_of main_arg5 (by decide) (by decide)

/-- The argument arrays end unchanged. -/
theorem kept_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (A_eq m c 0)),
    (h c).2 main_arg1 rest_arg1,
    (h c).2 main_arg2 rest_arg2,
    (h c).2 main_arg3 rest_arg3,
    (h c).2 main_arg4 rest_arg4,
    (h c).2 main_arg5 rest_arg5⟩

/-- The frame, for tables of a routing. -/
theorem frame (hT : Routed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => kept_of m h.1 c, h.2⟩) (run_quiescent m ρ hT)

end Cert.MoeDownIdeal.Hand
-- ==== Proof.MoeDownValue.lean ====
/- What the grouped down product computes over the extended reals: each row times its tile's expert's weights. -/
module

public import proofs.«01_k».proof.Proof.MoeDownIdealRun
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.MoeDownIdeal.Val

open Cert.MoeDownIdeal Cert.MoeDownIdeal.Gen Cert.MoeDownIdeal.Hand Cert.Routing

variable (m : (ℓ : Loc nD τ sig) → Buf (Elt Ideal) ℓ)

/-- Expert `e`'s weight: input column `k`, output column `n`. -/
abbrev wgt (w : Vec Ideal S8x7168x2048 .f32) (e : Fin 8) (k : Fin 7168) (n : Fin 2048) : EReal := w (ix3 e k n)

theorem col_lt (j : Fin 4) (n : Fin 512) : j.val * 512 + n.val < 2048 := by omega

/-- A weight tile is a block of the expert's weights, its leading axis dropped. -/
theorem tileOf_eq (c : Dev nD) (w : Vec Ideal S8x7168x2048 .f32) (e : Fin 8) (j : Fin 4) :
    tileOf c w e j = shapeCast S7168x512 (View.read (Elt Ideal)
      ((View.whole main_arg1).slice (Rect.unit (s := S8x7168x2048) ![e.val, 0, j.val * 512] S1x7168x512.size (tile_inb e j))) w :
        Vec Ideal S1x7168x512 .f32) shapeCasts_S1x7168x512_S7168x512 := rfl

/-- The cast tile's entries. -/
theorem castTile_apply (c : Dev nD) (w : Vec Ideal S8x7168x2048 .f32) (e : Fin 8) (j : Fin 4) (k : Fin 7168) (n : Fin 512) :
    (castTile c w e j : Vec Ideal S1x7168x512 .bf16) (ix3 (0 : Fin 1) k n) = wgt w e k ⟨j.val * 512 + n.val, col_lt j n⟩ := by
  unfold castTile wgt
  rw [tileOf_eq]
  pointwise []
  show w (((View.whole main_arg1).slice (Rect.unit (s := S8x7168x2048) ![e.val, 0, j.val * 512] S1x7168x512.size (tile_inb e j))).emb (ix3 (0 : Fin 1) k n)) = _
  refine congrArg w (funext fun a => Fin.ext ?_)
  rw [ValueKit.view_emb_slice_whole_unit_val]
  fin_cases a
  · exact Nat.add_zero e.val
  · exact Nat.zero_add k.val
  · rfl

/-- The block a tile in use writes. -/
theorem product_apply (x : Vec Ideal S256x7168 .bf16) (g : Vec Ideal S1x7168x512 .bf16) (y : S256x512.Idx) :
    (k0_pay1 x g : Vec Ideal S256x512 .f32) y = ∑ k : Fin 7168, (x (ix2 (y 0 : Fin 256) k) : EReal) * (g (ix3 (0 : Fin 1) k (y 1 : Fin 512)) : EReal) := by
  pointwise [k0_pay1]

theorem zero_apply (y : S256x512.Idx) : (k0_pay2 (F := Ideal) : Vec Ideal S256x512 .f32) y = (0 : EReal) := by
  pointwise [k0_pay2]

theorem index_rows (i : grid0.Coords) : cc0_transform_0 i 0 = (i 1).val ∧ cc0_transform_0 i 1 = 0 := by
  have h : (i 1).val < 74 := (i 1).isLt
  exact ⟨(BitVec.toNat_ofNat _ _).trans (Nat.mod_eq_of_lt (by omega)), rfl⟩
theorem index_out (i : grid0.Coords) : cc0_transform_2 i 0 = (i 1).val ∧ cc0_transform_2 i 1 = (i 0).val := by
  have h : (i 1).val < 74 := (i 1).isLt
  have h' : (i 0).val < 4 := (i 0).isLt
  exact ⟨(BitVec.toNat_ofNat _ _).trans (Nat.mod_eq_of_lt (by omega)), (BitVec.toNat_ofNat _ _).trans (Nat.mod_eq_of_lt (by omega))⟩

/-- Some tables; the windows do not depend on them. -/
abbrev anyMem : (ℓ : Loc nD τ sig) → Buf (Elt Ideal) ℓ := fun _ _ => default

theorem covers : ((cfgM m).win 1).Covers :=
  (by decide +kernel : ((cfgM anyMem).win 1).Covers)

theorem row_lt (i : grid0.Coords) (r : Fin 256) : (i 1).val * 256 + r.val < 18944 := by
  have h : (i 1).val < 74 := (i 1).isLt
  omega

theorem emb_rows (t : Fin (cfgM m).N) (y : S256x7168.Idx) (a : Fin 2) :
    ((((cfgM m).win 0).blk t).view.emb y a).val = cc0_transform_0 (grid0.coords t) a * S256x7168.size a + (y a).val :=
  Pipeline.Window.rect_emb_val ((cfgM m).win 0) t y a rfl
theorem emb_out (t : Fin (cfgM m).N) (y : S256x512.Idx) (a : Fin 2) :
    ((((cfgM m).win 1).blk t).view.emb y a).val = cc0_transform_2 (grid0.coords t) a * S256x512.size a + (y a).val :=
  Pipeline.Window.rect_emb_val ((cfgM m).win 1) t y a rfl

/-- The rows of a point are those of its tile. -/
theorem rows_apply (c : Dev nD) (t : Fin (cfgM m).N) (r : Fin 256) (k : Fin 7168) :
    (rowsAt m c t) (ix2 r k) = m ((c : Thread nD τ).loc main_arg0) (ix2 ⟨(grid0.coords t 1).val * 256 + r.val, row_lt _ r⟩ k) := by
  show m ((c : Thread nD τ).loc main_arg0) ((((cfgM m).win 0).blk t).view.emb (ix2 r k)) = _
  refine congrArg _ (funext fun a => Fin.ext ((emb_rows m t (ix2 r k) a).trans ?_))
  obtain ⟨h0, h1⟩ := index_rows (grid0.coords t)
  fin_cases a
  · exact congrArg (fun n => n * 256 + r.val) h0
  · exact (congrArg (fun n => n * 7168 + k.val) h1).trans (show 0 * 7168 + k.val = k.val by omega)

/-- The grouped product: a row of a tile in use times the weights of the tile's expert, other rows zero. -/
abbrev grouped (te : IVec S74 32) (nv : ℕ) (x : Vec Ideal S18944x7168 .bf16) (w : Vec Ideal S8x7168x2048 .f32) : Vec Ideal S18944x2048 .f32 :=
  fun i => if (i 0).val / 256 < nv
    then ∑ k : Fin 7168, (x (ix2 (i 0 : Fin 18944) k) : EReal) * wgt w (expOf te ((i 0).val / 256)) k (i 1) else 0

/-- The block of a point, entry by entry. -/
theorem block_apply (c : Dev nD) (t : Fin (cfgM m).N) (y : S256x512.Idx) (i : S18944x2048.Idx)
    (h0 : (i 0).val = (grid0.coords t 1).val * 256 + (y 0).val) (h1 : (i 1).val = (grid0.coords t 0).val * 512 + (y 1).val) :
    outAt m c t y = grouped (teB m c) (nvW m c).toNat (m ((c : Thread nD τ).loc main_arg0)) (m ((c : Thread nD τ).loc main_arg1)) i := by
  have hy : (y 0).val < 256 := (y 0).isLt
  have hd : (i 0).val / 256 = (grid0.coords t 1).val := by omega
  unfold outAt block grouped
  rw [hd]
  by_cases hu : (grid0.coords t 1).val < (nvW m c).toNat
  · rw [if_pos hu, if_pos hu, product_apply]
    refine Finset.sum_congr rfl fun k _ => ?_
    refine congrArg₂ (fun a b : EReal => a * b) ((rows_apply m c t (y 0) k).trans ?_) ((castTile_apply c _ _ _ k (y 1)).trans ?_)
    · exact congrArg _ (congrArg (fun r => ix2 r k) (Fin.ext h0.symm))
    · exact congrArg (wgt _ _ k) (Fin.ext h1.symm)
  · rw [if_neg hu, if_neg hu, zero_apply]

/-- The kernel's result array ends holding it. -/
theorem final (c : Dev nD) : (dats m 0 c).arrAt 1 (cfgM m).N
    = grouped (teB m c) (nvW m c).toNat (m ((c : Thread nD τ).loc main_arg0)) (m ((c : Thread nD τ).loc main_arg1)) := by
  refine (dats m 0 c).arrAt_eq_of_covers 1 _ (covers m) fun t hf y => ?_
  rw [after0_1]
  obtain ⟨h0, h1⟩ := index_out (grid0.coords t)
  have e : ∀ y : S256x512.Idx, outAt m c t y = grouped (teB m c) (nvW m c).toNat (m ((c : Thread nD τ).loc main_arg0))
      (m ((c : Thread nD τ).loc main_arg1)) ((((cfgM m).win 1).blk t).view.emb y) := fun y =>
    block_apply m c t y _ ((emb_out m t y 0).trans (congrArg (fun n => n * 256 + (y 0).val) h0))
      ((emb_out m t y 1).trans (congrArg (fun n => n * 512 + (y 1).val) h1))
  exact e y

/-- The result, from the argument arrays. -/
abbrev result (m : (ℓ : Loc nD τ sig) → Buf (Elt Ideal) ℓ) (c : Dev nD) : Vec Ideal S18944x2048 .f32 :=
  grouped (m ((c.tc : Thread nD τ).loc main_arg2)) ((m ((c.tc : Thread nD τ).loc main_arg5) : IVec S1 32) (ix1 0)).toNat
    (m ((c.tc : Thread nD τ).loc main_arg0)) (m ((c.tc : Thread nD τ).loc main_arg1))

/-- The run leaves it. -/
theorem result_of (m : (ℓ : Loc nD τ sig) → Buf (Elt Ideal) ℓ) {r : PUnit × MemSt nD τ sig (Elt Ideal)}
    (h : Pipeline.FramePost (Pipeline.pin pcfgs fun _ => adm m) (dats m) 0 (V m) r) (c : Dev nD) :
    r.2.mem ((c.tc : Thread nD τ).loc main_v0) = result m c := by
  refine ((h c).1 1).trans ((final m c).trans ?_)
  rw [nvW_eq m c _ rfl]

end Cert.MoeDownIdeal.Val
-- ==== Proof.MoeDownRefValue.lean ====
/- The grouped down product's reference over the extended reals, row by row. -/
module

public import proofs.«01_k».proof.Proof.MoeDownValue
public import proofs.«01_k».proof.Proof.Gen.MoeDownRefIdeal.Run
public import Idealize.ShloMosaic.Lib.Pointwise

@[expose] public section

set_option maxRecDepth 16384

noncomputable section

open Idealize.ShloMosaic Idealize.ShloMosaic.TcCoe Idealize.SL.Sem

namespace Cert.MoeDownRefIdeal.Val

open Cert.MoeDownRefIdeal Cert.MoeDownRefIdeal.Gen Cert.Routing
open Cert.MoeDownIdeal.Hand (expOf)
open Cert.MoeDownIdeal.Val (wgt grouped)

/-- Which rows are in use and expert `e`'s, as the reference spells it. -/
abbrev chosen (te : IVec S74 32) (nv : IVec S1 32) (e : BitVec 32) : IVec S18944 1 :=
  andi (shapeCast S18944 (broadcastInDim S74x256 ![0] bcast_S74_S74x256_0
      (cmpi .slt (iotaInDim S74 32 0) (broadcastInDim S74 ![] bcast_S_S74 (shapeCast S_ nv shapeCasts_S1_S_)))) shapeCasts_S74x256_S18944)
    (cmpi .eq (shapeCast S18944 (broadcastInDim S74x256 ![0] bcast_S74_S74x256_0 te) shapeCasts_S74x256_S18944)
      (broadcastInDim S18944 ![] bcast_S_S18944 (constantI S_ 32 e)))

theorem chosen_one {te first next : IVec S74 32} {nv : IVec S1 32} (T : Tables (word te) (word first) (word next) (nv (ix1 0)))
    (e : BitVec 32) (r : Fin 18944) :
    chosen te nv e (ix1 r) = 1#1 ↔ r.val / 256 < (nv (ix1 0)).toNat ∧ word te (r.val / 256) = e := by
  have hr : r.val / 256 < 74 := by omega
  have hn : (nv (ix1 0)).toInt = (nv (ix1 0)).toNat := by
    have := T.le
    rw [BitVec.toInt_eq_toNat_cond, if_pos (by omega)]
  pointwise [chosen]
  rw [andi_one, slt_one, eq_one, toInt_tile (by omega), hn, Nat.cast_lt]
  unfold word
  rw [dif_pos hr]

/-- One expert's turn, as the reference spells it. -/
abbrev turn (te : IVec S74 32) (nv : IVec S1 32) (x : Vec Ideal S18944x7168 .bf16) (w : Vec Ideal S8x7168x2048 .f32)
    (e : Fin 8) (h : S8x7168x2048.Slices ![e.val, 0, 0] S1x7168x2048) (out : Vec Ideal S18944x2048 .f32) : Vec Ideal S18944x2048 .f32 :=
  select (broadcastInDim S18944x2048 ![0, 1] bcast_S18944x1_S18944x2048_0_1
      (broadcastInDim S18944x1 ![0] bcast_S18944_S18944x1_0 (chosen te nv (BitVec.ofNat 32 e.val))))
    (Host.dotGeneral (F := Ideal) (φ₁ := .f32) (φ₂ := .f32) dot_S18944x7168_S7168x2048_S18944x2048_1_0_0_1_n_n none
      (extf .f32 x bitsLt_bf16_f32) (shapeCast S7168x2048 (extractStridedSlice S1x7168x2048 ![e.val, 0, 0] w h) shapeCasts_S1x7168x2048_S7168x2048)) out

/-- A row's product with an expert's weights. -/
abbrev prod (x : Vec Ideal S18944x7168 .bf16) (w : Vec Ideal S8x7168x2048 .f32) (e : Fin 8) (i : S18944x2048.Idx) : EReal :=
  ∑ k : Fin 7168, (x (ix2 (i 0 : Fin 18944) k) : EReal) * wgt w e k (i 1)

theorem turn_apply {te first next : IVec S74 32} {nv : IVec S1 32} (T : Tables (word te) (word first) (word next) (nv (ix1 0)))
    (x : Vec Ideal S18944x7168 .bf16) (w : Vec Ideal S8x7168x2048 .f32)
    (e : Fin 8) (h) (out : Vec Ideal S18944x2048 .f32) (i : S18944x2048.Idx) :
    turn te nv x w e h out i = if (i 0).val / 256 < (nv (ix1 0)).toNat ∧ expOf te ((i 0).val / 256) = e then prod x w e i else out i := by
  have hr : (i 0).val / 256 < 74 := by have : (i 0).val < 18944 := (i 0).isLt; omega
  have hw : word te ((i 0).val / 256) = BitVec.ofNat 32 e.val ↔ expOf te ((i 0).val / 256) = e := by
    have := T.te_lt _ hr
    rw [BitVec.toNat_eq, BitVec.toNat_ofNat, Fin.ext_iff]
    show _ ↔ (word te ((i 0).val / 256)).toNat % 8 = e.val
    omega
  have hc := (chosen_one T (BitVec.ofNat 32 e.val) (i 0)).trans (and_congr_right' hw)
  refine Eq.trans (b := if chosen te nv (BitVec.ofNat 32 e.val) (ix1 (i 0 : Fin 18944)) = 1#1 then prod x w e i else out i) ?_ (if_congr hc rfl rfl)
  generalize hg : chosen te nv (BitVec.ofNat 32 e.val) = g
  unfold turn prod wgt
  rw [hg]
  pointwise []
  rfl

/-- Eight turns over zero. -/
abbrev turns (te : IVec S74 32) (nv : IVec S1 32) (x : Vec Ideal S18944x7168 .bf16) (w : Vec Ideal S8x7168x2048 .f32) : Vec Ideal S18944x2048 .f32 :=
  turn te nv x w 7 slices_S8x7168x2048_S1x7168x2048_7_0_0 <| turn te nv x w 6 slices_S8x7168x2048_S1x7168x2048_6_0_0 <|
  turn te nv x w 5 slices_S8x7168x2048_S1x7168x2048_5_0_0 <| turn te nv x w 4 slices_S8x7168x2048_S1x7168x2048_4_0_0 <|
  turn te nv x w 3 slices_S8x7168x2048_S1x7168x2048_3_0_0 <| turn te nv x w 2 slices_S8x7168x2048_S1x7168x2048_2_0_0 <|
  turn te nv x w 1 slices_S8x7168x2048_S1x7168x2048_1_0_0 <| turn te nv x w 0 slices_S8x7168x2048_S1x7168x2048_0_0_0 <|
  broadcastInDim S18944x2048 ![] bcast_S_S18944x2048 (constant (F := Ideal) S_ .f32 0x00000000#32)

theorem zero_apply (i : S18944x2048.Idx) :
    broadcastInDim S18944x2048 ![] bcast_S_S18944x2048 (constant (F := Ideal) S_ .f32 0x00000000#32) i = (0 : EReal) := by
  pointwise []

/-- A value picked by one of eight cases. -/
theorem pick (p : Prop) [Decidable p] (e : Fin 8) (f : Fin 8 → EReal) (z : EReal) :
    (if p ∧ e = 7 then f 7 else if p ∧ e = 6 then f 6 else if p ∧ e = 5 then f 5 else if p ∧ e = 4 then f 4
      else if p ∧ e = 3 then f 3 else if p ∧ e = 2 then f 2 else if p ∧ e = 1 then f 1 else if p ∧ e = 0 then f 0 else z)
      = if p then f e else z := by
  by_cases hp : p
  · fin_cases e <;> simp [hp]
  · simp [hp]

/-- The reference is the grouped product. -/
theorem ref_apply {te first next : IVec S74 32} {nv : IVec S1 32} (T : Tables (word te) (word first) (word next) (nv (ix1 0)))
    (x : Vec Ideal S18944x7168 .bf16) (w : Vec Ideal S8x7168x2048 .f32) : turns te nv x w = grouped te (nv (ix1 0)).toNat x w := by
  funext i
  unfold turns
  simp only [turn_apply T]
  exact (pick ((i 0).val / 256 < (nv (ix1 0)).toNat) (expOf te ((i 0).val / 256)) (fun e => prod x w e i) _).trans
    (congrArg (fun z : EReal => if (i 0).val / 256 < (nv (ix1 0)).toNat then prod x w (expOf te ((i 0).val / 256)) i else z) (zero_apply i))

theorem result_eq (m : (ℓ : Loc nD τ sig) → Buf (Elt Ideal) ℓ) (c : Dev nD) : Value.res_out0 m c
    = turns (m ((c.tc : Thread nD τ).loc main_arg2)) (m ((c.tc : Thread nD τ).loc main_arg5))
        (m ((c.tc : Thread nD τ).loc main_arg0)) (m ((c.tc : Thread nD τ).loc main_arg1)) := by
  unfold Value.res_out0 Value.res_main_v73
  rfl

end Cert.MoeDownRefIdeal.Val
-- ==== Proof.MoeGateIdealProg.lean ====
/- The grouped gate and up product's kernel, its body written as four pieces one after the other: a beginning, and, for each of
   a grid point's two tiles, the turn of the weights and the block written. -/
module

public import proofs.«01_k».proof.Proof.Routing
public import proofs.«01_k».proof.Proof.Gen.MoeGateIdeal.Launch
public import proofs.«01_k».proof.Proof.Gen.MoeGateIdeal.Skeleton

@[expose] public section

set_option maxRecDepth 65536
set_option synthInstance.maxSize 4096

noncomputable section

namespace Cert.MoeGateIdeal.Hand

open Cert.MoeGateIdeal Cert.MoeGateIdeal.Gen
open Idealize.ShloMosaic Idealize.SL.Sem

variable {F : FTy → Type} [FloatOps F]

/-! ## The kernel's operands -/

/-- The tables: a tile's expert, whether an expert begins there, the following such tile, the number of tiles used. -/
abbrev teM : Memref sig .tc .smem S74 .i32 := Memref.whole main_arg3
abbrev firstM : Memref sig .tc .smem S74 .i32 := Memref.whole main_arg4
abbrev nextM : Memref sig .tc .smem S74 .i32 := Memref.whole main_arg5
abbrev nvM : Memref sig .tc .smem S1 .i32 := Memref.whole main_arg6
/-- The gate's and the up product's weights, left in HBM. -/
abbrev wgM : Memref sig .tc .hbm S8x2048x7168 .f32 := Memref.whole main_arg1
abbrev wuM : Memref sig .tc .hbm S8x2048x7168 .f32 := Memref.whole main_arg2
/-- The ring of two pairs of weight tiles, the cast pair, the run counter. -/
abbrev ringM : Memref sig .tc .vmem S2x2x2048x1024 .f32 := Memref.whole cc0_scratch0
abbrev castM : Memref sig .tc .vmem S2x2048x1024 .bf16 := Memref.whole cc0_scratch1
abbrev runM : Memref sig .tc .smem S1 .i32 := Memref.whole cc0_scratch3

/-! ## The side conditions of a turn, for the condition `C` it is taken under -/

def need2 (C : BitVec 1) (v41 : BitVec 32) : Prop :=
  (∀ (h2 : C = 1#1), ∀ a, (k0_off4 v41) a + S1x1.size a ≤ S2x2.size a) ∧
  (∀ (h2 : C = 1#1), ∀ a, (k0_off5 v41) a + S1x1x2048x1024.size a ≤ S2x2x2048x1024.size a) ∧
  (∀ (h2 : C = 1#1), ∀ a, (k0_off7 v41) a + S1x1.size a ≤ S2x2.size a) ∧
  (∀ (h2 : C = 1#1), ∀ a, (k0_off8 v41) a + S1x1x2048x1024.size a ≤ S2x2x2048x1024.size a) ∧
  (∀ (h2 : C = 1#1), ∀ a, (k0_off9 v41) a + S1x1x2048x1024.size a ≤ S2x2x2048x1024.size a) ∧
  (∀ (h2 : C = 1#1), ∀ a, (k0_off10 v41) a + S1x1x2048x1024.size a ≤ S2x2x2048x1024.size a)
def need3 (C : BitVec 1) (i : grid0.Coords) (v53 : BitVec 32) : Prop :=
  ∀ (h2 : C = 1#1), ∀ a, (k0_off6 i v53) a + S1x2048x1024.size a ≤ S8x2048x7168.size a
def need4 (C : BitVec 1) (i : grid0.Coords) (v41 v83 : BitVec 32) : Prop :=
  (∀ (h2 : C = 1#1), ∀ (h3 : k0_cond3 v83 = 1#1), ∀ a, (k0_off12 v83) a + S1.size a ≤ S74.size a) ∧
  (∀ (h2 : C = 1#1), ∀ (h3 : k0_cond3 v83 = 1#1), ∀ a, (k0_off13 v41) a + S1x1.size a ≤ S2x2.size a) ∧
  (∀ (h2 : C = 1#1), ∀ (h3 : k0_cond3 v83 = 1#1), ∀ a, (k0_off14 v41) a + S1x1x2048x1024.size a ≤ S2x2x2048x1024.size a) ∧
  (∀ (h2 : C = 1#1), ∀ (h3 : k0_cond3 v83 = 1#1), ∀ a, (k0_off16 v41) a + S1x1.size a ≤ S2x2.size a) ∧
  (∀ (h2 : C = 1#1), ∀ (h3 : k0_cond3 v83 = 1#1), ∀ a, (k0_off17 v41) a + S1x1x2048x1024.size a ≤ S2x2x2048x1024.size a) ∧
  (∀ (h2 : C = 1#1), ∀ (h4 : k0_cond4 i v83 = 1#1), ∀ a, (k0_off18 v41) a + S1x1.size a ≤ S2x2.size a) ∧
  (∀ (h2 : C = 1#1), ∀ (h4 : k0_cond4 i v83 = 1#1), ∀ a, (k0_off19 v41) a + S1x1x2048x1024.size a ≤ S2x2x2048x1024.size a) ∧
  (∀ (h2 : C = 1#1), ∀ (h4 : k0_cond4 i v83 = 1#1), ∀ a, (k0_off21 v41) a + S1x1.size a ≤ S2x2.size a) ∧
  (∀ (h2 : C = 1#1), ∀ (h4 : k0_cond4 i v83 = 1#1), ∀ a, (k0_off22 v41) a + S1x1x2048x1024.size a ≤ S2x2x2048x1024.size a)
def need5 (C : BitVec 1) (i : grid0.Coords) (v83 v97 : BitVec 32) : Prop :=
  ∀ (h2 : C = 1#1), ∀ (h3 : k0_cond3 v83 = 1#1), ∀ a, (k0_off15 i v97) a + S1x2048x1024.size a ≤ S8x2048x7168.size a
def need6 (C : BitVec 1) (i : grid0.Coords) (v83 v96 : BitVec 32) : Prop :=
  ∀ (h2 : C = 1#1), ∀ (h4 : k0_cond4 i v83 = 1#1), ∀ a, (k0_off20 i v96) a + S1x2048x1024.size a ≤ S8x2048x7168.size a

/-- How a turn's side conditions are decided. -/
structure Decides (C : BitVec 1) (i : grid0.Coords) where
  d2 : ∀ v41, Decidable (need2 C v41)
  d3 : ∀ v53, Decidable (need3 C i v53)
  d4 : ∀ v41 v83, Decidable (need4 C i v41 v83)
  d5 : ∀ v83 v97, Decidable (need5 C i v83 v97)
  d6 : ∀ v83 v96, Decidable (need6 C i v83 v96)

variable {α : Type}

/-- A pair of weight tiles' transfers start. -/
def fetchProg (o9 : Fin 2 → ℕ) (h9 : ∀ a, o9 a + S1x1.size a ≤ S2x2.size a) (o11 : Fin 4 → ℕ)
    (h11 : ∀ a, o11 a + S1x1x2048x1024.size a ≤ S2x2x2048x1024.size a) (p9 : Fin 2 → ℕ) (g9 : ∀ a, p9 a + S1x1.size a ≤ S2x2.size a)
    (p11 : Fin 4 → ℕ) (g11 : ∀ a, p11 a + S1x1x2048x1024.size a ≤ S2x2x2048x1024.size a)
    (o7 : Fin 3 → ℕ) (h7 : ∀ a, o7 a + S1x2048x1024.size a ≤ S8x2048x7168.size a)
    (rest : Prog (TpuEff nD τ sig (Elt F) Λ₀ .tc) α) : Prog (TpuEff nD τ sig (Elt F) Λ₀ .tc) α :=
  .op (.enqueueDma
      ((wgM.slice (Rect.unit (s := S8x2048x7168) o7 S1x2048x1024.size h7) (fun _ => rfl)).squeeze S2048x1024 squeezes_S1x2048x1024_S2048x1024)
      (.here ((ringM.slice (Rect.unit (s := S2x2x2048x1024) o11 S1x1x2048x1024.size h11) (fun _ => rfl)).squeeze S2048x1024 squeezes_S1x1x2048x1024_S2048x1024))
      (.dma ((cc0_scratch2.slice (Rect.unit (s := S2x2) o9 S1x1.size h9)).squeeze S_ squeezes_S1x1_S_).sem)
      ((View.wordExact_bits rfl).reshape _ _) ((View.wordExact_bits rfl).reshape _ _) ⟨Or.inl rfl, trivial⟩) fun _ =>
  .op (.enqueueDma
      ((wuM.slice (Rect.unit (s := S8x2048x7168) o7 S1x2048x1024.size h7) (fun _ => rfl)).squeeze S2048x1024 squeezes_S1x2048x1024_S2048x1024)
      (.here ((ringM.slice (Rect.unit (s := S2x2x2048x1024) p11 S1x1x2048x1024.size g11) (fun _ => rfl)).squeeze S2048x1024 squeezes_S1x1x2048x1024_S2048x1024))
      (.dma ((cc0_scratch2.slice (Rect.unit (s := S2x2) p9 S1x1.size g9)).squeeze S_ squeezes_S1x1_S_).sem)
      ((View.wordExact_bits rfl).reshape _ _) ((View.wordExact_bits rfl).reshape _ _) ⟨Or.inl rfl, trivial⟩) fun _ => rest

/-- A pair of weight tiles' transfers are waited for. -/
def awaitProg (o9 : Fin 2 → ℕ) (h9 : ∀ a, o9 a + S1x1.size a ≤ S2x2.size a) (o11 : Fin 4 → ℕ)
    (h11 : ∀ a, o11 a + S1x1x2048x1024.size a ≤ S2x2x2048x1024.size a) (p9 : Fin 2 → ℕ) (g9 : ∀ a, p9 a + S1x1.size a ≤ S2x2.size a)
    (p11 : Fin 4 → ℕ) (g11 : ∀ a, p11 a + S1x1x2048x1024.size a ≤ S2x2x2048x1024.size a)
    (o7 : Fin 3 → ℕ) (h7 : ∀ a, o7 a + S1x2048x1024.size a ≤ S8x2048x7168.size a)
    (rest : Prog (TpuEff nD τ sig (Elt F) Λ₀ .tc) α) : Prog (TpuEff nD τ sig (Elt F) Λ₀ .tc) α :=
  .op (.waitDma2 ((cc0_scratch2.slice (Rect.unit (s := S2x2) o9 S1x1.size h9)).squeeze S_ squeezes_S1x1_S_).sem
      ((wgM.slice (Rect.unit (s := S8x2048x7168) o7 S1x2048x1024.size h7) (fun _ => rfl)).squeeze S2048x1024 squeezes_S1x2048x1024_S2048x1024)
      ((ringM.slice (Rect.unit (s := S2x2x2048x1024) o11 S1x1x2048x1024.size h11) (fun _ => rfl)).squeeze S2048x1024 squeezes_S1x1x2048x1024_S2048x1024)
      ((View.wordExact_bits rfl).reshape _ _) ((View.wordExact_bits rfl).reshape _ _)) fun _ =>
  .op (.waitDma2 ((cc0_scratch2.slice (Rect.unit (s := S2x2) p9 S1x1.size g9)).squeeze S_ squeezes_S1x1_S_).sem
      ((wuM.slice (Rect.unit (s := S8x2048x7168) o7 S1x2048x1024.size h7) (fun _ => rfl)).squeeze S2048x1024 squeezes_S1x2048x1024_S2048x1024)
      ((ringM.slice (Rect.unit (s := S2x2x2048x1024) p11 S1x1x2048x1024.size g11) (fun _ => rfl)).squeeze S2048x1024 squeezes_S1x1x2048x1024_S2048x1024)
      ((View.wordExact_bits rfl).reshape _ _) ((View.wordExact_bits rfl).reshape _ _)) fun _ => rest

/-- The beginning: at the first point the run counter is set and the first pair's transfers start. -/
def headProg (i : grid0.Coords) (rest : Prog (TpuEff nD τ sig (Elt F) Λ₀ .tc) α) : Prog (TpuEff nD τ sig (Elt F) Λ₀ .tc) α :=
  if h1 : k0_cond1 i = 1#1 then do
    let v41 : Elt F .i32 ← smemLoad runM (Rect.unit (s := S1) ![0] S1.size inb_S1_S1_0) numel1_S1 rfl
    Prog.lift (.store runM (Rect.unit (s := S1) ![0] S1.size inb_S1_S1_0) (fun _ => 0#32) Finset.univ (View.stores_smem_one rfl numel1_S1) (.inl rfl))
    let v42 : Elt F .i32 ← smemLoad teM (Rect.unit (s := S74) ![0] S1.size inb_S74_S1_0) numel1_S1 rfl
    have hw1 : k0_chk1 i v42 := (← Prog.lift (TpuEff.assume (k0_chk1 i v42) (k0_chk1.dec i v42))).down
    fetchProg ![0, 0] inb_S2x2_S1x1_0_0 ![0, 0, 0, 0] inb_S2x2x2048x1024_S1x1x2048x1024_0_0_0_0 ![0, 1] inb_S2x2_S1x1_0_1
      ![0, 1, 0, 0] inb_S2x2x2048x1024_S1x1x2048x1024_0_1_0_0 (k0_off1 v42) (k0_off1_inb i v42 hw1 h1) rest
  else rest

/-- A turn: where a run begins, its pair of weight tiles is waited for and cast, and the following pair's transfers start. -/
def turnProg (i : grid0.Coords) (C : BitVec 1) (D : Decides C i) (t : Fin 1 → ℕ) (ht : ∀ a, t a + S1.size a ≤ S74.size a)
    (rest : Prog (TpuEff nD τ sig (Elt F) Λ₀ .tc) α) : Prog (TpuEff nD τ sig (Elt F) Λ₀ .tc) α :=
  if h2 : C = 1#1 then do
    let v41 : Elt F .i32 ← smemLoad runM (Rect.unit (s := S1) ![0] S1.size inb_S1_S1_0) numel1_S1 rfl
    have hw2 : need2 C v41 := (← Prog.lift (TpuEff.assume (need2 C v41) (D.d2 v41))).down
    let v53 : Elt F .i32 ← smemLoad teM (Rect.unit (s := S74) t S1.size ht) numel1_S1 rfl
    have hw3 : need3 C i v53 := (← Prog.lift (TpuEff.assume (need3 C i v53) (D.d3 v53))).down
    awaitProg (k0_off4 v41) (hw2.1 h2) (k0_off5 v41) (hw2.2.1 h2) (k0_off7 v41) (hw2.2.2.1 h2) (k0_off8 v41) (hw2.2.2.2.1 h2)
      (k0_off6 i v53) (hw3 h2) do
    let v69 : Vec F S1x1x2048x1024 .f32 ← Prog.lift (.load ringM (Rect.unit (s := S2x2x2048x1024) (k0_off9 v41) S1x1x2048x1024.size (hw2.2.2.2.2.1 h2)).toLoadRect (View.loadsAt_vmem h_S1x1x2048x1024))
    let v72 : Vec F S1x2048x1024 .bf16 ← Prog.lift (.load castM (Rect.unit (s := S2x2048x1024) ![0, 0, 0] S1x2048x1024.size inb_S2x2048x1024_S1x2048x1024_0_0_0).toLoadRect (View.loadsAt_vmem h_S1x2048x1024))
    Prog.lift (.store castM (Rect.unit (s := S2x2048x1024) ![0, 0, 0] S1x2048x1024.size inb_S2x2048x1024_S1x2048x1024_0_0_0) (k0_pay6 v69) Finset.univ (View.stores_vmem h_S1x2048x1024 ((Memref.isWhole_whole _).storeExact_slice rfl _ packedbf16_S2x2048x1024_S1x2048x1024_0_0_0) (fun _ => rfl)) (.inl rfl))
    let v76 : Vec F S1x1x2048x1024 .f32 ← Prog.lift (.load ringM (Rect.unit (s := S2x2x2048x1024) (k0_off10 v41) S1x1x2048x1024.size (hw2.2.2.2.2.2 h2)).toLoadRect (View.loadsAt_vmem h_S1x1x2048x1024))
    let v79 : Vec F S1x2048x1024 .bf16 ← Prog.lift (.load castM (Rect.unit (s := S2x2048x1024) ![1, 0, 0] S1x2048x1024.size inb_S2x2048x1024_S1x2048x1024_1_0_0).toLoadRect (View.loadsAt_vmem h_S1x2048x1024))
    Prog.lift (.store castM (Rect.unit (s := S2x2048x1024) ![1, 0, 0] S1x2048x1024.size inb_S2x2048x1024_S1x2048x1024_1_0_0) (k0_pay6 v76) Finset.univ (View.stores_vmem h_S1x2048x1024 ((Memref.isWhole_whole _).storeExact_slice rfl _ packedbf16_S2x2048x1024_S1x2048x1024_1_0_0) (fun _ => rfl)) (.inl rfl))
    let v83 : Elt F .i32 ← smemLoad nextM (Rect.unit (s := S74) t S1.size ht) numel1_S1 rfl
    have hw4 : need4 C i v41 v83 := (← Prog.lift (TpuEff.assume (need4 C i v41 v83) (D.d4 v41 v83))).down
    if h3 : k0_cond3 v83 = 1#1 then do
      let v97 : Elt F .i32 ← smemLoad teM (Rect.unit (s := S74) (k0_off12 v83) S1.size (hw4.1 h2 h3)) numel1_S1 rfl
      have hw5 : need5 C i v83 v97 := (← Prog.lift (TpuEff.assume (need5 C i v83 v97) (D.d5 v83 v97))).down
      fetchProg (k0_off13 v41) (hw4.2.1 h2 h3) (k0_off14 v41) (hw4.2.2.1 h2 h3) (k0_off16 v41) (hw4.2.2.2.1 h2 h3)
        (k0_off17 v41) (hw4.2.2.2.2.1 h2 h3) (k0_off15 i v97) (hw5 h2 h3) (.ret ⟨⟩)
    else pure ⟨⟩
    if h4 : k0_cond4 i v83 = 1#1 then do
      let v96 : Elt F .i32 ← smemLoad teM (Rect.unit (s := S74) ![0] S1.size inb_S74_S1_0) numel1_S1 rfl
      have hw6 : need6 C i v83 v96 := (← Prog.lift (TpuEff.assume (need6 C i v83 v96) (D.d6 v83 v96))).down
      fetchProg (k0_off18 v41) (hw4.2.2.2.2.2.1 h2 h4) (k0_off19 v41) (hw4.2.2.2.2.2.2.1 h2 h4) (k0_off21 v41) (hw4.2.2.2.2.2.2.2.1 h2 h4)
        (k0_off22 v41) (hw4.2.2.2.2.2.2.2.2 h2 h4) (k0_off20 i v96) (hw6 h2 h4) (.ret ⟨⟩)
    else pure ⟨⟩
    let v93 : Elt F .i32 ← smemLoad runM (Rect.unit (s := S1) ![0] S1.size inb_S1_S1_0) numel1_S1 rfl
    let v95 : Elt F .i32 ← smemLoad runM (Rect.unit (s := S1) ![0] S1.size inb_S1_S1_0) numel1_S1 rfl
    Prog.lift (.store runM (Rect.unit (s := S1) ![0] S1.size inb_S1_S1_0) (fun _ => Scalar.addi v93 1#32) Finset.univ (View.stores_smem_one rfl numel1_S1) (.inl rfl))
    rest
  else rest

/-- A tile's block: its rows' product, or zeros where the tile is not in use. -/
def blockProg (arg6 : Memref sig .tc .vmem S512x2048 .bf16) (harg6 : arg6.IsWhole) (arg9 : Memref sig .tc .vmem S512x1024 .bf16)
    (harg9 : arg9.IsWhole) (o : Fin 2 → ℕ) (h6 : ∀ a, o a + S256x2048.size a ≤ S512x2048.size a)
    (h9 : ∀ a, o a + S256x1024.size a ≤ S512x1024.size a)
    (hp : (Rect.unit (s := S512x1024) o S256x1024.size h9).PackedRows (EltTy.packing .bf16))
    (C5 : BitVec 1) (C6 : BitVec 32 → BitVec 1)
    (rest : Prog (TpuEff nD τ sig (Elt F) Λ₀ .tc) α) : Prog (TpuEff nD τ sig (Elt F) Λ₀ .tc) α := do
  if h5 : C5 = 1#1 then do
    let v41 : Vec F S256x2048 .bf16 ← Prog.lift (.load arg6 (Rect.unit (s := S512x2048) o S256x2048.size h6).toLoadRect (View.loadsAt_vmem h_S256x2048))
    let v42 : Vec F S1x2048x1024 .bf16 ← Prog.lift (.load castM (Rect.unit (s := S2x2048x1024) ![0, 0, 0] S1x2048x1024.size inb_S2x2048x1024_S1x2048x1024_0_0_0).toLoadRect (View.loadsAt_vmem h_S1x2048x1024))
    let v45 : Vec F S1x2048x1024 .bf16 ← Prog.lift (.load castM (Rect.unit (s := S2x2048x1024) ![1, 0, 0] S1x2048x1024.size inb_S2x2048x1024_S1x2048x1024_1_0_0).toLoadRect (View.loadsAt_vmem h_S1x2048x1024))
    let v52 : Vec F S256x1024 .bf16 ← Prog.lift (.load arg9 (Rect.unit (s := S512x1024) o S256x1024.size h9).toLoadRect (View.loadsAt_vmem h_S256x1024))
    Prog.lift (.store arg9 (Rect.unit (s := S512x1024) o S256x1024.size h9) (k0_pay1 v41 v42 v45) Finset.univ (View.stores_vmem h_S256x1024 (harg9.storeExact_slice rfl _ hp) (fun _ => rfl)) (.inl rfl))
    pure ⟨⟩
  else pure ⟨⟩
  let v19 : Elt F .i32 ← smemLoad nvM (Rect.unit (s := S1) ![0] S1.size inb_S1_S1_0) numel1_S1 rfl
  if h6 : C6 v19 = 1#1 then do
    let v42 : Vec F S256x1024 .bf16 ← Prog.lift (.load arg9 (Rect.unit (s := S512x1024) o S256x1024.size h9).toLoadRect (View.loadsAt_vmem h_S256x1024))
    Prog.lift (.store arg9 (Rect.unit (s := S512x1024) o S256x1024.size h9) (k0_pay2 (F := F)) Finset.univ (View.stores_vmem h_S256x1024 (harg9.storeExact_slice rfl _ hp) (fun _ => rfl)) (.inl rfl))
    pure ⟨⟩
  else pure ⟨⟩
  rest

def decA (i : grid0.Coords) (v7 v10 : BitVec 32) : Decides (k0_cond2 i v7 v10) i :=
  ⟨fun v => k0_chk2.dec i v7 v10 v, fun v => k0_chk3.dec i v7 v10 v, fun v u => k0_chk4.dec i v7 v10 v u,
    fun v u => k0_chk5.dec i v7 v10 v u, fun v u => k0_chk6.dec i v7 v10 v u⟩
def decB (i : grid0.Coords) (v7 v10 : BitVec 32) : Decides (k0_cond7 i v7 v10) i :=
  ⟨fun v => k0_chk7.dec i v7 v10 v, fun v => k0_chk8.dec i v7 v10 v, fun v u => k0_chk9.dec i v7 v10 v u,
    fun v u => k0_chk10.dec i v7 v10 v u, fun v u => k0_chk11.dec i v7 v10 v u⟩

/-- A point's second tile. -/
def secondProg (i : grid0.Coords) (rest : BitVec 32 → Prog (TpuEff nD τ sig (Elt F) Λ₀ .tc) α) : Prog (TpuEff nD τ sig (Elt F) Λ₀ .tc) α := do
  let v25 : Elt F .i32 ← smemLoad nvM (Rect.unit (s := S1) ![0] S1.size inb_S1_S1_0) numel1_S1 rfl
  let v28 : Elt F .i32 ← smemLoad firstM (Rect.unit (s := S74) (k0_off23 i) S1.size (k0_off23_inb i)) numel1_S1 rfl
  turnProg i (k0_cond7 i v25 v28) (decB i v25 v28) (k0_off23 i) (k0_off23_inb i) do
  let v33 : Elt F .i32 ← smemLoad nvM (Rect.unit (s := S1) ![0] S1.size inb_S1_S1_0) numel1_S1 rfl
  rest v33

/-- A point's first tile. -/
def firstProg (i : grid0.Coords) (arg6 : Memref sig .tc .vmem S512x2048 .bf16) (harg6 : arg6.IsWhole) (arg9 : Memref sig .tc .vmem S512x1024 .bf16)
    (harg9 : arg9.IsWhole) (rest : Prog (TpuEff nD τ sig (Elt F) Λ₀ .tc) α) : Prog (TpuEff nD τ sig (Elt F) Λ₀ .tc) α := do
  let v7 : Elt F .i32 ← smemLoad nvM (Rect.unit (s := S1) ![0] S1.size inb_S1_S1_0) numel1_S1 rfl
  let v10 : Elt F .i32 ← smemLoad firstM (Rect.unit (s := S74) (k0_off2 i) S1.size (k0_off2_inb i)) numel1_S1 rfl
  turnProg i (k0_cond2 i v7 v10) (decA i v7 v10) (k0_off2 i) (k0_off2_inb i) do
  let v15 : Elt F .i32 ← smemLoad nvM (Rect.unit (s := S1) ![0] S1.size inb_S1_S1_0) numel1_S1 rfl
  blockProg arg6 harg6 arg9 harg9 ![0, 0] inb_S512x2048_S256x2048_0_0 inb_S512x1024_S256x1024_0_0 packedbf16_S512x1024_S256x1024_0_0
    (k0_cond5 i v15) (fun v => k0_cond6 i v) rest

set_option maxHeartbeats 4000000 in
/-- The printed body's first part is the pieces one after the other. -/
theorem part3_eq (i : grid0.Coords) (arg6 : Memref sig .tc .vmem S512x2048 .bf16) (harg6 : arg6.IsWhole)
    (arg9 : Memref sig .tc .vmem S512x1024 .bf16) (harg9 : arg9.IsWhole) :
    k0_part3_skel (F := F) i teM (Memref.isWhole_whole _) firstM (Memref.isWhole_whole _) nextM (Memref.isWhole_whole _)
            nvM (Memref.isWhole_whole _) arg6 harg6 wgM (Memref.isWhole_whole _) wuM (Memref.isWhole_whole _) arg9 harg9 ringM (Memref.isWhole_whole _)
            castM (Memref.isWhole_whole _) cc0_scratch2 runM (Memref.isWhole_whole _)
      = headProg i (firstProg i arg6 harg6 arg9 harg9 (secondProg i fun v33 =>
          .ret ⟨Scalar.addi (Scalar.muli (BitVec.ofNat 32 (i 1).val) 2#32) 1#32, v33,
            Scalar.cmpi .slt (Scalar.addi (Scalar.muli (BitVec.ofNat 32 (i 1).val) 2#32) 1#32) v33⟩)) := rfl

end Cert.MoeGateIdeal.Hand
-- ==== Proof.MoeGateIdealStep.lean ====
/- The steps of the grouped gate and up product's kernel: how a pair of weight tiles travels through the ring, and what the run
   counter, the semaphores and the offsets are meanwhile. -/
module

public import proofs.«01_k».proof.Proof.MoeGateIdealProg
public import Idealize.ShloMosaic.Lib.Pipeline.FrameBody
public import Idealize.ShloMosaic.Lib.Pipeline.Frame
public import Idealize.ShloMosaic.Lib.Transfers
public import Idealize.ShloMosaic.Lib.VecWindow
public import Idealize.ShloMosaic.Lib.WritesUnit
public import Idealize.ShloMosaic.Lib.ReshapeSlab
public import Idealize.ShloMosaic.Lib.Tactic

@[expose] public section

set_option maxRecDepth 16384

noncomputable section

namespace Cert.MoeGateIdeal.Hand

open Cert.MoeGateIdeal Cert.MoeGateIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- A memref's buffer on core `c` held whole at share `q`. -/
abbrev pt (c : Dev nD) (q : PosShare TreeShare) {sp : Space} {S : Shape} {e : EltTy} (M : Memref sig .tc sp S e)
    (f : Buf (Elt F) (M.view.loc (c : Thread nD τ))) : sProp 𝕄 := M.view.loc (c : Thread nD τ) ↦{q} f

/-! ## The ring's slots, cells and the weight tiles -/

theorem slot_inb (s u : Fin 2) : ∀ a, (![s.val, u.val, 0, 0] : Fin 4 → ℕ) a + S1x1x2048x1024.size a ≤ S2x2x2048x1024.size a := by
  revert s u; decide
theorem cell_inb (s u : Fin 2) : ∀ a, (![s.val, u.val] : Fin 2 → ℕ) a + S1x1.size a ≤ S2x2.size a := by revert s u; decide
theorem tile_inb (e : Fin 8) (j : Fin 7) :
    ∀ a, (![e.val, 0, j.val * 1024] : Fin 3 → ℕ) a + S1x2048x1024.size a ≤ S8x2048x7168.size a := by revert e j; decide

/-- The half of slot `s` of the ring for the gate's weights (`u = 0`) or the up product's (`u = 1`). -/
abbrev slot (s u : Fin 2) : Memref sig .tc .vmem S2048x1024 .f32 :=
  (ringM.slice (Rect.unit (s := S2x2x2048x1024) ![s.val, u.val, 0, 0] S1x1x2048x1024.size (slot_inb s u)) (fun _ => rfl)).squeeze
    S2048x1024 squeezes_S1x1x2048x1024_S2048x1024
/-- Its semaphore. -/
abbrev cell (s u : Fin 2) : DmaSem sig :=
  ((cc0_scratch2.slice (Rect.unit (s := S2x2) ![s.val, u.val] S1x1.size (cell_inb s u))).squeeze S_ squeezes_S1x1_S_).sem
/-- Expert `e`'s weights at column block `j`. -/
abbrev tile (M : Memref sig .tc .hbm S8x2048x7168 .f32) (e : Fin 8) (j : Fin 7) : Memref sig .tc .hbm S2048x1024 .f32 :=
  (M.slice (Rect.unit (s := S8x2048x7168) ![e.val, 0, j.val * 1024] S1x2048x1024.size (tile_inb e j)) (fun _ => rfl)).squeeze
    S2048x1024 squeezes_S1x2048x1024_S2048x1024

theorem amount_pos (s u : Fin 2) : 0 < (slot s u).view.amount (.dma (cell s u)) := by revert s u; decide +kernel

/-- A slot's two halves are apart. -/
theorem halves_disjoint (s : Fin 2) : Disjoint (slot s 0).view.set (slot s 1).view.set := by
  have h := View.disjoint_slice_of_sep ringM.view (Rect.unit (s := S2x2x2048x1024) ![s.val, (0 : Fin 2).val, 0, 0] S1x1x2048x1024.size (slot_inb s 0))
    (Rect.unit (s := S2x2x2048x1024) ![s.val, (1 : Fin 2).val, 0, 0] S1x1x2048x1024.size (slot_inb s 1)) 1 rfl rfl (.inl (show 0 + 1 ≤ 1 from Nat.le_refl 1))
  have e0 : (slot s 0).view.set = (ringM.view.slice (Rect.unit (s := S2x2x2048x1024) ![s.val, (0 : Fin 2).val, 0, 0] S1x1x2048x1024.size (slot_inb s 0))).set :=
    View.set_reshape _ _
  have e1 : (slot s 1).view.set = (ringM.view.slice (Rect.unit (s := S2x2x2048x1024) ![s.val, (1 : Fin 2).val, 0, 0] S1x1x2048x1024.size (slot_inb s 1))).set :=
    View.set_reshape _ _
  rw [e0, e1]
  exact h

variable (c : Dev nD)

/-- Part `S` of the ring held with contents `f`. -/
abbrev ringOn (S : Finset (Idx (ringM.view.loc (c : Thread nD τ)))) (f : Buf (Elt F) (ringM.view.loc (c : Thread nD τ))) : sProp 𝕄 :=
  ringM.view.loc (c : Thread nD τ) ↦[S]{fullShare} f

/-- The ring less the two halves of slot `s`. -/
abbrev others (s : Fin 2) : Finset (Idx (ringM.view.loc (c : Thread nD τ))) := (Finset.univ \ (slot s 0).view.set) \ (slot s 1).view.set

/-- Half `u` of slot `s` of a ring's contents. -/
def inSlot (s u : Fin 2) (f : Buf (Elt F) (ringM.view.loc (c : Thread nD τ))) : Vec F S2048x1024 .f32 := (slot s u).view.read (Elt F) f
/-- A weight tile, as it lies in HBM. -/
def tileOf (M : Memref sig .tc .hbm S8x2048x7168 .f32) (w : Buf (Elt F) (M.view.loc (c : Thread nD τ))) (e : Fin 8) (j : Fin 7) :
    Vec F S2048x1024 .f32 := (tile M e j).view.read (Elt F) w
/-- A weight tile, cast. -/
def castTile (M : Memref sig .tc .hbm S8x2048x7168 .f32) (w : Buf (Elt F) (M.view.loc (c : Thread nD τ))) (e : Fin 8) (j : Fin 7) :
    Vec F S1x2048x1024 .bf16 := shapeCast S1x2048x1024 (truncf (F := F) (φ := .f32) .bf16 (tileOf c M w e j))

theorem half_sub (s : Fin 2) : ((slot s 1).view.set : Finset (Idx (ringM.view.loc (c : Thread nD τ)))) ⊆ Finset.univ \ (slot s 0).view.set := by
  intro i hi
  rw [Finset.mem_sdiff]
  exact ⟨Finset.mem_univ i, Finset.disjoint_right.1 (halves_disjoint s) hi⟩

theorem ring_split (s : Fin 2) (f : Buf (Elt F) (ringM.view.loc (c : Thread nD τ))) :
    pt c fullShare ringM f ⊢ iprop(ringOn c (slot s 0).view.set f ∗ ringOn c (slot s 1).view.set f ∗ ringOn c (others c s) f) := by
  iintro H
  ihave H := (pointsTo_split_subset (I := (slot s 0).view.set) (Finset.subset_univ _)) $$ H
  icases H with ⟨H0, H⟩
  ihave H := (pointsTo_split_subset (I := (slot s 1).view.set) (half_sub s)) $$ H
  icases H with ⟨H1, H⟩
  isplitl [H0]; · iexact H0
  isplitl [H1]; · iexact H1
  iexact H

theorem inSlot_congr (s u : Fin 2) {f g : Buf (Elt F) (ringM.view.loc (c : Thread nD τ))} (h : ∀ i ∈ (slot s u).view.set, f i = g i) :
    inSlot c s u f = inSlot c s u g := View.read_congr h

theorem ring_join (s : Fin 2) (f0 f1 f2 : Buf (Elt F) (ringM.view.loc (c : Thread nD τ))) :
    iprop(ringOn c (slot s 0).view.set f0 ∗ ringOn c (slot s 1).view.set f1 ∗ ringOn c (others c s) f2)
      ⊢ iprop(∃ f, ⌜inSlot c s 0 f = inSlot c s 0 f0 ∧ inSlot c s 1 f = inSlot c s 1 f1⌝ ∗ (pt c fullShare ringM f : sProp 𝕄)) := by
  iintro ⟨H0, H1, H⟩
  ihave H := (pointsTo_join_subset (ℓ := ringM.view.loc (c : Thread nD τ)) (I := (slot s 1).view.set) (S := Finset.univ \ (slot s 0).view.set) (half_sub s)) $$ [H1 H]
  · isplitl [H1]; · iexact H1
    iexact H
  ihave H := (pointsTo_join_subset (ℓ := ringM.view.loc (c : Thread nD τ)) (I := (slot s 0).view.set) (S := Finset.univ) (Finset.subset_univ _)) $$ [H0 H]
  · isplitl [H0]; · iexact H0
    iexact H
  iexists _
  isplitr; swap; · iexact H
  ipureintro
  constructor
  · exact inSlot_congr c s 0 fun i hi => Finset.piecewise_eq_of_mem _ _ _ hi
  · refine inSlot_congr c s 1 fun i hi => ?_
    rw [Finset.piecewise_eq_of_notMem _ _ _ (Finset.disjoint_right.1 (halves_disjoint s) hi), Finset.piecewise_eq_of_mem _ _ _ hi]

section One

variable (M : Memref sig .tc .hbm S8x2048x7168 .f32) (w : Buf (Elt F) (M.view.loc (c : Thread nD τ)))

/-- What a tile's transfer into its half of slot `s` delivers: the half with the tile in it, and the tile's weights back. -/
def arrived (e : Fin 8) (j : Fin 7) (s u : Fin 2) : sProp 𝕄 :=
  iprop((∃ f, ⌜inSlot c s u f = tileOf c M w e j⌝ ∗ ringOn c (slot s u).view.set f)
    ∗ (M.view.loc (c : Thread nD τ) ↦[(tile M e j).view.set]{fullShare} w))

/-- A tile's transfer under way, with the weights that are not moving. -/
def flying (e : Fin 8) (j : Fin 7) (s u : Fin 2) : sProp 𝕄 :=
  iprop(Transfers.Flight (countersEmb (U := Pipeline.UD sig nD τ)) (c : Thread nD τ) (.dma (cell s u)) () ((slot s u).view.amount (.dma (cell s u)))
      (arrived c M w e j s u)
    ∗ (M.view.loc (c : Thread nD τ) ↦[Finset.univ \ (tile M e j).view.set]{fullShare} w))

variable {α : Type}

/-- A tile's transfer starts. -/
theorem issue {e : Fin 8} {j : Fin 7} {s u : Fin 2} {o9 : Fin 2 → ℕ} {o7 : Fin 3 → ℕ} {o11 : Fin 4 → ℕ}
    (e9 : o9 = ![s.val, u.val]) (e7 : o7 = ![e.val, 0, j.val * 1024]) (e11 : o11 = ![s.val, u.val, 0, 0])
    {h9 : ∀ a, o9 a + S1x1.size a ≤ S2x2.size a} {h7 : ∀ a, o7 a + S1x2048x1024.size a ≤ S8x2048x7168.size a}
    {h11 : ∀ a, o11 a + S1x1x2048x1024.size a ≤ S2x2x2048x1024.size a} {hs hd ht} (f : Buf (Elt F) (ringM.view.loc (c : Thread nD τ)))
    {k : PUnit → Prog (TpuEff nD τ sig (Elt F) Λ₀ .tc) α} {Q : α → sProp 𝕄} :
    iprop(pt c fullShare M w ∗ ringOn c (slot s u).view.set f ∗ semVal ((c : Thread nD τ), SemLoc.dma (cell s u)) 0)
      ⊢ iprop((flying c M w e j s u -∗ wp frame (wpE (defs₀ (F := F)) Variants.none (c : Thread nD τ) none) Set.univ (k ⟨⟩) Q)
        -∗ wp frame (wpE (defs₀ (F := F)) Variants.none (c : Thread nD τ) none) Set.univ
          (.op (.enqueueDma
            ((M.slice (Rect.unit (s := S8x2048x7168) o7 S1x2048x1024.size h7) (fun _ => rfl)).squeeze S2048x1024 squeezes_S1x2048x1024_S2048x1024)
            (.here ((ringM.slice (Rect.unit (s := S2x2x2048x1024) o11 S1x1x2048x1024.size h11) (fun _ => rfl)).squeeze S2048x1024 squeezes_S1x1x2048x1024_S2048x1024))
            (.dma ((cc0_scratch2.slice (Rect.unit (s := S2x2) o9 S1x1.size h9)).squeeze S_ squeezes_S1x1_S_).sem) hs hd ht) k) Q) := by
  subst e9 e7 e11
  iintro ⟨Hw, Hr, Hv⟩ Hk
  ihave Hw' := (pointsTo_split_subset (I := (tile M e j).view.set) (Finset.subset_univ _)) $$ Hw
  icases Hw' with ⟨Hs, Hrest⟩
  iapply (Transfers.wp_dmaLocal (countersEmb (U := Pipeline.UD sig nD τ)) Variants.none (c : Thread nD τ) none (src := tile M e j) (dst := slot s u)
    (Sd := (slot s u).view.set) () _ rfl (amount_pos s u) (Finset.Subset.refl _)) $$ [Hs Hr Hv]
  · isplitl [Hs]; · iexact Hs
    isplitl [Hr]; · iexact Hr
    iexact Hv
  iintro HF
  iapply Hk
  unfold flying
  isplitl [HF]
  · iapply (Transfers.Flight_mono (countersEmb (U := Pipeline.UD sig nD τ)) (c : Thread nD τ) _) $$ HF
    unfold arrived
    iintro ⟨Hr, Hs⟩
    isplitl [Hr]
    · iexists _
      isplitr; swap; · iexact Hr
      ipureintro
      exact View.read_write_univ _ _
    · iexact Hs
  · iexact Hrest

/-- A tile's transfer is waited for: its half of the slot comes back with the tile in it. -/
theorem await {e : Fin 8} {j : Fin 7} {s u : Fin 2} {o4 : Fin 2 → ℕ} {o6 : Fin 3 → ℕ} {o5 : Fin 4 → ℕ}
    (e4 : o4 = ![s.val, u.val]) (e5 : o5 = ![s.val, u.val, 0, 0])
    {h4 : ∀ a, o4 a + S1x1.size a ≤ S2x2.size a} {h6 : ∀ a, o6 a + S1x2048x1024.size a ≤ S8x2048x7168.size a}
    {h5 : ∀ a, o5 a + S1x1x2048x1024.size a ≤ S2x2x2048x1024.size a} {hs hd} {W : Waits sig Unit}
    {k : PUnit → Prog (TpuEff nD τ sig (Elt F) Λ₀ .tc) α} {Q : α → sProp 𝕄} :
    iprop(flying c M w e j s u ∗ owes (c : Thread nD τ) 0 W)
      ⊢ iprop(((pt c fullShare M w ∗ (∃ f, ⌜inSlot c s u f = tileOf c M w e j⌝ ∗ ringOn c (slot s u).view.set f)
            ∗ semVal ((c : Thread nD τ), SemLoc.dma (cell s u)) 0 ∗ (∃ W', owes (c : Thread nD τ) 0 W'))
          -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch2.slice (Rect.unit (s := S2x2) o4 S1x1.size h4)).squeeze S_ squeezes_S1x1_S_).sem
            ((M.slice (Rect.unit (s := S8x2048x7168) o6 S1x2048x1024.size h6) (fun _ => rfl)).squeeze S2048x1024 squeezes_S1x2048x1024_S2048x1024)
            ((ringM.slice (Rect.unit (s := S2x2x2048x1024) o5 S1x1x2048x1024.size h5) (fun _ => rfl)).squeeze S2048x1024 squeezes_S1x1x2048x1024_S2048x1024)
            hs hd) k) Q) := by
  subst e4 e5
  unfold flying
  iintro ⟨⟨HF, Hrest⟩, HW⟩ Hk
  iapply (Transfers.wp_waitLocal (countersEmb (U := Pipeline.UD sig nD τ)) Variants.none (c : Thread nD τ) none (dstw := slot s u) () rfl) $$ [HF HW]
  · isplitl [HF]; · iexact HF
    iexact HW
  unfold arrived
  iintro ⟨⟨Hr, Hs⟩, Hv, HW⟩
  iapply Hk
  isplitl [Hs Hrest]
  · iapply (pointsTo_split_subset (I := (tile M e j).view.set) (Finset.subset_univ _)).2
    isplitl [Hs]; · iexact Hs
    iexact Hrest
  isplitl [Hr]; · iexact Hr
  isplitl [Hv]; · iexact Hv
  iexists _; iexact HW

end One

/-! ## A pair's transfers -/

variable (wg : Buf (Elt F) (wgM.view.loc (c : Thread nD τ))) (wu : Buf (Elt F) (wuM.view.loc (c : Thread nD τ)))

/-- Nothing under way: the weights and the ring. -/
def still : sProp 𝕄 := iprop(pt c fullShare wgM wg ∗ pt c fullShare wuM wu ∗ (∃ f, pt c fullShare ringM f))
/-- Slot `s`'s two semaphores at zero. -/
def zeros (s : Fin 2) : sProp 𝕄 :=
  iprop(semVal ((c : Thread nD τ), SemLoc.dma (cell s 0)) 0 ∗ semVal ((c : Thread nD τ), SemLoc.dma (cell s 1)) 0)
/-- A pair under way into slot `s`. -/
def pair (e : Fin 8) (j : Fin 7) (s : Fin 2) : sProp 𝕄 :=
  iprop(flying c wgM wg e j s 0 ∗ flying c wuM wu e j s 1 ∗ (∃ f, ringOn c (others c s) f))
/-- Nothing under way, with a pair in slot `s`. -/
def landed (e : Fin 8) (j : Fin 7) (s : Fin 2) : sProp 𝕄 :=
  iprop(pt c fullShare wgM wg ∗ pt c fullShare wuM wu
    ∗ (∃ f, ⌜inSlot c s 0 f = tileOf c wgM wg e j ∧ inSlot c s 1 f = tileOf c wuM wu e j⌝ ∗ pt c fullShare ringM f))

variable {α : Type}

theorem fetch {e : Fin 8} {j : Fin 7} {s : Fin 2} {o9 p9 : Fin 2 → ℕ} {o7 : Fin 3 → ℕ} {o11 p11 : Fin 4 → ℕ}
    (e9 : o9 = ![s.val, (0 : Fin 2).val]) (e11 : o11 = ![s.val, (0 : Fin 2).val, 0, 0])
    (f9 : p9 = ![s.val, (1 : Fin 2).val]) (f11 : p11 = ![s.val, (1 : Fin 2).val, 0, 0])
    (e7 : o7 = ![e.val, 0, j.val * 1024]) {h9 h11 g9 g11 h7}
    {rest : Prog (TpuEff nD τ sig (Elt F) Λ₀ .tc) α} {Q : α → sProp 𝕄} :
    iprop(still c wg wu ∗ zeros c s)
      ⊢ iprop((pair c wg wu e j s -∗ wp frame (wpE (defs₀ (F := F)) Variants.none (c : Thread nD τ) none) Set.univ rest Q)
        -∗ wp frame (wpE (defs₀ (F := F)) Variants.none (c : Thread nD τ) none) Set.univ
          (fetchProg o9 h9 o11 h11 p9 g9 p11 g11 o7 h7 rest) Q) := by
  unfold still zeros pair fetchProg
  iintro ⟨⟨Hg, Hu, ⟨%f, Hr⟩⟩, Hv0, Hv1⟩ Hk
  ihave Hr := (ring_split c s f) $$ Hr
  icases Hr with ⟨Hr0, Hr1, Hr⟩
  iapply (issue c wgM wg e9 e7 e11 f) $$ [Hg Hr0 Hv0]
  · isplitl [Hg]; · iexact Hg
    isplitl [Hr0]; · iexact Hr0
    iexact Hv0
  iintro H0
  iapply (issue c wuM wu f9 e7 f11 f) $$ [Hu Hr1 Hv1]
  · isplitl [Hu]; · iexact Hu
    isplitl [Hr1]; · iexact Hr1
    iexact Hv1
  iintro H1
  iapply Hk
  isplitl [H0]; · iexact H0
  isplitl [H1]; · iexact H1
  iexists _; iexact Hr

theorem collect {e : Fin 8} {j : Fin 7} {s : Fin 2} {o9 p9 : Fin 2 → ℕ} {o7 : Fin 3 → ℕ} {o11 p11 : Fin 4 → ℕ}
    (e9 : o9 = ![s.val, (0 : Fin 2).val]) (e11 : o11 = ![s.val, (0 : Fin 2).val, 0, 0])
    (f9 : p9 = ![s.val, (1 : Fin 2).val]) (f11 : p11 = ![s.val, (1 : Fin 2).val, 0, 0]) {h9 h11 g9 g11 h7}
    {rest : Prog (TpuEff nD τ sig (Elt F) Λ₀ .tc) α} {Q : α → sProp 𝕄} :
    iprop(pair c wg wu e j s ∗ (∃ W, owes (c : Thread nD τ) 0 W))
      ⊢ iprop(((landed c wg wu e j s ∗ zeros c s ∗ (∃ W, owes (c : Thread nD τ) 0 W))
          -∗ wp frame (wpE (defs₀ (F := F)) Variants.none (c : Thread nD τ) none) Set.univ rest Q)
        -∗ wp frame (wpE (defs₀ (F := F)) Variants.none (c : Thread nD τ) none) Set.univ
          (awaitProg o9 h9 o11 h11 p9 g9 p11 g11 o7 h7 rest) Q) := by
  unfold pair landed zeros awaitProg
  iintro ⟨⟨H0, H1, ⟨%f, Hr⟩⟩, ⟨%W, HW⟩⟩ Hk
  iapply (await c wgM wg e9 e11) $$ [H0 HW]
  · isplitl [H0]; · iexact H0
    iexact HW
  iintro ⟨Hg, ⟨%f0, %h0, Hr0⟩, Hv0, ⟨%W', HW⟩⟩
  iapply (await c wuM wu f9 f11) $$ [H1 HW]
  · isplitl [H1]; · iexact H1
    iexact HW
  iintro ⟨Hu, ⟨%f1, %h1, Hr1⟩, Hv1, HW⟩
  ihave Hr := (ring_join c s f0 f1 f) $$ [Hr0 Hr1 Hr]
  · isplitl [Hr0]; · iexact Hr0
    isplitl [Hr1]; · iexact Hr1
    iexact Hr
  icases Hr with ⟨%f, %hf, Hr⟩
  iapply Hk
  isplitl [Hg Hu Hr]
  · isplitl [Hg]; · iexact Hg
    isplitl [Hu]; · iexact Hu
    iexists f
    isplitr; swap; · iexact Hr
    ipureintro
    exact ⟨hf.1.trans h0, hf.2.trans h1⟩
  isplitl [Hv0 Hv1]
  · isplitl [Hv0]; · iexact Hv0
    iexact Hv1
  iexact HW

end Cert.MoeGateIdeal.Hand
-- ==== Proof.MoeGateIdealTurn.lean ====
/- The grouped gate and up product's kernel at a tile: the turn of the weights, and the block written. -/
module

public import proofs.«01_k».proof.Proof.MoeGateIdealStep

@[expose] public section

set_option maxRecDepth 16384

noncomputable section

namespace Cert.MoeGateIdeal.Hand

open Cert.MoeGateIdeal Cert.MoeGateIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's offsets, conditions and side conditions at the words it meets -/

/-- The run counter's word after `n` runs. -/
abbrev runWord (n : ℕ) : BitVec 32 := BitVec.ofNat 32 n
/-- The slot of run `n`. -/
abbrev slotOf (n : ℕ) : Fin 2 := ⟨n % 2, Nat.mod_lt _ (by decide)⟩
/-- An expert's word. -/
abbrev expWord (e : Fin 8) : BitVec 32 := BitVec.ofNat 32 e.val

theorem off4_at : ∀ n : Fin 1024, k0_off4 (runWord n.val) = ![(slotOf n.val).val, (0 : Fin 2).val] := by decide +kernel
theorem off5_at : ∀ n : Fin 1024, k0_off5 (runWord n.val) = ![(slotOf n.val).val, (0 : Fin 2).val, 0, 0] := by decide +kernel
theorem off7_at : ∀ n : Fin 1024, k0_off7 (runWord n.val) = ![(slotOf n.val).val, (1 : Fin 2).val] := by decide +kernel
theorem off8_at : ∀ n : Fin 1024, k0_off8 (runWord n.val) = ![(slotOf n.val).val, (1 : Fin 2).val, 0, 0] := by decide +kernel
theorem off9_at : ∀ n : Fin 1024, k0_off9 (runWord n.val) = ![(slotOf n.val).val, (0 : Fin 2).val, 0, 0] := by decide +kernel
theorem off10_at : ∀ n : Fin 1024, k0_off10 (runWord n.val) = ![(slotOf n.val).val, (1 : Fin 2).val, 0, 0] := by decide +kernel
theorem off13_at : ∀ n : Fin 1024, k0_off13 (runWord n.val) = ![(slotOf (n.val + 1)).val, (0 : Fin 2).val] := by decide +kernel
theorem off14_at : ∀ n : Fin 1024, k0_off14 (runWord n.val) = ![(slotOf (n.val + 1)).val, (0 : Fin 2).val, 0, 0] := by decide +kernel
theorem off16_at : ∀ n : Fin 1024, k0_off16 (runWord n.val) = ![(slotOf (n.val + 1)).val, (1 : Fin 2).val] := by decide +kernel
theorem off17_at : ∀ n : Fin 1024, k0_off17 (runWord n.val) = ![(slotOf (n.val + 1)).val, (1 : Fin 2).val, 0, 0] := by decide +kernel
theorem off18_at : ∀ n : Fin 1024, k0_off18 (runWord n.val) = ![(slotOf (n.val + 1)).val, (0 : Fin 2).val] := by decide +kernel
theorem off19_at : ∀ n : Fin 1024, k0_off19 (runWord n.val) = ![(slotOf (n.val + 1)).val, (0 : Fin 2).val, 0, 0] := by decide +kernel
theorem off21_at : ∀ n : Fin 1024, k0_off21 (runWord n.val) = ![(slotOf (n.val + 1)).val, (1 : Fin 2).val] := by decide +kernel
theorem off22_at : ∀ n : Fin 1024, k0_off22 (runWord n.val) = ![(slotOf (n.val + 1)).val, (1 : Fin 2).val, 0, 0] := by decide +kernel

theorem off1_at : ∀ e : Fin 8, k0_off1 (expWord e) = ![e.val, 0, (0 : Fin 7).val * 1024] := by decide +kernel
theorem off6_at (i : grid0.Coords) (e : Fin 8) : k0_off6 i (expWord e) = ![e.val, 0, (i 0).val * 1024] := by
  unfold k0_off6
  generalize i 0 = j
  revert j e; decide +kernel
theorem off15_at (i : grid0.Coords) (e : Fin 8) : k0_off15 i (expWord e) = ![e.val, 0, (i 0).val * 1024] := by
  unfold k0_off15
  generalize i 0 = j
  revert j e; decide +kernel
theorem off20_at (i : grid0.Coords) (e : Fin 8) : k0_off20 i (expWord e) = ![e.val, 0, ((i 0).val + 1) * 1024] := by
  unfold k0_off20
  generalize i 0 = j
  revert j e; decide +kernel
theorem off2_at (i : grid0.Coords) : k0_off2 i = ![2 * (i 1).val] := by
  unfold k0_off2; generalize i 1 = j; revert j; decide +kernel
theorem off23_at (i : grid0.Coords) : k0_off23 i = ![2 * (i 1).val + 1] := by
  unfold k0_off23; generalize i 1 = j; revert j; decide +kernel

theorem cond1_iff (i : grid0.Coords) : k0_cond1 i = 1#1 ↔ (i 0).val = 0 ∧ (i 1).val = 0 := by
  unfold k0_cond1
  generalize i 0 = j; generalize i 1 = t
  revert j t; decide +kernel

/-- A condition widened to a word and tested against zero is the condition. -/
theorem widened_one (b : BitVec 1) : IntOp.cmpi .ne (Scalar.extui b : BitVec 32) 0#32 = 1#1 ↔ b = 1#1 := by revert b; decide

/-- The word of a point's first tile, and of its second. -/
abbrev wordA (i : grid0.Coords) : BitVec 32 := Scalar.addi (Scalar.muli (BitVec.ofNat 32 (i 1).val) 2#32) 0#32
abbrev wordB (i : grid0.Coords) : BitVec 32 := Scalar.addi (Scalar.muli (BitVec.ofNat 32 (i 1).val) 2#32) 1#32
theorem wordA_int (i : grid0.Coords) : (wordA i).toInt = ((2 * (i 1).val : ℕ) : ℤ) := by
  unfold wordA; generalize i 1 = t; revert t; decide +kernel
theorem wordB_int (i : grid0.Coords) : (wordB i).toInt = ((2 * (i 1).val + 1 : ℕ) : ℤ) := by
  unfold wordB; generalize i 1 = t; revert t; decide +kernel

theorem cond2_iff (i : grid0.Coords) (v7 v10 : BitVec 32) :
    k0_cond2 i v7 v10 = 1#1 ↔ ((2 * (i 1).val : ℕ) : ℤ) < v7.toInt ∧ v10 = 1#32 := by
  unfold k0_cond2
  show IntOp.cmpi .ne (Scalar.extui (IntOp.andi (IntOp.cmpi .slt (wordA i) v7) (IntOp.cmpi .eq v10 1#32))) 0#32 = 1#1 ↔ _
  rw [widened_one, andi_one, slt_one, eq_one, wordA_int]
theorem cond7_iff (i : grid0.Coords) (v7 v10 : BitVec 32) :
    k0_cond7 i v7 v10 = 1#1 ↔ ((2 * (i 1).val + 1 : ℕ) : ℤ) < v7.toInt ∧ v10 = 1#32 := by
  unfold k0_cond7
  show IntOp.cmpi .ne (Scalar.extui (IntOp.andi (IntOp.cmpi .slt (wordB i) v7) (IntOp.cmpi .eq v10 1#32))) 0#32 = 1#1 ↔ _
  rw [widened_one, andi_one, slt_one, eq_one, wordB_int]
theorem cond3_iff (v : BitVec 32) : k0_cond3 v = 1#1 ↔ 0 ≤ v.toInt := by
  unfold k0_cond3
  show IntOp.cmpi .ne (Scalar.extui (IntOp.cmpi .sge v 0#32)) 0#32 = 1#1 ↔ _
  rw [widened_one, sge_one, toInt_0]
theorem cond4_iff (i : grid0.Coords) (v : BitVec 32) : k0_cond4 i v = 1#1 ↔ ¬ 0 ≤ v.toInt ∧ (i 0).val + 1 < 7 := by
  have hj : IntOp.cmpi .slt (Scalar.addi (BitVec.ofNat 32 (i 0).val) 1#32) 7#32 = 1#1 ↔ (i 0).val + 1 < 7 := by
    generalize i 0 = j; revert j; decide +kernel
  unfold k0_cond4
  show IntOp.cmpi .ne (Scalar.extui (IntOp.andi (IntOp.cmpi .slt v 0#32)
    (IntOp.cmpi .slt (Scalar.addi (BitVec.ofNat 32 (i 0).val) 1#32) 7#32))) 0#32 = 1#1 ↔ _
  rw [widened_one, andi_one, slt_one, toInt_0, hj, not_le]
theorem cond5_iff (i : grid0.Coords) (v : BitVec 32) : k0_cond5 i v = 1#1 ↔ ((2 * (i 1).val : ℕ) : ℤ) < v.toInt := by
  unfold k0_cond5
  show IntOp.cmpi .ne (Scalar.extui (IntOp.cmpi .slt (wordA i) v)) 0#32 = 1#1 ↔ _
  rw [widened_one, slt_one, wordA_int]
theorem cond6_iff (i : grid0.Coords) (v : BitVec 32) : k0_cond6 i v = 1#1 ↔ ¬ ((2 * (i 1).val : ℕ) : ℤ) < v.toInt := by
  unfold k0_cond6
  show IntOp.cmpi .ne (Scalar.extui (IntOp.cmpi .sge (wordA i) v)) 0#32 = 1#1 ↔ _
  rw [widened_one, sge_one, wordA_int, not_lt]
theorem cond10_iff (i : grid0.Coords) (v : BitVec 32) : k0_cond10 i v = 1#1 ↔ ((2 * (i 1).val + 1 : ℕ) : ℤ) < v.toInt := by
  unfold k0_cond10
  show IntOp.cmpi .ne (Scalar.extui (IntOp.cmpi .slt (wordB i) v)) 0#32 = 1#1 ↔ _
  rw [widened_one, slt_one, wordB_int]
theorem cond11_iff (i : grid0.Coords) (v : BitVec 32) : k0_cond11 i v = 1#1 ↔ ¬ ((2 * (i 1).val + 1 : ℕ) : ℤ) < v.toInt := by
  unfold k0_cond11
  show IntOp.cmpi .ne (Scalar.extui (IntOp.cmpi .sge (wordB i) v)) 0#32 = 1#1 ↔ _
  rw [widened_one, sge_one, wordB_int, not_lt]

theorem need2_at (C : BitVec 1) {n : ℕ} (hn : n < 1024) : need2 C (runWord n) := by
  unfold need2
  rw [off4_at ⟨n, hn⟩, off5_at ⟨n, hn⟩, off7_at ⟨n, hn⟩, off8_at ⟨n, hn⟩, off9_at ⟨n, hn⟩, off10_at ⟨n, hn⟩]
  exact ⟨fun _ => cell_inb _ _, fun _ => slot_inb _ _, fun _ => cell_inb _ _, fun _ => slot_inb _ _, fun _ => slot_inb _ _, fun _ => slot_inb _ _⟩
theorem need3_at (C : BitVec 1) (i : grid0.Coords) (e : Fin 8) : need3 C i (expWord e) := by
  unfold need3
  rw [off6_at]
  exact fun _ => tile_inb e (i 0)
theorem need4_at (C : BitVec 1) (i : grid0.Coords) {n : ℕ} (hn : n < 1024) (v : BitVec 32) (hv : v.toInt < 74) :
    need4 C i (runWord n) v := by
  unfold need4
  rw [off13_at ⟨n, hn⟩, off14_at ⟨n, hn⟩, off16_at ⟨n, hn⟩, off17_at ⟨n, hn⟩, off18_at ⟨n, hn⟩, off19_at ⟨n, hn⟩, off21_at ⟨n, hn⟩, off22_at ⟨n, hn⟩]
  refine ⟨fun _ h a => ?_, fun _ _ => cell_inb _ _, fun _ _ => slot_inb _ _, fun _ _ => cell_inb _ _, fun _ _ => slot_inb _ _,
    fun _ _ => cell_inb _ _, fun _ _ => slot_inb _ _, fun _ _ => cell_inb _ _, fun _ _ => slot_inb _ _⟩
  have h0 := (cond3_iff v).1 h
  have := toInt_eq_toNat h0
  fin_cases a
  show v.toNat + 1 ≤ 74
  omega
theorem need5_at (C : BitVec 1) (i : grid0.Coords) (v : BitVec 32) (e : Fin 8) : need5 C i v (expWord e) := by
  unfold need5
  rw [off15_at]
  exact fun _ _ => tile_inb e (i 0)
theorem need6_at (C : BitVec 1) (i : grid0.Coords) (v : BitVec 32) (e : Fin 8) : need6 C i v (expWord e) := by
  unfold need6
  rw [off20_at]
  exact fun _ h => tile_inb e ⟨(i 0).val + 1, ((cond4_iff i v).1 h).2⟩

/-! ## What the loads read -/

variable (c : Dev nD)

/-- The table of experts read at an offset. -/
abbrev rdTe (te : Buf (Elt F) (teM.view.loc (c : Thread nD τ))) (o : Fin 1 → ℕ) (h : ∀ a, o a + S1.size a ≤ S74.size a) : BitVec 32 :=
  teM.view.readAt (Elt F) (Rect.unit (s := S74) o S1.size h).toLoadRect te (Shape.Idx.first (s := S1) (by decide))
/-- The table of beginnings read at an offset. -/
abbrev rdFirst (first : Buf (Elt F) (firstM.view.loc (c : Thread nD τ))) (o : Fin 1 → ℕ) (h : ∀ a, o a + S1.size a ≤ S74.size a) : BitVec 32 :=
  firstM.view.readAt (Elt F) (Rect.unit (s := S74) o S1.size h).toLoadRect first (Shape.Idx.first (s := S1) (by decide))
/-- The table of following beginnings read at an offset. -/
abbrev rdNext (next : Buf (Elt F) (nextM.view.loc (c : Thread nD τ))) (o : Fin 1 → ℕ) (h : ∀ a, o a + S1.size a ≤ S74.size a) : BitVec 32 :=
  nextM.view.readAt (Elt F) (Rect.unit (s := S74) o S1.size h).toLoadRect next (Shape.Idx.first (s := S1) (by decide))
/-- The number of tiles used, read. -/
abbrev rdNv (nv : Buf (Elt F) (nvM.view.loc (c : Thread nD τ))) : BitVec 32 :=
  nvM.view.readAt (Elt F) (Rect.unit (s := S1) ![0] S1.size inb_S1_S1_0).toLoadRect nv (Shape.Idx.first (s := S1) (by decide))

theorem word_idx (v : IVec S74 32) {o : Fin 1 → ℕ} {t : ℕ} (ho : o = ![t]) (h : ∀ a, o a + S1.size a ≤ S74.size a)
    (y : (Rect.unit (s := S74) o S1.size h).shape.Idx) : v ((Rect.unit (s := S74) o S1.size h).toLoadRect.idx y) = word v t := by
  subst ho
  have ht : t < 74 := by have := h 0; simp at this; omega
  unfold word
  rw [dif_pos ht]
  refine congrArg v (funext fun a => Fin.ext ?_)
  fin_cases a
  have hy : (y 0).val = 0 := by have := (y 0).isLt; change (y 0).val < 1 at this; omega
  show t + 1 * (y 0).val = t
  omega
theorem rdTe_eq (te : Buf (Elt F) (teM.view.loc (c : Thread nD τ))) {o : Fin 1 → ℕ} {t : ℕ} (ho : o = ![t])
    (h : ∀ a, o a + S1.size a ≤ S74.size a) : rdTe c te o h = word te t := word_idx te ho h _
theorem rdFirst_eq (first : Buf (Elt F) (firstM.view.loc (c : Thread nD τ))) {o : Fin 1 → ℕ} {t : ℕ} (ho : o = ![t])
    (h : ∀ a, o a + S1.size a ≤ S74.size a) : rdFirst c first o h = word first t := word_idx first ho h _
theorem rdNext_eq (next : Buf (Elt F) (nextM.view.loc (c : Thread nD τ))) {o : Fin 1 → ℕ} {t : ℕ} (ho : o = ![t])
    (h : ∀ a, o a + S1.size a ≤ S74.size a) : rdNext c next o h = word next t := word_idx next ho h _

/-- The run counter read, when it holds `v`. -/
theorem rdRun_const (v : BitVec 32) :
    runM.view.readAt (Elt F) (Rect.unit (s := S1) ![0] S1.size inb_S1_S1_0).toLoadRect
      ((fun _ => v : Buf (Elt F) (runM.view.loc (c : Thread nD τ)))) (Shape.Idx.first (s := S1) (by decide)) = v := rfl

/-! ## The cast pair -/

/-- The cast pair's gate tile and up tile. -/
abbrev cast0 (g : Buf (Elt F) (castM.view.loc (c : Thread nD τ))) : Vec F S1x2048x1024 .bf16 :=
  castM.view.readAt (Elt F) (Rect.unit (s := S2x2048x1024) ![0, 0, 0] S1x2048x1024.size inb_S2x2048x1024_S1x2048x1024_0_0_0).toLoadRect g
abbrev cast1 (g : Buf (Elt F) (castM.view.loc (c : Thread nD τ))) : Vec F S1x2048x1024 .bf16 :=
  castM.view.readAt (Elt F) (Rect.unit (s := S2x2048x1024) ![1, 0, 0] S1x2048x1024.size inb_S2x2048x1024_S1x2048x1024_1_0_0).toLoadRect g

variable (wg : Buf (Elt F) (wgM.view.loc (c : Thread nD τ))) (wu : Buf (Elt F) (wuM.view.loc (c : Thread nD τ)))

/-- The cast pair is that of expert `e` and column block `j`. -/
def Holds (g : Buf (Elt F) (castM.view.loc (c : Thread nD τ))) (e : Fin 8) (j : Fin 7) : Prop :=
  cast0 c g = castTile c wgM wg e j ∧ cast1 c g = castTile c wuM wu e j

/-- Two stores, one a half. -/
theorem cast_stores (f : Buf (Elt F) (castM.view.loc (c : Thread nD τ))) (x y : Vec F S1x2048x1024 .bf16) :
    cast0 c (castM.view.writes (Elt F) f
        [⟨Rect.unit (s := S2x2048x1024) ![1, 0, 0] S1x2048x1024.size inb_S2x2048x1024_S1x2048x1024_1_0_0, y⟩,
          ⟨Rect.unit (s := S2x2048x1024) ![0, 0, 0] S1x2048x1024.size inb_S2x2048x1024_S1x2048x1024_0_0_0, x⟩]) = x
      ∧ cast1 c (castM.view.writes (Elt F) f
        [⟨Rect.unit (s := S2x2048x1024) ![1, 0, 0] S1x2048x1024.size inb_S2x2048x1024_S1x2048x1024_1_0_0, y⟩,
          ⟨Rect.unit (s := S2x2048x1024) ![0, 0, 0] S1x2048x1024.size inb_S2x2048x1024_S1x2048x1024_0_0_0, x⟩]) = y := by
  constructor
  · funext z
    refine (View.read_writes_cons_unit_of_not_mem castM.view f inb_S2x2048x1024_S1x2048x1024_1_0_0 y _
      ((Rect.unit (s := S2x2048x1024) ![0, 0, 0] S1x2048x1024.size inb_S2x2048x1024_S1x2048x1024_0_0_0).emb z) rfl 0 (.inl ?_)).trans ?_
    · have hz : (z 0).val < 1 := (z 0).isLt
      show 0 + 1 * (z 0).val < 1
      omega
    · exact View.read_writes_cons_emb castM.view f
        (Rect.unit (s := S2x2048x1024) ![0, 0, 0] S1x2048x1024.size inb_S2x2048x1024_S1x2048x1024_0_0_0) x [] z
  · funext z
    exact View.read_writes_cons_emb castM.view f
      (Rect.unit (s := S2x2048x1024) ![1, 0, 0] S1x2048x1024.size inb_S2x2048x1024_S1x2048x1024_1_0_0) y
      [⟨Rect.unit (s := S2x2048x1024) ![0, 0, 0] S1x2048x1024.size inb_S2x2048x1024_S1x2048x1024_0_0_0, x⟩] z

/-- The cast of what lies in a slot's half is the cast tile, once the half holds the tile. -/
theorem pay6_slot {M : Memref sig .tc .hbm S8x2048x7168 .f32} {w : Buf (Elt F) (M.view.loc (c : Thread nD τ))}
    {e : Fin 8} {j : Fin 7} {s u : Fin 2} {f : Buf (Elt F) (ringM.view.loc (c : Thread nD τ))}
    (hf : inSlot c s u f = tileOf c M w e j) {o : Fin 4 → ℕ} (ho : o = ![s.val, u.val, 0, 0])
    (h : ∀ a, o a + S1x1x2048x1024.size a ≤ S2x2x2048x1024.size a) :
    k0_pay6 (ringM.view.readAt (Elt F) (Rect.unit (s := S2x2x2048x1024) o S1x1x2048x1024.size h).toLoadRect f) = castTile c M w e j := by
  subst ho
  unfold castTile
  rw [← hf]
  rfl

/-! ## A turn -/

/-- The ring when run `n` is the next: its pair under way, or no pair left to fetch. -/
def ring (n : ℕ) : Option (Fin 8 × Fin 7) → sProp 𝕄
  | some p => iprop(pair c wg wu p.1 p.2 (slotOf n) ∗ zeros c (slotOf (n + 1)))
  | none => iprop(still c wg wu ∗ zeros c (slotOf n) ∗ zeros c (slotOf (n + 1)))

theorem slotOf_add_two (n : ℕ) : slotOf (n + 1 + 1) = slotOf n := Fin.ext (by show (n + 1 + 1) % 2 = n % 2; omega)

theorem ring_elim (n : ℕ) (p : Fin 8 × Fin 7) : (ring c wg wu n (some p) : sProp 𝕄)
    ⊢ iprop(pair c wg wu p.1 p.2 (slotOf n) ∗ zeros c (slotOf (n + 1))) := .rfl
theorem ring_intro (n : ℕ) (p : Fin 8 × Fin 7) :
    iprop(pair c wg wu p.1 p.2 (slotOf n) ∗ zeros c (slotOf (n + 1))) ⊢ (ring c wg wu n (some p) : sProp 𝕄) := .rfl
theorem ring_next (n : ℕ) (p : Fin 8 × Fin 7) :
    iprop(pair c wg wu p.1 p.2 (slotOf (n + 1)) ∗ zeros c (slotOf n)) ⊢ (ring c wg wu (n + 1) (some p) : sProp 𝕄) := by
  rw [← slotOf_add_two n]; exact .rfl
theorem ring_none (n : ℕ) :
    iprop(still c wg wu ∗ zeros c (slotOf (n + 1)) ∗ zeros c (slotOf n)) ⊢ (ring c wg wu (n + 1) none : sProp 𝕄) := by
  rw [← slotOf_add_two n]; exact .rfl

/-- Once cast, a pair need not be kept in its slot. -/
theorem landed_still (e : Fin 8) (j : Fin 7) (s : Fin 2) : (landed c wg wu e j s : sProp 𝕄)
    ⊢ iprop(pt c fullShare wgM wg ∗ pt c fullShare wuM wu
    ∗ (∃ f, ⌜inSlot c s 0 f = tileOf c wgM wg e j ∧ inSlot c s 1 f = tileOf c wuM wu e j⌝ ∗ pt c fullShare ringM f)) := .rfl
theorem still_intro (f : Buf (Elt F) (ringM.view.loc (c : Thread nD τ))) :
    iprop(pt c fullShare wgM wg ∗ pt c fullShare wuM wu ∗ pt c fullShare ringM f) ⊢ (still c wg wu : sProp 𝕄) := by
  unfold still
  iintro ⟨Hg, Hu, Hr⟩
  isplitl [Hg]; · iexact Hg
  isplitl [Hu]; · iexact Hu
  iexists f; iexact Hr

/-- The expert of tile `t`. -/
def expOf (te : IVec S74 32) (t : ℕ) : Fin 8 := ⟨(word te t).toNat % 8, Nat.mod_lt _ (by decide)⟩

theorem expOf_word {te : IVec S74 32} {t : ℕ} (h : (word te t).toNat < 8) : word te t = expWord (expOf te t) := by
  unfold expOf
  apply BitVec.eq_of_toNat_eq
  rw [BitVec.toNat_ofNat]
  show _ = (_ % 8) % _
  omega

/-- The pair to fetch after the run at tile `t` of column block `j`. -/
def following (te : IVec S74 32) (next : IVec S74 32) (j : Fin 7) (t : ℕ) : Option (Fin 8 × Fin 7) :=
  if 0 ≤ (word next t).toInt then some (expOf te (word next t).toNat, j)
  else if h : j.val + 1 < 7 then some (expOf te 0, ⟨j.val + 1, h⟩) else none

theorem full_store {sp : Space} {S : Shape} {e : EltTy} (v : View sig .tc sp S e) (f : v.ty.Contents (Elt F)) {off : Fin S.rank → ℕ}
    (inb : ∀ a, off a + S.size a ≤ S.size a) (x : S.Idx → Elt F e) :
    v.read (Elt F) (v.writes (Elt F) f [⟨Rect.unit off S.size inb, x⟩]) = x := View.read_writes_full v f inb x []

theorem run_store (f : Buf (Elt F) (runM.view.loc (c : Thread nD τ))) (v : BitVec 32) :
    runM.view.writes (Elt F) f [⟨Rect.unit (s := S1) ![0] S1.size inb_S1_S1_0, fun _ => v⟩] = fun _ => v := by
  have h := full_store (F := F) runM.view f inb_S1_S1_0 (fun _ => v)
  rw [View.read_whole] at h
  exact h

theorem run_succ (n : ℕ) : Scalar.addi (runM.view.readAt (Elt F) (Rect.unit (s := S1) ![0] S1.size inb_S1_S1_0).toLoadRect
      ((fun _ => runWord n : Buf (Elt F) (runM.view.loc (c : Thread nD τ)))) (Shape.Idx.first (s := S1) (by decide))) 1#32 = runWord (n + 1) := by
  rw [rdRun_const]
  exact (BitVec.ofNat_add n 1).symm

theorem run_step (n : ℕ) (f : Buf (Elt F) (runM.view.loc (c : Thread nD τ))) (v : BitVec 32) (h : v = runWord (n + 1)) :
    (pt c fullShare runM (runM.view.writes (Elt F) f [⟨Rect.unit (s := S1) ![0] S1.size inb_S1_S1_0, fun _ => v⟩]) : sProp 𝕄)
      ⊢ pt c fullShare runM (fun _ => runWord (n + 1)) := by
  rw [run_store, h]

/-- The transfers' state when run `n` is next. -/
def ringAt (n : ℕ) (o : Option (Fin 8 × Fin 7)) : sProp 𝕄 :=
  iprop(ring c wg wu n o ∗ pt c fullShare runM (fun _ => runWord n))

variable {α : Type}

set_option maxHeartbeats 4000000 in
/-- A turn at tile `t` that takes a run: the pair is cast, the run counter moves on and the following pair is under way. -/
theorem turn_takes (i : grid0.Coords) (C : BitVec 1) (D : Decides C i) (o : Fin 1 → ℕ) (ho : ∀ a, o a + S1.size a ≤ S74.size a)
    {t : ℕ} (et : o = ![t]) (ht : t < 74)
    (te : Buf (Elt F) (teM.view.loc (c : Thread nD τ))) (next : Buf (Elt F) (nextM.view.loc (c : Thread nD τ)))
    (hte : ∀ t, t < 74 → word te t = expWord (expOf te t)) (hC : C = 1#1) (hnext : (word next t).toInt < 74)
    (n : ℕ) (hn : n < 1024) (j : Fin 7) (hj : i 0 = j) (g : Buf (Elt F) (castM.view.loc (c : Thread nD τ)))
    (rest : Prog (TpuEff nD τ sig (Elt F) Λ₀ .tc) α) (Q : α → sProp 𝕄) :
    iprop(pt c fullShare.right teM te ∗ pt c fullShare.right nextM next ∗ ringAt c wg wu n (some (expOf te t, j))
        ∗ pt c fullShare castM g ∗ (∃ W, owes (c : Thread nD τ) 0 W)
        ∗ (∀ g', ⌜Holds c wg wu g' (expOf te t) j⌝ -∗ pt c fullShare.right teM te -∗ pt c fullShare.right nextM next
            -∗ ringAt c wg wu (n + 1) (following te next j t) -∗ pt c fullShare castM g' -∗ (∃ W, owes (c : Thread nD τ) 0 W)
            -∗ wp frame (wpE (defs₀ (F := F)) Variants.none (c : Thread nD τ) none) Set.univ rest Q))
      ⊢ wp frame (wpE (defs₀ (F := F)) Variants.none (c : Thread nD τ) none) Set.univ (turnProg i C D o ho rest) Q := by
  have hjv : (i 0).val = j.val := congrArg Fin.val hj
  have k2 := need2_at C hn
  have k3 : need3 C i (rdTe c te o ho) := by rw [rdTe_eq c te et, hte t ht]; exact need3_at C i _
  have k4 : need4 C i (runWord n) (rdNext c next o ho) := by rw [rdNext_eq c next et]; exact need4_at C i hn _ hnext
  unfold ringAt turnProg
  iintro ⟨Ht, Hn, ⟨HR, Hu⟩, Hc, ⟨%W, HW⟩, Hk⟩
  ihave HR := (ring_elim c wg wu n _) $$ HR
  icases HR with ⟨HP, HZ'⟩
  set_option sl_exec.stopBefore "awaitProg" in
  sl_exec (disch := first | sl_exact hC | sl_exact k2 | sl_exact k3)
  iapply (collect c wg wu (off4_at ⟨n, hn⟩) (off5_at ⟨n, hn⟩) (off7_at ⟨n, hn⟩) (off8_at ⟨n, hn⟩)) $$ [HP HW]
  · isplitl [HP]; · iexact HP
    iexists _; iexact HW
  iintro ⟨HL, HZ, ⟨%W', HW⟩⟩
  ihave HL := (landed_still c wg wu _ _ _) $$ HL
  icases HL with ⟨Hg, Hw, ⟨%f, %hf, Hr⟩⟩
  by_cases h0 : 0 ≤ (word next t).toInt
  on_goal 1 =>
    have hc3 : k0_cond3 (rdNext c next o ho) = 1#1 := by rw [rdNext_eq c next et]; exact (cond3_iff _).2 h0
    have hc4 : ¬ k0_cond4 i (rdNext c next o ho) = 1#1 := by
      rw [rdNext_eq c next et]; exact fun h => ((cond4_iff _ _).1 h).1 h0
    have hw : rdTe c te (k0_off12 (rdNext c next o ho)) (k4.1 hC hc3) = expWord (expOf te (word next t).toNat) := by
      rw [rdTe_eq c te (t := (word next t).toNat) (by rw [rdNext_eq c next et]; rfl)]
      exact hte _ (by have := toInt_eq_toNat h0; omega)
    have k5 : need5 C i (rdNext c next o ho) (rdTe c te (k0_off12 (rdNext c next o ho)) (k4.1 hC hc3)) := by
      rw [hw]; exact need5_at C i _ _
    have e7 : k0_off15 i (rdTe c te (k0_off12 (rdNext c next o ho)) (k4.1 hC hc3))
        = ![(expOf te (word next t).toNat).val, 0, j.val * 1024] := by rw [hw, off15_at, hjv]
    set_option sl_exec.stopBefore "fetchProg" in
    sl_exec (disch := first | sl_exact k4 | sl_exact hc3 | sl_exact k5)
    beta_reduce
    rw [wp_bind]
    iapply (fetch c wg wu (s := slotOf (n + 1)) (off13_at ⟨n, hn⟩) (off14_at ⟨n, hn⟩) (off16_at ⟨n, hn⟩) (off17_at ⟨n, hn⟩) e7) $$ [Hg Hw Hr HZ']
    · isplitr [HZ']
      · iapply (still_intro c wg wu f)
        isplitl [Hg]; · iexact Hg
        isplitl [Hw]; · iexact Hw
        iexact Hr
      · iexact HZ'
    iintro HP
    ihave HR := (ring_next c wg wu n (expOf te (word next t).toNat, j)) $$ [HP HZ]
    · isplitl [HP]; · iexact HP
      iexact HZ
    have hfol : following te next j t = some (expOf te (word next t).toNat, j) := if_pos h0
    rw [hfol]
    set_option sl_exec.stopBefore "rest" in
    sl_exec (disch := first | sl_exact hc4)
  on_goal 2 =>
    have hc3 : ¬ k0_cond3 (rdNext c next o ho) = 1#1 := by rw [rdNext_eq c next et]; exact fun h => h0 ((cond3_iff _).1 h)
    by_cases hl : j.val + 1 < 7
  on_goal 2 =>
    have hc4 : k0_cond4 i (rdNext c next o ho) = 1#1 := by
      rw [rdNext_eq c next et]; exact (cond4_iff _ _).2 ⟨h0, hjv ▸ hl⟩
    have hw : rdTe c te ![0] inb_S74_S1_0 = expWord (expOf te 0) := by rw [rdTe_eq c te rfl]; exact hte 0 (by decide)
    have k6 : need6 C i (rdNext c next o ho) (rdTe c te ![0] inb_S74_S1_0) := by rw [hw]; exact need6_at C i _ _
    have e7 : k0_off20 i (rdTe c te ![0] inb_S74_S1_0)
        = ![(expOf te 0).val, 0, (⟨j.val + 1, hl⟩ : Fin 7).val * 1024] := by rw [hw, off20_at, hjv]
    set_option sl_exec.stopBefore "fetchProg" in
    sl_exec (disch := first | sl_exact k4 | sl_exact hc3 | sl_exact hc4 | sl_exact k6)
    beta_reduce
    rw [wp_bind]
    iapply (fetch c wg wu (s := slotOf (n + 1)) (off18_at ⟨n, hn⟩) (off19_at ⟨n, hn⟩) (off21_at ⟨n, hn⟩) (off22_at ⟨n, hn⟩) e7) $$ [Hg Hw Hr HZ']
    · isplitr [HZ']
      · iapply (still_intro c wg wu f)
        isplitl [Hg]; · iexact Hg
        isplitl [Hw]; · iexact Hw
        iexact Hr
      · iexact HZ'
    iintro HP
    ihave HR := (ring_next c wg wu n (expOf te 0, ⟨j.val + 1, hl⟩)) $$ [HP HZ]
    · isplitl [HP]; · iexact HP
      iexact HZ
    have hfol : following te next j t = some (expOf te 0, ⟨j.val + 1, hl⟩) := by
      unfold following; rw [if_neg h0, dif_pos hl]
    rw [hfol]
    set_option sl_exec.stopBefore "rest" in
    sl_exec
  on_goal 3 =>
    have hc4 : ¬ k0_cond4 i (rdNext c next o ho) = 1#1 := by
      rw [rdNext_eq c next et]; exact fun h => hl (hjv ▸ ((cond4_iff _ _).1 h).2)
    have hfol : following te next j t = none := by
      unfold following; rw [if_neg h0, dif_neg hl]
    rw [hfol]
    set_option sl_exec.stopBefore "rest" in
    sl_exec (disch := first | sl_exact k4 | sl_exact hc3 | sl_exact hc4)
    ihave HR := (ring_none c wg wu n) $$ [Hg Hw Hr HZ HZ']
    · isplitl [Hg Hw Hr]
      · iapply (still_intro c wg wu f)
        isplitl [Hg]; · iexact Hg
        isplitl [Hw]; · iexact Hw
        iexact Hr
      isplitl [HZ']; · iexact HZ'
      iexact HZ
  all_goals
    iapply Hk $$ [] Ht Hn [HR Hu] Hc [HW]
    · ipureintro
      have h := cast_stores c g
        (k0_pay6 (ringM.view.readAt (Elt F) (Rect.unit (s := S2x2x2048x1024) (k0_off9 (runWord n)) S1x1x2048x1024.size (k2.2.2.2.2.1 hC)).toLoadRect f))
        (k0_pay6 (ringM.view.readAt (Elt F) (Rect.unit (s := S2x2x2048x1024) (k0_off10 (runWord n)) S1x1x2048x1024.size (k2.2.2.2.2.2 hC)).toLoadRect f))
      exact ⟨h.1.trans (pay6_slot c hf.1 (off9_at ⟨n, hn⟩) _), h.2.trans (pay6_slot c hf.2 (off10_at ⟨n, hn⟩) _)⟩
    · isplitl [HR]; · iexact HR
      iapply (run_step c n _ _ (run_succ (F := F) c n)); iexact Hu
    · iexists _; iexact HW

/-- A turn at tile `t`: it takes a run exactly when the tile is in use and begins one. -/
theorem turn (i : grid0.Coords) (C : BitVec 1) (D : Decides C i) (o : Fin 1 → ℕ) (ho : ∀ a, o a + S1.size a ≤ S74.size a)
    {t : ℕ} (et : o = ![t]) (ht : t < 74)
    (te : Buf (Elt F) (teM.view.loc (c : Thread nD τ))) (next : Buf (Elt F) (nextM.view.loc (c : Thread nD τ)))
    (hte : ∀ t, t < 74 → word te t = expWord (expOf te t)) (run : Prop) [Decidable run] (hC : C = 1#1 ↔ run)
    (hnext : run → (word next t).toInt < 74)
    (n : ℕ) (hn : n < 1024) (j : Fin 7) (hj : i 0 = j) (p : Option (Fin 8 × Fin 7)) (hact : run → p = some (expOf te t, j))
    (g : Buf (Elt F) (castM.view.loc (c : Thread nD τ)))
    (rest : Prog (TpuEff nD τ sig (Elt F) Λ₀ .tc) α) (Q : α → sProp 𝕄) :
    iprop(pt c fullShare.right teM te ∗ pt c fullShare.right nextM next ∗ ringAt c wg wu n p
        ∗ pt c fullShare castM g ∗ (∃ W, owes (c : Thread nD τ) 0 W)
        ∗ (∀ g', ⌜if run then Holds c wg wu g' (expOf te t) j else g' = g⌝ -∗ pt c fullShare.right teM te -∗ pt c fullShare.right nextM next
            -∗ ringAt c wg wu (if run then n + 1 else n) (if run then following te next j t else p)
            -∗ pt c fullShare castM g' -∗ (∃ W, owes (c : Thread nD τ) 0 W)
            -∗ wp frame (wpE (defs₀ (F := F)) Variants.none (c : Thread nD τ) none) Set.univ rest Q))
      ⊢ wp frame (wpE (defs₀ (F := F)) Variants.none (c : Thread nD τ) none) Set.univ (turnProg i C D o ho rest) Q := by
  by_cases h : run
  · simp only [if_pos h]
    rw [hact h]
    exact turn_takes c wg wu i C D o ho et ht te next hte (hC.2 h) (hnext h) n hn j hj g rest Q
  · simp only [if_neg h]
    unfold turnProg
    rw [dif_neg (fun e => h (hC.1 e))]
    iintro ⟨Ht, Hn, HR, Hc, HW, Hk⟩
    iapply Hk $$ [] Ht Hn HR Hc HW
    ipureintro; rfl

end Cert.MoeGateIdeal.Hand
-- ==== Proof.MoeGateIdealBody.lean ====
/- The grouped gate and up product's kernel at a grid point: two tiles, each a turn of the weights and a block written. -/
module

public import proofs.«01_k».proof.Proof.MoeGateIdealTurn

@[expose] public section

set_option maxRecDepth 16384

noncomputable section

namespace Cert.MoeGateIdeal.Hand

open Cert.MoeGateIdeal Cert.MoeGateIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (wg : Buf (Elt F) (wgM.view.loc (c : Thread nD τ))) (wu : Buf (Elt F) (wuM.view.loc (c : Thread nD τ)))
variable {α : Type}

/-! ## The block of a tile -/

/-- Half `s` of a point's rows. -/
def half (x : Vec F S512x2048 .bf16) (s : Fin 2) : Vec F S256x2048 .bf16 := fun y =>
  x (ix2 ⟨256 * s.val + (y 0).val, by have h : (y 0).val < 256 := (y 0).isLt; have := s.isLt; omega⟩ (y 1))

/-- A tile's block from its rows and the cast pair: the product, or zero for a tile not in use. -/
def tileBlock (used : Prop) [Decidable used] (x : Vec F S256x2048 .bf16) (g : Buf (Elt F) (castM.view.loc (c : Thread nD τ))) :
    Vec F S256x1024 .bf16 := if used then k0_pay1 x (cast0 c g) (cast1 c g) else k0_pay2

/-- Two tiles' blocks, one above the other. -/
def paste (a b : Vec F S256x1024 .bf16) : Vec F S512x1024 .bf16 := fun y =>
  if h : (y 0).val < 256 then a (ix2 ⟨(y 0).val, h⟩ (y 1))
  else b (ix2 ⟨(y 0).val - 256, by have h : (y 0).val < 512 := (y 0).isLt; omega⟩ (y 1))

theorem half_read (arg6 : Memref sig .tc .vmem S512x2048 .bf16) (harg6 : arg6.IsWhole) (x : Vec F S512x2048 .bf16) (s : Fin 2)
    {o : Fin 2 → ℕ} (ho : o = ![256 * s.val, 0]) (h : ∀ a, o a + S256x2048.size a ≤ S512x2048.size a) :
    arg6.view.readAt (Elt F) (Rect.unit (s := S512x2048) o S256x2048.size h).toLoadRect (harg6.unread x) = half x s := by
  subst ho
  funext y
  rw [View.readAt_apply]
  refine (congrFun (harg6.read_unread x) _).trans (congrArg x (funext fun a => Fin.ext ?_))
  fin_cases a
  · show 256 * s.val + 1 * (y 0).val = 256 * s.val + (y 0).val
    omega
  · show 0 + 1 * (y 1).val = (y 1).val
    omega

theorem paste_read (arg9 : Memref sig .tc .vmem S512x1024 .bf16) (f : arg9.view.ty.Contents (Elt F)) (a b : Vec F S256x1024 .bf16) :
    arg9.view.read (Elt F) (arg9.view.writes (Elt F) (arg9.view.writes (Elt F) f
      [⟨Rect.unit (s := S512x1024) ![0, 0] S256x1024.size inb_S512x1024_S256x1024_0_0, a⟩])
      [⟨Rect.unit (s := S512x1024) ![256, 0] S256x1024.size inb_S512x1024_S256x1024_256_0, b⟩]) = paste a b := by
  funext y
  unfold paste
  have hy : (y 0).val < 512 := (y 0).isLt
  split
  · rename_i h
    refine (View.read_writes_cons_unit_of_not_mem arg9.view _ inb_S512x1024_S256x1024_256_0 b [] y rfl 0 (.inl h)).trans ?_
    rw [View.writes_nil]
    refine View.read_writes_cons_unit_of_mem arg9.view f inb_S512x1024_S256x1024_0_0 a [] y (ix2 ⟨(y 0).val, h⟩ (y 1)) rfl fun k => ?_
    fin_cases k
    · exact (Nat.zero_add _).symm
    · exact (Nat.zero_add _).symm
  · rename_i h
    refine View.read_writes_cons_unit_of_mem arg9.view _ inb_S512x1024_S256x1024_256_0 b [] y (ix2 ⟨(y 0).val - 256, by omega⟩ (y 1)) rfl fun k => ?_
    fin_cases k
    · show (y 0).val = 256 + ((y 0).val - 256)
      omega
    · exact (Nat.zero_add _).symm

set_option maxHeartbeats 1000000 in
/-- A tile's block is written. -/
theorem block_run (arg6 : Memref sig .tc .vmem S512x2048 .bf16) (harg6 : arg6.IsWhole) (arg9 : Memref sig .tc .vmem S512x1024 .bf16)
    (harg9 : arg9.IsWhole) (o : Fin 2 → ℕ) (h6 : ∀ a, o a + S256x2048.size a ≤ S512x2048.size a)
    (h9 : ∀ a, o a + S256x1024.size a ≤ S512x1024.size a)
    (hp : (Rect.unit (s := S512x1024) o S256x1024.size h9).PackedRows (EltTy.packing .bf16))
    (C5 : BitVec 1) (C6 : BitVec 32 → BitVec 1) (nv : Buf (Elt F) (nvM.view.loc (c : Thread nD τ)))
    (used : Prop) [Decidable used] (h5 : C5 = 1#1 ↔ used) (h6' : C6 (rdNv c nv) = 1#1 ↔ ¬ used)
    (x : Vec F S512x2048 .bf16) (s : Fin 2) (ho : o = ![256 * s.val, 0])
    (g : Buf (Elt F) (castM.view.loc (c : Thread nD τ))) (f : arg9.view.ty.Contents (Elt F))
    (rest : Prog (TpuEff nD τ sig (Elt F) Λ₀ .tc) α) (Q : α → sProp 𝕄) :
    iprop(pt c fullShare.right nvM nv ∗ (arg6.view.loc (c : Thread nD τ) ↦[arg6.view.set]{fullShare} harg6.unread x) ∗ pt c fullShare castM g ∗ (arg9.view.loc (c : Thread nD τ) ↦[arg9.view.set]{fullShare} f)
        ∗ (pt c fullShare.right nvM nv -∗ (arg6.view.loc (c : Thread nD τ) ↦[arg6.view.set]{fullShare} harg6.unread x) -∗ pt c fullShare castM g
          -∗ (arg9.view.loc (c : Thread nD τ) ↦[arg9.view.set]{fullShare}
            arg9.view.writes (Elt F) f [⟨Rect.unit (s := S512x1024) o S256x1024.size h9, tileBlock c used (half x s) g⟩])
          -∗ wp frame (wpE (defs₀ (F := F)) Variants.none (c : Thread nD τ) none) Set.univ rest Q))
      ⊢ wp frame (wpE (defs₀ (F := F)) Variants.none (c : Thread nD τ) none) Set.univ
          (blockProg arg6 harg6 arg9 harg9 o h6 h9 hp C5 C6 rest) Q := by
  unfold blockProg tileBlock
  iintro ⟨Hv, H6, Hc, H9, Hk⟩
  by_cases hu : used
  · have hc5 := h5.2 hu
    have hc6 : ¬ C6 (rdNv c nv) = 1#1 := fun h => h6'.1 h hu
    rw [if_pos hu, ← half_read arg6 harg6 x s ho h6]
    sl_exec (disch := first | sl_exact hc5 | sl_exact hc6)
    iapply Hk $$ Hv H6 Hc H9
  · have hc5 : ¬ C5 = 1#1 := fun h => hu (h5.1 h)
    have hc6 := h6'.2 hu
    rw [if_neg hu]
    sl_exec (disch := first | sl_exact hc5 | sl_exact hc6)
    iapply Hk $$ Hv H6 Hc H9

/-! ## The body -/

/-- The transfers' state before the first point: nothing begun. -/
def freeRing : sProp 𝕄 := iprop(still c wg wu ∗ zeros c (slotOf 0) ∗ zeros c (slotOf 1) ∗ (∃ u, pt c fullShare runM u))

/-- The four tables. -/
def tables (te : Buf (Elt F) (teM.view.loc (c : Thread nD τ))) (first : Buf (Elt F) (firstM.view.loc (c : Thread nD τ)))
    (next : Buf (Elt F) (nextM.view.loc (c : Thread nD τ))) (nv : Buf (Elt F) (nvM.view.loc (c : Thread nD τ))) : sProp 𝕄 :=
  iprop(pt c fullShare.right teM te ∗ pt c fullShare.right firstM first ∗ pt c fullShare.right nextM next ∗ pt c fullShare.right nvM nv)

set_option maxHeartbeats 4000000 in
/-- The body is its first part, then its second tile's block. -/
theorem body_eq (i : grid0.Coords) (arg6 : Memref sig .tc .vmem S512x2048 .bf16) (harg6 : arg6.IsWhole)
    (arg9 : Memref sig .tc .vmem S512x1024 .bf16) (harg9 : arg9.IsWhole) :
    cc0_moe_gate_up_skel (F := F) i teM (Memref.isWhole_whole _) firstM (Memref.isWhole_whole _) nextM (Memref.isWhole_whole _)
            nvM (Memref.isWhole_whole _) arg6 harg6 wgM (Memref.isWhole_whole _) wuM (Memref.isWhole_whole _) arg9 harg9 ringM (Memref.isWhole_whole _)
            castM (Memref.isWhole_whole _) cc0_scratch2 runM (Memref.isWhole_whole _)
      = (headProg i (firstProg i arg6 harg6 arg9 harg9 (secondProg i fun v33 =>
          .ret ⟨Scalar.addi (Scalar.muli (BitVec.ofNat 32 (i 1).val) 2#32) 1#32, v33,
            Scalar.cmpi .slt (Scalar.addi (Scalar.muli (BitVec.ofNat 32 (i 1).val) 2#32) 1#32) v33⟩))
          : Prog (TpuEff nD τ sig (Elt F) Λ₀ .tc) (Σ' (v24 : BitVec 32) (v33 : Elt F .i32), BitVec 1)) >>= fun r =>
        blockProg arg6 harg6 arg9 harg9 ![256, 0] inb_S512x2048_S256x2048_256_0 inb_S512x1024_S256x1024_256_0
          packedbf16_S512x1024_S256x1024_256_0 (k0_cond10 i r.2.1) (fun v => k0_cond11 i v) (.ret ⟨⟩) := by
  rw [← part3_eq]
  rfl

/-- The opening: at the first point the first pair is asked for and the run counter is set. -/
theorem head_run (i : grid0.Coords) (te : Buf (Elt F) (teM.view.loc (c : Thread nD τ)))
    (hte : ∀ t, t < 74 → word te t = expWord (expOf te t))
    (n : ℕ) (o : Option (Fin 8 × Fin 7)) (S : sProp 𝕄)
    (hS : (k0_cond1 i = 1#1 ∧ S = freeRing c wg wu ∧ n = 0 ∧ o = some (expOf te 0, 0)) ∨ (¬ k0_cond1 i = 1#1 ∧ S = ringAt c wg wu n o))
    (rest : Prog (TpuEff nD τ sig (Elt F) Λ₀ .tc) α) (Q : α → sProp 𝕄) :
    iprop(pt c fullShare.right teM te ∗ S ∗ (pt c fullShare.right teM te -∗ ringAt c wg wu n o
        -∗ wp frame (wpE (defs₀ (F := F)) Variants.none (c : Thread nD τ) none) Set.univ rest Q))
      ⊢ wp frame (wpE (defs₀ (F := F)) Variants.none (c : Thread nD τ) none) Set.univ (headProg i rest) Q := by
  unfold headProg
  iintro ⟨Ht, HS, Hk⟩
  rcases hS with ⟨h1, rfl, rfl, rfl⟩ | ⟨h1, rfl⟩
  · unfold freeRing
    icases HS with ⟨Hw, Hv0, Hv1, ⟨%u, Hu⟩⟩
    have hw : rdTe c te ![0] inb_S74_S1_0 = expWord (expOf te 0) := by rw [rdTe_eq c te rfl]; exact hte 0 (by decide)
    have k1 : k0_chk1 i (rdTe c te ![0] inb_S74_S1_0) := by
      rw [hw]; unfold k0_chk1; rw [off1_at]; exact fun _ => tile_inb _ 0
    have e7 : k0_off1 (rdTe c te ![0] inb_S74_S1_0) = ![(expOf te 0).val, 0, (0 : Fin 7).val * 1024] := by rw [hw, off1_at]
    set_option sl_exec.stopBefore "fetchProg" in
    sl_exec (disch := first | sl_exact h1 | sl_exact k1)
    iapply (fetch c wg wu (s := slotOf 0) rfl rfl rfl rfl e7) $$ [Hw Hv0]
    · isplitl [Hw]; · iexact Hw
      iexact Hv0
    iintro HF
    ihave HR := (ring_intro c wg wu 0 (expOf te 0, 0)) $$ [HF Hv1]
    · isplitl [HF]; · iexact HF
      iexact Hv1
    rw [run_store]
    unfold ringAt
    iapply Hk $$ Ht [HR Hu]
    isplitl [HR]; · iexact HR
    iexact Hu
  · rw [dif_neg h1]
    iapply Hk $$ Ht HS

set_option maxHeartbeats 1000000 in
/-- The body at a point: two tiles, `2 (i 1)` and the next. -/
theorem body_run (i : grid0.Coords) (arg6 : Memref sig .tc .vmem S512x2048 .bf16) (harg6 : arg6.IsWhole)
    (arg9 : Memref sig .tc .vmem S512x1024 .bf16) (harg9 : arg9.IsWhole)
    (te : Buf (Elt F) (teM.view.loc (c : Thread nD τ))) (first : Buf (Elt F) (firstM.view.loc (c : Thread nD τ)))
    (next : Buf (Elt F) (nextM.view.loc (c : Thread nD τ))) (nv : Buf (Elt F) (nvM.view.loc (c : Thread nD τ)))
    (hte : ∀ t, t < 74 → word te t = expWord (expOf te t))
    (hnext : ∀ t : ℕ, t < 74 → (t : ℤ) < (rdNv c nv).toInt → word first t = 1#32 → (word next t).toInt < 74)
    (n n1 n2 : ℕ) (hn : n < 1024) (hn1 : n1 < 1024) (j : Fin 7) (hj : i 0 = j) (o o1 o2 : Option (Fin 8 × Fin 7)) (S : sProp 𝕄)
    (hS : (k0_cond1 i = 1#1 ∧ S = freeRing c wg wu ∧ n = 0 ∧ o = some (expOf te 0, 0)) ∨ (¬ k0_cond1 i = 1#1 ∧ S = ringAt c wg wu n o))
    (tA tB : ℕ) (eA : tA = 2 * (i 1).val) (eB : tB = 2 * (i 1).val + 1)
    (en1 : (if (tA : ℤ) < (rdNv c nv).toInt ∧ word first tA = 1#32 then n + 1 else n) = n1)
    (eo1 : (if (tA : ℤ) < (rdNv c nv).toInt ∧ word first tA = 1#32 then following te next j tA else o) = o1)
    (en2 : (if (tB : ℤ) < (rdNv c nv).toInt ∧ word first tB = 1#32 then n1 + 1 else n1) = n2)
    (eo2 : (if (tB : ℤ) < (rdNv c nv).toInt ∧ word first tB = 1#32 then following te next j tB else o1) = o2)
    (hactA : (tA : ℤ) < (rdNv c nv).toInt ∧ word first tA = 1#32 → o = some (expOf te tA, j))
    (hactB : (tB : ℤ) < (rdNv c nv).toInt ∧ word first tB = 1#32 → o1 = some (expOf te tB, j))
    (x : Vec F S512x2048 .bf16) (g : Buf (Elt F) (castM.view.loc (c : Thread nD τ))) (K : PUnit → sProp 𝕄) :
    iprop(tables c te first next nv ∗ owns (c : Thread nD τ) arg6 fullShare x ∗ (∃ d, owns (c : Thread nD τ) arg9 fullShare d)
        ∗ S ∗ pt c fullShare castM g ∗ (∃ W, owes (c : Thread nD τ) 0 W)
        ∗ (∀ g1 g2, ⌜(if (tA : ℤ) < (rdNv c nv).toInt ∧ word first tA = 1#32 then Holds c wg wu g1 (expOf te tA) j else g1 = g)
              ∧ (if (tB : ℤ) < (rdNv c nv).toInt ∧ word first tB = 1#32 then Holds c wg wu g2 (expOf te tB) j else g2 = g1)⌝
            -∗ tables c te first next nv -∗ owns (c : Thread nD τ) arg6 fullShare x -∗ ringAt c wg wu n2 o2
            -∗ pt c fullShare castM g2
            -∗ owns (c : Thread nD τ) arg9 fullShare (paste (tileBlock c ((tA : ℤ) < (rdNv c nv).toInt) (half x 0) g1)
                (tileBlock c ((tB : ℤ) < (rdNv c nv).toInt) (half x 1) g2))
            -∗ (∃ W, owes (c : Thread nD τ) 0 W) -∗ K ⟨⟩))
      ⊢ wp frame (wpE (defs₀ (F := F)) Variants.none c none) Set.univ
          (cc0_moe_gate_up i teM (Memref.isWhole_whole _) firstM (Memref.isWhole_whole _) nextM (Memref.isWhole_whole _)
            nvM (Memref.isWhole_whole _) arg6 harg6 wgM (Memref.isWhole_whole _) wuM (Memref.isWhole_whole _) arg9 harg9
            ringM (Memref.isWhole_whole _) castM (Memref.isWhole_whole _) cc0_scratch2 runM (Memref.isWhole_whole _)) K := by
  have htA : tA < 74 := by have h : (i 1).val < 37 := (i 1).isLt; omega
  have htB : tB < 74 := by have h : (i 1).val < 37 := (i 1).isLt; omega
  have hvA : rdFirst c first (k0_off2 i) (k0_off2_inb i) = word first tA := rdFirst_eq c first ((off2_at i).trans (by rw [eA])) _
  have hvB : rdFirst c first (k0_off23 i) (k0_off23_inb i) = word first tB := rdFirst_eq c first ((off23_at i).trans (by rw [eB])) _
  have hCA : k0_cond2 i (rdNv c nv) (rdFirst c first (k0_off2 i) (k0_off2_inb i)) = 1#1
      ↔ (tA : ℤ) < (rdNv c nv).toInt ∧ word first tA = 1#32 := by rw [cond2_iff, hvA, eA]
  have hCB : k0_cond7 i (rdNv c nv) (rdFirst c first (k0_off23 i) (k0_off23_inb i)) = 1#1
      ↔ (tB : ℤ) < (rdNv c nv).toInt ∧ word first tB = 1#32 := by rw [cond7_iff, hvB, eB]
  have h5 : k0_cond5 i (rdNv c nv) = 1#1 ↔ (tA : ℤ) < (rdNv c nv).toInt := by rw [cond5_iff, eA]
  have h6 : k0_cond6 i (rdNv c nv) = 1#1 ↔ ¬ (tA : ℤ) < (rdNv c nv).toInt := by rw [cond6_iff, eA]
  have h10 : k0_cond10 i (rdNv c nv) = 1#1 ↔ (tB : ℤ) < (rdNv c nv).toInt := by rw [cond10_iff, eB]
  have h11 : k0_cond11 i (rdNv c nv) = 1#1 ↔ ¬ (tB : ℤ) < (rdNv c nv).toInt := by rw [cond11_iff, eB]
  rw [cc0_moe_gate_up_eq_skeleton, body_eq, wp_bind]
  unfold owns tables
  iintro ⟨⟨Ht, Hf, Hn, Hv⟩, ⟨%f6, %h6', H6⟩, ⟨%d9, %f9, -, H9⟩, HS, Hc, HW, Hk⟩
  obtain rfl := harg6.eq_unread h6'
  iapply (head_run c wg wu i te hte n o S hS)
  isplitl [Ht]; · iexact Ht
  isplitl [HS]; · iexact HS
  iintro Ht HR
  unfold firstProg
  set_option sl_exec.stopBefore "turnProg" in
  sl_exec
  iapply (turn c wg wu i _ _ _ _ ((off2_at i).trans (by rw [eA])) htA te next hte _ hCA (fun h => hnext tA htA h.1 h.2) n hn j hj o hactA g)
  isplitl [Ht]; · iexact Ht
  isplitl [Hn]; · iexact Hn
  isplitl [HR]; · iexact HR
  isplitl [Hc]; · iexact Hc
  isplitl [HW]; · iexact HW
  iintro %g1 %hg1 Ht Hn HR Hc HW
  rw [en1, eo1]
  set_option sl_exec.stopBefore "blockProg" in
  sl_exec
  iapply (block_run c arg6 harg6 arg9 harg9 _ _ _ _ _ _ nv _ h5 h6 x 0 rfl g1 f9)
  isplitl [Hv]; · iexact Hv
  isplitl [H6]; · iexact H6
  isplitl [Hc]; · iexact Hc
  isplitl [H9]; · iexact H9
  iintro Hv H6 Hc H9
  unfold secondProg
  set_option sl_exec.stopBefore "turnProg" in
  sl_exec
  iapply (turn c wg wu i _ _ _ _ ((off23_at i).trans (by rw [eB])) htB te next hte _ hCB (fun h => hnext tB htB h.1 h.2) n1 hn1 j hj o1 hactB g1)
  isplitl [Ht]; · iexact Ht
  isplitl [Hn]; · iexact Hn
  isplitl [HR]; · iexact HR
  isplitl [Hc]; · iexact Hc
  isplitl [HW]; · iexact HW
  iintro %g2 %hg2 Ht Hn HR Hc HW
  rw [en2, eo2]
  set_option sl_exec.stopBefore "blockProg" in
  sl_exec
  iapply (block_run c arg6 harg6 arg9 harg9 _ _ _ _ _ _ nv _ h10 h11 x 1 rfl g2)
  isplitl [Hv]; · iexact Hv
  isplitl [H6]; · iexact H6
  isplitl [Hc]; · iexact Hc
  isplitl [H9]; · iexact H9
  iintro Hv H6 Hc H9
  sl_step
  iapply Hk $$ [] [Ht Hf Hn Hv] [H6] HR Hc [H9] HW
  · ipureintro; exact ⟨hg1, hg2⟩
  · isplitl [Ht]; · iexact Ht
    isplitl [Hf]; · iexact Hf
    isplitl [Hn]; · iexact Hn
    iexact Hv
  · iexists _; isplitr; swap; · iexact H6
    ipureintro; exact harg6.read_unread _
  · iexists _; isplitr; swap; · iexact H9
    ipureintro; exact paste_read arg9 _ _ _

end Cert.MoeGateIdeal.Hand
-- ==== Proof.MoeGateIdealFrame.lean ====
/- The grouped gate and up product's run: the state before each grid point, and what each point writes. -/
module

public import proofs.«01_k».proof.Proof.MoeGateIdealBody
public import Idealize.ShloMosaic.Lib.Claim

@[expose] public section

set_option maxRecDepth 16384

noncomputable section

namespace Cert.MoeGateIdeal.Hand

open Cert Cert.MoeGateIdeal Cert.MoeGateIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays at the launch -/

abbrev V (c : Dev nD) (b : Ref sig .tc) : Buf (Elt F) ((c : Thread nD τ).loc b) := m ((c : Thread nD τ).loc b)

abbrev teB (c : Dev nD) : Buf (Elt F) (teM.view.loc (c : Thread nD τ)) := m (teM.view.loc (c : Thread nD τ))
abbrev firstB (c : Dev nD) : Buf (Elt F) (firstM.view.loc (c : Thread nD τ)) := m (firstM.view.loc (c : Thread nD τ))
abbrev nextB (c : Dev nD) : Buf (Elt F) (nextM.view.loc (c : Thread nD τ)) := m (nextM.view.loc (c : Thread nD τ))
abbrev nvB (c : Dev nD) : Buf (Elt F) (nvM.view.loc (c : Thread nD τ)) := m (nvM.view.loc (c : Thread nD τ))
abbrev wgB (c : Dev nD) : Buf (Elt F) (wgM.view.loc (c : Thread nD τ)) := m (wgM.view.loc (c : Thread nD τ))
abbrev wuB (c : Dev nD) : Buf (Elt F) (wuM.view.loc (c : Thread nD τ)) := m (wuM.view.loc (c : Thread nD τ))

/-- The number of tiles in use. -/
abbrev nvW (c : Dev nD) : BitVec 32 := rdNv c (nvB m c)

/-- The tables are a routing's. -/
def Routed : Prop := ∀ c : Dev nD, Tables (word (teB m c)) (word (firstB m c)) (word (nextB m c)) (nvW m c)

/-! ## The state before a position -/

/-- The pair of weight tiles wanted at position `n'`. -/
def wanted (te : IVec S74 32) (n' : ℕ) : Option (Fin 8 × Fin 7) :=
  if h : n' < 7 * 74 then some (expOf te (n' % 74), ⟨n' / 74, by omega⟩) else none

theorem wanted_at (te : IVec S74 32) (j : Fin 7) {t : ℕ} (ht : t < 74) : wanted te (j.val * 74 + t) = some (expOf te t, j) := by
  have hj := j.isLt
  unfold wanted
  rw [dif_pos (by omega)]
  congr 2
  · rw [show (j.val * 74 + t) % 74 = t by omega]
  · exact Fin.ext (by show (j.val * 74 + t) / 74 = j.val; omega)

/-- Before position `p` the cast pair is that of the tile before in the same column, when that one is in use. -/
def Kept (c : Dev nD) (p : ℕ) (g : Buf (Elt F) (castM.view.loc (c : Thread nD τ))) : Prop :=
  ∀ (j : Fin 7) (t : ℕ), t + 1 < 74 → p = j.val * 74 + (t + 1) → t < (nvW m c).toNat → Holds c (wgB m c) (wuB m c) g (expOf (teB m c) t) j

/-- The state before position `p`: the tables, the transfers (none begun before the first position), the cast pair. -/
def Inv (c : Dev nD) (p : ℕ) : sProp 𝕄 :=
  iprop(tables c (teB m c) (firstB m c) (nextB m c) (nvB m c) ∗ (∃ r, prngReg c r)
    ∗ ∃ (n' : ℕ) (S : sProp 𝕄) (g : Buf (Elt F) (castM.view.loc (c : Thread nD τ))),
      ⌜Upcoming (word (firstB m c)) (nvW m c) (7 * 74) p n' ∧ Kept m c p g
        ∧ ((p = 0 ∧ S = freeRing c (wgB m c) (wuB m c))
          ∨ (p ≠ 0 ∧ S = ringAt c (wgB m c) (wuB m c) (Routing.count (word (firstB m c)) (nvW m c) p) (wanted (teB m c) n')))⌝
      ∗ S ∗ pt c fullShare castM g)

/-- The block of column block `j` and tile `t`, of the tile's rows `x`. -/
def blockOf (c : Dev nD) (j : Fin 7) (t : ℕ) (x : Vec F S256x2048 .bf16) : Vec F S256x1024 .bf16 :=
  if t < (nvW m c).toNat then k0_pay1 x (castTile c wgM (wgB m c) (expOf (teB m c) t) j) (castTile c wuM (wuB m c) (expOf (teB m c) t) j)
  else k0_pay2

/-- The block written at column block `j` and pair of tiles `t`, of the rows `x`. -/
def block (c : Dev nD) (j : Fin 7) (t : ℕ) (x : Vec F S512x2048 .bf16) : Vec F S512x1024 .bf16 :=
  paste (blockOf m c j (2 * t) (half x 0)) (blockOf m c j (2 * t + 1) (half x 1))

/-- The number of tiles used is the one entry of its array. -/
theorem nvW_eq (c : Dev nD) (nv : IVec S1 32) (h : nvB m c = nv) : nvW m c = nv (ix1 0) := by
  subst h
  exact congrArg (nvB m c) (funext fun a => Fin.ext (by fin_cases a; rfl))

/-- The tables in memory are good ones when the arrays handed in are. -/
theorem Routed.of (h : ∀ c : Dev nD, Tables (word (m ((c.tc : Thread nD τ).loc main_arg3))) (word (m ((c.tc : Thread nD τ).loc main_arg4)))
    (word (m ((c.tc : Thread nD τ).loc main_arg5))) ((m ((c.tc : Thread nD τ).loc main_arg6) : IVec S1 32) (ix1 0))) : Routed m := by
  intro c
  rw [nvW_eq m c _ rfl]
  exact h c

variable {m}

section Step
variable (hT : Routed m) (c : Dev nD)
include hT

theorem Routed.toInt : (nvW m c).toInt = (nvW m c).toNat := by
  have := (hT c).le
  rw [BitVec.toInt_eq_toNat_cond, if_pos (by omega)]

theorem Routed.used (t : ℕ) : (t : ℤ) < (nvW m c).toInt ↔ t < (nvW m c).toNat := by
  rw [hT.toInt c]; exact Nat.cast_lt

/-- A position fetches exactly when the body's two tests succeed. -/
theorem Routed.starts (j : Fin 7) {t : ℕ} (ht : t < 74) :
    Starts (word (firstB m c)) (nvW m c) (j.val * 74 + t) ↔ (t : ℤ) < (nvW m c).toInt ∧ word (firstB m c) t = 1#32 := by
  unfold Starts
  rw [show (j.val * 74 + t) % 74 = t by omega, hT.used c]

/-- The runs begun so far, after a position. -/
theorem Routed.count_step (j : Fin 7) {t : ℕ} (ht : t < 74) :
    (if (t : ℤ) < (nvW m c).toInt ∧ word (firstB m c) t = 1#32
      then Routing.count (word (firstB m c)) (nvW m c) (j.val * 74 + t) + 1 else Routing.count (word (firstB m c)) (nvW m c) (j.val * 74 + t))
      = Routing.count (word (firstB m c)) (nvW m c) (j.val * 74 + t + 1) := by
  have e := hT.starts c j ht
  conv_rhs => unfold Routing.count
  by_cases h : Starts (word (firstB m c)) (nvW m c) (j.val * 74 + t)
  · rw [if_pos (e.1 h), if_pos h]
  · rw [if_neg (fun h' => h (e.2 h')), if_neg h]; rfl

/-- The pair wanted, after a position. -/
theorem Routed.wanted_step (j : Fin 7) {t : ℕ} (ht : t < 74) {n' : ℕ}
    (h : Upcoming (word (firstB m c)) (nvW m c) (7 * 74) (j.val * 74 + t) n') :
    ∃ n'', Upcoming (word (firstB m c)) (nvW m c) (7 * 74) (j.val * 74 + t + 1) n''
      ∧ wanted (teB m c) n'' = if (t : ℤ) < (nvW m c).toInt ∧ word (firstB m c) t = 1#32
          then following (teB m c) (nextB m c) j t else wanted (teB m c) n' := by
  have e := hT.starts c j ht
  have hj := j.isLt
  by_cases hs : Starts (word (firstB m c)) (nvW m c) (j.val * 74 + t)
  · rw [if_pos (e.1 hs)]
    unfold following
    by_cases h0 : 0 ≤ (word (nextB m c) t).toInt
    · refine ⟨_, (hT c).upcoming_next hj ht hs h0, ?_⟩
      have hh := (hT c).hit t ((hT.used c t).1 (e.1 hs).1) (e.1 hs).2 h0
      have := (hT c).le
      rw [if_pos h0]
      exact wanted_at _ _ (by omega)
    · refine ⟨_, (hT c).upcoming_col hj ht hs h0, ?_⟩
      rw [if_neg h0]
      by_cases hl : j.val + 1 < 7
      · rw [dif_pos hl]
        exact wanted_at (teB m c) ⟨j.val + 1, hl⟩ (t := 0) (by decide)
      · rw [dif_neg hl]; unfold wanted; rw [dif_neg (by omega)]
  · rw [if_neg (fun h' => hs (e.2 h'))]
    exact ⟨n', h.skip (by omega) hs, rfl⟩

/-- The cast pair a position multiplies by, if its tile is in use. -/
theorem Routed.tile_step (j : Fin 7) {t : ℕ} (ht : t < 74) {g g' : Buf (Elt F) (castM.view.loc (c : Thread nD τ))}
    (hg : Kept m c (j.val * 74 + t) g) (hu : t < (nvW m c).toNat)
    (h : if (t : ℤ) < (nvW m c).toInt ∧ word (firstB m c) t = 1#32 then Holds c (wgB m c) (wuB m c) g' (expOf (teB m c) t) j else g' = g) :
    Holds c (wgB m c) (wuB m c) g' (expOf (teB m c) t) j := by
  by_cases hr : (t : ℤ) < (nvW m c).toInt ∧ word (firstB m c) t = 1#32
  · rwa [if_pos hr] at h
  · rw [if_neg hr] at h
    subst h
    have hf : word (firstB m c) t ≠ 1#32 := fun h' => hr ⟨(hT.used c t).2 hu, h'⟩
    cases t with
    | zero => exact absurd (hT c).first0 hf
    | succ s =>
      have hk := (hT c).keep s hu hf
      have := hg j s ht rfl (by omega)
      unfold expOf at this ⊢
      simp only [hk] at this ⊢
      exact this

/-- What is kept, after a position. -/
theorem Routed.kept_step (j : Fin 7) {t : ℕ} (ht : t < 74) {g g' : Buf (Elt F) (castM.view.loc (c : Thread nD τ))}
    (hg : Kept m c (j.val * 74 + t) g)
    (h : if (t : ℤ) < (nvW m c).toInt ∧ word (firstB m c) t = 1#32 then Holds c (wgB m c) (wuB m c) g' (expOf (teB m c) t) j else g' = g) :
    Kept m c (j.val * 74 + t + 1) g' := by
  intro j' t' ht' hp hu
  have hj : j' = j := Fin.ext (by omega)
  have htt : t' = t := by subst hj; omega
  subst hj htt
  exact hT.tile_step c j' ht hg hu h

/-- The block the body writes for a tile is the tile's. -/
theorem Routed.block_step (j : Fin 7) {t : ℕ} (ht : t < 74) {g g' : Buf (Elt F) (castM.view.loc (c : Thread nD τ))}
    (hg : Kept m c (j.val * 74 + t) g)
    (h : if (t : ℤ) < (nvW m c).toInt ∧ word (firstB m c) t = 1#32 then Holds c (wgB m c) (wuB m c) g' (expOf (teB m c) t) j else g' = g)
    (x : Vec F S256x2048 .bf16) : tileBlock c ((t : ℤ) < (nvW m c).toInt) x g' = blockOf m c j t x := by
  unfold tileBlock blockOf
  by_cases hu : t < (nvW m c).toNat
  · have hh := hT.tile_step c j ht hg hu h
    rw [if_pos hu, if_pos ((hT.used c _).2 hu), hh.1, hh.2]
  · rw [if_neg hu, if_neg fun h => hu ((hT.used c _).1 h)]

end Step

/-! ## The proof data -/

section Data
variable (m)

/-- The tables the region reads at its entry. -/
abbrev tbl : pre0.Contents (Elt F) := fun k => m (((0 : Dev nD) : Thread nD τ).loc (pre0.ref k))
abbrev adm : (pcfg0 (F := F)).Adm := ⟨tbl m, (show ok0 (tbl m) from trivial)⟩
abbrev cfgM : Pipeline.Cfg sig Λ₀ := cfg0 (adm m)

/-- Window `w`'s block at point `t`, as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The rows at point `t`, and the block written there. -/
def rowsAt (c : Dev nD) (t : Fin (cfgM m).N) : Vec F S512x2048 .bf16 := iblk m c 0 t
def outAt (c : Dev nD) (t : Fin (cfgM m).N) : Vec F S512x1024 .bf16 :=
  block m c (grid0.coords t 0) (grid0.coords t 1).val (rowsAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m c t
  Φ t := Inv m c (2 * t.val)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := rfl
theorem after0_1 (c : Dev nD) (t : Fin (cfgM m).N) : (dats m 0 c).after 1 t = outAt m c t := rfl

theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; try rfl)

theorem coords_pos : ∀ t : Fin grid0.N, 2 * t.val = (grid0.coords t 0).val * 74 + 2 * (grid0.coords t 1).val := by decide +kernel

/-- The staging buffers at point `t`, and the body called there. -/
abbrev ms0_0 (t : Fin (cfgM m).N) : Memref sig .tc .vmem S512x2048 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512x1024 .bf16 := spec0_1.stage ((cfgM m).slots t 1)
abbrev hs0_1 (t : Fin (cfgM m).N) : (ms0_1 m t).IsWhole := hstage0_1 (((cfgM m).slots t 1).cast nbuf0_1)
abbrev bodyAt0 (t : Fin (cfgM m).N) : Prog (TpuEff nD τ sig (Elt F) Λ₀ .tc) PUnit :=
  cc0_moe_gate_up (grid0.coords t) teM (Memref.isWhole_whole _) firstM (Memref.isWhole_whole _) nextM (Memref.isWhole_whole _)
    nvM (Memref.isWhole_whole _) (ms0_0 m t) (hs0_0 m t) wgM (Memref.isWhole_whole _) wuM (Memref.isWhole_whole _) (ms0_1 m t) (hs0_1 m t)
    ringM (Memref.isWhole_whole _) castM (Memref.isWhole_whole _) cc0_scratch2 runM (Memref.isWhole_whole _)

theorem defs₀_row (t : Fin (cfgM m).N) :
    defs₀ (F := F) .tc (cfgM m).body ((cfgM m).bodyArgs t ((cfgM m).slots t)) = bodyAt0 m t := by
  unfold defs₀; rw [Defs.onTc_tc]

/-- Every point writes its block. -/
theorem idle0_1 (t : Fin (cfgM m).N) : (cfgM m).idle 1 ((cfgM m).grid.coords t) = false := by
  show (!(k0_cond5 (grid0.coords t) _ == 1#1) && !(k0_cond6 (grid0.coords t) _ == 1#1) && !(k0_cond10 (grid0.coords t) _ == 1#1)
    && !(k0_cond11 (grid0.coords t) _ == 1#1)) = false
  generalize (tbl m).atD 3 ![0] = v
  by_cases h : ((2 * (grid0.coords t 1).val : ℕ) : ℤ) < (v : BitVec 32).toInt
  · rw [(cond5_iff _ _).2 h]; rfl
  · rw [(cond6_iff _ _).2 h]
    cases k0_cond5 (grid0.coords t) v == 1#1 <;> rfl

end Data

end Cert.MoeGateIdeal.Hand
-- ==== Proof.MoeGateIdealRun.lean ====
/- The grouped gate and up product's run: the body at every point, the launch, and the argument arrays unchanged. -/
module

public import proofs.«01_k».proof.Proof.MoeGateIdealFrame
public import Idealize.ShloMosaic.Lib.Claim

@[expose] public section

set_option maxRecDepth 16384

noncomputable section

namespace Cert.MoeGateIdeal.Hand

open Cert Cert.MoeGateIdeal Cert.MoeGateIdeal.Gen Cert.Routing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body at every point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem inv_eq (c : Dev nD) (p : Fin ((cfgM m).N + 1)) : (dats m 0 c).Φ p = Inv m c (2 * p.val) := by dsimp only [dats]
theorem owed_eq (c : Dev nD) (p : Fin ((cfgM m).N + 1)) : (dats m 0 c).owed p = 0 := by dsimp only [dats]

theorem sound_body (hT : Routed m) (c : Dev nD) (t : Fin (cfgM m).N) :
    bodyPre m c t ⊢ wp frame (wpE (defs₀ (F := F)) Variants.none c none) Set.univ (bodyAt0 m t) (fun _ => bodyPost m c t) := by
  obtain ⟨j, hj⟩ : ∃ j : Fin 7, grid0.coords t 0 = j := ⟨_, rfl⟩
  have ht : (grid0.coords t 1).val < 37 := (grid0.coords t 1).isLt
  obtain ⟨tA, eA⟩ : ∃ tA : ℕ, tA = 2 * (grid0.coords t 1).val := ⟨_, rfl⟩
  have htA : tA < 74 := by omega
  have htB : tA + 1 < 74 := by omega
  have hp : 2 * t.val = j.val * 74 + tA := by rw [← hj, eA]; exact coords_pos t
  have hN : t.val < 259 := lt_of_lt_of_eq t.isLt N_0
  unfold bodyPre bodyPost
  simp only [before0_0]
  rw [after0_0, after0_1]
  rw [inv_eq, inv_eq]
  unfold Dat.owesAt Pipeline.owesWithin
  rw [owed_eq, owed_eq, Fin.val_castSucc, Fin.val_succ]
  unfold Inv
  iintro ⟨⟨HT, Hg, ⟨%n', %S, %g, %hI, HS, Hc⟩⟩, ⟨%W, %hW, HO⟩, ⟨%d0, H0⟩, H1⟩
  obtain ⟨hup, hk, hS⟩ := hI
  rw [hp] at hup hk
  obtain ⟨n1, hup1, hw1⟩ := hT.wanted_step c j htA hup
  have ea : j.val * 74 + tA + 1 = j.val * 74 + (tA + 1) := Nat.add_assoc _ _ _
  have hcA := hT.count_step c j htA
  have hcB := hT.count_step c j htB
  rw [ea] at hup1 hcA
  rw [← hp] at hcA
  obtain ⟨n2, hup2, hw2⟩ := hT.wanted_step c j htB hup1
  iapply (body_run c (wgB m c) (wuB m c) (grid0.coords t) (ms0_0 m t) (hs0_0 m t) (ms0_1 m t) (hs0_1 m t) (teB m c) (firstB m c) (nextB m c)
    (nvB m c)
    (fun t ht => expOf_word ((hT c).te_lt t ht))
    (fun t ht h hf => by
      by_cases h0 : 0 ≤ (word (nextB m c) t).toInt
      · have := (hT c).hit _ ((hT.used c _).1 h) hf h0
        have := (hT c).le
        rw [toInt_eq_toNat h0]; omega
      · omega)
    (Routing.count (word (firstB m c)) (nvW m c) (2 * t.val)) (Routing.count (word (firstB m c)) (nvW m c) (j.val * 74 + (tA + 1)))
    (Routing.count (word (firstB m c)) (nvW m c) (j.val * 74 + (tA + 1) + 1))
    (by have := count_le (first := word (firstB m c)) (nv := nvW m c) (2 * t.val); omega)
    (by have := count_le (first := word (firstB m c)) (nv := nvW m c) (j.val * 74 + (tA + 1)); have := j.isLt; omega)
    j hj (wanted (teB m c) n') (wanted (teB m c) n1) (wanted (teB m c) n2) S
    (by
      rcases hS with ⟨h0, rfl⟩ | ⟨h0, rfl⟩
      · refine .inl ⟨(cond1_iff _).2 ⟨by rw [hj]; omega, by omega⟩, rfl, by rw [h0]; rfl, ?_⟩
        rw [← hp, h0] at hup
        rw [hup.unique (hT c).upcoming_start]
        exact wanted_at (teB m c) 0 (t := 0) (by decide)
      · refine .inr ⟨fun h => h0 ?_, rfl⟩
        have := (cond1_iff _).1 h
        rw [hj] at this; omega)
    tA (tA + 1) eA (by rw [eA]) hcA hw1.symm hcB hw2.symm
    (fun h => by rw [hup.here ((hT.starts c j htA).2 h)]; exact wanted_at _ _ htA)
    (fun h => by rw [hup1.here ((hT.starts c j htB).2 h)]; exact wanted_at _ _ htB)
    (rowsAt m c t) g)
  isplitl [HT]; · iexact HT
  isplitl [H0]; · iexact H0
  isplitl [H1]; · icases H1 with ⟨%d, H1⟩; iexists _; iexact H1
  isplitl [HS]; · iexact HS
  isplitl [Hc]; · iexact Hc
  isplitl [HO]; · iexists _; iexact HO
  iintro %g1 %g2 %hg HT H0 HS Hc H1 ⟨%W', HO⟩
  have hk1 := hT.kept_step c j htA hk hg.1
  rw [ea] at hk1
  have hb : outAt m c t = paste (tileBlock c ((tA : ℤ) < (rdNv c (nvB m c)).toInt) (half (rowsAt m c t) 0) g1)
      (tileBlock c (((tA + 1 : ℕ) : ℤ) < (rdNv c (nvB m c)).toInt) (half (rowsAt m c t) 1) g2) := by
    unfold outAt block
    rw [hj, ← eA]
    exact (congrArg₂ paste (hT.block_step c j htA hk hg.1 _) (hT.block_step c j htB hk1 hg.2 _)).symm
  isplitl [HT Hg HS Hc]
  · isplitl [HT]; · iexact HT
    isplitl [Hg]; · iexact Hg
    iexists n2, _, g2
    isplitr; swap
    · isplitl [HS]; · iexact HS
      iexact Hc
    ipureintro
    have hp2 : 2 * (t.val + 1) = j.val * 74 + (tA + 1) + 1 := by omega
    refine ⟨by rw [hp2]; exact hup2, by rw [hp2]; exact hT.kept_step c j htB hk1 hg.2, .inr ⟨by omega, ?_⟩⟩
    rw [hp2]
  isplitl [HO]
  · iexists W'
    isplitr; · ipureintro; exact fun _ _ => Or.inl trivial
    iexact HO
  isplitl [H0]; · iexact H0
  rw [hb]
  iexact H1

theorem body_obligation (hT : Routed m) (c : Dev nD) :
    BodyObligation (dats (F := F) m 0 c) (defs₀ (F := F)) Variants.none () Set.univ := fun t => by
  rw [bigSep_W0, bigSep_W0, defs₀_row]
  refine triple_restated (sound_body m hT c t) rfl .rfl fun _ => ?_
  have h := idle0_1 m t
  unfold bodyPost
  refine sep_mono .rfl (sep_mono .rfl (sep_mono .rfl ?_))
  dsimp only
  split
  · rename_i h'; exact absurd (show true = false from h'.symm.trans h) (by decide)
  · exact .rfl

/-! ## The launch -/

/-- The kernel's own semaphores, one for each half of each slot of the ring. -/
def osem : Fin 4 → SemLoc sig := fun k => SemLoc.dma (cell ⟨k.val / 2, by omega⟩ ⟨k.val % 2, by omega⟩)
theorem ownSemFacts : Pipeline.OwnSemFacts spec0 osem := by decide +kernel
theorem ownSems_eq (c : Dev nD) : (Pipeline.ownSems0 osem c : sProp 𝕄)
    = iprop(semVal ((c : Thread nD τ), SemLoc.dma (cell 0 0)) 0 ∗ semVal ((c : Thread nD τ), SemLoc.dma (cell 0 1)) 0
      ∗ semVal ((c : Thread nD τ), SemLoc.dma (cell 1 0)) 0 ∗ semVal ((c : Thread nD τ), SemLoc.dma (cell 1 1)) 0) := by
  rw [Pipeline.ownSems0_eq_of_list c osem [0, 1, 2, 3] (by decide) (by decide)]; rfl

/-- The gate and up weights are the arrays the kernel reads by itself. -/
def H0 : Finset (Ref sig .tc) := {main_arg1, main_arg2}
theorem H0_sub : H0 ⊆ Pipeline.restRefsP sig pre0 spec0 := by decide
theorem hbm_eq (c : Dev nD) (V : (b : Ref sig .tc) → Buf (Elt F) ((c : Thread nD τ).loc b)) :
    (bigSep H0 (fun b => (((c : Thread nD τ).loc b) ↦{fullShare} V b : sProp 𝕄)))
      = iprop((((c : Thread nD τ).loc main_arg1) ↦{fullShare} V main_arg1) ∗ (((c : Thread nD τ).loc main_arg2) ↦{fullShare} V main_arg2)) := by
  rw [BI.bigSep_eq_bigSepL_of_eq [main_arg1, main_arg2] (by decide) (by decide)]; rfl

theorem tables_eq (c : Dev nD) : (Pipeline.ΦT pre0 (tbl m) c : sProp 𝕄) = tables c (teB m c) (firstB m c) (nextB m c) (nvB m c) := by
  obtain rfl : c = 0 := Subsingleton.elim _ _
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl
theorem V_pre (c : Dev nD) (k : Fin 4) : V m c (pre0.ref k) = tbl m k := by
  obtain rfl : c = 0 := Subsingleton.elim _ _
  rfl

theorem slots_two (n : ℕ) : (slotOf n = 0 ∧ slotOf (n + 1) = 1) ∨ (slotOf n = 1 ∧ slotOf (n + 1) = 0) := by
  rcases Nat.mod_two_eq_zero_or_one n with h | h
  · exact .inl ⟨Fin.ext h, Fin.ext (by show (n + 1) % 2 = 1; omega)⟩
  · exact .inr ⟨Fin.ext h, Fin.ext (by show (n + 1) % 2 = 0; omega)⟩

/-- With nothing left to fetch, the kernel holds its buffers and its semaphores at zero. -/
theorem ring_end (c : Dev nD) (wg : Buf (Elt F) (wgM.view.loc (c : Thread nD τ))) (wu : Buf (Elt F) (wuM.view.loc (c : Thread nD τ))) (n : ℕ) :
    (ring c wg wu n none : sProp 𝕄) ⊢ iprop(still c wg wu ∗ zeros c 0 ∗ zeros c 1) := by
  unfold ring
  rcases slots_two n with ⟨h0, h1⟩ | ⟨h0, h1⟩
  · rw [h0, h1]
  · rw [h0, h1]
    iintro ⟨Hw, Ha, Hb⟩
    isplitl [Hw]; · iexact Hw
    isplitl [Hb]; · iexact Hb
    iexact Ha

theorem wanted_end (te : IVec S74 32) {n' : ℕ} (h : 518 ≤ n') : wanted te n' = none := by
  unfold wanted; rw [dif_neg (by omega)]

theorem inv_first (hT : Routed m) (c : Dev nD) :
    iprop(Pipeline.ΦD osem spec0 H0 (V m) c ∗ Pipeline.ΦT pre0 (tbl m) c) ⊢ (Inv m c 0 : sProp 𝕄) := by
  rw [tables_eq]
  unfold Pipeline.ΦD
  rw [scopedRest0_eq, ownSems_eq, hbm_eq]
  unfold Inv
  iintro ⟨⟨⟨Hr, ⟨%g, Hc⟩, Hn⟩, Hg, ⟨Ha, Hb, Hd, He⟩, ⟨Hw, Hx⟩⟩, HT⟩
  isplitl [HT]; · iexact HT
  isplitl [Hg]; · iexact Hg
  iexists 0, freeRing c (wgB m c) (wuB m c), g
  isplitr
  · ipureintro
    exact ⟨(hT c).upcoming_start, fun j t _ h => absurd h (by omega), .inl ⟨rfl, rfl⟩⟩
  isplitr [Hc]; swap
  · iexact Hc
  unfold freeRing still zeros
  isplitl [Hw Hx Hr]
  · isplitl [Hw]; · iexact Hw
    isplitl [Hx]; · iexact Hx
    iexact Hr
  isplitl [Ha Hb]
  · isplitl [Ha]; · iexact Ha
    iexact Hb
  isplitl [Hd He]
  · isplitl [Hd]; · iexact Hd
    iexact He
  iexact Hn

theorem inv_last (c : Dev nD) : (Inv m c 518 : sProp 𝕄) ⊢ Pipeline.ΦD osem spec0 H0 (V m) c := by
  unfold Pipeline.ΦD
  rw [scopedRest0_eq, ownSems_eq, hbm_eq]
  unfold Inv
  iintro ⟨HT, Hg, ⟨%n', %S, %g, %hI, HS, Hc⟩⟩
  obtain ⟨hup, -, h⟩ := hI
  rcases h with ⟨h, -⟩ | ⟨-, rfl⟩
  · omega
  rw [wanted_end _ hup.from_le]
  unfold ringAt
  icases HS with ⟨HS, Hn⟩
  ihave HS := ring_end c _ _ _ $$ HS
  unfold still zeros
  icases HS with ⟨⟨Hw, Hx, Hr⟩, ⟨Ha, Hb⟩, ⟨Hd, He⟩⟩
  isplitl [Hr Hc Hn]
  · isplitl [Hr]; · iexact Hr
    isplitl [Hc]; · iexists _; iexact Hc
    iexists _; iexact Hn
  isplitl [Hg]; · iexact Hg
  isplitl [Ha Hb Hd He]
  · isplitl [Ha]; · iexact Ha
    isplitl [Hb]; · iexact Hb
    isplitl [Hd]; · iexact Hd
    iexact He
  isplitl [Hw]; · iexact Hw
  iexact Hx

theorem inv_begin (c : Dev nD) : (dats m 0 c).Φ 0 = Inv m c 0 := inv_eq m c 0
theorem inv_end (c : Dev nD) : (dats m 0 c).Φ (Fin.last (cfgM m).N) = Inv m c 518 := by
  rw [inv_eq, Fin.val_last]; exact congrArg (fun n => Inv m c (2 * n)) N_0

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_region pcfgs 0 defs₀ 𝒱₀ m main fun c => (main_chain c).trans rfl

set_option backward.isDefEq.respectTransparency.types false in
/-- Every execution from zero counters ends, with the arrays at what the proof data say and the counters at zero. -/
theorem run_quiescent (hT : Routed m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none ownSemFacts H0 H0_sub m ρ main
    (hbody := fun c => (body_obligation m hT c).loose) (hshare := fun c => (dats m 0 c).share_full fun _ => rfl) (howed := fun _ _ => rfl)
    (V := V m) (hmain := hmain m Variants.none) (hA := A_eq m) (hpf := V_pre m)
    (hin := fun c => (inv_first m hT c).trans (Eq.le (inv_begin m c).symm))
    (hout := fun c => (Eq.le (inv_end m c)).trans (inv_last m c))

/-! The arrays no window stages. -/
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)
theorem rest_arg5 : main_arg5 ∈ Pipeline.restRefs sig spec0 := Pipeline.mem_restRefs_of main_arg5 (by decide) (by decide)
theorem rest_arg6 : main_arg6 ∈ Pipeline.restRefs sig spec0 := Pipeline.mem_restRefs_of main_arg6 (by decide) (by decide)

/-- The argument arrays end unchanged. -/
theorem kept_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans (A_eq m c 0)),
    (h c).2 main_arg1 rest_arg1,
    (h c).2 main_arg2 rest_arg2,
    (h c).2 main_arg3 rest_arg3,
    (h c).2 main_arg4 rest_arg4,
    (h c).2 main_arg5 rest_arg5,
    (h c).2 main_arg6 rest_arg6⟩

/-- The frame, for tables of a routing. -/
theorem frame (hT : Routed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => kept_of m h.1 c, h.2⟩) (run_quiescent m ρ hT)

end Cert.MoeGateIdeal.Hand
-- ==== Proof.MoeGateValue.lean ====
/- What the grouped gate and up product computes over the extended reals: each row's gated product of its tile's expert. -/
module

public import proofs.«01_k».proof.Proof.MoeGateIdealRun
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.MoeGateIdeal.Val

open Cert.MoeGateIdeal Cert.MoeGateIdeal.Gen Cert.MoeGateIdeal.Hand Cert.Routing

variable (m : (ℓ : Loc nD τ sig) → Buf (Elt Ideal) ℓ)

/-- Expert `e`'s weight: input column `k`, output column `n`. -/
abbrev wgt (w : Vec Ideal S8x2048x7168 .f32) (e : Fin 8) (k : Fin 2048) (n : Fin 7168) : EReal := w (ix3 e k n)

theorem col_lt (j : Fin 7) (n : Fin 1024) : j.val * 1024 + n.val < 7168 := by omega

/-- A weight tile's place in the weights. -/
abbrev tileRect (e : Fin 8) (j : Fin 7) : Rect S8x2048x7168 :=
  Rect.unit (s := S8x2048x7168) ![e.val, 0, j.val * 1024] S1x2048x1024.size (tile_inb e j)

theorem at_tile (e : Fin 8) (j : Fin 7) (k : Fin 2048) (n : Fin 1024) (a : Fin 3) :
    (![e.val, 0, j.val * 1024] : Fin 3 → ℕ) a + (ix3 (0 : Fin 1) k n a).val = (ix3 e k (⟨j.val * 1024 + n.val, col_lt j n⟩ : Fin 7168) a).val := by
  fin_cases a
  · exact Nat.add_zero e.val
  · exact Nat.zero_add k.val
  · rfl

/-- The cast gate tile's entries. -/
theorem gate_apply (c : Dev nD) (w : Vec Ideal S8x2048x7168 .f32) (e : Fin 8) (j : Fin 7) (k : Fin 2048) (n : Fin 1024) :
    (castTile c wgM w e j : Vec Ideal S1x2048x1024 .bf16) (ix3 (0 : Fin 1) k n) = wgt w e k ⟨j.val * 1024 + n.val, col_lt j n⟩ := by
  have h : tileOf c wgM w e j = shapeCast S2048x1024 (View.read (Elt Ideal) ((View.whole main_arg1).slice (tileRect e j)) w :
      Vec Ideal S1x2048x1024 .f32) shapeCasts_S1x2048x1024_S2048x1024 := rfl
  unfold castTile wgt
  rw [h]
  pointwise []
  refine congrArg w (funext fun a => Fin.ext ?_)
  rw [ValueKit.view_emb_slice_whole_unit_val]
  exact at_tile e j k n a

/-- The cast up tile's entries. -/
theorem up_apply (c : Dev nD) (w : Vec Ideal S8x2048x7168 .f32) (e : Fin 8) (j : Fin 7) (k : Fin 2048) (n : Fin 1024) :
    (castTile c wuM w e j : Vec Ideal S1x2048x1024 .bf16) (ix3 (0 : Fin 1) k n) = wgt w e k ⟨j.val * 1024 + n.val, col_lt j n⟩ := by
  have h : tileOf c wuM w e j = shapeCast S2048x1024 (View.read (Elt Ideal) ((View.whole main_arg2).slice (tileRect e j)) w :
      Vec Ideal S1x2048x1024 .f32) shapeCasts_S1x2048x1024_S2048x1024 := rfl
  unfold castTile wgt
  rw [h]
  pointwise []
  refine congrArg w (funext fun a => Fin.ext ?_)
  rw [ValueKit.view_emb_slice_whole_unit_val]
  exact at_tile e j k n a

/-- The gated product of a gate sum and an up sum. -/
abbrev glu (g u : EReal) : EReal := g * Idealize.ShloMosaic.Ideal.logistic g * u

/-- The block a tile in use writes. -/
theorem product_apply (x : Vec Ideal S256x2048 .bf16) (g u : Vec Ideal S1x2048x1024 .bf16) (y : S256x1024.Idx) :
    (k0_pay1 x g u : Vec Ideal S256x1024 .bf16) y
      = glu (∑ k : Fin 2048, (x (ix2 (y 0 : Fin 256) k) : EReal) * (g (ix3 (0 : Fin 1) k (y 1 : Fin 1024)) : EReal))
          (∑ k : Fin 2048, (x (ix2 (y 0 : Fin 256) k) : EReal) * (u (ix3 (0 : Fin 1) k (y 1 : Fin 1024)) : EReal)) := by
  pointwise [k0_pay1]

theorem zero_apply (y : S256x1024.Idx) : (k0_pay2 (F := Ideal) : Vec Ideal S256x1024 .bf16) y = (0 : EReal) := by
  pointwise [k0_pay2]

theorem index_rows (i : grid0.Coords) : cc0_transform_0 i 0 = (i 1).val ∧ cc0_transform_0 i 1 = 0 := by
  have h : (i 1).val < 37 := (i 1).isLt
  exact ⟨(BitVec.toNat_ofNat _ _).trans (Nat.mod_eq_of_lt (by omega)), rfl⟩
theorem index_out (i : grid0.Coords) : cc0_transform_3 i 0 = (i 1).val ∧ cc0_transform_3 i 1 = (i 0).val := by
  have h : (i 1).val < 37 := (i 1).isLt
  have h' : (i 0).val < 7 := (i 0).isLt
  exact ⟨(BitVec.toNat_ofNat _ _).trans (Nat.mod_eq_of_lt (by omega)), (BitVec.toNat_ofNat _ _).trans (Nat.mod_eq_of_lt (by omega))⟩

/-- Some tables; the windows do not depend on them. -/
abbrev anyMem : (ℓ : Loc nD τ sig) → Buf (Elt Ideal) ℓ := fun _ _ => default

theorem covers : ((cfgM m).win 1).Covers :=
  (by decide +kernel : ((cfgM anyMem).win 1).Covers)

theorem row_lt (i : grid0.Coords) (r : Fin 512) : (i 1).val * 512 + r.val < 18944 := by
  have h : (i 1).val < 37 := (i 1).isLt
  omega

theorem emb_rows (t : Fin (cfgM m).N) (y : S512x2048.Idx) (a : Fin 2) :
    ((((cfgM m).win 0).blk t).view.emb y a).val = cc0_transform_0 (grid0.coords t) a * S512x2048.size a + (y a).val :=
  Pipeline.Window.rect_emb_val ((cfgM m).win 0) t y a rfl
theorem emb_out (t : Fin (cfgM m).N) (y : S512x1024.Idx) (a : Fin 2) :
    ((((cfgM m).win 1).blk t).view.emb y a).val = cc0_transform_3 (grid0.coords t) a * S512x1024.size a + (y a).val :=
  Pipeline.Window.rect_emb_val ((cfgM m).win 1) t y a rfl

/-- The rows of a point are those of its two tiles. -/
theorem rows_apply (c : Dev nD) (t : Fin (cfgM m).N) (r : Fin 512) (k : Fin 2048) :
    (rowsAt m c t) (ix2 r k) = m ((c : Thread nD τ).loc main_arg0) (ix2 ⟨(grid0.coords t 1).val * 512 + r.val, row_lt _ r⟩ k) := by
  show m ((c : Thread nD τ).loc main_arg0) ((((cfgM m).win 0).blk t).view.emb (ix2 r k)) = _
  refine congrArg _ (funext fun a => Fin.ext ((emb_rows m t (ix2 r k) a).trans ?_))
  obtain ⟨h0, h1⟩ := index_rows (grid0.coords t)
  fin_cases a
  · exact congrArg (fun n => n * 512 + r.val) h0
  · exact (congrArg (fun n => n * 2048 + k.val) h1).trans (show 0 * 2048 + k.val = k.val by omega)

/-- A row's product with an expert's weights. -/
abbrev prod (x : Vec Ideal S18944x2048 .bf16) (w : Vec Ideal S8x2048x7168 .f32) (e : Fin 8) (i : S18944x7168.Idx) : EReal :=
  ∑ k : Fin 2048, (x (ix2 (i 0 : Fin 18944) k) : EReal) * wgt w e k (i 1)

/-- The grouped gated product: a row of a tile in use, by the weights of the tile's expert; other rows zero. -/
abbrev grouped (te : IVec S74 32) (nv : ℕ) (x : Vec Ideal S18944x2048 .bf16) (wg wu : Vec Ideal S8x2048x7168 .f32) : Vec Ideal S18944x7168 .bf16 :=
  fun i => if (i 0).val / 256 < nv then glu (prod x wg (expOf te ((i 0).val / 256)) i) (prod x wu (expOf te ((i 0).val / 256)) i) else (0 : EReal)

/-- The block of a tile, entry by entry. -/
theorem tile_apply (c : Dev nD) (j : Fin 7) (t : ℕ) (x : Vec Ideal S256x2048 .bf16) (r : Fin 256) (n : Fin 1024) (i : S18944x7168.Idx)
    (h0 : (i 0).val = t * 256 + r.val) (h1 : (i 1).val = j.val * 1024 + n.val)
    (hx : ∀ k : Fin 2048, x (ix2 r k) = m ((c : Thread nD τ).loc main_arg0) (ix2 (i 0 : Fin 18944) k)) :
    blockOf m c j t x (ix2 r n) = grouped (teB m c) (nvW m c).toNat (m ((c : Thread nD τ).loc main_arg0))
      (m ((c : Thread nD τ).loc main_arg1)) (m ((c : Thread nD τ).loc main_arg2)) i := by
  have hd : (i 0).val / 256 = t := by omega
  have e1 : (⟨j.val * 1024 + n.val, col_lt j n⟩ : Fin 7168) = i 1 := Fin.ext h1.symm
  unfold blockOf grouped
  rw [hd]
  by_cases hu : t < (nvW m c).toNat
  · rw [if_pos hu, if_pos hu, product_apply]
    refine congrArg₂ glu (Finset.sum_congr rfl fun k _ => ?_) (Finset.sum_congr rfl fun k _ => ?_)
    · exact congrArg₂ (fun a b : EReal => a * b) (hx k) ((gate_apply c _ _ _ k n).trans (congrArg (wgt _ _ k) e1))
    · exact congrArg₂ (fun a b : EReal => a * b) (hx k) ((up_apply c _ _ _ k n).trans (congrArg (wgt _ _ k) e1))
  · rw [if_neg hu, if_neg hu, zero_apply]

/-- The block of a point, entry by entry. -/
theorem block_apply (c : Dev nD) (t : Fin (cfgM m).N) (y : S512x1024.Idx) (i : S18944x7168.Idx)
    (h0 : (i 0).val = (grid0.coords t 1).val * 512 + (y 0).val) (h1 : (i 1).val = (grid0.coords t 0).val * 1024 + (y 1).val) :
    outAt m c t y = grouped (teB m c) (nvW m c).toNat (m ((c : Thread nD τ).loc main_arg0))
      (m ((c : Thread nD τ).loc main_arg1)) (m ((c : Thread nD τ).loc main_arg2)) i := by
  have hy : (y 0).val < 512 := (y 0).isLt
  unfold outAt block paste
  split
  · rename_i h
    refine tile_apply m c _ _ _ ⟨(y 0).val, h⟩ (y 1) i (by show _ = 2 * (grid0.coords t 1).val * 256 + (y 0).val; omega) h1 fun k => ?_
    exact (rows_apply m c t _ k).trans (congrArg _ (congrArg (fun r => ix2 r k) (Fin.ext (by
      show (grid0.coords t 1).val * 512 + (256 * 0 + (y 0).val) = (i 0).val; omega))))
  · rename_i h
    refine tile_apply m c _ _ _ ⟨(y 0).val - 256, by omega⟩ (y 1) i
      (by show _ = (2 * (grid0.coords t 1).val + 1) * 256 + ((y 0).val - 256); omega) h1 fun k => ?_
    exact (rows_apply m c t _ k).trans (congrArg _ (congrArg (fun r => ix2 r k) (Fin.ext (by
      show (grid0.coords t 1).val * 512 + (256 * 1 + ((y 0).val - 256)) = (i 0).val; omega))))

/-- The kernel's result array ends holding it. -/
theorem final (c : Dev nD) : (dats m 0 c).arrAt 1 (cfgM m).N
    = grouped (teB m c) (nvW m c).toNat (m ((c : Thread nD τ).loc main_arg0))
      (m ((c : Thread nD τ).loc main_arg1)) (m ((c : Thread nD τ).loc main_arg2)) := by
  refine (dats m 0 c).arrAt_eq_of_covers 1 _ (covers m) fun t hf y => ?_
  rw [after0_1]
  obtain ⟨h0, h1⟩ := index_out (grid0.coords t)
  have e : ∀ y : S512x1024.Idx, outAt m c t y = grouped (teB m c) (nvW m c).toNat (m ((c : Thread nD τ).loc main_arg0))
      (m ((c : Thread nD τ).loc main_arg1)) (m ((c : Thread nD τ).loc main_arg2)) ((((cfgM m).win 1).blk t).view.emb y) := fun y =>
    block_apply m c t y _ ((emb_out m t y 0).trans (congrArg (fun n => n * 512 + (y 0).val) h0))
      ((emb_out m t y 1).trans (congrArg (fun n => n * 1024 + (y 1).val) h1))
  exact e y

/-- The result, from the argument arrays. -/
abbrev result (m : (ℓ : Loc nD τ sig) → Buf (Elt Ideal) ℓ) (c : Dev nD) : Vec Ideal S18944x7168 .bf16 :=
  grouped (m ((c.tc : Thread nD τ).loc main_arg3)) ((m ((c.tc : Thread nD τ).loc main_arg6) : IVec S1 32) (ix1 0)).toNat
    (m ((c.tc : Thread nD τ).loc main_arg0)) (m ((c.tc : Thread nD τ).loc main_arg1)) (m ((c.tc : Thread nD τ).loc main_arg2))

/-- The run leaves it. -/
theorem result_of (m : (ℓ : Loc nD τ sig) → Buf (Elt Ideal) ℓ) {r : PUnit × MemSt nD τ sig (Elt Ideal)}
    (h : Pipeline.FramePost (Pipeline.pin pcfgs fun _ => adm m) (dats m) 0 (V m) r) (c : Dev nD) :
    r.2.mem ((c.tc : Thread nD τ).loc main_v0) = result m c := by
  refine ((h c).1 1).trans ((final m c).trans ?_)
  rw [nvW_eq m c _ rfl]

end Cert.MoeGateIdeal.Val
-- ==== Proof.MoeGateRefValue.lean ====
/- The grouped gate and up product's reference over the extended reals, row by row. -/
module

public import proofs.«01_k».proof.Proof.MoeGateValue
public import proofs.«01_k».proof.Proof.Gen.MoeGateRefIdeal.Run
public import Idealize.ShloMosaic.Lib.Pointwise

@[expose] public section

set_option maxRecDepth 16384

noncomputable section

open Idealize.ShloMosaic Idealize.ShloMosaic.TcCoe Idealize.SL.Sem

namespace Cert.MoeGateRefIdeal.Val

open Cert.MoeGateRefIdeal Cert.MoeGateRefIdeal.Gen Cert.Routing
open Cert.MoeGateIdeal.Hand (expOf)
open Cert.MoeGateIdeal.Val (wgt prod glu grouped)

/-- Which rows are in use and expert `e`'s, as the reference spells it. -/
abbrev chosen (te : IVec S74 32) (nv : IVec S1 32) (e : BitVec 32) : IVec S18944 1 :=
  andi (shapeCast S18944 (broadcastInDim S74x256 ![0] bcast_S74_S74x256_0
      (cmpi .slt (iotaInDim S74 32 0) (broadcastInDim S74 ![] bcast_S_S74 (shapeCast S_ nv shapeCasts_S1_S_)))) shapeCasts_S74x256_S18944)
    (cmpi .eq (shapeCast S18944 (broadcastInDim S74x256 ![0] bcast_S74_S74x256_0 te) shapeCasts_S74x256_S18944)
      (broadcastInDim S18944 ![] bcast_S_S18944 (constantI S_ 32 e)))

theorem chosen_one {te first next : IVec S74 32} {nv : IVec S1 32} (T : Tables (word te) (word first) (word next) (nv (ix1 0)))
    (e : BitVec 32) (r : Fin 18944) :
    chosen te nv e (ix1 r) = 1#1 ↔ r.val / 256 < (nv (ix1 0)).toNat ∧ word te (r.val / 256) = e := by
  have hr : r.val / 256 < 74 := by omega
  have hn : (nv (ix1 0)).toInt = (nv (ix1 0)).toNat := by
    have := T.le
    rw [BitVec.toInt_eq_toNat_cond, if_pos (by omega)]
  pointwise [chosen]
  rw [andi_one, slt_one, eq_one, toInt_tile (by omega), hn, Nat.cast_lt]
  unfold word
  rw [dif_pos hr]

/-- An expert's plain product, as the reference spells it. -/
abbrev product (x : Vec Ideal S18944x2048 .bf16) (w : Vec Ideal S8x2048x7168 .f32)
    (e : Fin 8) (h : S8x2048x7168.Slices ![e.val, 0, 0] S1x2048x7168) : Vec Ideal S18944x7168 .f32 :=
  Host.dotGeneral (F := Ideal) (φ₁ := .f32) (φ₂ := .f32) dot_S18944x2048_S2048x7168_S18944x7168_1_0_0_1_n_n none
    (extf .f32 x bitsLt_bf16_f32) (shapeCast S2048x7168 (extractStridedSlice S1x2048x7168 ![e.val, 0, 0] w h) shapeCasts_S1x2048x7168_S2048x7168)

theorem product_apply (x : Vec Ideal S18944x2048 .bf16) (w : Vec Ideal S8x2048x7168 .f32) (e : Fin 8) (h) (i : S18944x7168.Idx) :
    product x w e h i = prod x w e i := by
  unfold product prod wgt
  pointwise []

/-- The gating of two products, as the reference spells it. -/
abbrev gated (a b : Vec Ideal S18944x7168 .f32) : Vec Ideal S18944x7168 .f32 :=
  mulf (mulf a (Host.divf (broadcastInDim S18944x7168 ![] bcast_S_S18944x7168 (constant (F := Ideal) S_ .f32 0x3F800000#32))
    (addf (broadcastInDim S18944x7168 ![] bcast_S_S18944x7168 (constant (F := Ideal) S_ .f32 0x3F800000#32)) (Host.exp (Host.negf a))))) b

theorem gated_apply (a b : Vec Ideal S18944x7168 .f32) (i : S18944x7168.Idx) : gated a b i = glu (a i) (b i) := by
  pointwise [gated, glu]
  rfl

/-- One expert's turn, as the reference spells it. -/
abbrev turn (te : IVec S74 32) (nv : IVec S1 32) (x : Vec Ideal S18944x2048 .bf16) (wg wu : Vec Ideal S8x2048x7168 .f32)
    (e : Fin 8) (h : S8x2048x7168.Slices ![e.val, 0, 0] S1x2048x7168) (out : Vec Ideal S18944x7168 .f32) : Vec Ideal S18944x7168 .f32 :=
  select (broadcastInDim S18944x7168 ![0, 1] bcast_S18944x1_S18944x7168_0_1
      (broadcastInDim S18944x1 ![0] bcast_S18944_S18944x1_0 (chosen te nv (BitVec.ofNat 32 e.val))))
    (gated (product x wg e h) (product x wu e h)) out

/-- A row picks between two arrays. -/
theorem select_apply (g : IVec S18944 1) (a b : Vec Ideal S18944x7168 .f32) (i : S18944x7168.Idx) :
    select (broadcastInDim S18944x7168 ![0, 1] bcast_S18944x1_S18944x7168_0_1 (broadcastInDim S18944x1 ![0] bcast_S18944_S18944x1_0 g)) a b i
      = if g (ix1 (i 0 : Fin 18944)) = 1#1 then a i else b i := by
  pointwise []
  rfl

theorem turn_apply {te first next : IVec S74 32} {nv : IVec S1 32} (T : Tables (word te) (word first) (word next) (nv (ix1 0)))
    (x : Vec Ideal S18944x2048 .bf16) (wg wu : Vec Ideal S8x2048x7168 .f32) (e : Fin 8) (h) (out : Vec Ideal S18944x7168 .f32) (i : S18944x7168.Idx) :
    turn te nv x wg wu e h out i
      = if (i 0).val / 256 < (nv (ix1 0)).toNat ∧ expOf te ((i 0).val / 256) = e then glu (prod x wg e i) (prod x wu e i) else out i := by
  have hr : (i 0).val / 256 < 74 := by have : (i 0).val < 18944 := (i 0).isLt; omega
  have hw : word te ((i 0).val / 256) = BitVec.ofNat 32 e.val ↔ expOf te ((i 0).val / 256) = e := by
    have := T.te_lt _ hr
    rw [BitVec.toNat_eq, BitVec.toNat_ofNat, Fin.ext_iff]
    show _ ↔ (word te ((i 0).val / 256)).toNat % 8 = e.val
    omega
  have hc := (chosen_one T (BitVec.ofNat 32 e.val) (i 0)).trans (and_congr_right' hw)
  refine (select_apply _ _ _ i).trans (if_congr hc ?_ rfl)
  rw [gated_apply, product_apply, product_apply]

theorem zero_apply (i : S18944x7168.Idx) :
    broadcastInDim S18944x7168 ![] bcast_S_S18944x7168 (constant (F := Ideal) S_ .f32 0x00000000#32) i = (0 : EReal) := by
  pointwise []

/-- Eight turns over zero. -/
abbrev turns (te : IVec S74 32) (nv : IVec S1 32) (x : Vec Ideal S18944x2048 .bf16) (wg wu : Vec Ideal S8x2048x7168 .f32) : Vec Ideal S18944x7168 .f32 :=
  turn te nv x wg wu 7 slices_S8x2048x7168_S1x2048x7168_7_0_0 <|
  turn te nv x wg wu 6 slices_S8x2048x7168_S1x2048x7168_6_0_0 <|
  turn te nv x wg wu 5 slices_S8x2048x7168_S1x2048x7168_5_0_0 <|
  turn te nv x wg wu 4 slices_S8x2048x7168_S1x2048x7168_4_0_0 <|
  turn te nv x wg wu 3 slices_S8x2048x7168_S1x2048x7168_3_0_0 <|
  turn te nv x wg wu 2 slices_S8x2048x7168_S1x2048x7168_2_0_0 <|
  turn te nv x wg wu 1 slices_S8x2048x7168_S1x2048x7168_1_0_0 <|
  turn te nv x wg wu 0 slices_S8x2048x7168_S1x2048x7168_0_0_0 <|
  broadcastInDim S18944x7168 ![] bcast_S_S18944x7168 (constant (F := Ideal) S_ .f32 0x00000000#32)

/-- A value picked by one of eight cases. -/
theorem pick (p : Prop) [Decidable p] (e : Fin 8) (f : Fin 8 → EReal) (z : EReal) :
    (if p ∧ e = 7 then f 7 else if p ∧ e = 6 then f 6 else if p ∧ e = 5 then f 5 else if p ∧ e = 4 then f 4
      else if p ∧ e = 3 then f 3 else if p ∧ e = 2 then f 2 else if p ∧ e = 1 then f 1 else if p ∧ e = 0 then f 0 else z)
      = if p then f e else z := by
  by_cases hp : p
  · fin_cases e <;> simp [hp]
  · simp [hp]

/-- The reference is the grouped gated product. -/
theorem ref_apply {te first next : IVec S74 32} {nv : IVec S1 32} (T : Tables (word te) (word first) (word next) (nv (ix1 0)))
    (x : Vec Ideal S18944x2048 .bf16) (wg wu : Vec Ideal S8x2048x7168 .f32) :
    (truncf (F := Ideal) .bf16 (turns te nv x wg wu) bitsLt_bf16_f32 : Vec Ideal S18944x7168 .bf16) = grouped te (nv (ix1 0)).toNat x wg wu := by
  funext i
  show turns te nv x wg wu i = _
  unfold turns
  simp only [turn_apply T]
  exact (pick ((i 0).val / 256 < (nv (ix1 0)).toNat) (expOf te ((i 0).val / 256)) (fun e => glu (prod x wg e i) (prod x wu e i)) _).trans
    (congrArg (fun z : EReal => if (i 0).val / 256 < (nv (ix1 0)).toNat then
      glu (prod x wg (expOf te ((i 0).val / 256)) i) (prod x wu (expOf te ((i 0).val / 256)) i) else z) (zero_apply i))

end Cert.MoeGateRefIdeal.Val
-- ==== Proof.RoutingGate.lean ====
/- The precondition of the gate and up product says of its tables what the down product's says of the same tables. -/
module

public import proofs.«01_k».proof.Proof.Routing
public import proofs.«01_k».proof.Pre_routing_tables_gate

@[expose] public section

set_option maxRecDepth 16384

noncomputable section

namespace Cert.Routing

open Idealize.ShloMosaic Cert.Pre_routing_tables_gate

/-- What the precondition's checks say, all true. -/
theorem tables_of_pre_gate {F : FTy → Type} [FloatOps F] [Cert.Pre_routing_tables_gate.Facts] [Cert.Pre_routing_tables.Facts]
    (x : FVec F S18944x2048 .bf16) (wg wu : FVec F S8x2048x7168 .f32) (te first next : IVec S74 32) (nv : IVec S1 32)
    (h : (fn x wg wu te first next nv).1 = (fun _ => 1#1) ∧ (fn x wg wu te first next nv).2.1 = (fun _ => 1#1)
      ∧ (fn x wg wu te first next nv).2.2.1 = (fun _ => 1#1) ∧ (fn x wg wu te first next nv).2.2.2.1 = (fun _ => 1#1)
      ∧ (fn x wg wu te first next nv).2.2.2.2.1 = (fun _ => 1#1) ∧ (fn x wg wu te first next nv).2.2.2.2.2.1 = (fun _ => 1#1)
      ∧ (fn x wg wu te first next nv).2.2.2.2.2.2 = (fun _ => 1#1)) :
    Tables (word te) (word first) (word next) (nv (ix1 0)) :=
  tables_of_pre (F := F) (constant Cert.Pre_routing_tables.S18944x7168 .bf16 0x0000#16)
    (constant Cert.Pre_routing_tables.S8x7168x2048 .f32 0x00000000#32) te first next nv h

end Cert.Routing
-- ==== Proof.UzxValue.lean ====
module

public import proofs.«01_k».proof.Defs
public import proofs.«01_k».proof.Proof.Gen.UzxIdeal.Value
public import proofs.«01_k».proof.Proof.Gen.UzxRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UzxIdeal.Val

open Cert.UzxIdeal Cert.UzxIdeal.Gen

variable (m : (ℓ : Loc nD τ sig) → Buf (Elt Ideal) ℓ)

theorem idx : ∀ t : Fin cfg0.N,
    win0_0.index t = ![t.val % 10, 0] ∧ win0_1.index t = ![0, 4104 + 1024 * (t.val / 10), 0] ∧
      win0_2.index t = ![0, 4096, 0] ∧ win0_3.index t = ![0, 6152, 0] ∧
      win0_4.index t = ![t.val % 10, t.val / 10] ∧ win0_5.index t = ![t.val / 10, t.val % 10, 0] :=
  (by decide +kernel : ∀ t : Fin grid0.N, _)

/-- A column tile's columns lie inside the 6160 columns of the projection. -/
theorem col_lt {t : ℕ} (ht : t < cfg0.N) (r : Fin 1024) : 4104 + 1024 * (t / 10) + r.val < 6160 := by
  rw [show cfg0.N = 20 from N_0] at ht
  omega

/-- The layer's weight as the projection reads it: input row `k`, output column `n`. -/
abbrev wgt (w : Vec Ideal S2x2048x6160 .f32) (k : Fin 2048) (n : Fin 6160) : EReal := w (ix3 (0 : Fin 2) k n)

/-- The weight rows a column tile holds after its first point: the layer's weight, transposed. -/
def tile (c : Dev nD) (t : ℕ) (ht : t < cfg0.N) : Vec Ideal S2048x1024 .bf16 := fun y =>
  wgt (m ((c : Thread nD τ).loc main_arg1)) (y 0 : Fin 2048) ⟨4104 + 1024 * (t / 10) + (y 1).val, col_lt ht (y 1)⟩

/-- A block of activations, its entries as extended reals. -/
abbrev rows (x : Vec Ideal S832x2048 .bf16) : S832x2048.Idx → EReal := x

/-- The transposed weight the region reads, at a position, is the layer stack's weight there. -/
theorem stack (c : Dev nD) (i : S2x6160x2048.Idx) (k : Fin 2048) (n : Fin 6160)
    (h0 : (i 0).val = 0) (h1 : (i 1).val = n.val) (h2 : (i 2).val = k.val) :
    (V m c main_v0 : Vec Ideal S2x6160x2048 .f32) i = wgt (m ((c : Thread nD τ).loc main_arg1)) k n := by
  entry_read
  pointwise
  refine congrArg _ (funext fun a => Fin.ext ?_)
  fin_cases a
  · exact h0
  · exact h2
  · exact h1

/-- The weight block of a point: the layer's weight columns of the point's column tile. -/
theorem wblk (c : Dev nD) (t : Fin cfg0.N) (y : S1x1024x2048.Idx) :
    (iblk m c 1 t : Vec Ideal S1x1024x2048 .f32) y
      = wgt (m ((c : Thread nD τ).loc main_arg1)) (y 2 : Fin 2048)
          ⟨4104 + 1024 * (t.val / 10) + (y 1).val, col_lt t.isLt (y 1)⟩ := by
  have e (a : Fin 3) : (((cfg0.win 1).blk t).view.emb y a : ℕ) = win0_1.index t a + (y a).val :=
    ValueKit.view_emb_slice_whole_unit_val main_v0 _ _ _ y a
  rw [(idx t).2.1] at e
  refine stack m c (((cfg0.win 1).blk t).view.emb y) _ _ ((e 0).trans ?_) (e 1) ((e 2).trans (by simp))
  have := (y 0).isLt
  simp

/-- The rows of the weight that make the gates: output columns 4096 to 4103. -/
theorem gblk (c : Dev nD) (t : Fin cfg0.N) (y : S1x8x2048.Idx) :
    (iblk m c 2 t : Vec Ideal S1x8x2048 .f32) y
      = wgt (m ((c : Thread nD τ).loc main_arg1)) (y 2 : Fin 2048)
          ⟨4096 + (y 1).val, by have : (y 1).val < 8 := (y 1).isLt; omega⟩ := by
  have e (a : Fin 3) : (((cfg0.win 2).blk t).view.emb y a : ℕ) = win0_2.index t a + (y a).val :=
    ValueKit.view_emb_slice_whole_unit_val main_v0 _ _ _ y a
  rw [(idx t).2.2.1] at e
  refine stack m c (((cfg0.win 2).blk t).view.emb y) _ _ ((e 0).trans ?_) (e 1) ((e 2).trans (by simp))
  have := (y 0).isLt
  simp

/-- The rows of the weight that make the step sizes: output columns 6152 to 6159. -/
theorem dblk (c : Dev nD) (t : Fin cfg0.N) (y : S1x8x2048.Idx) :
    (iblk m c 3 t : Vec Ideal S1x8x2048 .f32) y
      = wgt (m ((c : Thread nD τ).loc main_arg1)) (y 2 : Fin 2048)
          ⟨6152 + (y 1).val, by have : (y 1).val < 8 := (y 1).isLt; omega⟩ := by
  have e (a : Fin 3) : (((cfg0.win 3).blk t).view.emb y a : ℕ) = win0_3.index t a + (y a).val :=
    ValueKit.view_emb_slice_whole_unit_val main_v0 _ _ _ y a
  rw [(idx t).2.2.2.1] at e
  refine stack m c (((cfg0.win 3).blk t).view.emb y) _ _ ((e 0).trans ?_) (e 1) ((e 2).trans (by simp))
  have := (y 0).isLt
  simp

/-- The first point of a column tile leaves the tile's weight in the scratch buffer. -/
theorem scratch_A (c : Dev nD) (t : Fin cfg0.N) (h : t.val % 10 = 0) :
    (outsAt0 m c t.val t.isLt).2.2 = tile m c t.val t.isLt := by
  rw [outsAt0_A m c t h]
  frame_out
  funext y
  pointwise [k0_pay1, tile]
  exact wblk m c t _

/-- Points of one column tile have one weight tile. -/
theorem tile_congr (c : Dev nD) {n k : ℕ} (hn : n < cfg0.N) (hk : k < cfg0.N) (h : n / 10 = k / 10) :
    tile m c n hn = tile m c k hk := by
  unfold tile
  simp only [h]

/-- After every point the scratch buffer holds the weight of the point's column tile. -/
theorem scratch (c : Dev nD) : ∀ (n : ℕ) (hn : n < cfg0.N), (outsAt0 m c n hn).2.2 = tile m c n hn := by
  intro n
  induction n with
  | zero => exact fun hn => scratch_A m c ⟨0, hn⟩ rfl
  | succ n ih =>
    intro hn
    by_cases h : (n + 1) % 10 = 0
    · exact scratch_A m c ⟨n + 1, hn⟩ h
    · rw [outsAt0_B m c ⟨n + 1, hn⟩ h]
      unfold sout0_B_0
      exact (ih (Nat.lt_of_succ_lt hn)).trans (tile_congr m c _ _ (by omega))

/-- The block of the wide output a point writes: its rows of the activations times the weight of its column tile. -/
theorem block (c : Dev nD) (t : Fin cfg0.N) (y : S832x1024.Idx) :
    (outsAt0 m c t.val t.isLt).1 y
      = ∑ k : Fin 2048, rows (iblk m c 0 t) (ix2 (y 0 : Fin 832) k)
          * tile m c t.val t.isLt (ix2 k (y 1 : Fin 1024)) := by
  by_cases h : t.val % 10 = 0
  · rw [outsAt0_A m c t h]
    frame_out
    pointwise [k0_pay2, k0_pay1]
    exact Finset.sum_congr rfl fun k _ => congrArg _ (wblk m c t _)
  · have ht : t.val - 1 < cfg0.N := Nat.lt_of_le_of_lt (Nat.sub_le _ _) t.isLt
    rw [outsAt0_B m c t h, scratch m c (t.val - 1) ht, tile_congr m c ht t.isLt (by omega)]
    frame_out
    pointwise [k0_pay2]
    exact Finset.sum_congr rfl fun k _ => congrArg _ (congrFun ((Memref.isWhole_whole cc0_scratch0).read_unread _) _)

/-- The output column of the projection that column `n` of the narrow output holds: eight gates, then eight steps. -/
def narrow (n : Fin 16) : Fin 6160 :=
  if h : n.val < 8 then ⟨4096 + n.val, by omega⟩ else ⟨6144 + n.val, by omega⟩

/-- The gates' product: rows of activations times output columns 4096 to 4103. -/
theorem gates (c : Dev nD) (t : Fin cfg0.N) (y : S1x832x16.Idx) (x : S1x832x8.Idx)
    (h1 : (y 1).val = (x 1).val) (h2 : (y 2).val = (x 2).val) :
    k0_pay3 (F := Ideal) (iblk m c 0 t) (iblk m c 2 t) x
      = ∑ k : Fin 2048, rows (iblk m c 0 t) (ix2 (y 1 : Fin 832) k)
          * wgt (m ((c : Thread nD τ).loc main_arg1)) k (narrow (y 2)) := by
  have hx : (x 2).val < 8 := (x 2).isLt
  have e : narrow (y 2) = ⟨4096 + (x 2).val, by omega⟩ := by
    unfold narrow
    rw [dif_pos (h2 ▸ hx)]
    exact Fin.ext (congrArg (4096 + ·) h2)
  have e1 : (y 1 : Fin 832) = (x 1 : Fin 832) := Fin.ext h1
  rw [e, e1]
  pointwise [k0_pay3]
  exact Finset.sum_congr rfl fun k _ => congrArg _ (gblk m c t _)

/-- The steps' product: rows of activations times output columns 6152 to 6159. -/
theorem steps (c : Dev nD) (t : Fin cfg0.N) (y : S1x832x16.Idx) (x : S1x832x8.Idx)
    (h1 : (y 1).val = (x 1).val) (h2 : (y 2).val = 8 + (x 2).val) :
    k0_pay4 (F := Ideal) (iblk m c 0 t) (iblk m c 3 t) x
      = ∑ k : Fin 2048, rows (iblk m c 0 t) (ix2 (y 1 : Fin 832) k)
          * wgt (m ((c : Thread nD τ).loc main_arg1)) k (narrow (y 2)) := by
  have hx : (x 2).val < 8 := (x 2).isLt
  have e : narrow (y 2) = ⟨6152 + (x 2).val, by omega⟩ := by
    unfold narrow
    rw [dif_neg (by omega)]
    exact Fin.ext (show 6144 + (y 2).val = 6152 + (x 2).val by omega)
  have e1 : (y 1 : Fin 832) = (x 1 : Fin 832) := Fin.ext h1
  rw [e, e1]
  pointwise [k0_pay4]
  exact Finset.sum_congr rfl fun k _ => congrArg _ (dblk m c t _)

/-- The block of the narrow output a point writes: its rows of the activations times the gates' and steps' columns. -/
theorem block5 (c : Dev nD) (t : Fin cfg0.N) (y : S1x832x16.Idx) :
    (outsAt0 m c t.val t.isLt).2.1 y
      = ∑ k : Fin 2048, rows (iblk m c 0 t) (ix2 (y 1 : Fin 832) k)
          * wgt (m ((c : Thread nD τ).loc main_arg1)) k (narrow (y 2)) := by
  by_cases h : t.val % 10 = 0
  · rw [outsAt0_A m c t h]
    frame_out
    canon_tiles
    · exact steps m c t y x h1 h2
    · exact gates m c t y x h1 h2
  · rw [outsAt0_B m c t h]
    frame_out
    canon_tiles
    · exact steps m c t y x h1 h2
    · exact gates m c t y x h1 h2

/-- The wide output: the projection at output columns 4104 to 6151. -/
abbrev wide (a : Vec Ideal S8320x2048 .bf16) (w : Vec Ideal S2x2048x6160 .f32) : Vec Ideal S8320x2048 .f32 := fun i =>
  ∑ k : Fin 2048, a (ix2 (i 0 : Fin 8320) k) * wgt w k ⟨4104 + (i 1).val, by have : (i 1).val < 2048 := (i 1).isLt; omega⟩

/-- The narrow output: the projection at the gates' and steps' columns, the same in both slabs. -/
abbrev slabs (a : Vec Ideal S8320x2048 .bf16) (w : Vec Ideal S2x2048x6160 .f32) : Vec Ideal S2x8320x16 .f32 := fun i =>
  ∑ k : Fin 2048, a (ix2 (i 1 : Fin 8320) k) * wgt w k (narrow (i 2))

/-- The kernel's first result array ends holding the wide output. -/
theorem final4 (c : Dev nD) : (dats m 0 c).arrAt 4 cfg0.N
    = wide (m ((c : Thread nD τ).loc main_arg0)) (m ((c : Thread nD τ).loc main_arg1)) := by
  refine (dats m 0 c).arrAt_eq_of_covers 4 _ (by decide +kernel) fun t hf y => ?_
  rw [after0_4]
  refine (block m c t y).trans ?_
  refine Finset.sum_congr rfl fun k _ => ?_
  unfold tile rows wgt
  blk_point [iblk, V, idx t]

/-- The kernel's second result array ends holding the narrow output. -/
theorem final5 (c : Dev nD) : (dats m 0 c).arrAt 5 cfg0.N
    = slabs (m ((c : Thread nD τ).loc main_arg0)) (m ((c : Thread nD τ).loc main_arg1)) := by
  refine (dats m 0 c).arrAt_eq_of_covers 5 _ (by decide +kernel) fun t hf y => ?_
  rw [after0_5]
  refine (block5 m c t y).trans ?_
  refine Finset.sum_congr rfl fun k _ => ?_
  unfold rows
  blk_point [iblk, V, idx t]
  refine congrArg narrow (Fin.ext ?_)
  blk_simp [idx t]

end Cert.UzxIdeal.Val
-- ==== Proof.QkvoValue.lean ====
module

public import proofs.«01_k».proof.Defs
public import proofs.«01_k».proof.Proof.Gen.QkvoIdeal.Value
public import proofs.«01_k».proof.Proof.Gen.QkvoRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvoIdeal.Val

open Cert.QkvoIdeal Cert.QkvoIdeal.Gen

variable (m : (ℓ : Loc nD τ sig) → Buf (Elt Ideal) ℓ)

theorem idx : ∀ t : Fin cfg0.N,
    win0_0.index t = ![t.val % 10, 0] ∧ win0_1.index t = ![0, 1024 * (t.val / 10), 0] ∧
      win0_2.index t = ![t.val % 10, t.val / 10] :=
  (by decide +kernel : ∀ t : Fin grid0.N, _)

/-- A column tile's columns lie inside the 6160 columns of the projection. -/
theorem col_lt {t : ℕ} (ht : t < cfg0.N) (r : Fin 1024) : 1024 * (t / 10) + r.val < 6160 := by
  rw [show cfg0.N = 40 from N_0] at ht
  omega

/-- The weight rows a column tile holds after its first point: the layer's weight, transposed. -/
def tile (c : Dev nD) (t : ℕ) (ht : t < cfg0.N) : Vec Ideal S2048x1024 .bf16 := fun y =>
  (m ((c : Thread nD τ).loc main_arg1) : Vec Ideal S2x2048x6160 .f32)
    (ix3 (0 : Fin 2) (y 0 : Fin 2048) ⟨1024 * (t / 10) + (y 1).val, col_lt ht (y 1)⟩)

/-- An index of a point's weight block, placed in the transposed weight: the block's offset plus the index. -/
theorem emb1 (t : Fin cfg0.N) (y : S1x1024x2048.Idx) (a : Fin 3) :
    (((cfg0.win 1).blk t).view.emb y a : ℕ) = win0_1.index t a + (y a).val :=
  ValueKit.view_emb_slice_whole_unit_val main_v0 _ _ _ y a

/-- A block of activations, its entries as extended reals. -/
abbrev rows (x : Vec Ideal S832x2048 .bf16) : S832x2048.Idx → EReal := x

/-- The weight block of a point: the layer's weight columns of the point's column tile. -/
theorem wblk (c : Dev nD) (t : Fin cfg0.N) (y : S1x1024x2048.Idx) :
    (iblk m c 1 t : Vec Ideal S1x1024x2048 .f32) y
      = (m ((c : Thread nD τ).loc main_arg1) : Vec Ideal S2x2048x6160 .f32)
          (ix3 (0 : Fin 2) (y 2 : Fin 2048) ⟨1024 * (t.val / 10) + (y 1).val, col_lt t.isLt (y 1)⟩) := by
  have h0 := emb1 t y 0
  have h1 := emb1 t y 1
  have h2 := emb1 t y 2
  rw [(idx t).2.1] at h0 h1 h2
  show V m c main_v0 (((cfg0.win 1).blk t).view.emb y) = _
  generalize ((cfg0.win 1).blk t).view.emb y = i at h0 h1 h2 ⊢
  entry_read
  pointwise
  refine congrArg _ (funext fun a => Fin.ext ?_)
  fin_cases a
  · exact h0.trans (by simp)
  · exact h2.trans (by simp)
  · exact h1

/-- The first point of a column tile leaves the tile's weight in the scratch buffer. -/
theorem scratch_A (c : Dev nD) (t : Fin cfg0.N) (h : t.val % 10 = 0) :
    (outsAt0 m c t.val t.isLt).2 = tile m c t.val t.isLt := by
  rw [outsAt0_A m c t h]
  frame_out
  funext y
  pointwise [k0_pay1, tile]
  rw [wblk]
  rfl

/-- Points of one column tile have one weight tile. -/
theorem tile_congr (c : Dev nD) {n k : ℕ} (hn : n < cfg0.N) (hk : k < cfg0.N) (h : n / 10 = k / 10) :
    tile m c n hn = tile m c k hk := by
  unfold tile
  simp only [h]

/-- After every point the scratch buffer holds the weight of the point's column tile. -/
theorem scratch (c : Dev nD) : ∀ (n : ℕ) (hn : n < cfg0.N), (outsAt0 m c n hn).2 = tile m c n hn := by
  intro n
  induction n with
  | zero => exact fun hn => scratch_A m c ⟨0, hn⟩ rfl
  | succ n ih =>
    intro hn
    by_cases h : (n + 1) % 10 = 0
    · exact scratch_A m c ⟨n + 1, hn⟩ h
    · rw [outsAt0_B m c ⟨n + 1, hn⟩ h]
      unfold sout0_B_0
      exact (ih (Nat.lt_of_succ_lt hn)).trans (tile_congr m c _ _ (by omega))

/-- The block a point writes: its rows of the activations times the weight of its column tile. -/
theorem block (c : Dev nD) (t : Fin cfg0.N) (y : S832x1024.Idx) :
    (outsAt0 m c t.val t.isLt).1 y
      = ∑ k : Fin 2048, rows (iblk m c 0 t) (ix2 (y 0 : Fin 832) k)
          * tile m c t.val t.isLt (ix2 k (y 1 : Fin 1024)) := by
  by_cases h : t.val % 10 = 0
  · rw [outsAt0_A m c t h]
    frame_out
    pointwise [k0_pay2, k0_pay1]
    refine Finset.sum_congr rfl fun k _ => congrArg _ ?_
    rw [wblk]
    rfl
  · have ht : t.val - 1 < cfg0.N := Nat.lt_of_le_of_lt (Nat.sub_le _ _) t.isLt
    rw [outsAt0_B m c t h, scratch m c (t.val - 1) ht, tile_congr m c ht t.isLt (by omega)]
    frame_out
    pointwise [k0_pay2]
    exact Finset.sum_congr rfl fun k _ => congrArg _ (congrFun ((Memref.isWhole_whole cc0_scratch0).read_unread _) _)

/-- The projection: the activations times the layer's weight, at the first 4096 columns. -/
abbrev proj (a : Vec Ideal S8320x2048 .bf16) (w : Vec Ideal S2x2048x6160 .f32) : Vec Ideal S8320x4096 .f32 := fun i =>
  ∑ k : Fin 2048, a (ix2 (i 0 : Fin 8320) k) * w (ix3 (0 : Fin 2) k ⟨(i 1).val, Nat.lt_trans (i 1).isLt (by decide)⟩)

/-- The kernel's result array ends holding the projection. -/
theorem final (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  rw [after0_2]
  refine (block m c t y).trans ?_
  refine Finset.sum_congr rfl fun k _ => ?_
  unfold tile rows
  blk_point [iblk, V, idx t]

end Cert.QkvoIdeal.Val
-- ==== Proof.FfnUpValue.lean ====
module

public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Val

open Cert.FfnUpIdeal Cert.FfnUpIdeal.Gen

variable (m : (ℓ : Loc nD τ sig) → Buf (Elt Ideal) ℓ)

theorem idx : ∀ t : Fin cfg0.N,
    win0_0.index t = ![t.val % 5, 0] ∧ win0_1.index t = ![0, 0, t.val / 5] ∧
      win0_2.index t = ![0, 0, t.val / 5] ∧ win0_3.index t = ![t.val % 5, t.val / 5] :=
  (by decide +kernel : ∀ t : Fin grid0.N, _)

/-- A column tile's columns lie inside the 5632 hidden columns. -/
theorem col_lt {t : ℕ} (ht : t < cfg0.N) (r : Fin 512) : 512 * (t / 5) + r.val < 5632 := by
  rw [show cfg0.N = 55 from N_0] at ht
  omega

/-- A weight of the feed-forward block: input row `k`, hidden column `n`. -/
abbrev wgt (w : Vec Ideal S1x2048x5632 .f32) (k : Fin 2048) (n : Fin 5632) : EReal := w (ix3 (0 : Fin 1) k n)

/-- A column tile of a weight. -/
def tile (w : Vec Ideal S1x2048x5632 .f32) (t : ℕ) (ht : t < cfg0.N) : Vec Ideal S2048x512 .bf16 := fun y =>
  wgt w (y 0 : Fin 2048) ⟨512 * (t / 5) + (y 1).val, col_lt ht (y 1)⟩

/-- The two weights' tiles, as the two scratch buffers hold them. -/
def tiles (c : Dev nD) (t : ℕ) (ht : t < cfg0.N) : Vec Ideal S2048x512 .bf16 × Vec Ideal S2048x512 .bf16 :=
  (tile (m ((c : Thread nD τ).loc main_arg1)) t ht, tile (m ((c : Thread nD τ).loc main_arg2)) t ht)

/-- The gate weight's block of a point: the columns of the point's column tile. -/
theorem gblk (c : Dev nD) (t : Fin cfg0.N) (y : S1x2048x512.Idx) :
    (iblk m c 1 t : Vec Ideal S1x2048x512 .f32) y
      = wgt (m ((c : Thread nD τ).loc main_arg1)) (y 1 : Fin 2048)
          ⟨512 * (t.val / 5) + (y 2).val, col_lt t.isLt (y 2)⟩ := by
  unfold wgt
  blk_ext [iblk, V, idx t]

/-- The up weight's block of a point: the columns of the point's column tile. -/
theorem ublk (c : Dev nD) (t : Fin cfg0.N) (y : S1x2048x512.Idx) :
    (iblk m c 2 t : Vec Ideal S1x2048x512 .f32) y
      = wgt (m ((c : Thread nD τ).loc main_arg2)) (y 1 : Fin 2048)
          ⟨512 * (t.val / 5) + (y 2).val, col_lt t.isLt (y 2)⟩ := by
  unfold wgt
  blk_ext [iblk, V, idx t]

/-- The first point of a column tile leaves the tile's weights in the scratch buffers. -/
theorem scratch_A (c : Dev nD) (t : Fin cfg0.N) (h : t.val % 5 = 0) :
    (outsAt0 m c t.val t.isLt).2 = tiles m c t.val t.isLt := by
  rw [outsAt0_A m c t h h]
  frame_out
  refine Prod.ext (funext fun y => ?_) (funext fun y => ?_)
  · pointwise [k0_pay1, tiles, tile]
    exact gblk m c t _
  · pointwise [k0_pay2, tiles, tile]
    exact ublk m c t _

/-- Points of one column tile have one pair of weight tiles. -/
theorem tiles_congr (c : Dev nD) {n k : ℕ} (hn : n < cfg0.N) (hk : k < cfg0.N) (h : n / 5 = k / 5) :
    tiles m c n hn = tiles m c k hk := by
  unfold tiles tile
  simp only [h]

/-- After every point the scratch buffers hold the weights of the point's column tile. -/
theorem scratch (c : Dev nD) : ∀ (n : ℕ) (hn : n < cfg0.N), (outsAt0 m c n hn).2 = tiles m c n hn := by
  intro n
  induction n with
  | zero => exact fun hn => scratch_A m c ⟨0, hn⟩ rfl
  | succ n ih =>
    intro hn
    by_cases h : (n + 1) % 5 = 0
    · exact scratch_A m c ⟨n + 1, hn⟩ h
    · rw [outsAt0_B m c ⟨n + 1, hn⟩ h h]
      unfold sout0_B_0 sout0_B_1
      exact (ih (Nat.lt_of_succ_lt hn)).trans (tiles_congr m c _ _ (by omega))

/-- A block of activations, its entries as extended reals. -/
abbrev rows (x : Vec Ideal S1664x2048 .bf16) : S1664x2048.Idx → EReal := x

/-- The gated product of a gate sum and an up sum. -/
abbrev glu (g u : EReal) : EReal := g * Idealize.ShloMosaic.Ideal.logistic g * u

/-- A gate sum: a row of a block times a column of a weight tile. -/
abbrev dot (x : S1664x2048.Idx → EReal) (w : Vec Ideal S2048x512 .bf16) (y : S1664x512.Idx) : EReal :=
  ∑ k : Fin 2048, x (ix2 (y 0 : Fin 1664) k) * w (ix2 k (y 1 : Fin 512))

/-- The block a point writes: its rows times the two weight tiles of its column tile, gated. -/
theorem block (c : Dev nD) (t : Fin cfg0.N) (y : S1664x512.Idx) :
    (outsAt0 m c t.val t.isLt).1 y
      = glu (dot (rows (iblk m c 0 t)) (tiles m c t.val t.isLt).1 y)
          (dot (rows (iblk m c 0 t)) (tiles m c t.val t.isLt).2 y) := by
  by_cases h : t.val % 5 = 0
  · rw [outsAt0_A m c t h h]
    frame_out
    pointwise [k0_pay3, k0_pay1, k0_pay2]
    exact congrArg₂ glu (Finset.sum_congr rfl fun k _ => congrArg _ (gblk m c t _))
      (Finset.sum_congr rfl fun k _ => congrArg _ (ublk m c t _))
  · have ht : t.val - 1 < cfg0.N := Nat.lt_of_le_of_lt (Nat.sub_le _ _) t.isLt
    rw [outsAt0_B m c t h h, scratch m c (t.val - 1) ht, tiles_congr m c ht t.isLt (by omega)]
    frame_out
    pointwise [k0_pay3]
    exact congrArg₂ glu
      (Finset.sum_congr rfl fun k _ =>
        congrArg _ (congrFun ((Memref.isWhole_whole cc0_scratch0).read_unread _) _))
      (Finset.sum_congr rfl fun k _ =>
        congrArg _ (congrFun ((Memref.isWhole_whole cc0_scratch1).read_unread _) _))

/-- A row of activations times a column of a weight. -/
abbrev prod (a : Vec Ideal S8320x2048 .bf16) (w : Vec Ideal S1x2048x5632 .f32) (i : S8320x5632.Idx) : EReal :=
  ∑ k : Fin 2048, a (ix2 (i 0 : Fin 8320) k) * wgt w k (i 1)

/-- The hidden activations: the gated products of the activations with the two weights. -/
abbrev hidden (a : Vec Ideal S8320x2048 .bf16) (wg wu : Vec Ideal S1x2048x5632 .f32) :
    Vec Ideal S8320x5632 .bf16 := fun i => glu (prod a wg i) (prod a wu i)

/-- The kernel's result array ends holding the hidden activations. -/
theorem final (c : Dev nD) : (dats m 0 c).arrAt 3 cfg0.N
    = hidden (m ((c : Thread nD τ).loc main_arg0)) (m ((c : Thread nD τ).loc main_arg1))
        (m ((c : Thread nD τ).loc main_arg2)) := by
  refine (dats m 0 c).arrAt_eq_of_covers 3 _ (by decide +kernel) fun t hf y => ?_
  rw [after0_3]
  refine (block m c t y).trans (congrArg₂ glu ?_ ?_) <;> refine Finset.sum_congr rfl fun k _ => ?_
  · show rows _ _ * tile (m ((c : Thread nD τ).loc main_arg1)) t.val t.isLt _ = _
    unfold tile rows wgt
    blk_point [iblk, V, idx t]
  · show rows _ _ * tile (m ((c : Thread nD τ).loc main_arg2)) t.val t.isLt _ = _
    unfold tile rows wgt
    blk_point [iblk, V, idx t]

end Cert.FfnUpIdeal.Val
-- ==== Proof.FfnDownValue.lean ====
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Val

open Cert.FfnDownIdeal Cert.FfnDownIdeal.Gen

variable (m : (ℓ : Loc nD τ sig) → Buf (Elt Ideal) ℓ)

theorem idx : ∀ t : Fin cfg0.N,
    win0_0.index t = ![t.val % 20, 0] ∧ win0_1.index t = ![0, 0, t.val / 20] ∧
      win0_2.index t = ![t.val % 20, t.val / 20] ∧ win0_3.index t = ![t.val % 20, t.val / 20] :=
  (by decide +kernel : ∀ t : Fin grid0.N, _)

/-- A column tile's columns lie inside the 2048 columns of the result. -/
theorem col_lt {t : ℕ} (ht : t < cfg0.N) (r : Fin 512) : 512 * (t / 20) + r.val < 2048 := by
  rw [show cfg0.N = 80 from N_0] at ht
  omega

/-- The down projection's weight: input row `k`, output column `n`. -/
abbrev wgt (w : Vec Ideal S1x5632x2048 .f32) (k : Fin 5632) (n : Fin 2048) : EReal := w (ix3 (0 : Fin 1) k n)

/-- The weight a column tile holds after its first point. -/
def tile (c : Dev nD) (t : ℕ) (ht : t < cfg0.N) : Vec Ideal S5632x512 .bf16 := fun y =>
  wgt (m ((c : Thread nD τ).loc main_arg1)) (y 0 : Fin 5632) ⟨512 * (t / 20) + (y 1).val, col_lt ht (y 1)⟩

/-- The weight block of a point: the columns of the point's column tile. -/
theorem wblk (c : Dev nD) (t : Fin cfg0.N) (y : S1x5632x512.Idx) :
    (iblk m c 1 t : Vec Ideal S1x5632x512 .f32) y
      = wgt (m ((c : Thread nD τ).loc main_arg1)) (y 1 : Fin 5632)
          ⟨512 * (t.val / 20) + (y 2).val, col_lt t.isLt (y 2)⟩ := by
  unfold wgt
  blk_ext [iblk, V, idx t]

/-- The first point of a column tile leaves the tile's weight in the scratch buffer. -/
theorem scratch_A (c : Dev nD) (t : Fin cfg0.N) (h : t.val % 20 = 0) :
    (outsAt0 m c t.val t.isLt).2 = tile m c t.val t.isLt := by
  rw [outsAt0_A m c t h]
  frame_out
  funext y
  pointwise [k0_pay1, tile]
  exact wblk m c t _

/-- Points of one column tile have one weight tile. -/
theorem tile_congr (c : Dev nD) {n k : ℕ} (hn : n < cfg0.N) (hk : k < cfg0.N) (h : n / 20 = k / 20) :
    tile m c n hn = tile m c k hk := by
  unfold tile
  simp only [h]

/-- After every point the scratch buffer holds the weight of the point's column tile. -/
theorem scratch (c : Dev nD) : ∀ (n : ℕ) (hn : n < cfg0.N), (outsAt0 m c n hn).2 = tile m c n hn := by
  intro n
  induction n with
  | zero => exact fun hn => scratch_A m c ⟨0, hn⟩ rfl
  | succ n ih =>
    intro hn
    by_cases h : (n + 1) % 20 = 0
    · exact scratch_A m c ⟨n + 1, hn⟩ h
    · rw [outsAt0_B m c ⟨n + 1, hn⟩ h]
      unfold sout0_B_0
      exact (ih (Nat.lt_of_succ_lt hn)).trans (tile_congr m c _ _ (by omega))

/-- A block of hidden activations, its entries as extended reals. -/
abbrev rows (x : Vec Ideal S416x5632 .bf16) : S416x5632.Idx → EReal := x

/-- A block of the residual, its entries as extended reals. -/
abbrev resid (x : Vec Ideal S416x512 .f32) : S416x512.Idx → EReal := x

/-- The block a point writes: the residual plus its rows times the weight of its column tile. -/
theorem block (c : Dev nD) (t : Fin cfg0.N) (y : S416x512.Idx) :
    (outsAt0 m c t.val t.isLt).1 y
      = resid (iblk m c 2 t) y + ∑ k : Fin 5632, rows (iblk m c 0 t) (ix2 (y 0 : Fin 416) k)
          * tile m c t.val t.isLt (ix2 k (y 1 : Fin 512)) := by
  by_cases h : t.val % 20 = 0
  · rw [outsAt0_A m c t h]
    frame_out
    pointwise [k0_pay2, k0_pay1]
    exact congrArg _ (Finset.sum_congr rfl fun k _ => congrArg _ (wblk m c t _))
  · have ht : t.val - 1 < cfg0.N := Nat.lt_of_le_of_lt (Nat.sub_le _ _) t.isLt
    rw [outsAt0_B m c t h, scratch m c (t.val - 1) ht, tile_congr m c ht t.isLt (by omega)]
    frame_out
    pointwise [k0_pay2]
    exact congrArg _ (Finset.sum_congr rfl fun k _ =>
      congrArg _ (congrFun ((Memref.isWhole_whole cc0_scratch0).read_unread _) _))

/-- The block's output: the residual plus the hidden activations times the down projection. -/
abbrev down (a : Vec Ideal S8320x5632 .bf16) (w : Vec Ideal S1x5632x2048 .f32) (h : Vec Ideal S8320x2048 .f32) :
    Vec Ideal S8320x2048 .f32 := fun i => h i + ∑ k : Fin 5632, a (ix2 (i 0 : Fin 8320) k) * wgt w k (i 1)

/-- The kernel's result array ends holding it. -/
theorem final (c : Dev nD) : (dats m 0 c).arrAt 3 cfg0.N
    = down (m ((c : Thread nD τ).loc main_arg0)) (m ((c : Thread nD τ).loc main_arg1))
        (m ((c : Thread nD τ).loc main_arg2)) := by
  refine (dats m 0 c).arrAt_eq_of_covers 3 _ (by decide +kernel) fun t hf y => ?_
  rw [after0_3]
  refine (block m c t y).trans ?_
  refine congrArg₂ (· + ·) ?_ (Finset.sum_congr rfl fun k _ => ?_)
  · unfold resid
    blk_point [iblk, V, idx t]
  · unfold tile rows wgt
    blk_point [iblk, V, idx t]

end Cert.FfnDownIdeal.Val
-- ==== Proof.lean ====
/- The claims of this directory, kernel by kernel: the input projection's two calls, the dense feed-forward block's
   two, the routed experts' two, the per-layer embedding's, the output projection's and the normalisation's. Of each, that the run of the kernel
   ends with its arguments unchanged, at the machine's floats and over the extended reals, and that over the extended reals
   it computes what its reference computes. -/
module

public import proofs.«01_k».proof.Defs
public import proofs.«01_k».proof.Proof.Gen.Uzx
public import proofs.«01_k».proof.Proof.Gen.Uzx.Skeleton
public import proofs.«01_k».proof.Proof.Gen.Uzx.Launch
public import proofs.«01_k».proof.Proof.Gen.Uzx.Points
public import proofs.«01_k».proof.Proof.Gen.Uzx.Frame
public import proofs.«01_k».proof.Proof.Gen.UzxIdeal
public import proofs.«01_k».proof.Proof.Gen.UzxIdeal.Skeleton
public import proofs.«01_k».proof.Proof.Gen.UzxIdeal.Launch
public import proofs.«01_k».proof.Proof.Gen.UzxIdeal.Points
public import proofs.«01_k».proof.Proof.Gen.UzxIdeal.Frame
public import proofs.«01_k».proof.Proof.Gen.UzxRefIdeal
public import proofs.«01_k».proof.Proof.Gen.Qkvo
public import proofs.«01_k».proof.Proof.Gen.Qkvo.Skeleton
public import proofs.«01_k».proof.Proof.Gen.Qkvo.Launch
public import proofs.«01_k».proof.Proof.Gen.Qkvo.Points
public import proofs.«01_k».proof.Proof.Gen.Qkvo.Frame
public import proofs.«01_k».proof.Proof.Gen.QkvoIdeal
public import proofs.«01_k».proof.Proof.Gen.QkvoIdeal.Skeleton
public import proofs.«01_k».proof.Proof.Gen.QkvoIdeal.Launch
public import proofs.«01_k».proof.Proof.Gen.QkvoIdeal.Points
public import proofs.«01_k».proof.Proof.Gen.QkvoIdeal.Frame
public import proofs.«01_k».proof.Proof.Gen.QkvoRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.MoeDown
public import proofs.«01_k».proof.Proof.Gen.MoeDownRefIdeal
public import proofs.«01_k».proof.Proof.Gen.MoeDownRefIdeal.Run
public import proofs.«01_k».proof.Proof.Gen.Pre_routing_tables
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeGate
public import proofs.«01_k».proof.Proof.Gen.MoeGateIdeal
public import proofs.«01_k».proof.Proof.Gen.MoeGateIdeal.Skeleton
public import proofs.«01_k».proof.Proof.Gen.MoeGateIdeal.Launch
public import proofs.«01_k».proof.Proof.Gen.MoeGateRefIdeal
public import proofs.«01_k».proof.Proof.Gen.Ple
public import proofs.«01_k».proof.Proof.Gen.PleIdeal
public import proofs.«01_k».proof.Proof.Gen.PleIdeal.Skeleton
public import proofs.«01_k».proof.Proof.Gen.PleIdeal.Launch
public import proofs.«01_k».proof.Proof.Gen.PleRefIdeal
public import proofs.«01_k».proof.Proof.Gen.PleRefIdeal.Run
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjRefIdeal
public import proofs.«01_k».proof.Proof.Gen.OutProjRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.PleIdealFrame
public import proofs.«01_k».proof.Proof.PleValue
public import proofs.«01_k».proof.Proof.PleRefValue
public import proofs.«01_k».proof.Proof.OutProjIdealFrame
public import proofs.«01_k».proof.Proof.OutProjValue
public import proofs.«01_k».proof.Proof.OutProjRefValue
public import proofs.«01_k».proof.Proof.NormValue
public import proofs.«01_k».proof.Proof.NormRefValue
public import proofs.«01_k».proof.Proof.Gen.MoeGateRefIdeal.Run
public import proofs.«01_k».proof.Proof.Gen.Pre_routing_tables_gate
public import proofs.«01_k».proof.Proof.Routing
public import proofs.«01_k».proof.Proof.MoeDownIdealRun
public import proofs.«01_k».proof.Proof.MoeDownValue
public import proofs.«01_k».proof.Proof.MoeDownRefValue
public import proofs.«01_k».proof.Proof.MoeGateIdealRun
public import proofs.«01_k».proof.Proof.MoeGateValue
public import proofs.«01_k».proof.Proof.MoeGateRefValue
public import proofs.«01_k».proof.Proof.RoutingGate
public import proofs.«01_k».proof.Proof.Gen.UzxIdeal.Value
public import proofs.«01_k».proof.Proof.Gen.QkvoIdeal.Value
public import proofs.«01_k».proof.Proof.Gen.UzxRefIdeal.Run
public import proofs.«01_k».proof.Proof.Gen.QkvoRefIdeal.Run
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run
public import proofs.«01_k».proof.Proof.UzxValue
public import proofs.«01_k».proof.Proof.QkvoValue
public import proofs.«01_k».proof.Proof.FfnUpValue
public import proofs.«01_k».proof.Proof.FfnDownValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel of the wide and narrow parts of the input projection, over the extended reals, is the plain product. -/
theorem algebraic_uzx : algebraic_UzxIdeal_UzxRefIdeal := by
  pair_intro
  · run_from Cert.UzxIdeal.Value.run m g
  · run_from Cert.UzxRefIdeal.Value.run m' g'
    · refine Eq.trans ?_ ((Cert.UzxIdeal.Val.final4 m c).symm.trans (Cert.UzxIdeal.Value.final4 m c))
      funext i
      pointwise [Cert.UzxIdeal.Val.wide]
    · refine Eq.trans ?_ ((Cert.UzxIdeal.Val.final5 m c).symm.trans (Cert.UzxIdeal.Value.final5 m c))
      funext i
      pointwise [Cert.UzxIdeal.Val.slabs, Cert.UzxIdeal.Val.narrow]
      unfold Cert.UzxIdeal.Val.wgt
      split
      · rfl
      · refine Finset.sum_congr rfl fun x _ => ?_
        congr 3
        exact Fin.ext (show 6152 + ((i 2).val - 8) = 6144 + (i 2).val by omega)

/-- The kernel of the first part of the input projection, over the extended reals, is the plain product. -/
theorem algebraic_qkvo : algebraic_QkvoIdeal_QkvoRefIdeal := by
  pair_intro
  · run_from Cert.QkvoIdeal.Value.run m g
  · run_from Cert.QkvoRefIdeal.Value.run m' g'
    refine Eq.trans ?_ ((Cert.QkvoIdeal.Val.final m c).symm.trans (Cert.QkvoIdeal.Value.final2 m c))
    funext i
    pointwise [Cert.QkvoIdeal.Val.proj]

/-- The reference's run ends, its arguments unchanged; it declares no semaphore. -/
theorem frame_ref_uzx : quiescent_UzxRefIdeal := fun m g _ =>
  (θ_run Cert.UzxRefIdeal.defs _ _).mono (fun r h => ⟨fun c => (h c).2.2, sem_eq_zero_of_no_sems (by decide) r.2⟩)
    (Cert.UzxRefIdeal.Value.run m g)

/-- The reference's run ends, its arguments unchanged; it declares no semaphore. -/
theorem frame_ref_qkvo : quiescent_QkvoRefIdeal := fun m g _ =>
  (θ_run Cert.QkvoRefIdeal.defs _ _).mono (fun r h => ⟨fun c => (h c).2, sem_eq_zero_of_no_sems (by decide) r.2⟩)
    (Cert.QkvoRefIdeal.Value.run m g)

/-- A product with a weight of the feed-forward block, as the reference spells it. -/
abbrev refProd (a : Vec Ideal FfnUpRefIdeal.S8320x2048 .bf16) (w : Vec Ideal FfnUpRefIdeal.S1x2048x5632 .f32) :
    Vec Ideal FfnUpRefIdeal.S8320x5632 .f32 :=
  Host.dotGeneral (F := Ideal) (φ₁ := .f32) (φ₂ := .f32)
    FfnUpRefIdeal.dot_S8320x2048_S2048x5632_S8320x5632_1_0_0_1_n_n none
    (extf FTy.f32 a FfnUpRefIdeal.Gen.bitsLt_bf16_f32)
    (shapeCast FfnUpRefIdeal.S2048x5632 w FfnUpRefIdeal.Gen.shapeCasts_S1x2048x5632_S2048x5632)

/-- The reference's product is the sum over the input rows. -/
theorem refProd_apply (a : Vec Ideal FfnUpRefIdeal.S8320x2048 .bf16)
    (w : Vec Ideal FfnUpRefIdeal.S1x2048x5632 .f32) (i : FfnUpRefIdeal.S8320x5632.Idx) :
    refProd a w i = FfnUpIdeal.Val.prod a w i := by
  pointwise [FfnUpIdeal.Val.prod]

/-- The reference's gating of two products, entry by entry. -/
theorem ref_gate (x y : Vec Ideal FfnUpRefIdeal.S8320x5632 .f32) :
    truncf (F := Ideal) .bf16 (mulf (mulf x (Host.divf (broadcastInDim FfnUpRefIdeal.S8320x5632 ![]
        FfnUpRefIdeal.Gen.bcast_S_S8320x5632 (constant FfnUpRefIdeal.S_ .f32 0x3F800000#32))
      (addf (broadcastInDim FfnUpRefIdeal.S8320x5632 ![] FfnUpRefIdeal.Gen.bcast_S_S8320x5632
          (constant FfnUpRefIdeal.S_ .f32 0x3F800000#32))
        (Host.exp (Host.negf x))))) y) FfnUpRefIdeal.Gen.bitsLt_bf16_f32
      = (fun i => FfnUpIdeal.Val.glu (x i) (y i) : Vec Ideal FfnUpRefIdeal.S8320x5632 .bf16) := by
  funext i
  pointwise [FfnUpIdeal.Val.glu]
  rfl

/-- The kernel of the gated hidden layer, over the extended reals, is the gated product of two plain products. -/
theorem algebraic_ffnup : algebraic_FfnUpIdeal_FfnUpRefIdeal := by
  pair_intro
  · run_from Cert.FfnUpIdeal.Value.run m g
  · run_from Cert.FfnUpRefIdeal.Value.run m' g'
    refine Eq.trans ?_ ((Cert.FfnUpIdeal.Val.final m c).symm.trans (Cert.FfnUpIdeal.Value.final3 m c))
    refine (ref_gate (refProd _ _) (refProd _ _)).trans (funext fun i => ?_)
    rw [refProd_apply, refProd_apply]

/-- The reference of the down projection is the residual plus the sum over the hidden columns. -/
theorem ref_down (a : Vec Ideal FfnDownRefIdeal.S8320x5632 .bf16) (w : Vec Ideal FfnDownRefIdeal.S1x5632x2048 .f32)
    (h : Vec Ideal FfnDownRefIdeal.S8320x2048 .f32) :
    addf h (Host.dotGeneral (F := Ideal) (φ₁ := .f32) (φ₂ := .f32)
        FfnDownRefIdeal.dot_S8320x5632_S5632x2048_S8320x2048_1_0_0_1_n_n none
        (extf FTy.f32 a FfnDownRefIdeal.Gen.bitsLt_bf16_f32)
        (shapeCast FfnDownRefIdeal.S5632x2048 w FfnDownRefIdeal.Gen.shapeCasts_S1x5632x2048_S5632x2048))
      = FfnDownIdeal.Val.down a w h := by
  funext i
  pointwise [FfnDownIdeal.Val.down]

/-- The kernel of the down projection, over the extended reals, is the residual plus the plain product. -/
theorem algebraic_ffndown : algebraic_FfnDownIdeal_FfnDownRefIdeal := by
  pair_intro
  · run_from Cert.FfnDownIdeal.Value.run m g
  · run_from Cert.FfnDownRefIdeal.Value.run m' g'
    refine Eq.trans ?_ ((Cert.FfnDownIdeal.Val.final m c).symm.trans (Cert.FfnDownIdeal.Value.final3 m c))
    exact ref_down _ _ _

/-- The reference's run ends, its arguments unchanged; it declares no semaphore. -/
theorem frame_ref_ffnup : quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run m g)

/-- The reference's run ends, its arguments unchanged; it declares no semaphore. -/
theorem frame_ref_ffndown : quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run m g)

/-- Under the precondition the tables in the kernel's memory are good ones. -/
theorem routed_moedown {m : (ℓ : Loc MoeDown.nD MoeDown.τ MoeDown.sig) → Buf (Elt Bits) ℓ} (h : Pre_MoeDown m) :
    MoeDownIdeal.Hand.Routed (F := Bits) m :=
  .of m fun c => Routing.tables_of_pre _ _ _ _ _ _ (h c)

/-- The same over the extended reals. -/
theorem routed_moedown_ideal {m : (ℓ : Loc MoeDownIdeal.nD MoeDownIdeal.τ MoeDownIdeal.sig) → Buf (Elt Ideal) ℓ} (h : Pre_MoeDownIdeal m) :
    MoeDownIdeal.Hand.Routed m :=
  .of m fun c => Routing.tables_of_pre _ _ _ _ _ _ (h c)

set_option smartUnfolding false in
set_option maxHeartbeats 1000000 in
/-- The grouped down product's run ends, its arguments unchanged. The frame was shown for any floats, so it holds at the
    machine's, where the kernel's program is the same term. -/
theorem frame_moedown : quiescent_MoeDown := fun m g h => MoeDownIdeal.Hand.frame m g (routed_moedown h)

/-- The reference's run ends, its arguments unchanged; it declares no semaphore. -/
theorem frame_ref_moedown : quiescent_MoeDownRefIdeal := fun m g _ =>
  (θ_run Cert.MoeDownRefIdeal.defs _ _).mono (fun r h => ⟨fun c => (h c).2, sem_eq_zero_of_no_sems (by decide) r.2⟩)
    (Cert.MoeDownRefIdeal.Value.run m g)

/-- The grouped down product, over the extended reals, is each row's product with the weights of its tile's expert. -/
theorem algebraic_moedown : algebraic_MoeDownIdeal_MoeDownRefIdeal := by
  intro m g m' g' hpre hargs
  have hT := routed_moedown_ideal hpre
  refine ⟨fun c => MoeDownIdeal.Val.result m c, ?_, ?_⟩
  · exact (θ_run _ _ _).mono (fun r h c => ⟨MoeDownIdeal.Val.result_of m h.1 c, MoeDownIdeal.Hand.kept_of m h.1 c⟩)
      (MoeDownIdeal.Hand.run_quiescent m g hT)
  · refine (θ_run _ _ _).mono (fun r h c => ⟨(h c).1.trans ?_, (h c).2⟩) (MoeDownRefIdeal.Value.run m' g')
    obtain ⟨e0, e1, e2, e3, e4, e5⟩ := hargs c
    refine (MoeDownRefIdeal.Val.result_eq m' c).trans ?_
    rw [e0, e1, e2, e5]
    exact MoeDownRefIdeal.Val.ref_apply (Routing.tables_of_pre _ _ _ _ _ _ (hpre c)) _ _

/-- Under the precondition the tables in the kernel's memory are good ones. -/
theorem routed_moegate {m : (ℓ : Loc MoeGate.nD MoeGate.τ MoeGate.sig) → Buf (Elt Bits) ℓ} (h : Pre_MoeGate m) :
    MoeGateIdeal.Hand.Routed (F := Bits) m :=
  .of m fun c => Routing.tables_of_pre_gate _ _ _ _ _ _ _ (h c)

/-- The same over the extended reals. -/
theorem routed_moegate_ideal {m : (ℓ : Loc MoeGateIdeal.nD MoeGateIdeal.τ MoeGateIdeal.sig) → Buf (Elt Ideal) ℓ} (h : Pre_MoeGateIdeal m) :
    MoeGateIdeal.Hand.Routed m :=
  .of m fun c => Routing.tables_of_pre_gate _ _ _ _ _ _ _ (h c)

set_option smartUnfolding false in
set_option maxHeartbeats 1000000 in
/-- The grouped gate and up product's run ends, its arguments unchanged. The frame was shown for any floats, so it holds at the
    machine's, where the kernel's program is the same term. -/
theorem frame_moegate : quiescent_MoeGate := fun m g h => MoeGateIdeal.Hand.frame m g (routed_moegate h)

/-- The reference's run ends, its arguments unchanged; it declares no semaphore. -/
theorem frame_ref_moegate : quiescent_MoeGateRefIdeal := fun m g _ =>
  (θ_run Cert.MoeGateRefIdeal.defs _ _).mono (fun r h => ⟨fun c => (h c).2, sem_eq_zero_of_no_sems (by decide) r.2⟩)
    (Cert.MoeGateRefIdeal.Value.run m g)

/-- The grouped gate and up product, over the extended reals, is each row's gated product of its tile's expert. -/
theorem algebraic_moegate : algebraic_MoeGateIdeal_MoeGateRefIdeal := by
  intro m g m' g' hpre hargs
  have hT := routed_moegate_ideal hpre
  refine ⟨fun c => MoeGateIdeal.Val.result m c, ?_, ?_⟩
  · exact (θ_run _ _ _).mono (fun r h c => ⟨MoeGateIdeal.Val.result_of m h.1 c, MoeGateIdeal.Hand.kept_of m h.1 c⟩)
      (MoeGateIdeal.Hand.run_quiescent m g hT)
  · refine (θ_run _ _ _).mono (fun r h c => ⟨(h c).1.trans ?_, (h c).2⟩) (MoeGateRefIdeal.Value.run m' g')
    obtain ⟨e0, e1, e2, e3, e4, e5, e6⟩ := hargs c
    refine Eq.trans (b := truncf (F := Ideal) .bf16 (MoeGateRefIdeal.Val.turns (m' ((c.tc : Thread MoeGateRefIdeal.nD MoeGateRefIdeal.τ).loc MoeGateRefIdeal.main_arg3))
      (m' ((c.tc : Thread MoeGateRefIdeal.nD MoeGateRefIdeal.τ).loc MoeGateRefIdeal.main_arg6))
      (m' ((c.tc : Thread MoeGateRefIdeal.nD MoeGateRefIdeal.τ).loc MoeGateRefIdeal.main_arg0))
      (m' ((c.tc : Thread MoeGateRefIdeal.nD MoeGateRefIdeal.τ).loc MoeGateRefIdeal.main_arg1))
      (m' ((c.tc : Thread MoeGateRefIdeal.nD MoeGateRefIdeal.τ).loc MoeGateRefIdeal.main_arg2))) MoeGateRefIdeal.Gen.bitsLt_bf16_f32) ?_ ?_
    · unfold MoeGateRefIdeal.Value.res_main_v107 MoeGateRefIdeal.Value.res_main_v94 MoeGateRefIdeal.Value.res_main_v87
        MoeGateRefIdeal.Value.res_main_v81 MoeGateRefIdeal.Value.res_main_v68 MoeGateRefIdeal.Value.res_main_v55
        MoeGateRefIdeal.Value.res_main_v42 MoeGateRefIdeal.Value.res_main_v29 MoeGateRefIdeal.Value.res_main_v16
      rfl
    rw [e0, e1, e2, e3, e6]
    exact MoeGateRefIdeal.Val.ref_apply (Routing.tables_of_pre_gate _ _ _ _ _ _ _ (hpre c)) _ _ _

set_option smartUnfolding false in
set_option maxHeartbeats 1000000 in
/-- The per-layer embedding's run ends, its arguments unchanged. The frame was shown for any floats, so it holds at the
    machine's, where the kernel's program is the same term. -/
theorem frame_ple : quiescent_Ple := fun m g _ => PleIdeal.Hand.frame m g

/-- The reference's run ends, its arguments unchanged; it declares no semaphore. -/
theorem frame_ref_ple : quiescent_PleRefIdeal := fun m g _ =>
  (θ_run Cert.PleRefIdeal.defs _ _).mono (fun r h => ⟨fun c => (h c).2, sem_eq_zero_of_no_sems (by decide) r.2⟩)
    (Cert.PleRefIdeal.Value.run m g)

/-- The per-layer embedding, over the extended reals, is the residual plus the gated product of the embedding's rows. -/
theorem algebraic_ple : algebraic_PleIdeal_PleRefIdeal := by
  intro m g m' g' _ hargs
  refine ⟨fun c => PleIdeal.Val.result m c, ?_, ?_⟩
  · exact (θ_run _ _ _).mono (fun r h c => ⟨PleIdeal.Val.result_of m h.1 c, PleIdeal.Hand.kept_of m h.1 c⟩)
      (PleIdeal.Hand.run_main m g)
  · refine (θ_run _ _ _).mono (fun r h c => ⟨(h c).1.trans ?_, (h c).2⟩) (PleRefIdeal.Value.run m' g')
    obtain ⟨e0, e1, e2, e3, e4, e5⟩ := hargs c
    rw [e0, e1, e2, e3, e4, e5]
    exact PleRefIdeal.Val.ref_ple _ _ _ _ _ _

set_option smartUnfolding false in
set_option maxHeartbeats 1000000 in
/-- The output projection's run ends, its arguments unchanged. The frame was shown for any floats, so it holds at the
    machine's, where the kernel's program is the same term. -/
theorem frame_outproj : quiescent_OutProj := fun m g _ => OutProjIdeal.Hand.frame m g

/-- The reference's run ends, its arguments unchanged; it declares no semaphore. -/
theorem frame_ref_outproj : quiescent_OutProjRefIdeal := fun m g _ =>
  (θ_run Cert.OutProjRefIdeal.defs _ _).mono (fun r h => ⟨fun c => (h c).2, sem_eq_zero_of_no_sems (by decide) r.2⟩)
    (Cert.OutProjRefIdeal.Value.run m g)

/-- The output projection, over the extended reals, is the residual plus the product of the three mixers' columns. -/
theorem algebraic_outproj : algebraic_OutProjIdeal_OutProjRefIdeal := by
  intro m g m' g' _ hargs
  refine ⟨fun c => OutProjIdeal.Val.result m c, ?_, ?_⟩
  · exact (θ_run _ _ _).mono (fun r h c => ⟨OutProjIdeal.Val.result_of m h.1 c, OutProjIdeal.Hand.kept_of m h.1 c⟩)
      (OutProjIdeal.Hand.run_main m g)
  · refine (θ_run _ _ _).mono (fun r h c => ⟨(h c).1.trans ?_, (h c).2⟩) (OutProjRefIdeal.Value.run m' g')
    obtain ⟨e0, e1, e2, e3, e4, e5, e6⟩ := hargs c
    rw [e0, e1, e2, e3, e4, e5, e6]
    exact OutProjRefIdeal.Val.ref_mix _ _ _ _ _ _ _

/-- The reference's run ends, its arguments unchanged; it declares no semaphore. -/
theorem frame_ref_norm : quiescent_NormRefIdeal := fun m g _ =>
  (θ_run Cert.NormRefIdeal.defs _ _).mono (fun r h => ⟨fun c => (h c).2, sem_eq_zero_of_no_sems (by decide) r.2⟩)
    (Cert.NormRefIdeal.Value.run m g)

/-- The normalisation, over the extended reals, is each row divided by its root mean square and scaled column by column. -/
theorem algebraic_norm : algebraic_NormIdeal_NormRefIdeal := by
  intro m g m' g' _ hargs
  refine ⟨fun c => NormIdeal.Val.norm (m ((c.tc : Thread NormIdeal.nD NormIdeal.τ).loc NormIdeal.main_arg0))
    (m ((c.tc : Thread NormIdeal.nD NormIdeal.τ).loc NormIdeal.main_arg1)), ?_, ?_⟩
  · exact (θ_run _ _ _).mono (fun r h c => ⟨(h c).1.trans (NormIdeal.Val.final m c), (h c).2⟩) (NormIdeal.Value.run_blocks m g)
  · refine (θ_run _ _ _).mono (fun r h c => ⟨(h c).1.trans ?_, (h c).2⟩) (NormRefIdeal.Value.run m' g')
    obtain ⟨e0, e1⟩ := hargs c
    rw [e0, e1]
    exact NormRefIdeal.Val.ref_norm _ _

theorem claim : Cert.Claim := ⟨Cert.Uzx.Gen.facts, Cert.UzxIdeal.Gen.facts, Cert.UzxRefIdeal.Gen.facts,
  Cert.Qkvo.Gen.facts, Cert.QkvoIdeal.Gen.facts, Cert.QkvoRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.MoeDown.Gen.facts, Cert.MoeDownIdeal.Gen.facts, Cert.MoeDownRefIdeal.Gen.facts,
  Cert.MoeGate.Gen.facts, Cert.MoeGateIdeal.Gen.facts, Cert.MoeGateRefIdeal.Gen.facts,
  Cert.Ple.Gen.facts, Cert.PleIdeal.Gen.facts, Cert.PleRefIdeal.Gen.facts,
  Cert.OutProj.Gen.facts, Cert.OutProjIdeal.Gen.facts, Cert.OutProjRefIdeal.Gen.facts,
  Cert.Norm.Gen.facts, Cert.NormIdeal.Gen.facts, Cert.NormRefIdeal.Gen.facts, Cert.Pre_routing_tables.Gen.facts, Cert.Pre_routing_tables_gate.Gen.facts,
  fun m g _ => Cert.Uzx.Gen.frame m g, fun m g _ => Cert.UzxIdeal.Gen.frame m g, frame_ref_uzx,
  fun m g _ => Cert.Qkvo.Gen.frame m g, fun m g _ => Cert.QkvoIdeal.Gen.frame m g, frame_ref_qkvo,
  fun m g _ => Cert.FfnUp.Gen.frame m g, fun m g _ => Cert.FfnUpIdeal.Gen.frame m g, frame_ref_ffnup,
  fun m g _ => Cert.FfnDown.Gen.frame m g, fun m g _ => Cert.FfnDownIdeal.Gen.frame m g, frame_ref_ffndown,
  frame_moedown, fun m g h => Cert.MoeDownIdeal.Hand.frame m g (routed_moedown_ideal h),
  frame_ref_moedown, fun m g _ => frame_ref_moedown m g trivial,
  frame_moegate, fun m g h => Cert.MoeGateIdeal.Hand.frame m g (routed_moegate_ideal h),
  frame_ref_moegate, fun m g _ => frame_ref_moegate m g trivial,
  frame_ple, fun m g _ => Cert.PleIdeal.Hand.frame m g, frame_ref_ple,
  frame_outproj, fun m g _ => Cert.OutProjIdeal.Hand.frame m g, frame_ref_outproj,
  fun m g _ => Cert.Norm.Gen.frame m g, fun m g _ => Cert.NormIdeal.Gen.frame m g, frame_ref_norm,
  trivial, algebraic_uzx, trivial, algebraic_qkvo, trivial, algebraic_ffnup, trivial, algebraic_ffndown,
  trivial, algebraic_moedown, trivial, algebraic_moegate, trivial, algebraic_ple, trivial, algebraic_outproj, trivial, algebraic_norm⟩

end Cert.Proof

end
